-- ==== Defs.lean ====
def Pre_Scores [hPre_scores_table_in_pool : Cert.Pre_scores_table_in_pool.Facts] (m : (ℓ : Loc Cert.Scores.nD Cert.Scores.τ Cert.Scores.sig) → Buf (Elt Bits) ℓ) : Prop :=
  ∀ c : Dev Cert.Scores.nD,
    (Cert.Pre_scores_table_in_pool.fn (F := Bits) (m ((c.tc : Thread Cert.Scores.nD Cert.Scores.τ).loc Cert.Scores.main_arg0)) (m ((c.tc : Thread Cert.Scores.nD Cert.Scores.τ).loc Cert.Scores.main_arg1)) (m ((c.tc : Thread Cert.Scores.nD Cert.Scores.τ).loc Cert.Scores.main_arg2))) = (fun _ => 1#1)

def Pre_ScoresIdeal [hPre_scores_table_in_pool : Cert.Pre_scores_table_in_pool.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_scores_table_in_pool.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2))) = (fun _ => 1#1)

def Pre_ScoresRefIdeal (m : (ℓ : Loc Cert.ScoresRefIdeal.nD Cert.ScoresRefIdeal.τ Cert.ScoresRefIdeal.sig) → Buf (Elt Ideal) ℓ) : Prop :=
  True

def Pre_ScoresRefIdeal_scores_table_in_pool [hPre_scores_table_in_pool : Cert.Pre_scores_table_in_pool.Facts] (m : (ℓ : Loc Cert.ScoresRefIdeal.nD Cert.ScoresRefIdeal.τ Cert.ScoresRefIdeal.sig) → Buf (Elt Ideal) ℓ) : Prop :=
  ∀ c : Dev Cert.ScoresRefIdeal.nD,
    (Cert.Pre_scores_table_in_pool.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_FfnDownS (m : (ℓ : Loc Cert.FfnDownS.nD Cert.FfnDownS.τ Cert.FfnDownS.sig) → Buf (Elt Bits) ℓ) : Prop :=
  True

def Pre_FfnDownSIdeal (m : (ℓ : Loc Cert.FfnDownSIdeal.nD Cert.FfnDownSIdeal.τ Cert.FfnDownSIdeal.sig) → Buf (Elt Ideal) ℓ) : Prop :=
  True

def Pre_FfnDownSRefIdeal (m : (ℓ : Loc Cert.FfnDownSRefIdeal.nD Cert.FfnDownSRefIdeal.τ Cert.FfnDownSRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSRefIdeal (m : (ℓ : Loc Cert.QkvSRefIdeal.nD Cert.QkvSRefIdeal.τ Cert.QkvSRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Scores [hScores : Cert.Scores.Facts] [hPre_scores_table_in_pool : Cert.Pre_scores_table_in_pool.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] [hPre_scores_table_in_pool : Cert.Pre_scores_table_in_pool.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_ScoresRefIdeal_pre_scores_table_in_pool [hScoresRefIdeal : Cert.ScoresRefIdeal.Facts] [hPre_scores_table_in_pool : Cert.Pre_scores_table_in_pool.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal_scores_table_in_pool m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3)
      ∧ r.2.mem ((c.tc : Thread Cert.Wo.nD Cert.Wo.τ).loc Cert.Wo.main_arg4) = m ((c.tc : Thread Cert.Wo.nD Cert.Wo.τ).loc Cert.Wo.main_arg4)
      ∧ r.2.mem ((c.tc : Thread Cert.Wo.nD Cert.Wo.τ).loc Cert.Wo.main_arg5) = m ((c.tc : Thread Cert.Wo.nD Cert.Wo.τ).loc Cert.Wo.main_arg5))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
      ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
      ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3)
      ∧ r.2.mem ((c.tc : Thread Cert.WoRefIdeal.nD Cert.WoRefIdeal.τ).loc Cert.WoRefIdeal.main_arg4) = m ((c.tc : Thread Cert.WoRefIdeal.nD Cert.WoRefIdeal.τ).loc Cert.WoRefIdeal.main_arg4)
      ∧ r.2.mem ((c.tc : Thread Cert.WoRefIdeal.nD Cert.WoRefIdeal.τ).loc Cert.WoRefIdeal.main_arg5) = m ((c.tc : Thread Cert.WoRefIdeal.nD Cert.WoRefIdeal.τ).loc Cert.WoRefIdeal.main_arg5))
      ∧ r.2.sem = fun _ => 0)

def quiescent_FfnDownS [hFfnDownS : Cert.FfnDownS.Facts] : Prop :=
  ∀ (m : (ℓ : Loc Cert.FfnDownS.nD Cert.FfnDownS.τ Cert.FfnDownS.sig) → Buf (Elt Bits) ℓ) (g : Dev Cert.FfnDownS.nD → PrngReg), Pre_FfnDownS m →
    θ_run (Cert.FfnDownS.defs (F := Bits)) (onTc (τ := Cert.FfnDownS.τ) (Cert.FfnDownS.main (F := Bits))) ⟨m, fun _ => 0, g⟩ (fun r => (∀ c : Dev Cert.FfnDownS.nD,
      r.2.mem ((c.tc : Thread Cert.FfnDownS.nD Cert.FfnDownS.τ).loc Cert.FfnDownS.main_arg0) = m ((c.tc : Thread Cert.FfnDownS.nD Cert.FfnDownS.τ).loc Cert.FfnDownS.main_arg0)
      ∧ r.2.mem ((c.tc : Thread Cert.FfnDownS.nD Cert.FfnDownS.τ).loc Cert.FfnDownS.main_arg1) = m ((c.tc : Thread Cert.FfnDownS.nD Cert.FfnDownS.τ).loc Cert.FfnDownS.main_arg1)
      ∧ r.2.mem ((c.tc : Thread Cert.FfnDownS.nD Cert.FfnDownS.τ).loc Cert.FfnDownS.main_arg2) = m ((c.tc : Thread Cert.FfnDownS.nD Cert.FfnDownS.τ).loc Cert.FfnDownS.main_arg2)
      ∧ r.2.mem ((c.tc : Thread Cert.FfnDownS.nD Cert.FfnDownS.τ).loc Cert.FfnDownS.main_arg3) = m ((c.tc : Thread Cert.FfnDownS.nD Cert.FfnDownS.τ).loc Cert.FfnDownS.main_arg3)
      ∧ r.2.mem ((c.tc : Thread Cert.FfnDownS.nD Cert.FfnDownS.τ).loc Cert.FfnDownS.main_arg4) = m ((c.tc : Thread Cert.FfnDownS.nD Cert.FfnDownS.τ).loc Cert.FfnDownS.main_arg4))
      ∧ r.2.sem = fun _ => 0)

def quiescent_FfnDownSIdeal [hFfnDownSIdeal : Cert.FfnDownSIdeal.Facts] : Prop :=
  ∀ (m : (ℓ : Loc Cert.FfnDownSIdeal.nD Cert.FfnDownSIdeal.τ Cert.FfnDownSIdeal.sig) → Buf (Elt Ideal) ℓ) (g : Dev Cert.FfnDownSIdeal.nD → PrngReg), Pre_FfnDownSIdeal m →
    θ_run (Cert.FfnDownSIdeal.defs (F := Ideal)) (onTc (τ := Cert.FfnDownSIdeal.τ) (Cert.FfnDownSIdeal.main (F := Ideal))) ⟨m, fun _ => 0, g⟩ (fun r => (∀ c : Dev Cert.FfnDownSIdeal.nD,
      r.2.mem ((c.tc : Thread Cert.FfnDownSIdeal.nD Cert.FfnDownSIdeal.τ).loc Cert.FfnDownSIdeal.main_arg0) = m ((c.tc : Thread Cert.FfnDownSIdeal.nD Cert.FfnDownSIdeal.τ).loc Cert.FfnDownSIdeal.main_arg0)
      ∧ r.2.mem ((c.tc : Thread Cert.FfnDownSIdeal.nD Cert.FfnDownSIdeal.τ).loc Cert.FfnDownSIdeal.main_arg1) = m ((c.tc : Thread Cert.FfnDownSIdeal.nD Cert.FfnDownSIdeal.τ).loc Cert.FfnDownSIdeal.main_arg1)
      ∧ r.2.mem ((c.tc : Thread Cert.FfnDownSIdeal.nD Cert.FfnDownSIdeal.τ).loc Cert.FfnDownSIdeal.main_arg2) = m ((c.tc : Thread Cert.FfnDownSIdeal.nD Cert.FfnDownSIdeal.τ).loc Cert.FfnDownSIdeal.main_arg2)
      ∧ r.2.mem ((c.tc : Thread Cert.FfnDownSIdeal.nD Cert.FfnDownSIdeal.τ).loc Cert.FfnDownSIdeal.main_arg3) = m ((c.tc : Thread Cert.FfnDownSIdeal.nD Cert.FfnDownSIdeal.τ).loc Cert.FfnDownSIdeal.main_arg3)
      ∧ r.2.mem ((c.tc : Thread Cert.FfnDownSIdeal.nD Cert.FfnDownSIdeal.τ).loc Cert.FfnDownSIdeal.main_arg4) = m ((c.tc : Thread Cert.FfnDownSIdeal.nD Cert.FfnDownSIdeal.τ).loc Cert.FfnDownSIdeal.main_arg4))
      ∧ r.2.sem = fun _ => 0)

def quiescent_FfnDownSRefIdeal [hFfnDownSRefIdeal : Cert.FfnDownSRefIdeal.Facts] : Prop :=
  ∀ (m : (ℓ : Loc Cert.FfnDownSRefIdeal.nD Cert.FfnDownSRefIdeal.τ Cert.FfnDownSRefIdeal.sig) → Buf (Elt Ideal) ℓ) (g : Dev Cert.FfnDownSRefIdeal.nD → PrngReg), Pre_FfnDownSRefIdeal m →
    θ_run (Cert.FfnDownSRefIdeal.defs (F := Ideal)) (onTc (τ := Cert.FfnDownSRefIdeal.τ) (Cert.FfnDownSRefIdeal.main (F := Ideal))) ⟨m, fun _ => 0, g⟩ (fun r => (∀ c : Dev Cert.FfnDownSRefIdeal.nD,
      r.2.mem ((c.tc : Thread Cert.FfnDownSRefIdeal.nD Cert.FfnDownSRefIdeal.τ).loc Cert.FfnDownSRefIdeal.main_arg0) = m ((c.tc : Thread Cert.FfnDownSRefIdeal.nD Cert.FfnDownSRefIdeal.τ).loc Cert.FfnDownSRefIdeal.main_arg0)
      ∧ r.2.mem ((c.tc : Thread Cert.FfnDownSRefIdeal.nD Cert.FfnDownSRefIdeal.τ).loc Cert.FfnDownSRefIdeal.main_arg1) = m ((c.tc : Thread Cert.FfnDownSRefIdeal.nD Cert.FfnDownSRefIdeal.τ).loc Cert.FfnDownSRefIdeal.main_arg1)
      ∧ r.2.mem ((c.tc : Thread Cert.FfnDownSRefIdeal.nD Cert.FfnDownSRefIdeal.τ).loc Cert.FfnDownSRefIdeal.main_arg2) = m ((c.tc : Thread Cert.FfnDownSRefIdeal.nD Cert.FfnDownSRefIdeal.τ).loc Cert.FfnDownSRefIdeal.main_arg2)
      ∧ r.2.mem ((c.tc : Thread Cert.FfnDownSRefIdeal.nD Cert.FfnDownSRefIdeal.τ).loc Cert.FfnDownSRefIdeal.main_arg3) = m ((c.tc : Thread Cert.FfnDownSRefIdeal.nD Cert.FfnDownSRefIdeal.τ).loc Cert.FfnDownSRefIdeal.main_arg3)
      ∧ r.2.mem ((c.tc : Thread Cert.FfnDownSRefIdeal.nD Cert.FfnDownSRefIdeal.τ).loc Cert.FfnDownSRefIdeal.main_arg4) = m ((c.tc : Thread Cert.FfnDownSRefIdeal.nD Cert.FfnDownSRefIdeal.τ).loc Cert.FfnDownSRefIdeal.main_arg4))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def preserves_Scores_ScoresIdeal : Prop :=
  True

def algebraic_ScoresIdeal_ScoresRefIdeal [hScoresIdeal : Cert.ScoresIdeal.Facts] [hScoresRefIdeal : Cert.ScoresRefIdeal.Facts] [hPre_scores_table_in_pool : Cert.Pre_scores_table_in_pool.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v6_0)) (v1 : (c : Dev Cert.ScoresIdeal.nD) → Buf (Elt Ideal) ((c.tc : Thread Cert.ScoresIdeal.nD Cert.ScoresIdeal.τ).loc Cert.ScoresIdeal.main_v6_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v6_0) = v0 c
          ∧ r.2.mem ((c.tc : Thread Cert.ScoresIdeal.nD Cert.ScoresIdeal.τ).loc Cert.ScoresIdeal.main_v6_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v14) = v0 c
          ∧ r.2.mem ((c.tc : Thread Cert.ScoresRefIdeal.nD Cert.ScoresRefIdeal.τ).loc Cert.ScoresRefIdeal.main_v15) = v1 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v5_0)) (v1 : (c : Dev Cert.FfnInIdeal.nD) → Buf (Elt Ideal) ((c.tc : Thread Cert.FfnInIdeal.nD Cert.FfnInIdeal.τ).loc Cert.FfnInIdeal.main_v7)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v5_0) = v0 c
          ∧ r.2.mem ((c.tc : Thread Cert.FfnInIdeal.nD Cert.FfnInIdeal.τ).loc Cert.FfnInIdeal.main_v7) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v32) = v0 c
          ∧ r.2.mem ((c.tc : Thread Cert.FfnInRefIdeal.nD Cert.FfnInRefIdeal.τ).loc Cert.FfnInRefIdeal.main_v33) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v4)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v4) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v30) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v7_0)) (v1 : (c : Dev Cert.QkvIdeal.nD) → Buf (Elt Ideal) ((c.tc : Thread Cert.QkvIdeal.nD Cert.QkvIdeal.τ).loc Cert.QkvIdeal.main_v7_1)) (v2 : (c : Dev Cert.QkvIdeal.nD) → Buf (Elt Ideal) ((c.tc : Thread Cert.QkvIdeal.nD Cert.QkvIdeal.τ).loc Cert.QkvIdeal.main_v7_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v7_0) = v0 c
          ∧ r.2.mem ((c.tc : Thread Cert.QkvIdeal.nD Cert.QkvIdeal.τ).loc Cert.QkvIdeal.main_v7_1) = v1 c
          ∧ r.2.mem ((c.tc : Thread Cert.QkvIdeal.nD Cert.QkvIdeal.τ).loc Cert.QkvIdeal.main_v7_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v8) = v0 c
          ∧ r.2.mem ((c.tc : Thread Cert.QkvRefIdeal.nD Cert.QkvRefIdeal.τ).loc Cert.QkvRefIdeal.main_v9) = v1 c
          ∧ r.2.mem ((c.tc : Thread Cert.QkvRefIdeal.nD Cert.QkvRefIdeal.τ).loc Cert.QkvRefIdeal.main_v10) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v6)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v36) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)
      ∧ m' ((c.tc : Thread Cert.WoRefIdeal.nD Cert.WoRefIdeal.τ).loc Cert.WoRefIdeal.main_arg4) = m ((c.tc : Thread Cert.WoIdeal.nD Cert.WoIdeal.τ).loc Cert.WoIdeal.main_arg4)
      ∧ m' ((c.tc : Thread Cert.WoRefIdeal.nD Cert.WoRefIdeal.τ).loc Cert.WoRefIdeal.main_arg5) = m ((c.tc : Thread Cert.WoIdeal.nD Cert.WoIdeal.τ).loc Cert.WoIdeal.main_arg5)) →
    ∃ (v0 : (c : Dev Cert.WoIdeal.nD) → Buf (Elt Ideal) ((c.tc : Thread Cert.WoIdeal.nD Cert.WoIdeal.τ).loc Cert.WoIdeal.main_v5)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v5) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3)
          ∧ r.2.mem ((c.tc : Thread Cert.WoIdeal.nD Cert.WoIdeal.τ).loc Cert.WoIdeal.main_arg4) = m ((c.tc : Thread Cert.WoIdeal.nD Cert.WoIdeal.τ).loc Cert.WoIdeal.main_arg4)
          ∧ r.2.mem ((c.tc : Thread Cert.WoIdeal.nD Cert.WoIdeal.τ).loc Cert.WoIdeal.main_arg5) = m ((c.tc : Thread Cert.WoIdeal.nD Cert.WoIdeal.τ).loc Cert.WoIdeal.main_arg5))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v31) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3)
          ∧ r.2.mem ((c.tc : Thread Cert.WoRefIdeal.nD Cert.WoRefIdeal.τ).loc Cert.WoRefIdeal.main_arg4) = m' ((c.tc : Thread Cert.WoRefIdeal.nD Cert.WoRefIdeal.τ).loc Cert.WoRefIdeal.main_arg4)
          ∧ r.2.mem ((c.tc : Thread Cert.WoRefIdeal.nD Cert.WoRefIdeal.τ).loc Cert.WoRefIdeal.main_arg5) = m' ((c.tc : Thread Cert.WoRefIdeal.nD Cert.WoRefIdeal.τ).loc Cert.WoRefIdeal.main_arg5))

def preserves_FfnDownS_FfnDownSIdeal : Prop :=
  True

def algebraic_FfnDownSIdeal_FfnDownSRefIdeal [hFfnDownSIdeal : Cert.FfnDownSIdeal.Facts] [hFfnDownSRefIdeal : Cert.FfnDownSRefIdeal.Facts] : Prop :=
  ∀ (m : (ℓ : Loc Cert.FfnDownSIdeal.nD Cert.FfnDownSIdeal.τ Cert.FfnDownSIdeal.sig) → Buf (Elt Ideal) ℓ) (g : Dev Cert.FfnDownSIdeal.nD → PrngReg)
    (m' : (ℓ : Loc Cert.FfnDownSRefIdeal.nD Cert.FfnDownSRefIdeal.τ Cert.FfnDownSRefIdeal.sig) → Buf (Elt Ideal) ℓ) (g' : Dev Cert.FfnDownSRefIdeal.nD → PrngReg), Pre_FfnDownSIdeal m →
    (∀ c : Dev Cert.FfnDownSIdeal.nD,
      m' ((c.tc : Thread Cert.FfnDownSRefIdeal.nD Cert.FfnDownSRefIdeal.τ).loc Cert.FfnDownSRefIdeal.main_arg0) = m ((c.tc : Thread Cert.FfnDownSIdeal.nD Cert.FfnDownSIdeal.τ).loc Cert.FfnDownSIdeal.main_arg0)
      ∧ m' ((c.tc : Thread Cert.FfnDownSRefIdeal.nD Cert.FfnDownSRefIdeal.τ).loc Cert.FfnDownSRefIdeal.main_arg1) = m ((c.tc : Thread Cert.FfnDownSIdeal.nD Cert.FfnDownSIdeal.τ).loc Cert.FfnDownSIdeal.main_arg1)
      ∧ m' ((c.tc : Thread Cert.FfnDownSRefIdeal.nD Cert.FfnDownSRefIdeal.τ).loc Cert.FfnDownSRefIdeal.main_arg2) = m ((c.tc : Thread Cert.FfnDownSIdeal.nD Cert.FfnDownSIdeal.τ).loc Cert.FfnDownSIdeal.main_arg2)
      ∧ m' ((c.tc : Thread Cert.FfnDownSRefIdeal.nD Cert.FfnDownSRefIdeal.τ).loc Cert.FfnDownSRefIdeal.main_arg3) = m ((c.tc : Thread Cert.FfnDownSIdeal.nD Cert.FfnDownSIdeal.τ).loc Cert.FfnDownSIdeal.main_arg3)
      ∧ m' ((c.tc : Thread Cert.FfnDownSRefIdeal.nD Cert.FfnDownSRefIdeal.τ).loc Cert.FfnDownSRefIdeal.main_arg4) = m ((c.tc : Thread Cert.FfnDownSIdeal.nD Cert.FfnDownSIdeal.τ).loc Cert.FfnDownSIdeal.main_arg4)) →
    ∃ (v0 : (c : Dev Cert.FfnDownSIdeal.nD) → Buf (Elt Ideal) ((c.tc : Thread Cert.FfnDownSIdeal.nD Cert.FfnDownSIdeal.τ).loc Cert.FfnDownSIdeal.main_v4)),
      θ_run (Cert.FfnDownSIdeal.defs (F := Ideal)) (onTc (τ := Cert.FfnDownSIdeal.τ) (Cert.FfnDownSIdeal.main (F := Ideal))) ⟨m, fun _ => 0, g⟩ (fun r => ∀ c : Dev Cert.FfnDownSIdeal.nD,
          r.2.mem ((c.tc : Thread Cert.FfnDownSIdeal.nD Cert.FfnDownSIdeal.τ).loc Cert.FfnDownSIdeal.main_v4) = v0 c
          ∧ r.2.mem ((c.tc : Thread Cert.FfnDownSIdeal.nD Cert.FfnDownSIdeal.τ).loc Cert.FfnDownSIdeal.main_arg0) = m ((c.tc : Thread Cert.FfnDownSIdeal.nD Cert.FfnDownSIdeal.τ).loc Cert.FfnDownSIdeal.main_arg0)
          ∧ r.2.mem ((c.tc : Thread Cert.FfnDownSIdeal.nD Cert.FfnDownSIdeal.τ).loc Cert.FfnDownSIdeal.main_arg1) = m ((c.tc : Thread Cert.FfnDownSIdeal.nD Cert.FfnDownSIdeal.τ).loc Cert.FfnDownSIdeal.main_arg1)
          ∧ r.2.mem ((c.tc : Thread Cert.FfnDownSIdeal.nD Cert.FfnDownSIdeal.τ).loc Cert.FfnDownSIdeal.main_arg2) = m ((c.tc : Thread Cert.FfnDownSIdeal.nD Cert.FfnDownSIdeal.τ).loc Cert.FfnDownSIdeal.main_arg2)
          ∧ r.2.mem ((c.tc : Thread Cert.FfnDownSIdeal.nD Cert.FfnDownSIdeal.τ).loc Cert.FfnDownSIdeal.main_arg3) = m ((c.tc : Thread Cert.FfnDownSIdeal.nD Cert.FfnDownSIdeal.τ).loc Cert.FfnDownSIdeal.main_arg3)
          ∧ r.2.mem ((c.tc : Thread Cert.FfnDownSIdeal.nD Cert.FfnDownSIdeal.τ).loc Cert.FfnDownSIdeal.main_arg4) = m ((c.tc : Thread Cert.FfnDownSIdeal.nD Cert.FfnDownSIdeal.τ).loc Cert.FfnDownSIdeal.main_arg4))
      ∧ θ_run (Cert.FfnDownSRefIdeal.defs (F := Ideal)) (onTc (τ := Cert.FfnDownSRefIdeal.τ) (Cert.FfnDownSRefIdeal.main (F := Ideal))) ⟨m', fun _ => 0, g'⟩ (fun r => ∀ c : Dev Cert.FfnDownSRefIdeal.nD,
          r.2.mem ((c.tc : Thread Cert.FfnDownSRefIdeal.nD Cert.FfnDownSRefIdeal.τ).loc Cert.FfnDownSRefIdeal.main_v30) = v0 c
          ∧ r.2.mem ((c.tc : Thread Cert.FfnDownSRefIdeal.nD Cert.FfnDownSRefIdeal.τ).loc Cert.FfnDownSRefIdeal.main_arg0) = m' ((c.tc : Thread Cert.FfnDownSRefIdeal.nD Cert.FfnDownSRefIdeal.τ).loc Cert.FfnDownSRefIdeal.main_arg0)
          ∧ r.2.mem ((c.tc : Thread Cert.FfnDownSRefIdeal.nD Cert.FfnDownSRefIdeal.τ).loc Cert.FfnDownSRefIdeal.main_arg1) = m' ((c.tc : Thread Cert.FfnDownSRefIdeal.nD Cert.FfnDownSRefIdeal.τ).loc Cert.FfnDownSRefIdeal.main_arg1)
          ∧ r.2.mem ((c.tc : Thread Cert.FfnDownSRefIdeal.nD Cert.FfnDownSRefIdeal.τ).loc Cert.FfnDownSRefIdeal.main_arg2) = m' ((c.tc : Thread Cert.FfnDownSRefIdeal.nD Cert.FfnDownSRefIdeal.τ).loc Cert.FfnDownSRefIdeal.main_arg2)
          ∧ r.2.mem ((c.tc : Thread Cert.FfnDownSRefIdeal.nD Cert.FfnDownSRefIdeal.τ).loc Cert.FfnDownSRefIdeal.main_arg3) = m' ((c.tc : Thread Cert.FfnDownSRefIdeal.nD Cert.FfnDownSRefIdeal.τ).loc Cert.FfnDownSRefIdeal.main_arg3)
          ∧ r.2.mem ((c.tc : Thread Cert.FfnDownSRefIdeal.nD Cert.FfnDownSRefIdeal.τ).loc Cert.FfnDownSRefIdeal.main_arg4) = m' ((c.tc : Thread Cert.FfnDownSRefIdeal.nD Cert.FfnDownSRefIdeal.τ).loc Cert.FfnDownSRefIdeal.main_arg4))

def preserves_QkvS_QkvSIdeal : Prop :=
  True

def algebraic_QkvSIdeal_QkvSRefIdeal [hQkvSIdeal : Cert.QkvSIdeal.Facts] [hQkvSRefIdeal : Cert.QkvSRefIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)) →
    ∃ (v0 : (c : Dev Cert.QkvSIdeal.nD) → Buf (Elt Ideal) ((c.tc : Thread Cert.QkvSIdeal.nD Cert.QkvSIdeal.τ).loc Cert.QkvSIdeal.main_v7_0)) (v1 : (c : Dev Cert.QkvSIdeal.nD) → Buf (Elt Ideal) ((c.tc : Thread Cert.QkvSIdeal.nD Cert.QkvSIdeal.τ).loc Cert.QkvSIdeal.main_v7_1)) (v2 : (c : Dev Cert.QkvSIdeal.nD) → Buf (Elt Ideal) ((c.tc : Thread Cert.QkvSIdeal.nD Cert.QkvSIdeal.τ).loc Cert.QkvSIdeal.main_v7_2)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v7_0) = v0 c
          ∧ r.2.mem ((c.tc : Thread Cert.QkvSIdeal.nD Cert.QkvSIdeal.τ).loc Cert.QkvSIdeal.main_v7_1) = v1 c
          ∧ r.2.mem ((c.tc : Thread Cert.QkvSIdeal.nD Cert.QkvSIdeal.τ).loc Cert.QkvSIdeal.main_v7_2) = v2 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v8) = v0 c
          ∧ r.2.mem ((c.tc : Thread Cert.QkvSRefIdeal.nD Cert.QkvSRefIdeal.τ).loc Cert.QkvSRefIdeal.main_v9) = v1 c
          ∧ r.2.mem ((c.tc : Thread Cert.QkvSRefIdeal.nD Cert.QkvSRefIdeal.τ).loc Cert.QkvSRefIdeal.main_v10) = v2 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)) →
    ∃ (v0 : (c : Dev Cert.ProjIdeal.nD) → Buf (Elt Ideal) ((c.tc : Thread Cert.ProjIdeal.nD Cert.ProjIdeal.τ).loc Cert.ProjIdeal.main_v24_0)) (v1 : (c : Dev Cert.ProjIdeal.nD) → Buf (Elt Ideal) ((c.tc : Thread Cert.ProjIdeal.nD Cert.ProjIdeal.τ).loc Cert.ProjIdeal.main_v24_1)) (v2 : (c : Dev Cert.ProjIdeal.nD) → Buf (Elt Ideal) ((c.tc : Thread Cert.ProjIdeal.nD Cert.ProjIdeal.τ).loc Cert.ProjIdeal.main_v24_2)) (v3 : (c : Dev Cert.ProjIdeal.nD) → Buf (Elt Ideal) ((c.tc : Thread Cert.ProjIdeal.nD Cert.ProjIdeal.τ).loc Cert.ProjIdeal.main_v24_3)) (v4 : (c : Dev Cert.ProjIdeal.nD) → Buf (Elt Ideal) ((c.tc : Thread Cert.ProjIdeal.nD Cert.ProjIdeal.τ).loc Cert.ProjIdeal.main_v24_4)) (v5 : (c : Dev Cert.ProjIdeal.nD) → Buf (Elt Ideal) ((c.tc : Thread Cert.ProjIdeal.nD Cert.ProjIdeal.τ).loc Cert.ProjIdeal.main_v24_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v24_0) = v0 c
          ∧ r.2.mem ((c.tc : Thread Cert.ProjIdeal.nD Cert.ProjIdeal.τ).loc Cert.ProjIdeal.main_v24_1) = v1 c
          ∧ r.2.mem ((c.tc : Thread Cert.ProjIdeal.nD Cert.ProjIdeal.τ).loc Cert.ProjIdeal.main_v24_2) = v2 c
          ∧ r.2.mem ((c.tc : Thread Cert.ProjIdeal.nD Cert.ProjIdeal.τ).loc Cert.ProjIdeal.main_v24_3) = v3 c
          ∧ r.2.mem ((c.tc : Thread Cert.ProjIdeal.nD Cert.ProjIdeal.τ).loc Cert.ProjIdeal.main_v24_4) = v4 c
          ∧ r.2.mem ((c.tc : Thread Cert.ProjIdeal.nD Cert.ProjIdeal.τ).loc Cert.ProjIdeal.main_v24_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v64) = v0 c
          ∧ r.2.mem ((c.tc : Thread Cert.ProjRefIdeal.nD Cert.ProjRefIdeal.τ).loc Cert.ProjRefIdeal.main_v66) = v1 c
          ∧ r.2.mem ((c.tc : Thread Cert.ProjRefIdeal.nD Cert.ProjRefIdeal.τ).loc Cert.ProjRefIdeal.main_v68) = v2 c
          ∧ r.2.mem ((c.tc : Thread Cert.ProjRefIdeal.nD Cert.ProjRefIdeal.τ).loc Cert.ProjRefIdeal.main_v71) = v3 c
          ∧ r.2.mem ((c.tc : Thread Cert.ProjRefIdeal.nD Cert.ProjRefIdeal.τ).loc Cert.ProjRefIdeal.main_v73) = v4 c
          ∧ r.2.mem ((c.tc : Thread Cert.ProjRefIdeal.nD Cert.ProjRefIdeal.τ).loc Cert.ProjRefIdeal.main_v75) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11))

def Claim : Prop :=
  ∃ (hScores : Cert.Scores.Facts) (hScoresIdeal : Cert.ScoresIdeal.Facts) (hScoresRefIdeal : Cert.ScoresRefIdeal.Facts) (hFfnIn : Cert.FfnIn.Facts) (hFfnInIdeal : Cert.FfnInIdeal.Facts) (hFfnInRefIdeal : Cert.FfnInRefIdeal.Facts) (hFfnDown : Cert.FfnDown.Facts) (hFfnDownIdeal : Cert.FfnDownIdeal.Facts) (hFfnDownRefIdeal : Cert.FfnDownRefIdeal.Facts) (hQkv : Cert.Qkv.Facts) (hQkvIdeal : Cert.QkvIdeal.Facts) (hQkvRefIdeal : Cert.QkvRefIdeal.Facts) (hGate : Cert.Gate.Facts) (hGateIdeal : Cert.GateIdeal.Facts) (hGateRefIdeal : Cert.GateRefIdeal.Facts) (hWo : Cert.Wo.Facts) (hWoIdeal : Cert.WoIdeal.Facts) (hWoRefIdeal : Cert.WoRefIdeal.Facts) (hFfnDownS : Cert.FfnDownS.Facts) (hFfnDownSIdeal : Cert.FfnDownSIdeal.Facts) (hFfnDownSRefIdeal : Cert.FfnDownSRefIdeal.Facts) (hQkvS : Cert.QkvS.Facts) (hQkvSIdeal : Cert.QkvSIdeal.Facts) (hQkvSRefIdeal : Cert.QkvSRefIdeal.Facts) (hProj : Cert.Proj.Facts) (hProjIdeal : Cert.ProjIdeal.Facts) (hProjRefIdeal : Cert.ProjRefIdeal.Facts) (hPre_scores_table_in_pool : Cert.Pre_scores_table_in_pool.Facts),
    quiescent_Scores (hScores := hScores) (hPre_scores_table_in_pool := hPre_scores_table_in_pool)
    ∧ quiescent_ScoresIdeal (hScoresIdeal := hScoresIdeal) (hPre_scores_table_in_pool := hPre_scores_table_in_pool)
    ∧ quiescent_ScoresRefIdeal (hScoresRefIdeal := hScoresRefIdeal)
    ∧ quiescent_ScoresRefIdeal_pre_scores_table_in_pool (hScoresRefIdeal := hScoresRefIdeal) (hPre_scores_table_in_pool := hPre_scores_table_in_pool)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Gate (hGate := hGate)
    ∧ quiescent_GateIdeal (hGateIdeal := hGateIdeal)
    ∧ quiescent_GateRefIdeal (hGateRefIdeal := hGateRefIdeal)
    ∧ quiescent_Wo (hWo := hWo)
    ∧ quiescent_WoIdeal (hWoIdeal := hWoIdeal)
    ∧ quiescent_WoRefIdeal (hWoRefIdeal := hWoRefIdeal)
    ∧ quiescent_FfnDownS (hFfnDownS := hFfnDownS)
    ∧ quiescent_FfnDownSIdeal (hFfnDownSIdeal := hFfnDownSIdeal)
    ∧ quiescent_FfnDownSRefIdeal (hFfnDownSRefIdeal := hFfnDownSRefIdeal)
    ∧ quiescent_QkvS (hQkvS := hQkvS)
    ∧ quiescent_QkvSIdeal (hQkvSIdeal := hQkvSIdeal)
    ∧ quiescent_QkvSRefIdeal (hQkvSRefIdeal := hQkvSRefIdeal)
    ∧ quiescent_Proj (hProj := hProj)
    ∧ quiescent_ProjIdeal (hProjIdeal := hProjIdeal)
    ∧ quiescent_ProjRefIdeal (hProjRefIdeal := hProjRefIdeal)
    ∧ preserves_Scores_ScoresIdeal
    ∧ algebraic_ScoresIdeal_ScoresRefIdeal (hScoresIdeal := hScoresIdeal) (hScoresRefIdeal := hScoresRefIdeal) (hPre_scores_table_in_pool := hPre_scores_table_in_pool)
    ∧ preserves_FfnIn_FfnInIdeal
    ∧ algebraic_FfnInIdeal_FfnInRefIdeal (hFfnInIdeal := hFfnInIdeal) (hFfnInRefIdeal := hFfnInRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Qkv_QkvIdeal
    ∧ algebraic_QkvIdeal_QkvRefIdeal (hQkvIdeal := hQkvIdeal) (hQkvRefIdeal := hQkvRefIdeal)
    ∧ preserves_Gate_GateIdeal
    ∧ algebraic_GateIdeal_GateRefIdeal (hGateIdeal := hGateIdeal) (hGateRefIdeal := hGateRefIdeal)
    ∧ preserves_Wo_WoIdeal
    ∧ algebraic_WoIdeal_WoRefIdeal (hWoIdeal := hWoIdeal) (hWoRefIdeal := hWoRefIdeal)
    ∧ preserves_FfnDownS_FfnDownSIdeal
    ∧ algebraic_FfnDownSIdeal_FfnDownSRefIdeal (hFfnDownSIdeal := hFfnDownSIdeal) (hFfnDownSRefIdeal := hFfnDownSRefIdeal)
    ∧ preserves_QkvS_QkvSIdeal
    ∧ algebraic_QkvSIdeal_QkvSRefIdeal (hQkvSIdeal := hQkvSIdeal) (hQkvSRefIdeal := hQkvSRefIdeal)
    ∧ preserves_Proj_ProjIdeal
    ∧ algebraic_ProjIdeal_ProjRefIdeal (hProjIdeal := hProjIdeal) (hProjRefIdeal := hProjRefIdeal)
-- ==== Pre_scores_table_in_pool.lean ====
abbrev S8x128 : Shape := ⟨2, ![8, 128]⟩
abbrev S8x8x2048 : Shape := ⟨3, ![8, 8, 2048]⟩
abbrev S1x1280x128x16x128 : Shape := ⟨5, ![1, 1280, 128, 16, 128]⟩
abbrev S_ : Shape := ⟨0, ![]⟩

class Facts : Prop where
  bcast_S_S8x128 : S_.BroadcastsInDim S8x128 (![] : Fin 0 → Fin S8x128.rank)

variable [Facts]

def fn {F : FTy → Type} [FloatOps F] (main_arg0 : IVec S8x128 32) (main_arg1 : FVec F S8x8x2048 .f32) (main_arg2 : FVec F S1x1280x128x16x128 .f32) : IVec S8x128 1 :=
  let main_c : IVec S_ 32 := constantI S_ 32 0#32
  let main_v0 : IVec S8x128 32 := broadcastInDim S8x128 ![] bcast_S_S8x128 main_c
  let main_v1 : IVec S8x128 1 := cmpi .sge main_arg0 main_v0
  let main_c_0 : IVec S_ 32 := constantI S_ 32 1280#32
  let main_v2 : IVec S8x128 32 := broadcastInDim S8x128 ![] bcast_S_S8x128 main_c_0
  let main_v3 : IVec S8x128 1 := cmpi .slt main_arg0 main_v2
  let main_v4 : IVec S8x128 1 := andi main_v1 main_v3
  main_v4
-- ==== Scores.lean ====
abbrev S8x128 : Shape := ⟨2, ![8, 128]⟩
abbrev S8x8x2048 : Shape := ⟨3, ![8, 8, 2048]⟩
abbrev S1x1280x128x16x128 : Shape := ⟨5, ![1, 1280, 128, 16, 128]⟩
abbrev S2048x128 : Shape := ⟨2, ![2048, 128]⟩
abbrev S_ : Shape := ⟨0, ![]⟩
abbrev S8x128x128x128 : Shape := ⟨4, ![8, 128, 128, 128]⟩
abbrev S8x128x16x128 : Shape := ⟨4, ![8, 128, 16, 128]⟩
abbrev S1x8x2048 : Shape := ⟨3, ![1, 8, 2048]⟩
abbrev S1x1x128x16x128 : Shape := ⟨5, ![1, 1, 128, 16, 128]⟩
abbrev S1x1 : Shape := ⟨2, ![1, 1]⟩
abbrev S1x8x128x128 : Shape := ⟨4, ![1, 8, 128, 128]⟩
abbrev S1x8x16x128 : Shape := ⟨4, ![1, 8, 16, 128]⟩
abbrev S8x2048 : Shape := ⟨2, ![8, 2048]⟩
abbrev S128x128 : Shape := ⟨2, ![128, 128]⟩
abbrev S128x16x128 : Shape := ⟨3, ![128, 16, 128]⟩
abbrev S1x1x128x128 : Shape := ⟨4, ![1, 1, 128, 128]⟩
abbrev S16x128 : Shape := ⟨2, ![16, 128]⟩
abbrev S1x1x16x128 : Shape := ⟨4, ![1, 1, 16, 128]⟩

abbrev nBuf : Space → Nat
  | .hbm => 48
  | .vmem => 23
  | .smem => 1
  | _ => 0

abbrev bufTy : (tb : Table) → Fin (tcTables nBuf tb) → BufTy
  | .hbm, ⟨0, _⟩ => ⟨S8x8x2048, .f32⟩
  | .hbm, ⟨1, _⟩ => ⟨S1x1280x128x16x128, .f32⟩
  | .hbm, ⟨2, _⟩ => ⟨S2048x128, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S2048x128, .i32⟩
  | .hbm, ⟨10, _⟩ => ⟨S2048x128, .i32⟩
  | .hbm, ⟨11, _⟩ => ⟨S_, .i32⟩
  | .hbm, ⟨12, _⟩ => ⟨S2048x128, .i32⟩
  | .hbm, ⟨13, _⟩ => ⟨S2048x128, .i1⟩
  | .hbm, ⟨14, _⟩ => ⟨S_, .i32⟩
  | .hbm, ⟨15, _⟩ => ⟨S2048x128, .i32⟩
  | .hbm, ⟨16, _⟩ => ⟨S2048x128, .i1⟩
  | .hbm, ⟨17, _⟩ => ⟨S_, .i32⟩
  | .hbm, ⟨18, _⟩ => ⟨S_, .i1⟩
  | .hbm, ⟨19, _⟩ => ⟨S2048x128, .i1⟩
  | .hbm, ⟨20, _⟩ => ⟨S2048x128, .i1⟩
  | .hbm, ⟨21, _⟩ => ⟨S2048x128, .i1⟩
  | .hbm, ⟨22, _⟩ => ⟨S2048x128, .i32⟩
  | .hbm, ⟨23, _⟩ => ⟨S2048x128, .i32⟩
  | .hbm, ⟨24, _⟩ => ⟨S2048x128, .i32⟩
  | .hbm, ⟨25, _⟩ => ⟨S2048x128, .i32⟩
  | .hbm, ⟨26, _⟩ => ⟨S_, .i32⟩
  | .hbm, ⟨27, _⟩ => ⟨S_, .i32⟩
  | .hbm, ⟨28, _⟩ => ⟨S2048x128, .i32⟩
  | .hbm, ⟨29, _⟩ => ⟨S2048x128, .i32⟩
  | .hbm, ⟨30, _⟩ => ⟨S2048x128, .i32⟩
  | .hbm, ⟨31, _⟩ => ⟨S_, .i32⟩
  | .hbm, ⟨32, _⟩ => ⟨S2048x128, .i32⟩
  | .hbm, ⟨33, _⟩ => ⟨S2048x128, .i1⟩
  | .hbm, ⟨34, _⟩ => ⟨S2048x128, .i32⟩
  | .hbm, ⟨35, _⟩ => ⟨S2048x128, .i32⟩
  | .hbm, ⟨36, _⟩ => ⟨S_, .i32⟩
  | .hbm, ⟨37, _⟩ => ⟨S2048x128, .i32⟩
  | .hbm, ⟨38, _⟩ => ⟨S2048x128, .i1⟩
  | .hbm, ⟨39, _⟩ => ⟨S2048x128, .i1⟩
  | .hbm, ⟨40, _⟩ => ⟨S_, .i32⟩
  | .hbm, ⟨41, _⟩ => ⟨S2048x128, .i32⟩
  | .hbm, ⟨42, _⟩ => ⟨S2048x128, .i32⟩
  | .hbm, ⟨43, _⟩ => ⟨S2048x128, .i32⟩
  | .hbm, ⟨44, _⟩ => ⟨S2048x128, .i1⟩
  | .hbm, ⟨45, _⟩ => ⟨S2048x128, .f32⟩
  | .hbm, ⟨46, _⟩ => ⟨S8x128x128x128, .f32⟩
  | .hbm, ⟨47, _⟩ => ⟨S8x128x16x128, .f32⟩
  | .local _ .vmem, ⟨0, _⟩ => ⟨S1x8x2048, .f32⟩
  | .local _ .vmem, ⟨1, _⟩ => ⟨S1x8x2048, .f32⟩
  | .local _ .vmem, ⟨2, _⟩ => ⟨S2048x128, .f32⟩
  | .local _ .vmem, ⟨3, _⟩ => ⟨S1x1x128x16x128, .f32⟩
  | .local _ .vmem, ⟨4, _⟩ => ⟨S1x1x128x16x128, .f32⟩
  | .local _ .vmem, ⟨5, _⟩ => ⟨S1x1x128x16x128, .f32⟩
  | .local _ .vmem, ⟨6, _⟩ => ⟨S1x1x128x16x128, .f32⟩
  | .local _ .vmem, ⟨7, _⟩ => ⟨S1x1x128x16x128, .f32⟩
  | .local _ .vmem, ⟨8, _⟩ => ⟨S1x1x128x16x128, .f32⟩
  | .local _ .vmem, ⟨9, _⟩ => ⟨S1x1x128x16x128, .f32⟩
  | .local _ .vmem, ⟨10, _⟩ => ⟨S1x1x128x16x128, .f32⟩
  | .local _ .vmem, ⟨11, _⟩ => ⟨S1x1x128x16x128, .f32⟩
  | .local _ .vmem, ⟨12, _⟩ => ⟨S1x1x128x16x128, .f32⟩
  | .local _ .vmem, ⟨13, _⟩ => ⟨S1x1x128x16x128, .f32⟩
  | .local _ .vmem, ⟨14, _⟩ => ⟨S1x1x128x16x128, .f32⟩
  | .local _ .vmem, ⟨15, _⟩ => ⟨S1x1x128x16x128, .f32⟩
  | .local _ .vmem, ⟨16, _⟩ => ⟨S1x1x128x16x128, .f32⟩
  | .local _ .vmem, ⟨17, _⟩ => ⟨S1x1x128x16x128, .f32⟩
  | .local _ .vmem, ⟨18, _⟩ => ⟨S1x1x128x16x128, .f32⟩
  | .local _ .vmem, ⟨19, _⟩ => ⟨S1x8x128x128, .f32⟩
  | .local _ .vmem, ⟨20, _⟩ => ⟨S1x8x128x128, .f32⟩
  | .local _ .vmem, ⟨21, _⟩ => ⟨S1x8x16x128, .f32⟩
  | .local _ .vmem, ⟨22, _⟩ => ⟨S1x8x16x128, .f32⟩
  | .local _ .smem, ⟨0, _⟩ => ⟨S8x128, .i32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6_0 : Ref sig .tc := ⟨.hbm, 46, rfl⟩
abbrev main_v6_1 : Ref sig .tc := ⟨.hbm, 47, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S8x128) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v4.toNat, c0_i32_1.toNat, c0_i32_2.toNat, c0_i32_3.toNat]

def cc0_transform_3 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S8x128) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v4.toNat, c0_i32_0.toNat, c0_i32_1.toNat, c0_i32_2.toNat]

def cc0_transform_4 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S8x128) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v4.toNat, c0_i32_0.toNat, c0_i32_1.toNat, c0_i32_2.toNat]

def cc0_transform_5 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S8x128) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v4.toNat, c0_i32_0.toNat, c0_i32_1.toNat, c0_i32_2.toNat]

def cc0_transform_6 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S8x128) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v4.toNat, c0_i32_0.toNat, c0_i32_1.toNat, c0_i32_2.toNat]

def cc0_transform_7 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S8x128) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v4.toNat, c0_i32_0.toNat, c0_i32_1.toNat, c0_i32_2.toNat]

def cc0_transform_8 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S8x128) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v4.toNat, c0_i32_0.toNat, c0_i32_1.toNat, c0_i32_2.toNat]

def cc0_transform_9 (k0_off1_inb : ∀ i : grid0.Coords, ∀ (r : Fin 8), ∀ a, (k0_off1 i (BitVec.ofNat 32 r.val)) a + S1x1.size a ≤ S8x128.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S8x128) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v4.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x128x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ScoresRefIdeal.lean ====
abbrev S8x128 : Shape := ⟨2, ![8, 128]⟩
abbrev S8x8x2048 : Shape := ⟨3, ![8, 8, 2048]⟩
abbrev S1x1280x128x16x128 : Shape := ⟨5, ![1, 1280, 128, 16, 128]⟩
abbrev S_ : Shape := ⟨0, ![]⟩
abbrev S8x128x1 : Shape := ⟨3, ![8, 128, 1]⟩
abbrev S8x128x2 : Shape := ⟨3, ![8, 128, 2]⟩
abbrev S8x128x128x16x128 : Shape := ⟨5, ![8, 128, 128, 16, 128]⟩
abbrev S8x8x16x128 : Shape := ⟨4, ![8, 8, 16, 128]⟩
abbrev S8x16x128x128x8 : Shape := ⟨5, ![8, 16, 128, 128, 8]⟩
abbrev S8x128x128x16x8 : Shape := ⟨5, ![8, 128, 128, 16, 8]⟩
abbrev S8x128x128x128 : Shape := ⟨4, ![8, 128, 128, 128]⟩
abbrev S8x128x16x128 : Shape := ⟨4, ![8, 128, 16, 128]⟩

abbrev nBuf : Space → Nat
  | .hbm => 23
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S8x8x2048, .f32⟩
  | .hbm, ⟨2, _⟩ => ⟨S1x1280x128x16x128, .f32⟩
  | .hbm, ⟨3, _⟩ => ⟨S_, .i32⟩
  | .hbm, ⟨4, _⟩ => ⟨S8x128, .i32⟩
  | .hbm, ⟨5, _⟩ => ⟨S8x128, .i1⟩
  | .hbm, ⟨6, _⟩ => ⟨S_, .i32⟩
  | .hbm, ⟨7, _⟩ => ⟨S8x128, .i32⟩
  | .hbm, ⟨8, _⟩ => ⟨S8x128, .i32⟩
  | .hbm, ⟨9, _⟩ => ⟨S8x128, .i32⟩
  | .hbm, ⟨10, _⟩ => ⟨S_, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x1, .i32⟩
  | .hbm, ⟨15, _⟩ => ⟨S8x128x2, .i32⟩
  | .hbm, ⟨16, _⟩ => ⟨S8x128x128x16x128, .f32⟩
  | .hbm, ⟨17, _⟩ => ⟨S8x8x16x128, .f32⟩
  | .hbm, ⟨18, _⟩ => ⟨S8x16x128x128x8, .f32⟩
  | .hbm, ⟨19, _⟩ => ⟨S8x128x128x16x8, .f32⟩
  | .hbm, ⟨20, _⟩ => ⟨S8x128x128x128, .f32⟩
  | .hbm, ⟨21, _⟩ => ⟨S_, .f32⟩
  | .hbm, ⟨22, _⟩ => ⟨S8x128x16x128, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== FfnIn.lean ====
abbrev S4x2048x2048 : Shape := ⟨3, ![4, 2048, 2048]⟩
abbrev S2048x11264 : Shape := ⟨2, ![2048, 11264]⟩
abbrev S4x2x5632 : Shape := ⟨3, ![4, 2, 5632]⟩
abbrev S3x5632 : Shape := ⟨2, ![3, 5632]⟩
abbrev S5632 : Shape := ⟨1, ![5632]⟩
abbrev S2048x5632 : Shape := ⟨2, ![2048, 5632]⟩
abbrev S1x5632 : Shape := ⟨2, ![1, 5632]⟩
abbrev S8192x5632 : Shape := ⟨2, ![8192, 5632]⟩
abbrev S2x4x2x5632 : Shape := ⟨4, ![2, 4, 2, 5632]⟩
abbrev S1x1024x2048 : Shape := ⟨3, ![1, 1024, 2048]⟩
abbrev S2048x512 : Shape := ⟨2, ![2048, 512]⟩
abbrev S1x2x512 : Shape := ⟨3, ![1, 2, 512]⟩
abbrev S3x512 : Shape := ⟨2, ![3, 512]⟩
abbrev S1x512 : Shape := ⟨2, ![1, 512]⟩
abbrev S1024x512 : Shape := ⟨2, ![1024, 512]⟩
abbrev S1x1x2x512 : Shape := ⟨4, ![1, 1, 2, 512]⟩
abbrev S1024x2048 : Shape := ⟨2, ![1024, 2048]⟩
abbrev S11x1x2x512 : Shape := ⟨4, ![11, 1, 2, 512]⟩
abbrev S1x1x512 : Shape := ⟨3, ![1, 1, 512]⟩
abbrev S1x1024x512 : Shape := ⟨3, ![1, 1024, 512]⟩
abbrev S1x4x2x5632 : Shape := ⟨4, ![1, 4, 2, 5632]⟩

abbrev nBuf : Space → Nat
  | .hbm => 14
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S2048x11264, .f32⟩
  | .hbm, ⟨2, _⟩ => ⟨S4x2x5632, .f32⟩
  | .hbm, ⟨3, _⟩ => ⟨S3x5632, .f32⟩
  | .hbm, ⟨4, _⟩ => ⟨S5632, .f32⟩
  | .hbm, ⟨5, _⟩ => ⟨S2048x5632, .f32⟩
  | .hbm, ⟨6, _⟩ => ⟨S2048x5632, .bf16⟩
  | .hbm, ⟨7, _⟩ => ⟨S2048x5632, .f32⟩
  | .hbm, ⟨8, _⟩ => ⟨S2048x5632, .bf16⟩
  | .hbm, ⟨9, _⟩ => ⟨S1x5632, .f32⟩
  | .hbm, ⟨10, _⟩ => ⟨S8192x5632, .bf16⟩
  | .hbm, ⟨11, _⟩ => ⟨S2x4x2x5632, .f32⟩
  | .hbm, ⟨12, _⟩ => ⟨S1x4x2x5632, .f32⟩
  | .hbm, ⟨13, _⟩ => ⟨S4x2x5632, .f32⟩
  | .local _ .vmem, ⟨0, _⟩ => ⟨S1x1024x2048, .f32⟩
  | .local _ .vmem, ⟨1, _⟩ => ⟨S1x1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x2x512, .f32⟩
  | .local _ .vmem, ⟨7, _⟩ => ⟨S1x2x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1x1x2x512, .f32⟩
  | .local _ .vmem, ⟨15, _⟩ => ⟨S1x1x2x512, .f32⟩
  | .local _ .vmem, ⟨16, _⟩ => ⟨S1024x2048, .bf16⟩
  | .local _ .vmem, ⟨17, _⟩ => ⟨S11x1x2x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 2, 11], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 4 → Nat :=
  let arg2 : BitVec 32 := BitVec.ofNat 32 (i 2).val
  let v89 : Index := Scalar.indexCast arg2
  let c0_39 : Index := 0#32
  let c0_40 : Index := 0#32
  let c0_41 : Index := 0#32
  ![v89.toNat, 0, 0, 0]
def k0_off2 (i : grid0.Coords) : Fin 4 → Nat :=
  let arg2 : BitVec 32 := BitVec.ofNat 32 (i 2).val
  let v13 : Index := Scalar.indexCast arg2
  let c0_9 : Index := 0#32
  let c0_10 : Index := 0#32
  let c0_11 : Index := 0#32
  ![v13.toNat, 0, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== FfnInRefIdeal.lean ====
abbrev S4x2048x2048 : Shape := ⟨3, ![4, 2048, 2048]⟩
abbrev S2048x11264 : Shape := ⟨2, ![2048, 11264]⟩
abbrev S4x2x5632 : Shape := ⟨3, ![4, 2, 5632]⟩
abbrev S3x5632 : Shape := ⟨2, ![3, 5632]⟩
abbrev S5632 : Shape := ⟨1, ![5632]⟩
abbrev S4x2048x11264 : Shape := ⟨3, ![4, 2048, 11264]⟩
abbrev S4x2048x5632 : Shape := ⟨3, ![4, 2048, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S_ : Shape := ⟨0, ![]⟩
abbrev S8192x5632 : Shape := ⟨2, ![8192, 5632]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x11264, .f32⟩
  | .hbm, ⟨2, _⟩ => ⟨S4x2x5632, .f32⟩
  | .hbm, ⟨3, _⟩ => ⟨S3x5632, .f32⟩
  | .hbm, ⟨4, _⟩ => ⟨S5632, .f32⟩
  | .hbm, ⟨5, _⟩ => ⟨S4x2048x11264, .f32⟩
  | .hbm, ⟨6, _⟩ => ⟨S4x2048x5632, .f32⟩
  | .hbm, ⟨7, _⟩ => ⟨S4x2048x5632, .f32⟩
  | .hbm, ⟨8, _⟩ => ⟨S4x2050x5632, .f32⟩
  | .hbm, ⟨9, _⟩ => ⟨S4x2048x5632, .f32⟩
  | .hbm, ⟨10, _⟩ => ⟨S1x5632, .f32⟩
  | .hbm, ⟨11, _⟩ => ⟨S5632, .f32⟩
  | .hbm, ⟨12, _⟩ => ⟨S1x1x5632, .f32⟩
  | .hbm, ⟨13, _⟩ => ⟨S4x2048x5632, .f32⟩
  | .hbm, ⟨14, _⟩ => ⟨S4x2048x5632, .f32⟩
  | .hbm, ⟨15, _⟩ => ⟨S_, .f32⟩
  | .hbm, ⟨16, _⟩ => ⟨S4x2048x5632, .f32⟩
  | .hbm, ⟨17, _⟩ => ⟨S4x2048x5632, .f32⟩
  | .hbm, ⟨18, _⟩ => ⟨S4x2048x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S4x2048x5632, .f32⟩
  | .hbm, ⟨23, _⟩ => ⟨S4x2048x5632, .f32⟩
  | .hbm, ⟨24, _⟩ => ⟨S4x2048x5632, .f32⟩
  | .hbm, ⟨25, _⟩ => ⟨S4x2048x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S1x1x5632, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S4x2048x5632, .f32⟩
  | .hbm, ⟨37, _⟩ => ⟨S_, .f32⟩
  | .hbm, ⟨38, _⟩ => ⟨S4x2048x5632, .f32⟩
  | .hbm, ⟨39, _⟩ => ⟨S4x2048x5632, .f32⟩
  | .hbm, ⟨40, _⟩ => ⟨S_, .f32⟩
  | .hbm, ⟨41, _⟩ => ⟨S4x2048x5632, .f32⟩
  | .hbm, ⟨42, _⟩ => ⟨S4x2048x5632, .f32⟩
  | .hbm, ⟨43, _⟩ => ⟨S4x2048x5632, .f32⟩
  | .hbm, ⟨44, _⟩ => ⟨S4x2048x5632, .f32⟩
  | .hbm, ⟨45, _⟩ => ⟨S8192x5632, .f32⟩
  | .hbm, ⟨46, _⟩ => ⟨S8192x5632, .bf16⟩
  | .hbm, ⟨47, _⟩ => ⟨S4x2x5632, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== FfnDown.lean ====
abbrev S8192x5632 : Shape := ⟨2, ![8192, 5632]⟩
abbrev S5632x2048 : Shape := ⟨2, ![5632, 2048]⟩
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S4x2048x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnDownIdeal.lean ====
abbrev S8192x5632 : Shape := ⟨2, ![8192, 5632]⟩
abbrev S5632x2048 : Shape := ⟨2, ![5632, 2048]⟩
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S4x2048x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnDownRefIdeal.lean ====
abbrev S8192x5632 : Shape := ⟨2, ![8192, 5632]⟩
abbrev S5632x2048 : Shape := ⟨2, ![5632, 2048]⟩
abbrev S4x2048x2048 : Shape := ⟨3, ![4, 2048, 2048]⟩
abbrev S2048 : Shape := ⟨1, ![2048]⟩
abbrev S4x2048x5632 : Shape := ⟨3, ![4, 2048, 5632]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S4x2048x2048, .f32⟩
  | .hbm, ⟨3, _⟩ => ⟨S2048, .f32⟩
  | .hbm, ⟨4, _⟩ => ⟨S2048, .f32⟩
  | .hbm, ⟨5, _⟩ => ⟨S8192x5632, .f32⟩
  | .hbm, ⟨6, _⟩ => ⟨S4x2048x5632, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S1x1x2048, .f32⟩
  | .hbm, ⟨36, _⟩ => ⟨S4x2048x2048, .f32⟩
  | .hbm, ⟨37, _⟩ => ⟨S4x2048x2048, .f32⟩
  | .hbm, ⟨38, _⟩ => ⟨S1x1x2048, .f32⟩
  | .hbm, ⟨39, _⟩ => ⟨S4x2048x2048, .f32⟩
  | .hbm, ⟨40, _⟩ => ⟨S4x2048x2048, .f32⟩
  | .hbm, ⟨41, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Qkv.lean ====
abbrev S4x2048x2048 : Shape := ⟨3, ![4, 2048, 2048]⟩
abbrev S2048x6144 : Shape := ⟨2, ![2048, 6144]⟩
abbrev S2048x2048 : Shape := ⟨2, ![2048, 2048]⟩
abbrev S8192x2048 : Shape := ⟨2, ![8192, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048x6144, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvIdeal.lean ====
abbrev S4x2048x2048 : Shape := ⟨3, ![4, 2048, 2048]⟩
abbrev S2048x6144 : Shape := ⟨2, ![2048, 6144]⟩
abbrev S2048x2048 : Shape := ⟨2, ![2048, 2048]⟩
abbrev S8192x2048 : Shape := ⟨2, ![8192, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048x6144, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvRefIdeal.lean ====
abbrev S4x2048x2048 : Shape := ⟨3, ![4, 2048, 2048]⟩
abbrev S2048x6144 : Shape := ⟨2, ![2048, 6144]⟩
abbrev S4x2048x6144 : Shape := ⟨3, ![4, 2048, 6144]⟩
abbrev S4x2048x3x16x128 : Shape := ⟨5, ![4, 2048, 3, 16, 128]⟩
abbrev S4x2048x1x16x128 : Shape := ⟨5, ![4, 2048, 1, 16, 128]⟩
abbrev S4x2048x16x128 : Shape := ⟨4, ![4, 2048, 16, 128]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x6144, .f32⟩
  | .hbm, ⟨2, _⟩ => ⟨S4x2048x6144, .f32⟩
  | .hbm, ⟨3, _⟩ => ⟨S4x2048x3x16x128, .f32⟩
  | .hbm, ⟨4, _⟩ => ⟨S4x2048x1x16x128, .f32⟩
  | .hbm, ⟨5, _⟩ => ⟨S4x2048x16x128, .f32⟩
  | .hbm, ⟨6, _⟩ => ⟨S4x2048x1x16x128, .f32⟩
  | .hbm, ⟨7, _⟩ => ⟨S4x2048x16x128, .f32⟩
  | .hbm, ⟨8, _⟩ => ⟨S4x2048x1x16x128, .f32⟩
  | .hbm, ⟨9, _⟩ => ⟨S4x2048x16x128, .f32⟩
  | .hbm, ⟨10, _⟩ => ⟨S8192x2048, .f32⟩
  | .hbm, ⟨11, _⟩ => ⟨S8192x2048, .f32⟩
  | .hbm, ⟨12, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Gate.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S4x2048x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S2048x2048, .bf16⟩
  | .hbm, ⟨8, _⟩ => ⟨S2048x2048, .bf16⟩
  | .hbm, ⟨9, _⟩ => ⟨S8192x2048, .f32⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S4x2048x2048, .f32⟩
  | .hbm, ⟨4, _⟩ => ⟨S2048, .f32⟩
  | .hbm, ⟨5, _⟩ => ⟨S2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S1x1x2048, .f32⟩
  | .hbm, ⟨45, _⟩ => ⟨S4x2048x2048, .f32⟩
  | .hbm, ⟨46, _⟩ => ⟨S4x2048x2048, .f32⟩
  | .hbm, ⟨47, _⟩ => ⟨S1x1x2048, .f32⟩
  | .hbm, ⟨48, _⟩ => ⟨S4x2048x2048, .f32⟩
  | .hbm, ⟨49, _⟩ => ⟨S4x2048x2048, .f32⟩
  | .hbm, ⟨50, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Wo.lean ====
abbrev S4x2048x2048 : Shape := ⟨3, ![4, 2048, 2048]⟩
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .bf16⟩
  | .hbm, ⟨2, _⟩ => ⟨S2048x2048, .f32⟩
  | .hbm, ⟨3, _⟩ => ⟨S4x2048x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S2048x2048, .bf16⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== WoRefIdeal.lean ====
abbrev S4x2048x2048 : Shape := ⟨3, ![4, 2048, 2048]⟩
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .bf16⟩
  | .hbm, ⟨2, _⟩ => ⟨S2048x2048, .f32⟩
  | .hbm, ⟨3, _⟩ => ⟨S4x2048x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S1x1x2048, .f32⟩
  | .hbm, ⟨38, _⟩ => ⟨S4x2048x2048, .f32⟩
  | .hbm, ⟨39, _⟩ => ⟨S4x2048x2048, .f32⟩
  | .hbm, ⟨40, _⟩ => ⟨S1x1x2048, .f32⟩
  | .hbm, ⟨41, _⟩ => ⟨S4x2048x2048, .f32⟩
  | .hbm, ⟨42, _⟩ => ⟨S4x2048x2048, .f32⟩
  | .hbm, ⟨43, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== FfnDownS.lean ====
abbrev S64x5632 : Shape := ⟨2, ![64, 5632]⟩
abbrev S5632x2048 : Shape := ⟨2, ![5632, 2048]⟩
abbrev S8x8x2048 : Shape := ⟨3, ![8, 8, 2048]⟩
abbrev S2048 : Shape := ⟨1, ![2048]⟩
abbrev S64x2048 : Shape := ⟨2, ![64, 2048]⟩
abbrev S1x2048 : Shape := ⟨2, ![1, 2048]⟩
abbrev S64 : Shape := ⟨1, ![64]⟩
abbrev S64x1 : Shape := ⟨2, ![64, 1]⟩

abbrev nBuf : Space → Nat
  | .hbm => 10
  | .vmem => 7
  | .smem => 0
  | _ => 0

abbrev bufTy : (tb : Table) → Fin (tcTables nBuf tb) → BufTy
  | .hbm, ⟨0, _⟩ => ⟨S64x5632, .bf16⟩
  | .hbm, ⟨1, _⟩ => ⟨S5632x2048, .f32⟩
  | .hbm, ⟨2, _⟩ => ⟨S8x8x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S64x2048, .f32⟩
  | .hbm, ⟨7, _⟩ => ⟨S1x2048, .f32⟩
  | .hbm, ⟨8, _⟩ => ⟨S1x2048, .f32⟩
  | .hbm, ⟨9, _⟩ => ⟨S64x2048, .f32⟩
  | .local _ .vmem, ⟨0, _⟩ => ⟨S64x5632, .bf16⟩
  | .local _ .vmem, ⟨1, _⟩ => ⟨S5632x2048, .bf16⟩
  | .local _ .vmem, ⟨2, _⟩ => ⟨S64x2048, .f32⟩
  | .local _ .vmem, ⟨3, _⟩ => ⟨S1x2048, .f32⟩
  | .local _ .vmem, ⟨4, _⟩ => ⟨S1x2048, .f32⟩
  | .local _ .vmem, ⟨5, _⟩ => ⟨S64x2048, .f32⟩
  | .local _ .vmem, ⟨6, _⟩ => ⟨S64x2048, .f32⟩
  | _, _ => ⟨S64x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S64x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnDownSRefIdeal.lean ====
abbrev S64x5632 : Shape := ⟨2, ![64, 5632]⟩
abbrev S5632x2048 : Shape := ⟨2, ![5632, 2048]⟩
abbrev S8x8x2048 : Shape := ⟨3, ![8, 8, 2048]⟩
abbrev S2048 : Shape := ⟨1, ![2048]⟩
abbrev S8x8x5632 : Shape := ⟨3, ![8, 8, 5632]⟩
abbrev S_ : Shape := ⟨0, ![]⟩
abbrev S8x8 : Shape := ⟨2, ![8, 8]⟩
abbrev S8x8x1 : Shape := ⟨3, ![8, 8, 1]⟩
abbrev S1x1x2048 : Shape := ⟨3, ![1, 1, 2048]⟩
abbrev S64x2048 : Shape := ⟨2, ![64, 2048]⟩

abbrev nBuf : Space → Nat
  | .hbm => 42
  | .vmem => 0
  | .smem => 0
  | _ => 0

abbrev bufTy : (tb : Table) → Fin (tcTables nBuf tb) → BufTy
  | .hbm, ⟨0, _⟩ => ⟨S64x5632, .bf16⟩
  | .hbm, ⟨1, _⟩ => ⟨S5632x2048, .f32⟩
  | .hbm, ⟨2, _⟩ => ⟨S8x8x2048, .f32⟩
  | .hbm, ⟨3, _⟩ => ⟨S2048, .f32⟩
  | .hbm, ⟨4, _⟩ => ⟨S2048, .f32⟩
  | .hbm, ⟨5, _⟩ => ⟨S64x5632, .f32⟩
  | .hbm, ⟨6, _⟩ => ⟨S8x8x5632, .f32⟩
  | .hbm, ⟨7, _⟩ => ⟨S8x8x2048, .f32⟩
  | .hbm, ⟨8, _⟩ => ⟨S_, .f32⟩
  | .hbm, ⟨9, _⟩ => ⟨S8x8x2048, .f32⟩
  | .hbm, ⟨10, _⟩ => ⟨S8x8x2048, .f32⟩
  | .hbm, ⟨11, _⟩ => ⟨S8x8x2048, .f32⟩
  | .hbm, ⟨12, _⟩ => ⟨S_, .f32⟩
  | .hbm, ⟨13, _⟩ => ⟨S8x8, .f32⟩
  | .hbm, ⟨14, _⟩ => ⟨S8x8x1, .f32⟩
  | .hbm, ⟨15, _⟩ => ⟨S_, .f32⟩
  | .hbm, ⟨16, _⟩ => ⟨S8x8x1, .f32⟩
  | .hbm, ⟨17, _⟩ => ⟨S8x8x1, .f32⟩
  | .hbm, ⟨18, _⟩ => ⟨S8x8x2048, .f32⟩
  | .hbm, ⟨19, _⟩ => ⟨S8x8x2048, .f32⟩
  | .hbm, ⟨20, _⟩ => ⟨S8x8x2048, .f32⟩
  | .hbm, ⟨21, _⟩ => ⟨S_, .f32⟩
  | .hbm, ⟨22, _⟩ => ⟨S8x8, .f32⟩
  | .hbm, ⟨23, _⟩ => ⟨S8x8x1, .f32⟩
  | .hbm, ⟨24, _⟩ => ⟨S_, .f32⟩
  | .hbm, ⟨25, _⟩ => ⟨S8x8x1, .f32⟩
  | .hbm, ⟨26, _⟩ => ⟨S8x8x1, .f32⟩
  | .hbm, ⟨27, _⟩ => ⟨S8x8x2048, .f32⟩
  | .hbm, ⟨28, _⟩ => ⟨S8x8x2048, .f32⟩
  | .hbm, ⟨29, _⟩ => ⟨S_, .f32⟩
  | .hbm, ⟨30, _⟩ => ⟨S8x8x1, .f32⟩
  | .hbm, ⟨31, _⟩ => ⟨S8x8x1, .f32⟩
  | .hbm, ⟨32, _⟩ => ⟨S8x8x1, .f32⟩
  | .hbm, ⟨33, _⟩ => ⟨S8x8x2048, .f32⟩
  | .hbm, ⟨34, _⟩ => ⟨S8x8x2048, .f32⟩
  | .hbm, ⟨35, _⟩ => ⟨S1x1x2048, .f32⟩
  | .hbm, ⟨36, _⟩ => ⟨S8x8x2048, .f32⟩
  | .hbm, ⟨37, _⟩ => ⟨S8x8x2048, .f32⟩
  | .hbm, ⟨38, _⟩ => ⟨S1x1x2048, .f32⟩
  | .hbm, ⟨39, _⟩ => ⟨S8x8x2048, .f32⟩
  | .hbm, ⟨40, _⟩ => ⟨S8x8x2048, .f32⟩
  | .hbm, ⟨41, _⟩ => ⟨S64x2048, .f32⟩
  | _, _ => ⟨S64x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== QkvS.lean ====
abbrev S8x8x2048 : Shape := ⟨3, ![8, 8, 2048]⟩
abbrev S2048x6144 : Shape := ⟨2, ![2048, 6144]⟩
abbrev S2048x2048 : Shape := ⟨2, ![2048, 2048]⟩
abbrev S64x2048 : Shape := ⟨2, ![64, 2048]⟩
abbrev S2048x512 : Shape := ⟨2, ![2048, 512]⟩
abbrev S64x512 : Shape := ⟨2, ![64, 512]⟩

abbrev nBuf : Space → Nat
  | .hbm => 12
  | .vmem => 14
  | .smem => 0
  | _ => 0

abbrev bufTy : (tb : Table) → Fin (tcTables nBuf tb) → BufTy
  | .hbm, ⟨0, _⟩ => ⟨S8x8x2048, .f32⟩
  | .hbm, ⟨1, _⟩ => ⟨S2048x6144, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S64x2048, .f32⟩
  | .hbm, ⟨9, _⟩ => ⟨S64x2048, .f32⟩
  | .hbm, ⟨10, _⟩ => ⟨S64x2048, .f32⟩
  | .hbm, ⟨11, _⟩ => ⟨S64x2048, .f32⟩
  | .local _ .vmem, ⟨0, _⟩ => ⟨S64x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x2048, .bf16⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvSRefIdeal.lean ====
abbrev S8x8x2048 : Shape := ⟨3, ![8, 8, 2048]⟩
abbrev S2048x6144 : Shape := ⟨2, ![2048, 6144]⟩
abbrev S8x8x6144 : Shape := ⟨3, ![8, 8, 6144]⟩
abbrev S8x8x3x16x128 : Shape := ⟨5, ![8, 8, 3, 16, 128]⟩
abbrev S8x8x1x16x128 : Shape := ⟨5, ![8, 8, 1, 16, 128]⟩
abbrev S8x8x16x128 : Shape := ⟨4, ![8, 8, 16, 128]⟩
abbrev S64x2048 : Shape := ⟨2, ![64, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S2048x6144, .f32⟩
  | .hbm, ⟨2, _⟩ => ⟨S8x8x6144, .f32⟩
  | .hbm, ⟨3, _⟩ => ⟨S8x8x3x16x128, .f32⟩
  | .hbm, ⟨4, _⟩ => ⟨S8x8x1x16x128, .f32⟩
  | .hbm, ⟨5, _⟩ => ⟨S8x8x16x128, .f32⟩
  | .hbm, ⟨6, _⟩ => ⟨S8x8x1x16x128, .f32⟩
  | .hbm, ⟨7, _⟩ => ⟨S8x8x16x128, .f32⟩
  | .hbm, ⟨8, _⟩ => ⟨S8x8x1x16x128, .f32⟩
  | .hbm, ⟨9, _⟩ => ⟨S8x8x16x128, .f32⟩
  | .hbm, ⟨10, _⟩ => ⟨S64x2048, .f32⟩
  | .hbm, ⟨11, _⟩ => ⟨S64x2048, .f32⟩
  | .hbm, ⟨12, _⟩ => ⟨S64x2048, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Proj.lean ====
abbrev S4x2048x2048 : Shape := ⟨3, ![4, 2048, 2048]⟩
abbrev S4x2048 : Shape := ⟨2, ![4, 2048]⟩
abbrev S6x2048 : Shape := ⟨2, ![6, 2048]⟩
abbrev S3x2048x2048 : Shape := ⟨3, ![3, 2048, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S1x2048x2048 : Shape := ⟨3, ![1, 2048, 2048]⟩
abbrev S2048x2048 : Shape := ⟨2, ![2048, 2048]⟩
abbrev S2048x6144 : Shape := ⟨2, ![2048, 6144]⟩
abbrev S_ : Shape := ⟨0, ![]⟩
abbrev S2048x128 : Shape := ⟨2, ![2048, 128]⟩
abbrev S128x2048 : Shape := ⟨2, ![128, 2048]⟩
abbrev S1x2048 : Shape := ⟨2, ![1, 2048]⟩
abbrev S8192x2048 : Shape := ⟨2, ![8192, 2048]⟩
abbrev S4x1x2048 : Shape := ⟨3, ![4, 1, 2048]⟩
abbrev S512x2048 : Shape := ⟨2, ![512, 2048]⟩
abbrev S1x1x2048 : Shape := ⟨3, ![1, 1, 2048]⟩
abbrev S2048x1024 : Shape := ⟨2, ![2048, 1024]⟩
abbrev S128x1024 : Shape := ⟨2, ![128, 1024]⟩
abbrev S256x1024 : Shape := ⟨2, ![256, 1024]⟩
abbrev S1x1024 : Shape := ⟨2, ![1, 1024]⟩
abbrev S512x1024 : Shape := ⟨2, ![512, 1024]⟩
abbrev S3x512x2048 : Shape := ⟨3, ![3, 512, 2048]⟩
abbrev S512x128 : Shape := ⟨2, ![512, 128]⟩
abbrev S512x256 : Shape := ⟨2, ![512, 256]⟩
abbrev S8x2048 : Shape := ⟨2, ![8, 2048]⟩
abbrev S1x512x2048 : Shape := ⟨3, ![1, 512, 2048]⟩

abbrev nBuf : Space → Nat
  | .hbm => 50
  | .vmem => 37
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S6x2048, .f32⟩
  | .hbm, ⟨3, _⟩ => ⟨S3x2048x2048, .f32⟩
  | .hbm, ⟨4, _⟩ => ⟨S2048, .f32⟩
  | .hbm, ⟨5, _⟩ => ⟨S2048x96, .f32⟩
  | .hbm, ⟨6, _⟩ => ⟨S96x2048, .f32⟩
  | .hbm, ⟨7, _⟩ => ⟨S2048, .f32⟩
  | .hbm, ⟨8, _⟩ => ⟨S2048x96, .f32⟩
  | .hbm, ⟨9, _⟩ => ⟨S96x2048, .f32⟩
  | .hbm, ⟨10, _⟩ => ⟨S2048x256, .f32⟩
  | .hbm, ⟨11, _⟩ => ⟨S256x2048, .f32⟩
  | .hbm, ⟨12, _⟩ => ⟨S1x2048x2048, .f32⟩
  | .hbm, ⟨13, _⟩ => ⟨S2048x2048, .f32⟩
  | .hbm, ⟨14, _⟩ => ⟨S2048x2048, .bf16⟩
  | .hbm, ⟨15, _⟩ => ⟨S1x2048x2048, .f32⟩
  | .hbm, ⟨16, _⟩ => ⟨S2048x2048, .f32⟩
  | .hbm, ⟨17, _⟩ => ⟨S2048x2048, .bf16⟩
  | .hbm, ⟨18, _⟩ => ⟨S1x2048x2048, .f32⟩
  | .hbm, ⟨19, _⟩ => ⟨S2048x2048, .f32⟩
  | .hbm, ⟨20, _⟩ => ⟨S2048x2048, .bf16⟩
  | .hbm, ⟨21, _⟩ => ⟨S2048x6144, .bf16⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x128, .bf16⟩
  | .hbm, ⟨26, _⟩ => ⟨S_, .i32⟩
  | .hbm, ⟨27, _⟩ => ⟨S_, .f32⟩
  | .hbm, ⟨28, _⟩ => ⟨S2048x128, .f32⟩
  | .hbm, ⟨29, _⟩ => ⟨S2048x128, .bf16⟩
  | .hbm, ⟨30, _⟩ => ⟨S2048x256, .bf16⟩
  | .hbm, ⟨31, _⟩ => ⟨S_, .i32⟩
  | .hbm, ⟨32, _⟩ => ⟨S_, .f32⟩
  | .hbm, ⟨33, _⟩ => ⟨S128x2048, .f32⟩
  | .hbm, ⟨34, _⟩ => ⟨S128x2048, .bf16⟩
  | .hbm, ⟨35, _⟩ => ⟨S_, .i32⟩
  | .hbm, ⟨36, _⟩ => ⟨S_, .f32⟩
  | .hbm, ⟨37, _⟩ => ⟨S128x2048, .f32⟩
  | .hbm, ⟨38, _⟩ => ⟨S128x2048, .bf16⟩
  | .hbm, ⟨39, _⟩ => ⟨S256x2048, .bf16⟩
  | .hbm, ⟨40, _⟩ => ⟨S1x2048, .f32⟩
  | .hbm, ⟨41, _⟩ => ⟨S1x2048, .f32⟩
  | .hbm, ⟨42, _⟩ => ⟨S8192x2048, .f32⟩
  | .hbm, ⟨43, _⟩ => ⟨S4x1x2048, .f32⟩
  | .hbm, ⟨44, _⟩ => ⟨S8192x2048, .bf16⟩
  | .hbm, ⟨45, _⟩ => ⟨S8192x2048, .bf16⟩
  | .hbm, ⟨46, _⟩ => ⟨S8192x2048, .bf16⟩
  | .hbm, ⟨47, _⟩ => ⟨S8192x2048, .f32⟩
  | .hbm, ⟨48, _⟩ => ⟨S8192x2048, .bf16⟩
  | .hbm, ⟨49, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S6x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S2048x128, .bf16⟩
  | .local _ .vmem, ⟨9, _⟩ => ⟨S2048x256, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S3x512x2048, .bf16⟩
  | .local _ .vmem, ⟨33, _⟩ => ⟨S512x128, .bf16⟩
  | .local _ .vmem, ⟨34, _⟩ => ⟨S512x128, .bf16⟩
  | .local _ .vmem, ⟨35, _⟩ => ⟨S512x256, .bf16⟩
  | .local _ .vmem, ⟨36, _⟩ => ⟨S8x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_call2_v0 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_call3_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v24_3 : Ref sig .tc := ⟨.hbm, 47, rfl⟩
abbrev main_v24_4 : Ref sig .tc := ⟨.hbm, 48, rfl⟩
abbrev main_v24_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq v19 c0_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let c1_i32_8 : BitVec 32 := 1#32
  let v23 : BitVec 1 := Scalar.cmpi .eq v19 c1_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let c2_i32_10 : BitVec 32 := 2#32
  let v26 : BitVec 1 := Scalar.cmpi .eq v19 c2_i32_10
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ProjRefIdeal.lean ====
abbrev S4x2048x2048 : Shape := ⟨3, ![4, 2048, 2048]⟩
abbrev S4x2048 : Shape := ⟨2, ![4, 2048]⟩
abbrev S6x2048 : Shape := ⟨2, ![6, 2048]⟩
abbrev S3x2048x2048 : Shape := ⟨3, ![3, 2048, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S4x1x2048 : Shape := ⟨3, ![4, 1, 2048]⟩
abbrev S4x2047x2048 : Shape := ⟨3, ![4, 2047, 2048]⟩
abbrev S4x2048x1x2048 : Shape := ⟨4, ![4, 2048, 1, 2048]⟩
abbrev S1x1x6x2048 : Shape := ⟨4, ![1, 1, 6, 2048]⟩
abbrev S4x2048x6x2048 : Shape := ⟨4, ![4, 2048, 6, 2048]⟩
abbrev S1x2048x2048 : Shape := ⟨3, ![1, 2048, 2048]⟩
abbrev S2048x2048 : Shape := ⟨2, ![2048, 2048]⟩
abbrev S4x2048x96 : Shape := ⟨3, ![4, 2048, 96]⟩
abbrev S1x1x2048 : Shape := ⟨3, ![1, 1, 2048]⟩
abbrev S_ : Shape := ⟨0, ![]⟩
abbrev S4x2048x256 : Shape := ⟨3, ![4, 2048, 256]⟩
abbrev S8192x2048 : Shape := ⟨2, ![8192, 2048]⟩

abbrev nBuf : Space → Nat
  | .hbm => 106
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S6x2048, .f32⟩
  | .hbm, ⟨3, _⟩ => ⟨S3x2048x2048, .f32⟩
  | .hbm, ⟨4, _⟩ => ⟨S2048, .f32⟩
  | .hbm, ⟨5, _⟩ => ⟨S2048x96, .f32⟩
  | .hbm, ⟨6, _⟩ => ⟨S96x2048, .f32⟩
  | .hbm, ⟨7, _⟩ => ⟨S2048, .f32⟩
  | .hbm, ⟨8, _⟩ => ⟨S2048x96, .f32⟩
  | .hbm, ⟨9, _⟩ => ⟨S96x2048, .f32⟩
  | .hbm, ⟨10, _⟩ => ⟨S2048x256, .f32⟩
  | .hbm, ⟨11, _⟩ => ⟨S256x2048, .f32⟩
  | .hbm, ⟨12, _⟩ => ⟨S4x1x2048, .f32⟩
  | .hbm, ⟨13, _⟩ => ⟨S4x2047x2048, .f32⟩
  | .hbm, ⟨14, _⟩ => ⟨S4x2048x2048, .f32⟩
  | .hbm, ⟨15, _⟩ => ⟨S4x2048x1x2048, .f32⟩
  | .hbm, ⟨16, _⟩ => ⟨S4x2048x2048, .f32⟩
  | .hbm, ⟨17, _⟩ => ⟨S4x2048x1x2048, .f32⟩
  | .hbm, ⟨18, _⟩ => ⟨S1x1x6x2048, .f32⟩
  | .hbm, ⟨19, _⟩ => ⟨S4x2048x6x2048, .f32⟩
  | .hbm, ⟨20, _⟩ => ⟨S4x2048x6x2048, .f32⟩
  | .hbm, ⟨21, _⟩ => ⟨S4x2048x6x2048, .f32⟩
  | .hbm, ⟨22, _⟩ => ⟨S4x2048x6x2048, .f32⟩
  | .hbm, ⟨23, _⟩ => ⟨S4x2048x6x2048, .f32⟩
  | .hbm, ⟨24, _⟩ => ⟨S4x2048x1x2048, .f32⟩
  | .hbm, ⟨25, _⟩ => ⟨S4x2048x2048, .f32⟩
  | .hbm, ⟨26, _⟩ => ⟨S4x2048x1x2048, .f32⟩
  | .hbm, ⟨27, _⟩ => ⟨S4x2048x2048, .f32⟩
  | .hbm, ⟨28, _⟩ => ⟨S4x2048x1x2048, .f32⟩
  | .hbm, ⟨29, _⟩ => ⟨S4x2048x2048, .f32⟩
  | .hbm, ⟨30, _⟩ => ⟨S4x2048x1x2048, .f32⟩
  | .hbm, ⟨31, _⟩ => ⟨S4x2048x2048, .f32⟩
  | .hbm, ⟨32, _⟩ => ⟨S4x2048x1x2048, .f32⟩
  | .hbm, ⟨33, _⟩ => ⟨S4x2048x2048, .f32⟩
  | .hbm, ⟨34, _⟩ => ⟨S4x2048x1x2048, .f32⟩
  | .hbm, ⟨35, _⟩ => ⟨S4x2048x2048, .f32⟩
  | .hbm, ⟨36, _⟩ => ⟨S1x2048x2048, .f32⟩
  | .hbm, ⟨37, _⟩ => ⟨S2048x2048, .f32⟩
  | .hbm, ⟨38, _⟩ => ⟨S4x2048x2048, .f32⟩
  | .hbm, ⟨39, _⟩ => ⟨S1x2048x2048, .f32⟩
  | .hbm, ⟨40, _⟩ => ⟨S2048x2048, .f32⟩
  | .hbm, ⟨41, _⟩ => ⟨S4x2048x2048, .f32⟩
  | .hbm, ⟨42, _⟩ => ⟨S1x2048x2048, .f32⟩
  | .hbm, ⟨43, _⟩ => ⟨S2048x2048, .f32⟩
  | .hbm, ⟨44, _⟩ => ⟨S4x2048x2048, .f32⟩
  | .hbm, ⟨45, _⟩ => ⟨S4x2048x96, .f32⟩
  | .hbm, ⟨46, _⟩ => ⟨S4x2048x96, .f32⟩
  | .hbm, ⟨47, _⟩ => ⟨S4x2048x2048, .f32⟩
  | .hbm, ⟨48, _⟩ => ⟨S1x1x2048, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | .hbm, ⟨56, _⟩ => ⟨S4x2048x2048, .f32⟩
  | .hbm, ⟨57, _⟩ => ⟨S4x2048x2048, .i1⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S4x2048x2048, .f32⟩
  | .hbm, ⟨67, _⟩ => ⟨S_, .f32⟩
  | .hbm, ⟨68, _⟩ => ⟨S4x2048x2048, .f32⟩
  | .hbm, ⟨69, _⟩ => ⟨S4x2048x2048, .f32⟩
  | .hbm, ⟨70, _⟩ => ⟨S4x2048x96, .f32⟩
  | .hbm, ⟨71, _⟩ => ⟨S4x2048x2048, .f32⟩
  | .hbm, ⟨72, _⟩ => ⟨S1x1x2048, .f32⟩
  | .hbm, ⟨73, _⟩ => ⟨S4x2048x2048, .f32⟩
  | .hbm, ⟨74, _⟩ => ⟨S4x2048x2048, .f32⟩
  | .hbm, ⟨75, _⟩ => ⟨S4x2048x2048, .f32⟩
  | .hbm, ⟨76, _⟩ => ⟨S4x2048x2048, .f32⟩
  | .hbm, ⟨77, _⟩ => ⟨S_, .f32⟩
  | .hbm, ⟨78, _⟩ => ⟨S4x2048x2048, .f32⟩
  | .hbm, ⟨79, _⟩ => ⟨S4x2048x2048, .f32⟩
  | .hbm, ⟨80, _⟩ => ⟨S_, .f32⟩
  | .hbm, ⟨81, _⟩ => ⟨S4x2048x2048, .f32⟩
  | .hbm, ⟨82, _⟩ => ⟨S4x2048x2048, .f32⟩
  | .hbm, ⟨83, _⟩ => ⟨S4x2048x256, .f32⟩
  | .hbm, ⟨84, _⟩ => ⟨S4x2048x256, .f32⟩
  | .hbm, ⟨85, _⟩ => ⟨S4x2048x256, .f32⟩
  | .hbm, ⟨86, _⟩ => ⟨S_, .f32⟩
  | .hbm, ⟨87, _⟩ => ⟨S4x2048x256, .f32⟩
  | .hbm, ⟨88, _⟩ => ⟨S4x2048x256, .f32⟩
  | .hbm, ⟨89, _⟩ => ⟨S_, .f32⟩
  | .hbm, ⟨90, _⟩ => ⟨S4x2048x256, .f32⟩
  | .hbm, ⟨91, _⟩ => ⟨S4x2048x256, .f32⟩
  | .hbm, ⟨92, _⟩ => ⟨S4x2048x2048, .f32⟩
  | .hbm, ⟨93, _⟩ => ⟨S8192x2048, .f32⟩
  | .hbm, ⟨94, _⟩ => ⟨S8192x2048, .bf16⟩
  | .hbm, ⟨95, _⟩ => ⟨S8192x2048, .f32⟩
  | .hbm, ⟨96, _⟩ => ⟨S8192x2048, .bf16⟩
  | .hbm, ⟨97, _⟩ => ⟨S8192x2048, .f32⟩
  | .hbm, ⟨98, _⟩ => ⟨S8192x2048, .bf16⟩
  | .hbm, ⟨99, _⟩ => ⟨S4x2048x2048, .f32⟩
  | .hbm, ⟨100, _⟩ => ⟨S4x2048x2048, .f32⟩
  | .hbm, ⟨101, _⟩ => ⟨S8192x2048, .f32⟩
  | .hbm, ⟨102, _⟩ => ⟨S8192x2048, .f32⟩
  | .hbm, ⟨103, _⟩ => ⟨S8192x2048, .bf16⟩
  | .hbm, ⟨104, _⟩ => ⟨S8192x2048, .f32⟩
  | .hbm, ⟨105, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_v40 : Ref sig .tc := ⟨.hbm, 65, rfl⟩
abbrev main_v41 : Ref sig .tc := ⟨.hbm, 66, rfl⟩
abbrev main_cst : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_0 : Ref sig .tc := ⟨.hbm, 77, rfl⟩
abbrev main_v51 : Ref sig .tc := ⟨.hbm, 78, rfl⟩
abbrev main_v52 : Ref sig .tc := ⟨.hbm, 79, rfl⟩
abbrev main_cst_1 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_2 : Ref sig .tc := ⟨.hbm, 86, rfl⟩
abbrev main_v58 : Ref sig .tc := ⟨.hbm, 87, rfl⟩
abbrev main_v59 : Ref sig .tc := ⟨.hbm, 88, rfl⟩
abbrev main_cst_3 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Proof.ScoresTable.lean ====
/-
  The PAGE TABLE of the decode scores. At grid point (b, j) the eight page windows take the eight pages that words
  8 j … 8 j + 7 of row b of the table name. Here: which word each window's index map reads (`map_u`), that the precondition
  bounds every word by the pool's 1280 pages (`word_lt`), and so that every named page lies inside the pool (`ok_of_lt`).
-/
module

public import proofs.«01_k».proof.Proof.Gen.ScoresIdeal.Frame
public import proofs.«01_k».proof.Proof.Gen.Pre_scores_table_in_pool
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ScoresIdeal.Bridge

open Cert.ScoresIdeal Cert.ScoresIdeal.Gen

variable {F : FTy → Type} [FloatOps F]

/-- The word of the table that window `2 + u` reads at grid coordinates `i`: row `i 0`, column `8 * i 1 + u`. -/
def word (pf : pre0.Contents (Elt F)) (i : grid0.Coords) (u : Fin 8) : BitVec 32 :=
  pf 0 (fun a => match a with
    | ⟨0, _⟩ => (⟨(i 0).val, (i 0).isLt⟩ : Fin 8)
    | ⟨1, _⟩ => (⟨(i 1).val * 8 + u.val, by have h1 : (i 1).val < 16 := (i 1).isLt; have := u.isLt; omega⟩ : Fin 128))

/-- The offsets the index maps compute in 32-bit words are the row and the column themselves. -/
theorem off_val : ∀ (i : grid0.Coords) (u : Fin 8), k0_off1 i (BitVec.ofNat 32 u.val) = ![(i 0).val, (i 1).val * 8 + u.val] := by
  decide +kernel

/-- A load at offsets `o` of the table is its word there. -/
theorem at_word (pf : pre0.Contents (Elt F)) (i : grid0.Coords) (u : Fin 8) (o : Fin 2 → ℕ) (ho : o = ![(i 0).val, (i 1).val * 8 + u.val])
    (h : ∀ a, o a + S1x1.size a ≤ S8x128.size a) (h1 : S1x1.numel = 1) :
    pf.at 0 (Rect.unit (s := S8x128) o S1x1.size h) h1 = word pf i u := by
  subst ho
  refine congrArg (pf 0) ?_
  funext a
  refine Fin.ext ?_
  fin_cases a <;> exact Nat.add_zero _

theorem map_0 (pf : pre0.Contents (Elt F)) (i : grid0.Coords) :
    cc0_transform_2 k0_off1_inb numel1_S1x1 pf i = ![0, (word pf i 0).toNat, 0, 0, 0] := by
  rw [← at_word pf i 0 _ (off_val i 0) (k0_off1_inb i 0) numel1_S1x1]; rfl
theorem map_1 (pf : pre0.Contents (Elt F)) (i : grid0.Coords) :
    cc0_transform_3 k0_off1_inb numel1_S1x1 pf i = ![0, (word pf i 1).toNat, 0, 0, 0] := by
  rw [← at_word pf i 1 _ (off_val i 1) (k0_off1_inb i 1) numel1_S1x1]; rfl
theorem map_2 (pf : pre0.Contents (Elt F)) (i : grid0.Coords) :
    cc0_transform_4 k0_off1_inb numel1_S1x1 pf i = ![0, (word pf i 2).toNat, 0, 0, 0] := by
  rw [← at_word pf i 2 _ (off_val i 2) (k0_off1_inb i 2) numel1_S1x1]; rfl
theorem map_3 (pf : pre0.Contents (Elt F)) (i : grid0.Coords) :
    cc0_transform_5 k0_off1_inb numel1_S1x1 pf i = ![0, (word pf i 3).toNat, 0, 0, 0] := by
  rw [← at_word pf i 3 _ (off_val i 3) (k0_off1_inb i 3) numel1_S1x1]; rfl
theorem map_4 (pf : pre0.Contents (Elt F)) (i : grid0.Coords) :
    cc0_transform_6 k0_off1_inb numel1_S1x1 pf i = ![0, (word pf i 4).toNat, 0, 0, 0] := by
  rw [← at_word pf i 4 _ (off_val i 4) (k0_off1_inb i 4) numel1_S1x1]; rfl
theorem map_5 (pf : pre0.Contents (Elt F)) (i : grid0.Coords) :
    cc0_transform_7 k0_off1_inb numel1_S1x1 pf i = ![0, (word pf i 5).toNat, 0, 0, 0] := by
  rw [← at_word pf i 5 _ (off_val i 5) (k0_off1_inb i 5) numel1_S1x1]; rfl
theorem map_6 (pf : pre0.Contents (Elt F)) (i : grid0.Coords) :
    cc0_transform_8 k0_off1_inb numel1_S1x1 pf i = ![0, (word pf i 6).toNat, 0, 0, 0] := by
  rw [← at_word pf i 6 _ (off_val i 6) (k0_off1_inb i 6) numel1_S1x1]; rfl
theorem map_7 (pf : pre0.Contents (Elt F)) (i : grid0.Coords) :
    cc0_transform_9 k0_off1_inb numel1_S1x1 pf i = ![0, (word pf i 7).toNat, 0, 0, 0] := by
  rw [← at_word pf i 7 _ (off_val i 7) (k0_off1_inb i 7) numel1_S1x1]; rfl

/-- A window whose block is page `n` of the pool is inside the pool when `n < 1280`. -/
theorem inside (o : Fin 5 → ℕ) (n : ℕ) (h : n < 1280) (ho : o = ![0, n, 0, 0, 0]) :
    ∃ h : (∀ a, (o a + 1) * S1x1x128x16x128.size a ≤ S1x1280x128x16x128.size a), EltTy.bits .f32 = 32 ∨ (Rect.block (s := S1x1280x128x16x128) S1x1x128x16x128.size o h).WholeWords (EltTy.packing .f32) := by
  subst ho
  refine ⟨fun a => ?_, Or.inl rfl⟩
  fin_cases a <;> simp
  omega

/-- The pipeline's side condition of the table, from the bound on its words. -/
theorem ok_of_lt (pf : pre0.Contents (Elt F)) (h : ∀ y, BitVec.toNat (pf 0 y) < 1280) : ok0 pf :=
  ⟨fun i => inside _ _ (h _) (map_0 pf i), fun i => inside _ _ (h _) (map_1 pf i), fun i => inside _ _ (h _) (map_2 pf i),
    fun i => inside _ _ (h _) (map_3 pf i), fun i => inside _ _ (h _) (map_4 pf i), fun i => inside _ _ (h _) (map_5 pf i),
    fun i => inside _ _ (h _) (map_6 pf i), fun i => inside _ _ (h _) (map_7 pf i)⟩

/-- The precondition decoded at a word of the table. -/
theorem word_lt (tbl : IVec S8x128 32) (q : FVec F S8x8x2048 .f32) (k : FVec F S1x1280x128x16x128 .f32)
    (h : Cert.Pre_scores_table_in_pool.fn (F := F) tbl q k = fun _ => 1#1) (y : S8x128.Idx) : (tbl y).toNat < 1280 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_scores_table_in_pool.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- Every word of the table as the pipeline finds it, under the precondition of the arguments. -/
theorem tbl_lt (m : (ℓ : Loc nD τ sig) → Buf (Elt F) ℓ) (h : Cert.Pre_scores_table_in_pool.fn (F := F) (m (((0 : Dev nD).tc : Thread nD τ).loc main_arg0))
    (m (((0 : Dev nD).tc : Thread nD τ).loc main_arg1)) (m (((0 : Dev nD).tc : Thread nD τ).loc main_arg2)) = fun _ => 1#1) (y : S8x128.Idx) :
    BitVec.toNat (tbl m 0 y) < 1280 := by
  have e : tbl m 0 = m (((0 : Dev nD).tc : Thread nD τ).loc main_arg0) := V_main_arg0 m 0
  rw [e]; exact word_lt _ _ _ h y

/-- The side condition of the table, under the precondition of the arguments. -/
theorem ok_of_pre (m : (ℓ : Loc nD τ sig) → Buf (Elt F) ℓ) (h : Cert.Pre_scores_table_in_pool.fn (F := F) (m (((0 : Dev nD).tc : Thread nD τ).loc main_arg0))
    (m (((0 : Dev nD).tc : Thread nD τ).loc main_arg1)) (m (((0 : Dev nD).tc : Thread nD τ).loc main_arg2)) = fun _ => 1#1) : Ok m :=
  ok_of_lt _ (tbl_lt m h)

end Cert.ScoresIdeal.Bridge
-- ==== Proof.ScoresQuery.lean ====
/-
  The QUERY of the decode scores. The kernel stacks the sixteen heads of its eight queries into 128 rows: row `n * 8 + q`
  is head `n` of query `q`.
-/
module

public import proofs.«01_k».proof.Proof.Gen.ScoresIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScoresIdeal.Bridge

open Cert.ScoresIdeal Cert.ScoresIdeal.Gen

set_option maxHeartbeats 4000000 in
/-- Sixteen pieces of eight rows stacked: row `n * 8 + q` is row `q` of piece `n`. -/
theorem stack_at (x : Fin 16 → FVec Ideal S8x128 .f32)
    (h : Shape.Concatenates [S8x128, S8x128, S8x128, S8x128, S8x128, S8x128, S8x128, S8x128, S8x128, S8x128, S8x128, S8x128, S8x128, S8x128, S8x128, S8x128] S128x128 0)
    (n : Fin 16) (q : Fin 8) (d : Fin 128) :
    concatenate S128x128 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h (ix2 (⟨n * 8 + q, by omega⟩ : Fin 128) d) = x n (ix2 q d) := by
  have off (b : Fin 2) (hb : b ≠ 0) : (ix2 q d b).val = (ix2 (⟨n * 8 + q, by omega⟩ : Fin 128) d b).val := by
    match b with
    | ⟨0, _⟩ => exact absurd rfl hb
    | ⟨1, _⟩ => rfl
  fin_cases n
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 0 (by simp) S8x128 _ rfl rfl 0 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 1 (by simp) S8x128 _ rfl rfl 8 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 2 (by simp) S8x128 _ rfl rfl 16 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 3 (by simp) S8x128 _ rfl rfl 24 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 4 (by simp) S8x128 _ rfl rfl 32 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 5 (by simp) S8x128 _ rfl rfl 40 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 6 (by simp) S8x128 _ rfl rfl 48 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 7 (by simp) S8x128 _ rfl rfl 56 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 8 (by simp) S8x128 _ rfl rfl 64 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 9 (by simp) S8x128 _ rfl rfl 72 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 10 (by simp) S8x128 _ rfl rfl 80 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 11 (by simp) S8x128 _ rfl rfl 88 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 12 (by simp) S8x128 _ rfl rfl 96 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 13 (by simp) S8x128 _ rfl rfl 104 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 14 (by simp) S8x128 _ rfl rfl 112 rfl (ix2 q d) off rfl
  · exact concatenate_apply_piece 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩] h _ 15 (by simp) S8x128 _ rfl rfl 120 rfl (ix2 q d) off rfl

/-- Head `n` of the eight queries. -/
def piece (v : Vec Ideal S1x8x2048 .f32) (n : Fin 16) : FVec Ideal S8x128 .f32 :=
  fun y => v (ix3 0 (⟨(y 0).val, (y 0).isLt⟩ : Fin 8) (⟨n.val * 128 + (y 1).val, by have h : (y 1).val < 128 := (y 1).isLt; omega⟩ : Fin 2048))

/-- The lane slice at `n * 128` is head `n`. -/
theorem slice_eq (v : Vec Ideal S1x8x2048 .f32) (o : ℕ) (n : Fin 16) (ho : o = n.val * 128) (hc) (h : S8x2048.Slices ![0, o] S8x128) :
    extractStridedSlice S8x128 ![0, o] (shapeCast S8x2048 v hc : FVec Ideal S8x2048 .f32) h = piece v n := by
  subst ho
  funext y
  obtain ⟨q, d, rfl⟩ : ∃ (q : Fin 8) (d : Fin 128), y = ix2 q d := ⟨y 0, y 1, by blk_ext⟩
  unfold piece
  pointwise
  blk_ext

/-- The query's rows: row `n * 8 + q` is head `n` of query `q`. -/
theorem query_at (v : Vec Ideal S1x8x2048 .f32) (n : Fin 16) (q : Fin 8) (d : Fin 128) :
    k0_pay3 (F := Ideal) v (ix2 (⟨n * 8 + q, by omega⟩ : Fin 128) d) = v (ix3 0 q ⟨n * 128 + d, by omega⟩) := by
  unfold k0_pay3
  rw [slice_eq v 0 0 rfl, slice_eq v 128 1 rfl, slice_eq v 256 2 rfl, slice_eq v 384 3 rfl, slice_eq v 512 4 rfl, slice_eq v 640 5 rfl, slice_eq v 768 6 rfl, slice_eq v 896 7 rfl, slice_eq v 1024 8 rfl, slice_eq v 1152 9 rfl, slice_eq v 1280 10 rfl, slice_eq v 1408 11 rfl, slice_eq v 1536 12 rfl, slice_eq v 1664 13 rfl, slice_eq v 1792 14 rfl, slice_eq v 1920 15 rfl]
  exact stack_at (piece v) concatenates_S8x128_S8x128_S8x128_S8x128_S8x128_S8x128_S8x128_S8x128_S8x128_S8x128_S8x128_S8x128_S8x128_S8x128_S8x128_S8x128_S128x128_d0 n q d

end Cert.ScoresIdeal.Bridge
-- ==== Proof.ScoresValue.lean ====
module

public import proofs.«01_k».proof.Proof.ScoresTable
public import proofs.«01_k».proof.Proof.ScoresQuery
public import proofs.«01_k».proof.Proof.Gen.ScoresRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScoresIdeal.Bridge

open Cert.ScoresIdeal Cert.ScoresIdeal.Gen

/-! ## The reference -/

/-- The gather read at an index: page `idx[b, p, 1]` of the pool, read signed and clamped. -/
theorem gather_at {α : Type} (x : Cert.ScoresRefIdeal.S1x1280x128x16x128.Idx → α) (idx : IVec Cert.ScoresRefIdeal.S8x128x2 32)
    (b : Fin 8) (p : Fin 128) (k : Fin 128) (h : Fin 16) (d : Fin 128) :
    Host.gather Cert.ScoresRefIdeal.gather_S1x1280x128x16x128_S8x128x2_S8x128x128x16x128_234_01_n_n_01_2_1112816128 x idx (ix5 b p k h d)
      = x (ix5 0 ⟨min (idx (ix3 b p 1)).toInt.toNat 1279, by omega⟩ k h d) := by
  unfold Host.gather
  congr 1
  funext a
  refine Fin.ext ?_
  match a with
  | ⟨0, _⟩ => exact Nat.lt_one_iff.mp (Fin.isLt _)
  | ⟨1, _⟩ =>
    show GatherDims.start _ _ _ 1 + GatherDims.batchCoord _ _ 1 + GatherDims.offCoord _ _ 1 = _
    rw [GatherDims.batchCoord_eq_zero _ _ _ List.not_mem_nil, GatherDims.offCoord_eq_zero _ _ _ (by decide)]
    unfold GatherDims.start
    rw [dif_pos (by decide)]
    simp only [Nat.add_zero]
    refine congrArg (fun v : BitVec 32 => min v.toInt.toNat 1279) (congrArg idx ?_)
    funext e; refine Fin.ext ?_
    match e with
    | ⟨0, _⟩ => rfl
    | ⟨1, _⟩ => rfl
    | ⟨2, _⟩ => rfl
  | ⟨2, _⟩ =>
    show GatherDims.start _ _ _ 2 + GatherDims.batchCoord _ _ 2 + GatherDims.offCoord _ _ 2 = _
    rw [GatherDims.batchCoord_eq_zero _ _ _ List.not_mem_nil]
    unfold GatherDims.start GatherDims.offCoord
    rw [dif_neg (by decide), dif_pos (by decide), Nat.zero_add]; rfl
  | ⟨3, _⟩ =>
    show GatherDims.start _ _ _ 3 + GatherDims.batchCoord _ _ 3 + GatherDims.offCoord _ _ 3 = _
    rw [GatherDims.batchCoord_eq_zero _ _ _ List.not_mem_nil]
    unfold GatherDims.start GatherDims.offCoord
    rw [dif_neg (by decide), dif_pos (by decide), Nat.zero_add]; rfl
  | ⟨4, _⟩ =>
    show GatherDims.start _ _ _ 4 + GatherDims.batchCoord _ _ 4 + GatherDims.offCoord _ _ 4 = _
    rw [GatherDims.batchCoord_eq_zero _ _ _ List.not_mem_nil]
    unfold GatherDims.start GatherDims.offCoord
    rw [dif_neg (by decide), dif_pos (by decide), Nat.zero_add]; rfl

/-- The reference's gathered pages. -/
def pages (tbl : IVec Cert.ScoresRefIdeal.S8x128 32) (k : FVec Ideal Cert.ScoresRefIdeal.S1x1280x128x16x128 .f32) : FVec Ideal Cert.ScoresRefIdeal.S8x128x128x16x128 .f32 :=
  Host.gather Cert.ScoresRefIdeal.gather_S1x1280x128x16x128_S8x128x2_S8x128x128x16x128_234_01_n_n_01_2_1112816128 k
    (concatenate Cert.ScoresRefIdeal.S8x128x2 2 [⟨Cert.ScoresRefIdeal.S8x128x1, (broadcastInDim Cert.ScoresRefIdeal.S8x128x1 ![0, 1] Cert.ScoresRefIdeal.Gen.bcast_S8x128_S8x128x1_0_1 (id (broadcastInDim Cert.ScoresRefIdeal.S8x128 ![] Cert.ScoresRefIdeal.Gen.bcast_S_S8x128 (constantI Cert.ScoresRefIdeal.S_ 32 0#32))))⟩,
      ⟨Cert.ScoresRefIdeal.S8x128x1, (broadcastInDim Cert.ScoresRefIdeal.S8x128x1 ![0, 1] Cert.ScoresRefIdeal.Gen.bcast_S8x128_S8x128x1_0_1
        (select (cmpi .slt tbl (broadcastInDim Cert.ScoresRefIdeal.S8x128 ![] Cert.ScoresRefIdeal.Gen.bcast_S_S8x128 (constantI Cert.ScoresRefIdeal.S_ 32 0#32)))
          (addi tbl (broadcastInDim Cert.ScoresRefIdeal.S8x128 ![] Cert.ScoresRefIdeal.Gen.bcast_S_S8x128 (constantI Cert.ScoresRefIdeal.S_ 32 1280#32))) tbl))⟩]
      Cert.ScoresRefIdeal.Gen.concatenates_S8x128x1_S8x128x1_S8x128x2_d2)

/-- The gathered pages at an index, for a table in the pool. -/
theorem pages_at (tbl : IVec Cert.ScoresRefIdeal.S8x128 32) (k : FVec Ideal Cert.ScoresRefIdeal.S1x1280x128x16x128 .f32)
    (b : Fin 8) (p : Fin 128) (r : Fin 128) (h : Fin 16) (d : Fin 128) (hw : (tbl (ix2 b p)).toNat < 1280) :
    pages tbl k (ix5 b p r h d) = k (ix5 0 ⟨(tbl (ix2 b p)).toNat, hw⟩ r h d) := by
  unfold pages
  rw [gather_at]
  refine congrArg (fun n => k (ix5 0 n r h d)) (Fin.ext ?_)
  show min (BitVec.toInt _).toNat 1279 = _
  pointwise
  have hn : IntOp.cmpi CmpIPredicate.slt (tbl (ix2 b p)) 0#32 = 0#1 := by
    have e : BitVec.slt (tbl (ix2 b p)) 0#32 = false := by
      simp only [BitVec.slt, BitVec.toInt, BitVec.toNat_ofNat, decide_eq_false_iff_not]; omega
    simp only [IntOp.cmpi, e]; rfl
  have hv : (tbl (ix2 b p)).toInt.toNat = (tbl (ix2 b p)).toNat := by
    simp only [BitVec.toInt]; split <;> omega
  rw [hn]
  show min (tbl (ix2 b p)).toInt.toNat 1279 = _
  rw [hv]; omega

/-- The scores of the reference. -/
def score (G : FVec Ideal Cert.ScoresRefIdeal.S8x128x128x16x128 .f32) (q : FVec Ideal Cert.ScoresRefIdeal.S8x8x2048 .f32) : FVec Ideal Cert.ScoresRefIdeal.S8x128x128x128 .f32 :=
  shapeCast _ (transpose Cert.ScoresRefIdeal.S8x128x128x16x8 [0, 2, 3, 1, 4] (Host.dotGeneral Cert.ScoresRefIdeal.dot_S8x128x128x16x128_S8x8x16x128_S8x16x128x128x8_4_3_12_1_03_02 none G
    (shapeCast _ q Cert.ScoresRefIdeal.Gen.shapeCasts_S8x8x2048_S8x8x16x128)) Cert.ScoresRefIdeal.Gen.transposes_S8x16x128x128x8_S8x128x128x16x8_0_2_3_1_4)
    Cert.ScoresRefIdeal.Gen.shapeCasts_S8x128x128x16x8_S8x128x128x128

theorem score_at (G : FVec Ideal Cert.ScoresRefIdeal.S8x128x128x16x128 .f32) (q : FVec Ideal Cert.ScoresRefIdeal.S8x8x2048 .f32)
    (b : Fin 8) (p r c : Fin 128) :
    score G q (ix4 b p r c) = ∑ d : Fin 128, G (ix5 b p r ⟨c / 8, by omega⟩ d) * q (ix3 b ⟨c % 8, by omega⟩ ⟨c / 8 * 128 + d, by omega⟩) := by
  pointwise [score]
  blk_ext

/-- The sums of the pages of the reference. -/
def ksum (G : FVec Ideal Cert.ScoresRefIdeal.S8x128x128x16x128 .f32) : FVec Ideal Cert.ScoresRefIdeal.S8x128x16x128 .f32 :=
  Host.reduceAdd G (constant Cert.ScoresRefIdeal.S_ .f32 0x00000000#32) Cert.ScoresRefIdeal.Gen.reducesTo_S8x128x128x16x128_S8x128x16x128_d2 Cert.ScoresRefIdeal.Gen.h_S_

theorem ksum_at (G : FVec Ideal Cert.ScoresRefIdeal.S8x128x128x16x128 .f32) (b : Fin 8) (p : Fin 128) (h : Fin 16) (d : Fin 128) :
    ksum G (ix4 b p h d) = ∑ r : Fin 128, G (ix5 b p r h d) := by
  pointwise [ksum]

/-! ## The kernel's payloads -/

/-- A page against every head's queries. -/
theorem prod_at (Q : FVec Ideal S128x128 .bf16) (v : FVec Ideal S128x16x128 .f32) (k : Fin 128) (h : Fin 16) (c : Fin 128) :
    k0_pay12 (F := Ideal) Q v (ix2 (⟨k * 16 + h, by omega⟩ : Fin 2048) c) = ∑ d : Fin 128, v (ix3 k h d) * Q (ix2 c d) := by
  pointwise [k0_pay12]
  blk_ext

/-- The products kept where the match matrix is one, summed over the heads. -/
theorem keep_at (P M : FVec Ideal S2048x128 .f32) (k c : Fin 128) :
    k0_pay22 (F := Ideal) P M (ix4 0 0 k c) = ∑ h : Fin 16, P (ix2 (⟨k * 16 + h, by omega⟩ : Fin 2048) c) * M (ix2 (⟨k * 16 + h, by omega⟩ : Fin 2048) c) := by
  pointwise [k0_pay22]
  blk_ext

/-- A page summed over its positions. -/
theorem sum_at (v : FVec Ideal S128x16x128 .f32) (h : Fin 16) (d : Fin 128) :
    k0_pay23 (F := Ideal) v (ix4 0 0 h d) = ∑ k : Fin 128, v (ix3 k h d) := by
  pointwise [k0_pay23]

/-- A page as rows of heads. -/
theorem page_at (v : Vec Ideal S1x1x128x16x128 .f32) (k : Fin 128) (h : Fin 16) (d : Fin 128) :
    k0_pay4 (F := Ideal) v (ix3 k h d) = v (ix5 0 0 k h d) := by
  pointwise [k0_pay4]
  blk_ext

/-- What a point stores for one page: the scores of the page's keys against every head's queries. -/
def tile (q : Vec Ideal S1x8x2048 .f32) (v : Vec Ideal S1x1x128x16x128 .f32) (M : Vec Ideal S2048x128 .f32) : FVec Ideal S1x1x128x128 .f32 :=
  k0_pay22 (F := Ideal) (k0_pay12 (F := Ideal) (k0_pay3 (F := Ideal) q) (k0_pay4 (F := Ideal) v)) M

/-- With the match matrix one at the rows whose head is the column's and zero elsewhere, the score of key `k` in column `n * 8 + j`
    is head `n` of the key against head `n` of query `j`. -/
theorem tile_at (q : Vec Ideal S1x8x2048 .f32) (v : Vec Ideal S1x1x128x16x128 .f32) (M : Vec Ideal S2048x128 .f32)
    (hM : ∀ (k : Fin 128) (h : Fin 16) (c : Fin 128), M (ix2 (⟨k * 16 + h, by omega⟩ : Fin 2048) c) = if h.val = c.val / 8 then 1 else 0)
    (k : Fin 128) (n : Fin 16) (j : Fin 8) :
    tile q v M (ix4 0 0 k ⟨n * 8 + j, by omega⟩) = ∑ d : Fin 128, v (ix5 0 0 k n d) * q (ix3 0 j ⟨n * 128 + d, by omega⟩) := by
  unfold tile
  rw [keep_at]
  simp only [prod_at, page_at, query_at, hM]
  rw [Finset.sum_eq_single n]
  · rw [if_pos (by show n.val = (n.val * 8 + j.val) / 8; omega), mul_one]
  · intro h _ hh
    rw [if_neg (by show ¬ h.val = (n.val * 8 + j.val) / 8; intro e; apply hh; ext; omega), mul_zero]
  · intro h; exact absurd (Finset.mem_univ _) h

/-- What a point stores for one page in the second output: the page summed over its positions. -/
def psum (v : Vec Ideal S1x1x128x16x128 .f32) : FVec Ideal S1x1x16x128 .f32 := k0_pay23 (F := Ideal) (k0_pay4 (F := Ideal) v)

theorem psum_at (v : Vec Ideal S1x1x128x16x128 .f32) (h : Fin 16) (d : Fin 128) : psum v (ix4 0 0 h d) = ∑ k : Fin 128, v (ix5 0 0 k h d) := by
  unfold psum; rw [sum_at]; simp only [page_at]

end Cert.ScoresIdeal.Bridge
-- ==== Proof.ScoresMatch.lean ====
/-
  The MATCH MATRIX of the decode scores: the 0/1 matrix the host builds has a one where the row's head (the row modulo sixteen)
  is the column's (the column divided by eight). And the two outputs' blocks cover their arrays, whatever the page table holds.
-/
module

public import proofs.«01_k».proof.Proof.ScoresTable

@[expose] public section

set_option maxRecDepth 16384
noncomputable section

open Idealize.ShloMosaic Idealize.ShloMosaic.TcCoe Idealize.SL.Sem

namespace Cert.ScoresIdeal.Bridge

open Cert.ScoresIdeal Cert.ScoresIdeal.Gen

/-- The row's head as the host computes it: the remainder by sixteen. -/
theorem row_head : ∀ r : Fin 2048, (Scalar.select
          (IntOp.andi
            (IntOp.cmpi CmpIPredicate.ne
              (IntOp.cmpi CmpIPredicate.slt
                (IntOp.remsi ArithUnit.host (BitVec.ofNat 32 ↑r)
                  (Scalar.select (IntOp.cmpi CmpIPredicate.eq 16#32 0#32) 1#32 16#32))
                0#32)
              (IntOp.cmpi CmpIPredicate.slt (Scalar.select (IntOp.cmpi CmpIPredicate.eq 16#32 0#32) 1#32 16#32) 0#32))
            (IntOp.cmpi CmpIPredicate.ne
              (IntOp.remsi ArithUnit.host (BitVec.ofNat 32 ↑r)
                (Scalar.select (IntOp.cmpi CmpIPredicate.eq 16#32 0#32) 1#32 16#32))
              0#32))
          (IntOp.addi
            (IntOp.remsi ArithUnit.host (BitVec.ofNat 32 ↑r)
              (Scalar.select (IntOp.cmpi CmpIPredicate.eq 16#32 0#32) 1#32 16#32))
            (Scalar.select (IntOp.cmpi CmpIPredicate.eq 16#32 0#32) 1#32 16#32))
          (IntOp.remsi ArithUnit.host (BitVec.ofNat 32 ↑r)
            (Scalar.select (IntOp.cmpi CmpIPredicate.eq 16#32 0#32) 1#32 16#32))) = BitVec.ofNat 32 (r.val % 16) := by
  decide +kernel

/-- The column's head as the host computes it: the quotient by eight. -/
theorem col_head : ∀ c : Fin 128, (Scalar.select
          (IntOp.andi
            (IntOp.cmpi CmpIPredicate.ne
              (if BitVec.ofNat 32 ↑c = (0 : BitVec 32) then (0 : BitVec 32) else if (BitVec.ofNat 32 ↑c).msb = true then -1 else 1)
              (if 8#32 = (0 : BitVec 32) then (0 : BitVec 32) else if (8#32).msb = true then -1 else 1))
            (IntOp.cmpi CmpIPredicate.ne (IntOp.remsi ArithUnit.host (BitVec.ofNat 32 ↑c) 8#32) 0#32))
          (IntOp.subi (IntOp.divsi ArithUnit.host (BitVec.ofNat 32 ↑c) 8#32) 1#32)
          (IntOp.divsi ArithUnit.host (BitVec.ofNat 32 ↑c) 8#32)) = BitVec.ofNat 32 (c.val / 8) := by
  decide +kernel

theorem bit_val : ∀ a b : Fin 16, (IntOp.cmpi CmpIPredicate.eq (BitVec.ofNat 32 a.val) (BitVec.ofNat 32 b.val)) = if a.val = b.val then 1#1 else 0#1 := by
  decide +kernel

variable (m : (ℓ : Loc nD τ sig) → Buf (Elt Ideal) ℓ)
theorem match_at (r : Fin 2048) (c : Fin 128) :
    (V m 0 main_v5 : FVec Ideal S2048x128 .f32) (ix2 r c) = (if r.val % 16 = c.val / 8 then (1 : EReal) else 0) := by
  unfold V
  simp only [hostOps0, hostOps0_1, hostOps0_2, hostOps0_3, hostOps0_4, List.flatten_cons, List.flatten_nil, List.cons_append, List.nil_append]
  after_results
  simp only [StableHlo.TRef.ofBuf, StableHlo.TRef.toBuf, cast_eq, id]
  pointwise
  rw [row_head]
  refine Eq.trans (b := FloatOps.uitofp (F := Ideal) FTy.f32 (IntOp.cmpi CmpIPredicate.eq (BitVec.ofNat 32 (r.val % 16)) (BitVec.ofNat 32 (c.val / 8)))) (congrArg _ (congrArg _ (col_head c))) ?_
  rw [bit_val ⟨r.val % 16, by omega⟩ ⟨c.val / 8, by omega⟩]
  split
  · show ((((1#1 : BitVec 1).toNat : ℝ)) : EReal) = 1
    norm_num
  · show ((((0#1 : BitVec 1).toNat : ℝ)) : EReal) = 0
    norm_num
/-- A table of zeros, at which the windows' geometry is decided: the outputs' index maps read no table. -/
def noTable : pre0.Contents (Elt Ideal) := fun k => match k with
  | ⟨0, _⟩ => fun _ => (0#32 : BitVec 32)

def adm₀ : (pcfg0 (F := Ideal)).Adm := ⟨noTable, ok_of_lt noTable (fun y => by show (0#32 : BitVec 32).toNat < 1280; decide)⟩

theorem covers_10 (a : (pcfg0 (F := Ideal)).Adm) : ((cfg0 a).win 10).Covers :=
  (show ((cfg0 adm₀).win 10).Covers from by decide +kernel)

theorem covers_11 (a : (pcfg0 (F := Ideal)).Adm) : ((cfg0 a).win 11).Covers :=
  (show ((cfg0 adm₀).win 11).Covers from by decide +kernel)

end Cert.ScoresIdeal.Bridge
-- ==== Proof.ScoresBlocks.lean ====
/-
  The BLOCKS the decode scores read: window 2 + u is page `p = 8 j + u` of sequence `b`, the page the table names; window 0 is the
  sequence's queries; window 1 is the match matrix.
-/
module

public import proofs.«01_k».proof.Proof.ScoresTable

@[expose] public section

set_option maxRecDepth 16384
noncomputable section

open Idealize.ShloMosaic Idealize.ShloMosaic.TcCoe Idealize.SL.Sem

namespace Cert.ScoresIdeal.Bridge

open Cert.ScoresIdeal Cert.ScoresIdeal.Gen

variable (m : (ℓ : Loc nD τ sig) → Buf (Elt Ideal) ℓ)

/-- The word of page `p` of sequence `b`. -/
theorem word_ix (pf : pre0.Contents (Elt Ideal)) (i : grid0.Coords) (u : Fin 8) (b : Fin 8) (p : Fin 128)
    (hb : b.val = (i 0).val) (hp : p.val = (i 1).val * 8 + u.val) : word pf i u = pf 0 (ix2 b p) := by
  unfold word
  exact congrArg (pf 0) (funext fun a => match a with
    | ⟨0, _⟩ => Fin.ext hb.symm
    | ⟨1, _⟩ => Fin.ext hp.symm)

/-- Window 0 takes the sequence's queries. -/
theorem query_idx : ∀ i : grid0.Coords, cc0_transform_0 i = ![(i 0).val, 0, 0] := by decide +kernel

/-- Window 2's block: the page named by word 8 j + 0 of row b. -/
theorem page_blk_0 (hO : Ok m) (c : Dev nD) (t : Fin (cfgM m hO).N) (b : Fin 8) (p : Fin 128) (hw : (tbl m 0 (ix2 b p)).toNat < 1280)
    (hb : b.val = (grid0.coords t 0).val) (hp : p.val = (grid0.coords t 1).val * 8 + 0) (k : Fin 128) (h : Fin 16) (d : Fin 128) :
    (iblk m hO c 2 t : FVec Ideal S1x1x128x16x128 .f32) (ix5 0 0 k h d) = (m ((c : Thread nD τ).loc main_arg2)) (ix5 0 ⟨(tbl m 0 (ix2 b p)).toNat, hw⟩ k h d) := by
  have hi : (pcfg0.win (adm m hO) 2).index t = ![0, (tbl m 0 (ix2 b p)).toNat, 0, 0, 0] := by
    rw [← word_ix (tbl m) (grid0.coords t) 0 b p hb hp]; exact map_0 (tbl m) (grid0.coords t)
  have h0 := congrFun hi 0
  have h1 := congrFun hi 1
  have h2 := congrFun hi 2
  have h3 := congrFun hi 3
  have h4 := congrFun hi 4
  clear hi
  blk_ext [iblk, V]
  · exact (Nat.add_zero _).trans h0
  · exact (Nat.add_zero _).trans h1
  · exact (congrArg (fun n : ℕ => n * 128 + k.val) h2).trans (by show 0 * 128 + k.val = k.val; omega)
  · exact (congrArg (fun n : ℕ => n * 16 + h.val) h3).trans (by show 0 * 16 + h.val = h.val; omega)
  · exact (congrArg (fun n : ℕ => n * 128 + d.val) h4).trans (by show 0 * 128 + d.val = d.val; omega)

/-- Window 3's block: the page named by word 8 j + 1 of row b. -/
theorem page_blk_1 (hO : Ok m) (c : Dev nD) (t : Fin (cfgM m hO).N) (b : Fin 8) (p : Fin 128) (hw : (tbl m 0 (ix2 b p)).toNat < 1280)
    (hb : b.val = (grid0.coords t 0).val) (hp : p.val = (grid0.coords t 1).val * 8 + 1) (k : Fin 128) (h : Fin 16) (d : Fin 128) :
    (iblk m hO c 3 t : FVec Ideal S1x1x128x16x128 .f32) (ix5 0 0 k h d) = (m ((c : Thread nD τ).loc main_arg2)) (ix5 0 ⟨(tbl m 0 (ix2 b p)).toNat, hw⟩ k h d) := by
  have hi : (pcfg0.win (adm m hO) 3).index t = ![0, (tbl m 0 (ix2 b p)).toNat, 0, 0, 0] := by
    rw [← word_ix (tbl m) (grid0.coords t) 1 b p hb hp]; exact map_1 (tbl m) (grid0.coords t)
  have h0 := congrFun hi 0
  have h1 := congrFun hi 1
  have h2 := congrFun hi 2
  have h3 := congrFun hi 3
  have h4 := congrFun hi 4
  clear hi
  blk_ext [iblk, V]
  · exact (Nat.add_zero _).trans h0
  · exact (Nat.add_zero _).trans h1
  · exact (congrArg (fun n : ℕ => n * 128 + k.val) h2).trans (by show 0 * 128 + k.val = k.val; omega)
  · exact (congrArg (fun n : ℕ => n * 16 + h.val) h3).trans (by show 0 * 16 + h.val = h.val; omega)
  · exact (congrArg (fun n : ℕ => n * 128 + d.val) h4).trans (by show 0 * 128 + d.val = d.val; omega)

/-- Window 4's block: the page named by word 8 j + 2 of row b. -/
theorem page_blk_2 (hO : Ok m) (c : Dev nD) (t : Fin (cfgM m hO).N) (b : Fin 8) (p : Fin 128) (hw : (tbl m 0 (ix2 b p)).toNat < 1280)
    (hb : b.val = (grid0.coords t 0).val) (hp : p.val = (grid0.coords t 1).val * 8 + 2) (k : Fin 128) (h : Fin 16) (d : Fin 128) :
    (iblk m hO c 4 t : FVec Ideal S1x1x128x16x128 .f32) (ix5 0 0 k h d) = (m ((c : Thread nD τ).loc main_arg2)) (ix5 0 ⟨(tbl m 0 (ix2 b p)).toNat, hw⟩ k h d) := by
  have hi : (pcfg0.win (adm m hO) 4).index t = ![0, (tbl m 0 (ix2 b p)).toNat, 0, 0, 0] := by
    rw [← word_ix (tbl m) (grid0.coords t) 2 b p hb hp]; exact map_2 (tbl m) (grid0.coords t)
  have h0 := congrFun hi 0
  have h1 := congrFun hi 1
  have h2 := congrFun hi 2
  have h3 := congrFun hi 3
  have h4 := congrFun hi 4
  clear hi
  blk_ext [iblk, V]
  · exact (Nat.add_zero _).trans h0
  · exact (Nat.add_zero _).trans h1
  · exact (congrArg (fun n : ℕ => n * 128 + k.val) h2).trans (by show 0 * 128 + k.val = k.val; omega)
  · exact (congrArg (fun n : ℕ => n * 16 + h.val) h3).trans (by show 0 * 16 + h.val = h.val; omega)
  · exact (congrArg (fun n : ℕ => n * 128 + d.val) h4).trans (by show 0 * 128 + d.val = d.val; omega)

/-- Window 5's block: the page named by word 8 j + 3 of row b. -/
theorem page_blk_3 (hO : Ok m) (c : Dev nD) (t : Fin (cfgM m hO).N) (b : Fin 8) (p : Fin 128) (hw : (tbl m 0 (ix2 b p)).toNat < 1280)
    (hb : b.val = (grid0.coords t 0).val) (hp : p.val = (grid0.coords t 1).val * 8 + 3) (k : Fin 128) (h : Fin 16) (d : Fin 128) :
    (iblk m hO c 5 t : FVec Ideal S1x1x128x16x128 .f32) (ix5 0 0 k h d) = (m ((c : Thread nD τ).loc main_arg2)) (ix5 0 ⟨(tbl m 0 (ix2 b p)).toNat, hw⟩ k h d) := by
  have hi : (pcfg0.win (adm m hO) 5).index t = ![0, (tbl m 0 (ix2 b p)).toNat, 0, 0, 0] := by
    rw [← word_ix (tbl m) (grid0.coords t) 3 b p hb hp]; exact map_3 (tbl m) (grid0.coords t)
  have h0 := congrFun hi 0
  have h1 := congrFun hi 1
  have h2 := congrFun hi 2
  have h3 := congrFun hi 3
  have h4 := congrFun hi 4
  clear hi
  blk_ext [iblk, V]
  · exact (Nat.add_zero _).trans h0
  · exact (Nat.add_zero _).trans h1
  · exact (congrArg (fun n : ℕ => n * 128 + k.val) h2).trans (by show 0 * 128 + k.val = k.val; omega)
  · exact (congrArg (fun n : ℕ => n * 16 + h.val) h3).trans (by show 0 * 16 + h.val = h.val; omega)
  · exact (congrArg (fun n : ℕ => n * 128 + d.val) h4).trans (by show 0 * 128 + d.val = d.val; omega)

/-- Window 6's block: the page named by word 8 j + 4 of row b. -/
theorem page_blk_4 (hO : Ok m) (c : Dev nD) (t : Fin (cfgM m hO).N) (b : Fin 8) (p : Fin 128) (hw : (tbl m 0 (ix2 b p)).toNat < 1280)
    (hb : b.val = (grid0.coords t 0).val) (hp : p.val = (grid0.coords t 1).val * 8 + 4) (k : Fin 128) (h : Fin 16) (d : Fin 128) :
    (iblk m hO c 6 t : FVec Ideal S1x1x128x16x128 .f32) (ix5 0 0 k h d) = (m ((c : Thread nD τ).loc main_arg2)) (ix5 0 ⟨(tbl m 0 (ix2 b p)).toNat, hw⟩ k h d) := by
  have hi : (pcfg0.win (adm m hO) 6).index t = ![0, (tbl m 0 (ix2 b p)).toNat, 0, 0, 0] := by
    rw [← word_ix (tbl m) (grid0.coords t) 4 b p hb hp]; exact map_4 (tbl m) (grid0.coords t)
  have h0 := congrFun hi 0
  have h1 := congrFun hi 1
  have h2 := congrFun hi 2
  have h3 := congrFun hi 3
  have h4 := congrFun hi 4
  clear hi
  blk_ext [iblk, V]
  · exact (Nat.add_zero _).trans h0
  · exact (Nat.add_zero _).trans h1
  · exact (congrArg (fun n : ℕ => n * 128 + k.val) h2).trans (by show 0 * 128 + k.val = k.val; omega)
  · exact (congrArg (fun n : ℕ => n * 16 + h.val) h3).trans (by show 0 * 16 + h.val = h.val; omega)
  · exact (congrArg (fun n : ℕ => n * 128 + d.val) h4).trans (by show 0 * 128 + d.val = d.val; omega)

/-- Window 7's block: the page named by word 8 j + 5 of row b. -/
theorem page_blk_5 (hO : Ok m) (c : Dev nD) (t : Fin (cfgM m hO).N) (b : Fin 8) (p : Fin 128) (hw : (tbl m 0 (ix2 b p)).toNat < 1280)
    (hb : b.val = (grid0.coords t 0).val) (hp : p.val = (grid0.coords t 1).val * 8 + 5) (k : Fin 128) (h : Fin 16) (d : Fin 128) :
    (iblk m hO c 7 t : FVec Ideal S1x1x128x16x128 .f32) (ix5 0 0 k h d) = (m ((c : Thread nD τ).loc main_arg2)) (ix5 0 ⟨(tbl m 0 (ix2 b p)).toNat, hw⟩ k h d) := by
  have hi : (pcfg0.win (adm m hO) 7).index t = ![0, (tbl m 0 (ix2 b p)).toNat, 0, 0, 0] := by
    rw [← word_ix (tbl m) (grid0.coords t) 5 b p hb hp]; exact map_5 (tbl m) (grid0.coords t)
  have h0 := congrFun hi 0
  have h1 := congrFun hi 1
  have h2 := congrFun hi 2
  have h3 := congrFun hi 3
  have h4 := congrFun hi 4
  clear hi
  blk_ext [iblk, V]
  · exact (Nat.add_zero _).trans h0
  · exact (Nat.add_zero _).trans h1
  · exact (congrArg (fun n : ℕ => n * 128 + k.val) h2).trans (by show 0 * 128 + k.val = k.val; omega)
  · exact (congrArg (fun n : ℕ => n * 16 + h.val) h3).trans (by show 0 * 16 + h.val = h.val; omega)
  · exact (congrArg (fun n : ℕ => n * 128 + d.val) h4).trans (by show 0 * 128 + d.val = d.val; omega)

/-- Window 8's block: the page named by word 8 j + 6 of row b. -/
theorem page_blk_6 (hO : Ok m) (c : Dev nD) (t : Fin (cfgM m hO).N) (b : Fin 8) (p : Fin 128) (hw : (tbl m 0 (ix2 b p)).toNat < 1280)
    (hb : b.val = (grid0.coords t 0).val) (hp : p.val = (grid0.coords t 1).val * 8 + 6) (k : Fin 128) (h : Fin 16) (d : Fin 128) :
    (iblk m hO c 8 t : FVec Ideal S1x1x128x16x128 .f32) (ix5 0 0 k h d) = (m ((c : Thread nD τ).loc main_arg2)) (ix5 0 ⟨(tbl m 0 (ix2 b p)).toNat, hw⟩ k h d) := by
  have hi : (pcfg0.win (adm m hO) 8).index t = ![0, (tbl m 0 (ix2 b p)).toNat, 0, 0, 0] := by
    rw [← word_ix (tbl m) (grid0.coords t) 6 b p hb hp]; exact map_6 (tbl m) (grid0.coords t)
  have h0 := congrFun hi 0
  have h1 := congrFun hi 1
  have h2 := congrFun hi 2
  have h3 := congrFun hi 3
  have h4 := congrFun hi 4
  clear hi
  blk_ext [iblk, V]
  · exact (Nat.add_zero _).trans h0
  · exact (Nat.add_zero _).trans h1
  · exact (congrArg (fun n : ℕ => n * 128 + k.val) h2).trans (by show 0 * 128 + k.val = k.val; omega)
  · exact (congrArg (fun n : ℕ => n * 16 + h.val) h3).trans (by show 0 * 16 + h.val = h.val; omega)
  · exact (congrArg (fun n : ℕ => n * 128 + d.val) h4).trans (by show 0 * 128 + d.val = d.val; omega)

/-- Window 9's block: the page named by word 8 j + 7 of row b. -/
theorem page_blk_7 (hO : Ok m) (c : Dev nD) (t : Fin (cfgM m hO).N) (b : Fin 8) (p : Fin 128) (hw : (tbl m 0 (ix2 b p)).toNat < 1280)
    (hb : b.val = (grid0.coords t 0).val) (hp : p.val = (grid0.coords t 1).val * 8 + 7) (k : Fin 128) (h : Fin 16) (d : Fin 128) :
    (iblk m hO c 9 t : FVec Ideal S1x1x128x16x128 .f32) (ix5 0 0 k h d) = (m ((c : Thread nD τ).loc main_arg2)) (ix5 0 ⟨(tbl m 0 (ix2 b p)).toNat, hw⟩ k h d) := by
  have hi : (pcfg0.win (adm m hO) 9).index t = ![0, (tbl m 0 (ix2 b p)).toNat, 0, 0, 0] := by
    rw [← word_ix (tbl m) (grid0.coords t) 7 b p hb hp]; exact map_7 (tbl m) (grid0.coords t)
  have h0 := congrFun hi 0
  have h1 := congrFun hi 1
  have h2 := congrFun hi 2
  have h3 := congrFun hi 3
  have h4 := congrFun hi 4
  clear hi
  blk_ext [iblk, V]
  · exact (Nat.add_zero _).trans h0
  · exact (Nat.add_zero _).trans h1
  · exact (congrArg (fun n : ℕ => n * 128 + k.val) h2).trans (by show 0 * 128 + k.val = k.val; omega)
  · exact (congrArg (fun n : ℕ => n * 16 + h.val) h3).trans (by show 0 * 16 + h.val = h.val; omega)
  · exact (congrArg (fun n : ℕ => n * 128 + d.val) h4).trans (by show 0 * 128 + d.val = d.val; omega)

/-- Window 0's block. -/
theorem query_blk (hO : Ok m) (c : Dev nD) (t : Fin (cfgM m hO).N) (b : Fin 8)
    (hb : b.val = (grid0.coords t 0).val) (j : Fin 8) (d : Fin 2048) :
    (iblk m hO c 0 t : FVec Ideal S1x8x2048 .f32) (ix3 0 j d) = (m ((c : Thread nD τ).loc main_arg1)) (ix3 b j d) := by
  have hi : (pcfg0.win (adm m hO) 0).index t = ![(grid0.coords t 0).val, 0, 0] := query_idx (grid0.coords t)
  blk_ext [iblk, V]
  · exact (congrFun hi 0).trans hb.symm
  · exact (congrArg (fun n : ℕ => n * 8 + j.val) (congrFun hi 1)).trans (by show 0 * 8 + j.val = j.val; omega)
  · exact (congrArg (fun n : ℕ => n * 2048 + d.val) (congrFun hi 2)).trans (by show 0 * 2048 + d.val = d.val; omega)

/-- Window 1's block is the whole match matrix. -/
theorem match_blk (hO : Ok m) (c : Dev nD) (t : Fin (cfgM m hO).N) :
    (iblk m hO c 1 t : FVec Ideal S2048x128 .f32) = V m c main_v5 := by
  blk_ext! [iblk]
  · exact Nat.zero_add _
  · exact Nat.zero_add _

end Cert.ScoresIdeal.Bridge
-- ==== Proof.ScoresFinal.lean ====
/-
  The decode scores as the run leaves them: every entry of the first output is the score of a pooled key against a query, every
  entry of the second the sum of a page's keys, both of the page the table names.
-/
module

public import proofs.«01_k».proof.Proof.ScoresValue
public import proofs.«01_k».proof.Proof.ScoresMatch
public import proofs.«01_k».proof.Proof.ScoresBlocks
public import proofs.«01_k».proof.Proof.ScoresTable
public import proofs.«01_k».proof.Proof.ScoresQuery
public import proofs.«01_k».proof.Proof.Gen.ScoresRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScoresIdeal.Bridge

open Cert.ScoresIdeal Cert.ScoresIdeal.Gen

variable (m : (ℓ : Loc nD τ sig) → Buf (Elt Ideal) ℓ)

/-- What the reference scores: the table's pages of the pool against the queries. -/
abbrev SC : FVec Ideal Cert.ScoresRefIdeal.S8x128x128x128 .f32 :=
  score (pages (m (((0 : Dev nD) : Thread nD τ).loc main_arg0)) (m (((0 : Dev nD) : Thread nD τ).loc main_arg2))) (m (((0 : Dev nD) : Thread nD τ).loc main_arg1))

/-- A page's tile of the first output is the reference there. -/
theorem tile_point (hl : ∀ y : S8x128.Idx, BitVec.toNat (tbl m 0 y) < 1280) (g : grid0.Coords) (u : Fin 8)
    (Q : Vec Ideal S1x8x2048 .f32) (M : Vec Ideal S2048x128 .f32) (v : Vec Ideal S1x1x128x16x128 .f32)
    (hQ : ∀ (b : Fin 8), b.val = (g 0).val → ∀ (j : Fin 8) (d : Fin 2048), Q (ix3 0 j d) = (m (((0 : Dev nD) : Thread nD τ).loc main_arg1)) (ix3 b j d))
    (hM : M = V m 0 main_v5)
    (hv : ∀ (b : Fin 8) (p : Fin 128) (hw : BitVec.toNat (tbl m 0 (ix2 b p)) < 1280), b.val = (g 0).val → p.val = (g 1).val * 8 + u.val →
      ∀ (k : Fin 128) (h : Fin 16) (d : Fin 128), v (ix5 0 0 k h d) = (m (((0 : Dev nD) : Thread nD τ).loc main_arg2)) (ix5 0 ⟨BitVec.toNat (tbl m 0 (ix2 b p)), hw⟩ k h d))
    (x : S1x1x128x128.Idx) (i : S8x128x128x128.Idx) (h0 : (i 0).val = (g 0).val) (h1 : (i 1).val = (g 1).val * 8 + u.val)
    (h2 : (i 2).val = (x 2).val) (h3 : (i 3).val = (x 3).val) : tile Q v M x = SC m i := by
  obtain ⟨k, c, rfl⟩ : ∃ (k c : Fin 128), x = ix4 0 0 k c := ⟨x 2, x 3, by blk_ext⟩
  obtain ⟨b, p, rfl⟩ : ∃ (b : Fin 8) (p : Fin 128), i = ix4 b p k c :=
    ⟨i 0, i 1, by blk_ext <;> first | exact h2 | exact h3⟩
  have e : tbl m 0 = m (((0 : Dev nD) : Thread nD τ).loc main_arg0) := V_main_arg0 m 0
  have hw := hl (ix2 b p)
  have hc : c = (⟨(⟨c.val / 8, by omega⟩ : Fin 16).val * 8 + (⟨c.val % 8, by omega⟩ : Fin 8).val, by dsimp only; omega⟩ : Fin 128) := by
    ext; dsimp only; omega
  rw [SC, score_at]
  conv_lhs => rw [hc]
  rw [tile_at Q v M (fun k h c => by
    rw [hM, match_at]
    have : (k.val * 16 + h.val) % 16 = h.val := by omega
    dsimp only
    rw [this])]
  refine Finset.sum_congr rfl fun d _ => ?_
  have hw' : BitVec.toNat ((m (((0 : Dev nD) : Thread nD τ).loc main_arg0) : IVec S8x128 32) (ix2 b p)) < 1280 := by rw [← e]; exact hw
  rw [hv b p hw h0 h1, hQ b h0, pages_at _ _ _ _ _ _ _ hw']
  rfl

/-- What the reference sums: the table's pages of the pool. -/
abbrev SK : FVec Ideal Cert.ScoresRefIdeal.S8x128x16x128 .f32 :=
  ksum (pages (m (((0 : Dev nD) : Thread nD τ).loc main_arg0)) (m (((0 : Dev nD) : Thread nD τ).loc main_arg2)))

/-- A page's sum in the second output is the reference there. -/
theorem psum_point (hl : ∀ y : S8x128.Idx, BitVec.toNat (tbl m 0 y) < 1280) (g : grid0.Coords) (u : Fin 8) (v : Vec Ideal S1x1x128x16x128 .f32)
    (hv : ∀ (b : Fin 8) (p : Fin 128) (hw : BitVec.toNat (tbl m 0 (ix2 b p)) < 1280), b.val = (g 0).val → p.val = (g 1).val * 8 + u.val →
      ∀ (k : Fin 128) (h : Fin 16) (d : Fin 128), v (ix5 0 0 k h d) = (m (((0 : Dev nD) : Thread nD τ).loc main_arg2)) (ix5 0 ⟨BitVec.toNat (tbl m 0 (ix2 b p)), hw⟩ k h d))
    (x : S1x1x16x128.Idx) (i : S8x128x16x128.Idx) (h0 : (i 0).val = (g 0).val) (h1 : (i 1).val = (g 1).val * 8 + u.val)
    (h2 : (i 2).val = (x 2).val) (h3 : (i 3).val = (x 3).val) : psum v x = SK m i := by
  obtain ⟨h, d, rfl⟩ : ∃ (h : Fin 16) (d : Fin 128), x = ix4 0 0 h d := ⟨x 2, x 3, by blk_ext⟩
  obtain ⟨b, p, rfl⟩ : ∃ (b : Fin 8) (p : Fin 128), i = ix4 b p h d :=
    ⟨i 0, i 1, by blk_ext <;> first | exact h2 | exact h3⟩
  have e : tbl m 0 = m (((0 : Dev nD) : Thread nD τ).loc main_arg0) := V_main_arg0 m 0
  have hw := hl (ix2 b p)
  have hw' : BitVec.toNat ((m (((0 : Dev nD) : Thread nD τ).loc main_arg0) : IVec S8x128 32) (ix2 b p)) < 1280 := by rw [← e]; exact hw
  rw [SK, ksum_at, psum_at]
  refine Finset.sum_congr rfl fun k _ => ?_
  rw [hv b p hw h0 h1, pages_at _ _ _ _ _ _ _ hw']
  rfl

theorem idx_10 : ∀ i : grid0.Coords, cc0_transform_10 i = ![(i 0).val, (i 1).val, 0, 0] := by decide +kernel
theorem idx_11 : ∀ i : grid0.Coords, cc0_transform_11 i = ![(i 0).val, (i 1).val, 0, 0] := by decide +kernel

set_option maxHeartbeats 2000000 in
/-- A point's block of the first output. -/
theorem point_10 (hO : Ok m) (hl : ∀ y : S8x128.Idx, BitVec.toNat (tbl m 0 y) < 1280) (t : Fin (cfgM m hO).N) (y : S1x8x128x128.Idx) (i : S8x128x128x128.Idx)
    (g0 : (i 0).val = (grid0.coords t 0).val) (g1 : (i 1).val = (grid0.coords t 1).val * 8 + (y 1).val) (g2 : (i 2).val = (y 2).val) (g3 : (i 3).val = (y 3).val) :
    (outsAt0 m hO 0 t).1 y = SC m i := by
  unfold outsAt0
  frame_out
  canon_tiles x h
  case piece0 =>
    refine Eq.trans ?_ (tile_point m hl (grid0.coords t) 7 (iblk m hO 0 0 t) (iblk m hO 0 1 t) (iblk m hO 0 9 t)
      (fun b hb j d => query_blk m hO 0 t b hb j d) (match_blk m hO 0 t) (fun b p hw hb hp k h d => page_blk_7 m hO 0 t b p hw hb hp k h d) x i g0 (by
        show _ = _ + 7; omega) (by omega) (by omega))
    erw [Memref.IsWhole.read_unread, Memref.IsWhole.read_unread, Memref.IsWhole.read_unread]
    rfl
  case piece1 =>
    refine Eq.trans ?_ (tile_point m hl (grid0.coords t) 6 (iblk m hO 0 0 t) (iblk m hO 0 1 t) (iblk m hO 0 8 t)
      (fun b hb j d => query_blk m hO 0 t b hb j d) (match_blk m hO 0 t) (fun b p hw hb hp k h d => page_blk_6 m hO 0 t b p hw hb hp k h d) x i g0 (by
        show _ = _ + 6; omega) (by omega) (by omega))
    erw [Memref.IsWhole.read_unread, Memref.IsWhole.read_unread, Memref.IsWhole.read_unread]
    rfl
  case piece2 =>
    refine Eq.trans ?_ (tile_point m hl (grid0.coords t) 5 (iblk m hO 0 0 t) (iblk m hO 0 1 t) (iblk m hO 0 7 t)
      (fun b hb j d => query_blk m hO 0 t b hb j d) (match_blk m hO 0 t) (fun b p hw hb hp k h d => page_blk_5 m hO 0 t b p hw hb hp k h d) x i g0 (by
        show _ = _ + 5; omega) (by omega) (by omega))
    erw [Memref.IsWhole.read_unread, Memref.IsWhole.read_unread, Memref.IsWhole.read_unread]
    rfl
  case piece3 =>
    refine Eq.trans ?_ (tile_point m hl (grid0.coords t) 4 (iblk m hO 0 0 t) (iblk m hO 0 1 t) (iblk m hO 0 6 t)
      (fun b hb j d => query_blk m hO 0 t b hb j d) (match_blk m hO 0 t) (fun b p hw hb hp k h d => page_blk_4 m hO 0 t b p hw hb hp k h d) x i g0 (by
        show _ = _ + 4; omega) (by omega) (by omega))
    erw [Memref.IsWhole.read_unread, Memref.IsWhole.read_unread, Memref.IsWhole.read_unread]
    rfl
  case piece4 =>
    refine Eq.trans ?_ (tile_point m hl (grid0.coords t) 3 (iblk m hO 0 0 t) (iblk m hO 0 1 t) (iblk m hO 0 5 t)
      (fun b hb j d => query_blk m hO 0 t b hb j d) (match_blk m hO 0 t) (fun b p hw hb hp k h d => page_blk_3 m hO 0 t b p hw hb hp k h d) x i g0 (by
        show _ = _ + 3; omega) (by omega) (by omega))
    erw [Memref.IsWhole.read_unread, Memref.IsWhole.read_unread, Memref.IsWhole.read_unread]
    rfl
  case piece5 =>
    refine Eq.trans ?_ (tile_point m hl (grid0.coords t) 2 (iblk m hO 0 0 t) (iblk m hO 0 1 t) (iblk m hO 0 4 t)
      (fun b hb j d => query_blk m hO 0 t b hb j d) (match_blk m hO 0 t) (fun b p hw hb hp k h d => page_blk_2 m hO 0 t b p hw hb hp k h d) x i g0 (by
        show _ = _ + 2; omega) (by omega) (by omega))
    erw [Memref.IsWhole.read_unread, Memref.IsWhole.read_unread, Memref.IsWhole.read_unread]
    rfl
  case piece6 =>
    refine Eq.trans ?_ (tile_point m hl (grid0.coords t) 1 (iblk m hO 0 0 t) (iblk m hO 0 1 t) (iblk m hO 0 3 t)
      (fun b hb j d => query_blk m hO 0 t b hb j d) (match_blk m hO 0 t) (fun b p hw hb hp k h d => page_blk_1 m hO 0 t b p hw hb hp k h d) x i g0 (by
        show _ = _ + 1; omega) (by omega) (by omega))
    erw [Memref.IsWhole.read_unread, Memref.IsWhole.read_unread, Memref.IsWhole.read_unread]
    rfl
  case piece7 =>
    refine Eq.trans ?_ (tile_point m hl (grid0.coords t) 0 (iblk m hO 0 0 t) (iblk m hO 0 1 t) (iblk m hO 0 2 t)
      (fun b hb j d => query_blk m hO 0 t b hb j d) (match_blk m hO 0 t) (fun b p hw hb hp k h d => page_blk_0 m hO 0 t b p hw hb hp k h d) x i g0 (by
        show _ = _ + 0; omega) (by omega) (by omega))
    erw [Memref.IsWhole.read_unread, Memref.IsWhole.read_unread, Memref.IsWhole.read_unread]
    rfl

set_option maxHeartbeats 2000000 in
/-- A point's block of the second output. -/
theorem point_11 (hO : Ok m) (hl : ∀ y : S8x128.Idx, BitVec.toNat (tbl m 0 y) < 1280) (t : Fin (cfgM m hO).N) (y : S1x8x16x128.Idx) (i : S8x128x16x128.Idx)
    (g0 : (i 0).val = (grid0.coords t 0).val) (g1 : (i 1).val = (grid0.coords t 1).val * 8 + (y 1).val) (g2 : (i 2).val = (y 2).val) (g3 : (i 3).val = (y 3).val) :
    (outsAt0 m hO 0 t).2 y = SK m i := by
  unfold outsAt0
  frame_out
  canon_tiles x h
  case piece0 =>
    refine Eq.trans ?_ (psum_point m hl (grid0.coords t) 7 (iblk m hO 0 9 t)
      (fun b p hw hb hp k h d => page_blk_7 m hO 0 t b p hw hb hp k h d) x i g0 (by
        show _ = _ + 7; omega) (by omega) (by omega))
    erw [Memref.IsWhole.read_unread]
    rfl
  case piece1 =>
    refine Eq.trans ?_ (psum_point m hl (grid0.coords t) 6 (iblk m hO 0 8 t)
      (fun b p hw hb hp k h d => page_blk_6 m hO 0 t b p hw hb hp k h d) x i g0 (by
        show _ = _ + 6; omega) (by omega) (by omega))
    erw [Memref.IsWhole.read_unread]
    rfl
  case piece2 =>
    refine Eq.trans ?_ (psum_point m hl (grid0.coords t) 5 (iblk m hO 0 7 t)
      (fun b p hw hb hp k h d => page_blk_5 m hO 0 t b p hw hb hp k h d) x i g0 (by
        show _ = _ + 5; omega) (by omega) (by omega))
    erw [Memref.IsWhole.read_unread]
    rfl
  case piece3 =>
    refine Eq.trans ?_ (psum_point m hl (grid0.coords t) 4 (iblk m hO 0 6 t)
      (fun b p hw hb hp k h d => page_blk_4 m hO 0 t b p hw hb hp k h d) x i g0 (by
        show _ = _ + 4; omega) (by omega) (by omega))
    erw [Memref.IsWhole.read_unread]
    rfl
  case piece4 =>
    refine Eq.trans ?_ (psum_point m hl (grid0.coords t) 3 (iblk m hO 0 5 t)
      (fun b p hw hb hp k h d => page_blk_3 m hO 0 t b p hw hb hp k h d) x i g0 (by
        show _ = _ + 3; omega) (by omega) (by omega))
    erw [Memref.IsWhole.read_unread]
    rfl
  case piece5 =>
    refine Eq.trans ?_ (psum_point m hl (grid0.coords t) 2 (iblk m hO 0 4 t)
      (fun b p hw hb hp k h d => page_blk_2 m hO 0 t b p hw hb hp k h d) x i g0 (by
        show _ = _ + 2; omega) (by omega) (by omega))
    erw [Memref.IsWhole.read_unread]
    rfl
  case piece6 =>
    refine Eq.trans ?_ (psum_point m hl (grid0.coords t) 1 (iblk m hO 0 3 t)
      (fun b p hw hb hp k h d => page_blk_1 m hO 0 t b p hw hb hp k h d) x i g0 (by
        show _ = _ + 1; omega) (by omega) (by omega))
    erw [Memref.IsWhole.read_unread]
    rfl
  case piece7 =>
    refine Eq.trans ?_ (psum_point m hl (grid0.coords t) 0 (iblk m hO 0 2 t)
      (fun b p hw hb hp k h d => page_blk_0 m hO 0 t b p hw hb hp k h d) x i g0 (by
        show _ = _ + 0; omega) (by omega) (by omega))
    erw [Memref.IsWhole.read_unread]
    rfl

/-- The first output after the run. -/
theorem final_10 (hO : Ok m) (hl : ∀ y : S8x128.Idx, BitVec.toNat (tbl m 0 y) < 1280) : (dats m hO 0 0).arrAt 10 (cfgM m hO).N = SC m := by
  refine (dats m hO 0 0).arrAt_eq_of_covers 10 _ (covers_10 _) fun t _ y => ?_
  change S1x8x128x128.Idx at y
  have hi : (pcfg0.win (adm m hO) 10).index t = ![(grid0.coords t 0).val, (grid0.coords t 1).val, 0, 0] := idx_10 (grid0.coords t)
  have h0 := congrFun hi 0
  have h1 := congrFun hi 1
  have h2 := congrFun hi 2
  have h3 := congrFun hi 3
  clear hi
  blk_simp
  rw [after0_10]
  refine point_10 m hO hl t y _ ?_ ?_ ?_ ?_
  · blk_simp
    exact h0
  · blk_simp
    exact congrArg (fun n : ℕ => n * 8 + (y 1).val) h1
  · blk_simp
    exact (congrArg (fun n : ℕ => n * 128 + (y 2).val) h2).trans (by show 0 * 128 + (y 2).val = (y 2).val; omega)
  · blk_simp
    exact (congrArg (fun n : ℕ => n * 128 + (y 3).val) h3).trans (by show 0 * 128 + (y 3).val = (y 3).val; omega)

/-- The second output after the run. -/
theorem final_11 (hO : Ok m) (hl : ∀ y : S8x128.Idx, BitVec.toNat (tbl m 0 y) < 1280) : (dats m hO 0 0).arrAt 11 (cfgM m hO).N = SK m := by
  refine (dats m hO 0 0).arrAt_eq_of_covers 11 _ (covers_11 _) fun t _ y => ?_
  change S1x8x16x128.Idx at y
  have hi : (pcfg0.win (adm m hO) 11).index t = ![(grid0.coords t 0).val, (grid0.coords t 1).val, 0, 0] := idx_11 (grid0.coords t)
  have h0 := congrFun hi 0
  have h1 := congrFun hi 1
  have h2 := congrFun hi 2
  have h3 := congrFun hi 3
  clear hi
  blk_simp
  rw [after0_11]
  refine point_11 m hO hl t y _ ?_ ?_ ?_ ?_
  · blk_simp
    exact h0
  · blk_simp
    exact congrArg (fun n : ℕ => n * 8 + (y 1).val) h1
  · blk_simp
    exact (congrArg (fun n : ℕ => n * 16 + (y 2).val) h2).trans (by show 0 * 16 + (y 2).val = (y 2).val; omega)
  · blk_simp
    exact (congrArg (fun n : ℕ => n * 128 + (y 3).val) h3).trans (by show 0 * 128 + (y 3).val = (y 3).val; omega)

end Cert.ScoresIdeal.Bridge
-- ==== Proof.ScoresClaim.lean ====
/-
  The claims about `Scores`: the two kernel programs and the reference run clean, and kernel and reference end with the same
  arrays.
-/
module

public import proofs.«01_k».proof.Defs
public import proofs.«01_k».proof.Proof.ScoresFinal
public import proofs.«01_k».proof.Proof.Gen.Scores
public import proofs.«01_k».proof.Proof.Gen.Scores.Frame
public import proofs.«01_k».proof.Proof.Gen.ScoresRefIdeal.Run
public import Idealize.ShloMosaic.Lib.Claim

@[expose] public section

set_option maxRecDepth 16384

noncomputable section

open Idealize.ShloMosaic Idealize.ShloMosaic.TcCoe Idealize.SL.Sem

namespace Cert.ScoresClaim

/-- The reference runs and leaves its arguments and every counter as they were. -/
theorem ref_frame : Cert.quiescent_ScoresRefIdeal := fun m ρ _ =>
  (θ_run Cert.ScoresRefIdeal.defs _ _).mono (fun r h => ⟨fun c => (h c).2.2, sem_eq_zero_of_no_sems (by decide) r.2⟩)
    (Cert.ScoresRefIdeal.Value.run m ρ)

/-- The kernel over the extended reals, from the bound the precondition puts on the table. -/
theorem ideal_frame : Cert.quiescent_ScoresIdeal := fun m ρ hp => Cert.ScoresIdeal.Gen.frame m ρ (Cert.ScoresIdeal.Bridge.ok_of_pre m (hp 0))

/-- The kernel over machine words: its side condition is the same text. -/
theorem kernel_frame : Cert.quiescent_Scores := fun m ρ hp => Cert.Scores.Gen.frame m ρ (Cert.ScoresIdeal.Bridge.ok_of_pre (F := Bits) m (hp 0))

/-- The reference's results in the words of the value modules. -/
theorem ref_run (m : (ℓ : Loc Cert.ScoresRefIdeal.nD Cert.ScoresRefIdeal.τ Cert.ScoresRefIdeal.sig) → Buf (Elt Ideal) ℓ) (ρ : Dev Cert.ScoresRefIdeal.nD → PrngReg) :
    θ_run Cert.ScoresRefIdeal.defs (onTc (τ := Cert.ScoresRefIdeal.τ) (Cert.ScoresRefIdeal.main (F := Ideal))) ⟨m, fun _ => 0, ρ⟩ fun r => ∀ c : Dev Cert.ScoresRefIdeal.nD,
      r.2.mem ((c.tc : Thread Cert.ScoresRefIdeal.nD Cert.ScoresRefIdeal.τ).loc Cert.ScoresRefIdeal.main_v14)
        = Cert.ScoresIdeal.Bridge.score (Cert.ScoresIdeal.Bridge.pages (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg2)))
          (m ((c.tc : Thread Cert.ScoresRefIdeal.nD Cert.ScoresRefIdeal.τ).loc Cert.ScoresRefIdeal.main_arg1))
      ∧ r.2.mem ((c.tc : Thread Cert.ScoresRefIdeal.nD Cert.ScoresRefIdeal.τ).loc Cert.ScoresRefIdeal.main_v15)
        = Cert.ScoresIdeal.Bridge.ksum (Cert.ScoresIdeal.Bridge.pages (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg2)))
      ∧ r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2) :=
  (θ_run Cert.ScoresRefIdeal.defs _ _).mono (fun _ h c => by
    have h' := h c
    unfold Cert.ScoresIdeal.Bridge.score Cert.ScoresIdeal.Bridge.ksum Cert.ScoresIdeal.Bridge.pages
    exact h') (Cert.ScoresRefIdeal.Value.run m ρ)

/-- Kernel and reference end with equal results over the extended reals, for a table of pages of the pool. -/
theorem algebraic : Cert.algebraic_ScoresIdeal_ScoresRefIdeal := by
  pair_intro
  · run_from Cert.ScoresIdeal.Gen.run_main m g (Cert.ScoresIdeal.Bridge.ok_of_pre m (hpre 0))
    · rfl
    · rfl
    · exact (hc.2 Cert.ScoresIdeal.main_arg0 (show _ ∈ Pipeline.restRefs Cert.ScoresIdeal.sig Cert.ScoresIdeal.spec0 from by decide)).trans (Cert.ScoresIdeal.Gen.V_main_arg0 m c)
  · refine (θ_run Cert.ScoresRefIdeal.defs _ _).mono (fun r h c => ?_) (ref_run m' g')
    obtain ⟨h0, h1, h2⟩ := h c
    obtain ⟨e0, e1, e2⟩ := hagree 0
    obtain rfl : c = 0 := Subsingleton.elim _ _
    rw [e0, e1, e2] at h0
    rw [e0, e2] at h1
    have ok := Cert.ScoresIdeal.Bridge.ok_of_pre m (hpre 0)
    have lt := Cert.ScoresIdeal.Bridge.tbl_lt m (hpre 0)
    exact ⟨h0.trans (Cert.ScoresIdeal.Bridge.final_10 m ok lt).symm, h1.trans (Cert.ScoresIdeal.Bridge.final_11 m ok lt).symm, h2⟩

end Cert.ScoresClaim

end
-- ==== Proof.FfnInTile.lean ====
/-
  The VALUE of one gated tile of the feed-forward's first product, over the extended reals. The body takes the two rows
  before its tile from `prev` and shifts the gate product down by one and by two rows (`oneBack`, `twoBack`), so the three
  taps of the causal convolution meet rows r-2, r-1 and r (`pay14_at`).
-/
module

public import proofs.«01_k».proof.Proof.Gen.FfnInIdeal.Skeleton
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem

namespace Cert.FfnInIdeal.Bridge

open Cert.FfnInIdeal Cert.FfnInIdeal.Gen

/-- The row number of every place of a tile. -/
def rowNo : IVec S1024x512 32 :=
  select (andi (xori k0_pay13 (broadcastTo S1024x512 (broadcast S1024x512 0#1) broadcasts_S1024x512_S1024x512)) k0_pay12)
    (addi k0_pay11 (broadcast S1024x512 1024#32)) k0_pay11

theorem rowNo_at (r : Fin 1024) (q : Fin 512) : rowNo (ix2 r q) = BitVec.ofNat 32 r.val := by
  have h : ∀ r : Fin 1024, rowNo (ix2 r 0) = BitVec.ofNat 32 r.val := by decide +kernel
  exact Eq.trans rfl (h r)

/-- The rows one step back: the last row before the tile in front of the tile's rows. -/
def oneBack (g p1 : FVec Ideal S1024x512 .f32) : FVec Ideal S1024x512 .f32 :=
  select (cmpi .eq rowNo (broadcast S1024x512 0#32)) p1 (dynamicRotate 0 1#32 none g rotates_S1024x512_d0)

/-- The rows two steps back: the two rows before the tile in front of the tile's rows. -/
def twoBack (g p0 p1 : FVec Ideal S1024x512 .f32) : FVec Ideal S1024x512 .f32 :=
  select (cmpi .eq rowNo (broadcast S1024x512 0#32)) p0
    (select (cmpi .eq rowNo (broadcast S1024x512 1#32)) p1 (dynamicRotate 0 2#32 none g rotates_S1024x512_d0))

theorem oneBack_zero (g p1 : FVec Ideal S1024x512 .f32) (q : Fin 512) : oneBack g p1 (ix2 0 q) = p1 (ix2 0 q) := by
  have h := rowNo_at 0 q
  unfold oneBack
  show Scalar.select (Scalar.cmpi .eq (rowNo (ix2 0 q)) 0#32) _ _ = _
  rw [h]; rfl

/-- The rows turned down by `n`, at a row at least `n`. -/
theorem rot_at (g : FVec Ideal S1024x512 .f32) (b : BitVec 32) (n : ℕ) (hb : b.toNat = n) (r r' : Fin 1024) (q : Fin 512)
    (hr : r.val = r'.val + n) (hn : n < 1024) : dynamicRotate 0 b none g rotates_S1024x512_d0 (ix2 r q) = g (ix2 r' q) := by
  refine dynamicRotate_apply 0 b g _ _ _ fun a => ?_
  match a with
  | ⟨0, _⟩ =>
    refine Eq.trans (b := (r.val + 1024 - b.toNat % 1024) % 1024) ?_ rfl
    show r'.val = _
    rw [hb]; omega
  | ⟨1, _⟩ => rfl

theorem oneBack_succ (g p1 : FVec Ideal S1024x512 .f32) (r r' : Fin 1024) (q : Fin 512) (hr : r.val = r'.val + 1) :
    oneBack g p1 (ix2 r q) = g (ix2 r' q) := by
  have h := rowNo_at r q
  unfold oneBack
  show Scalar.select (Scalar.cmpi .eq (rowNo (ix2 r q)) 0#32) _ _ = _
  rw [h, show Scalar.cmpi .eq (BitVec.ofNat 32 r.val) 0#32 = 0#1 from
    (by decide +kernel : ∀ r : Fin 1024, r.val ≠ 0 → Scalar.cmpi .eq (BitVec.ofNat 32 r.val) 0#32 = 0#1) r (by omega)]
  refine Eq.trans (b := dynamicRotate 0 1#32 none g rotates_S1024x512_d0 (ix2 r q)) rfl ?_
  exact rot_at g 1#32 1 rfl r r' q (by omega) (by omega)

theorem twoBack_zero (g p0 p1 : FVec Ideal S1024x512 .f32) (q : Fin 512) : twoBack g p0 p1 (ix2 0 q) = p0 (ix2 0 q) := by
  have h := rowNo_at 0 q
  unfold twoBack
  show Scalar.select (Scalar.cmpi .eq (rowNo (ix2 0 q)) 0#32) _ _ = _
  rw [h]; rfl

theorem twoBack_one (g p0 p1 : FVec Ideal S1024x512 .f32) (q : Fin 512) : twoBack g p0 p1 (ix2 1 q) = p1 (ix2 1 q) := by
  have h := rowNo_at 1 q
  unfold twoBack
  show Scalar.select (Scalar.cmpi .eq (rowNo (ix2 1 q)) 0#32) _ (Scalar.select (Scalar.cmpi .eq (rowNo (ix2 1 q)) 1#32) _ _) = _
  rw [h]; rfl

theorem twoBack_succ (g p0 p1 : FVec Ideal S1024x512 .f32) (r r' : Fin 1024) (q : Fin 512) (hr : r.val = r'.val + 2) :
    twoBack g p0 p1 (ix2 r q) = g (ix2 r' q) := by
  have h := rowNo_at r q
  unfold twoBack
  show Scalar.select (Scalar.cmpi .eq (rowNo (ix2 r q)) 0#32) _ (Scalar.select (Scalar.cmpi .eq (rowNo (ix2 r q)) 1#32) _ _) = _
  rw [h, show Scalar.cmpi .eq (BitVec.ofNat 32 r.val) 0#32 = 0#1 from
    (by decide +kernel : ∀ r : Fin 1024, 2 ≤ r.val → Scalar.cmpi .eq (BitVec.ofNat 32 r.val) 0#32 = 0#1) r (by omega),
    show Scalar.cmpi .eq (BitVec.ofNat 32 r.val) 1#32 = 0#1 from
    (by decide +kernel : ∀ r : Fin 1024, 2 ≤ r.val → Scalar.cmpi .eq (BitVec.ofNat 32 r.val) 1#32 = 0#1) r (by omega)]
  refine Eq.trans (b := dynamicRotate 0 2#32 none g rotates_S1024x512_d0 (ix2 r q)) rfl ?_
  exact rot_at g 2#32 2 rfl r r' q (by omega) (by omega)

/-- The convolution's row in the kernel's order of additions. -/
def conv (s2 s1 g : FVec Ideal S1024x512 .f32) (cw : FVec Ideal S3x512 .f32) (cb : FVec Ideal S1x512 .f32) : FVec Ideal S1024x512 .f32 :=
  addf (addf (addf (broadcastTo S1024x512 (shapeCast S1x512 cb shapeCasts_S1x512_S1x512) broadcasts_S1x512_S1024x512)
    (mulf (broadcastTo S1024x512 (extractStridedSlice S1x512 ![0, 0] cw slices_S3x512_o0_0_S1x512) broadcasts_S1x512_S1024x512) s2))
    (mulf (broadcastTo S1024x512 (extractStridedSlice S1x512 ![1, 0] cw slices_S3x512_o1_0_S1x512) broadcasts_S1x512_S1024x512) s1))
    (mulf (broadcastTo S1024x512 (extractStridedSlice S1x512 ![2, 0] cw slices_S3x512_o2_0_S1x512) broadcasts_S1x512_S1024x512) g)

/-- The gate: the convolution's row through the sigmoid-weighted unit, times the value row. -/
def gate (C v : FVec Ideal S1024x512 .f32) : FVec Ideal S1024x512 .bf16 :=
  truncf .bf16 (mulf (mulf C (divf (broadcast S1024x512 (Scalar.ofBits .f32 0x3F800000#32)) (addf (broadcast S1024x512 (Scalar.ofBits .f32 0x3F800000#32))
    (exp (subf (broadcast S1024x512 (Scalar.ofBits .f32 0x00000000#32)) C))))) v) bitsLt_bf16_f32

theorem pay14_eq (g v p0 p1 : FVec Ideal S1024x512 .f32) (cw : FVec Ideal S3x512 .f32) (cb : FVec Ideal S1x512 .f32) :
    k0_pay14 g v p0 p1 1024#32 k0_pay11 k0_pay12 k0_pay13 0#1 cw cb = gate (conv (twoBack g p0 p1) (oneBack g p1) g cw cb) v := rfl

theorem conv_at (s2 s1 g : FVec Ideal S1024x512 .f32) (cw : FVec Ideal S3x512 .f32) (cb : FVec Ideal S1x512 .f32) (r : Fin 1024) (q : Fin 512) :
    conv s2 s1 g cw cb (ix2 r q) = ((cb (ix2 0 q) + cw (ix2 0 q) * s2 (ix2 r q) + cw (ix2 1 q) * s1 (ix2 r q) + cw (ix2 2 q) * g (ix2 r q) : EReal) : Ideal .f32) := by
  pointwise [conv]

theorem gate_at (C v : FVec Ideal S1024x512 .f32) (r : Fin 1024) (q : Fin 512) :
    gate C v (ix2 r q) = ((C (ix2 r q) * Ideal.div 1 (1 + Ideal.exp (-C (ix2 r q))) * v (ix2 r q) : EReal) : Ideal .f32) := by
  pointwise [gate]
  simp only [zero_sub]

end Cert.FfnInIdeal.Bridge

end
-- ==== Proof.FfnInPlain.lean ====
/-
  The reference of the feed-forward's first product, read at an index over the extended reals: the gate product behind the
  two carried-in rows (`padded`), the three taps of the causal convolution (`taps_at`), and the two results (`REF_h_at`,
  `REF_c_at`).
-/
module

public import proofs.«01_k».proof.Proof.Gen.FfnInRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.FfnInRefIdeal.Plain

open Cert.FfnInRefIdeal Cert.FfnInRefIdeal.Gen

/-- The whole product: gate columns, then value columns. -/
def prod (x : FVec Ideal S4x2048x2048 .f32) (w : FVec Ideal S2048x11264 .f32) : FVec Ideal S4x2048x11264 .f32 :=
  Host.dotGeneral dot_S4x2048x2048_S2048x11264_S4x2048x11264_2_0_01_1_n_n none x w

/-- The gate product behind the two carried-in rows. -/
def padded (P : FVec Ideal S4x2048x11264 .f32) (c0 : FVec Ideal S4x2x5632 .f32) : FVec Ideal S4x2050x5632 .f32 :=
  concatenate S4x2050x5632 1 [⟨S4x2x5632, c0⟩, ⟨S4x2048x5632, (extractStridedSlice S4x2048x5632 ![0, 0, 0] P slices_S4x2048x11264_S4x2048x5632_0_0_0)⟩] concatenates_S4x2x5632_S4x2048x5632_S4x2050x5632_d1

/-- The convolution with its bias. -/
def taps (H : FVec Ideal S4x2050x5632 .f32) (w : FVec Ideal S3x5632 .f32) (b : FVec Ideal S5632 .f32) : FVec Ideal S4x2048x5632 .f32 :=
  addf (broadcastInDim S4x2048x5632 ![0, 1, 2] bcast_S1x1x5632_S4x2048x5632_0_1_2 (broadcastInDim S1x1x5632 ![2] bcast_S5632_S1x1x5632_2 b))
    (addf (addf (addf (broadcastInDim S4x2048x5632 ![] bcast_S_S4x2048x5632 (constant S_ .f32 0x00000000#32))
      (mulf (extractStridedSlice S4x2048x5632 ![0, 0, 0] H slices_S4x2050x5632_S4x2048x5632_0_0_0) (broadcastInDim S4x2048x5632 ![0, 1, 2] bcast_S1x1x5632_S4x2048x5632_0_1_2 (broadcastInDim S1x1x5632 ![2] bcast_S5632_S1x1x5632_2 (shapeCast _ (extractStridedSlice S1x5632 ![0, 0] w slices_S3x5632_S1x5632_0_0) shapeCasts_S1x5632_S5632)))))
      (mulf (extractStridedSlice S4x2048x5632 ![0, 1, 0] H slices_S4x2050x5632_S4x2048x5632_0_1_0) (broadcastInDim S4x2048x5632 ![0, 1, 2] bcast_S1x1x5632_S4x2048x5632_0_1_2 (broadcastInDim S1x1x5632 ![2] bcast_S5632_S1x1x5632_2 (shapeCast _ (extractStridedSlice S1x5632 ![1, 0] w slices_S3x5632_S1x5632_1_0) shapeCasts_S1x5632_S5632)))))
      (mulf (extractStridedSlice S4x2048x5632 ![0, 2, 0] H slices_S4x2050x5632_S4x2048x5632_0_2_0) (broadcastInDim S4x2048x5632 ![0, 1, 2] bcast_S1x1x5632_S4x2048x5632_0_1_2 (broadcastInDim S1x1x5632 ![2] bcast_S5632_S1x1x5632_2 (shapeCast _ (extractStridedSlice S1x5632 ![2, 0] w slices_S3x5632_S1x5632_2_0) shapeCasts_S1x5632_S5632)))))

/-- The gated array before its rows are numbered flat. -/
def gated3 (C : FVec Ideal S4x2048x5632 .f32) (P : FVec Ideal S4x2048x11264 .f32) : FVec Ideal S4x2048x5632 .f32 :=
  mulf (mulf C (Host.divf (broadcastInDim S4x2048x5632 ![] bcast_S_S4x2048x5632 (constant S_ .f32 0x3F800000#32))
    (addf (broadcastInDim S4x2048x5632 ![] bcast_S_S4x2048x5632 (constant S_ .f32 0x3F800000#32)) (Host.exp (Host.negf C)))))
    (extractStridedSlice S4x2048x5632 ![0, 0, 5632] P slices_S4x2048x11264_S4x2048x5632_0_0_5632)

/-- The reference's gated rows. -/
def REF_h (x : FVec Ideal S4x2048x2048 .f32) (w : FVec Ideal S2048x11264 .f32) (c0 : FVec Ideal S4x2x5632 .f32) (cw : FVec Ideal S3x5632 .f32) (cb : FVec Ideal S5632 .f32) : FVec Ideal S8192x5632 .bf16 :=
  truncf .bf16 (shapeCast _ (gated3 (taps (padded (prod x w) c0) cw cb) (prod x w)) shapeCasts_S4x2048x5632_S8192x5632) bitsLt_bf16_f32

/-- The reference's new convolution state. -/
def REF_c (x : FVec Ideal S4x2048x2048 .f32) (w : FVec Ideal S2048x11264 .f32) (c0 : FVec Ideal S4x2x5632 .f32) : FVec Ideal S4x2x5632 .f32 :=
  extractStridedSlice S4x2x5632 ![0, 2048, 0] (padded (prod x w) c0) slices_S4x2050x5632_S4x2x5632_0_2048_0

/-- The first two padded rows are the carried-in ones. -/
theorem padded_old (P : FVec Ideal S4x2048x11264 .f32) (c0 : FVec Ideal S4x2x5632 .f32) (a : Fin 4) (s : Fin 2050) (e : Fin 2) (f : Fin 5632)
    (h : s.val = e.val) : padded P c0 (ix3 a s f) = c0 (ix3 a e f) := by
  unfold padded
  exact concatenate_apply_piece 1 [⟨S4x2x5632, c0⟩, ⟨S4x2048x5632, (extractStridedSlice S4x2048x5632 ![0, 0, 0] P slices_S4x2048x11264_S4x2048x5632_0_0_0)⟩]
    concatenates_S4x2x5632_S4x2048x5632_S4x2050x5632_d1 (ix3 a s f) 0 (by simp) S4x2x5632 _ rfl rfl 0 rfl (ix3 a e f)
    (fun b hb => by
      match b with
      | ⟨0, _⟩ => rfl
      | ⟨1, _⟩ => exact absurd rfl hb
      | ⟨2, _⟩ => rfl) ((Nat.zero_add _).trans h.symm)

/-- The other padded rows are the gate product's. -/
theorem padded_new (P : FVec Ideal S4x2048x11264 .f32) (c0 : FVec Ideal S4x2x5632 .f32) (a : Fin 4) (s : Fin 2050) (r : Fin 2048) (f : Fin 5632)
    (h : s.val = r.val + 2) : padded P c0 (ix3 a s f) = P (ix3 a r (⟨f.val + 0, by omega⟩ : Fin 11264)) := by
  unfold padded
  refine (concatenate_apply_piece 1 [⟨S4x2x5632, c0⟩, ⟨S4x2048x5632, (extractStridedSlice S4x2048x5632 ![0, 0, 0] P slices_S4x2048x11264_S4x2048x5632_0_0_0)⟩]
    concatenates_S4x2x5632_S4x2048x5632_S4x2050x5632_d1 (ix3 a s f) 1 (by simp) S4x2048x5632 _ rfl rfl 2 rfl (ix3 a r f)
    (fun b hb => by
      match b with
      | ⟨0, _⟩ => rfl
      | ⟨1, _⟩ => exact absurd rfl hb
      | ⟨2, _⟩ => rfl) ((Nat.add_comm _ _).trans h.symm)).trans ?_
  pointwise
  blk_ext

/-- The convolution at a row. -/
theorem taps_at (H : FVec Ideal S4x2050x5632 .f32) (w : FVec Ideal S3x5632 .f32) (b : FVec Ideal S5632 .f32) (a : Fin 4) (r : Fin 2048) (f : Fin 5632) :
    taps H w b (ix3 a r f) = ((b (ix1 f) + (H (ix3 a (⟨r.val, by omega⟩ : Fin 2050) f) * w (ix2 0 f) + H (ix3 a (⟨1 + r.val, by omega⟩ : Fin 2050) f) * w (ix2 1 f)
      + H (ix3 a (⟨2 + r.val, by omega⟩ : Fin 2050) f) * w (ix2 2 f)) : EReal) : Ideal .f32) := by
  pointwise [taps]

/-- The gated rows at a flat row. -/
theorem REF_h_at (x : FVec Ideal S4x2048x2048 .f32) (w : FVec Ideal S2048x11264 .f32) (c0 : FVec Ideal S4x2x5632 .f32) (cw : FVec Ideal S3x5632 .f32) (cb : FVec Ideal S5632 .f32)
    (i : S8192x5632.Idx) (a : Fin 4) (r : Fin 2048) (f : Fin 5632) (h0 : (i 0 : ℕ) = a.val * 2048 + r.val) (h1 : (i 1 : ℕ) = f.val) :
    REF_h x w c0 cw cb i = gated3 (taps (padded (prod x w) c0) cw cb) (prod x w) (ix3 a r f) := by
  unfold REF_h
  generalize gated3 (taps (padded (prod x w) c0) cw cb) (prod x w) = D
  pointwise
  blk_ext

/-- The gate at a row, with the convolution there. -/
theorem gated3_at (C : FVec Ideal S4x2048x5632 .f32) (P : FVec Ideal S4x2048x11264 .f32) (a : Fin 4) (r : Fin 2048) (f : Fin 5632) :
    gated3 C P (ix3 a r f) = ((C (ix3 a r f) * Ideal.div 1 (1 + Ideal.exp (-C (ix3 a r f))) * P (ix3 a r (⟨5632 + f.val, by omega⟩ : Fin 11264)) : EReal) : Ideal .f32) := by
  pointwise [gated3]

end Cert.FfnInRefIdeal.Plain

end
-- ==== Proof.FfnInKit.lean ====
module

public import proofs.«01_k».proof.Proof.Gen.FfnInIdeal.Frame
public import proofs.«01_k».proof.Proof.Gen.FfnInIdeal.Skeleton

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

/-! What the body of the gated convolution's kernel branches on, and the memrefs it is called with at a point. -/

/-- The first branch's condition: the first column tile. -/
abbrev cond0 (i : grid0.Coords) : Prop := (Scalar.cmpi .ne (Scalar.extui (Scalar.cmpi .eq (BitVec.ofNat 32 (i 2).val) 0#32)) 0#32) = 1#1
/-- It holds at every eleventh point. -/
theorem hcond0 : ∀ t : Fin cfg0.N, cond0 (grid0.coords t) ↔ t.val % 11 = 0 :=
  (fun t => by
    have ht : t.val < 88 := Nat.lt_of_lt_of_eq t.isLt N_0
    have e2 : (grid0.coords t 2).val = t.val / 1 % 11 := Pipeline.Grid.coords_val t 2 (by decide) rfl
    simp only [cond0, e2]
    word_cmp
   : ∀ t : Fin grid0.N, cond0 (grid0.coords t) ↔ t.val % 11 = 0)

/-- The second branch's condition: the first row tile. -/
abbrev cond1 (i : grid0.Coords) : Prop := k0_cond2 i = 1#1
/-- It holds where the row tile is the first of its sequence. -/
theorem hcond1 : ∀ t : Fin cfg0.N, cond1 (grid0.coords t) ↔ t.val / 11 % 2 = 0 :=
  (fun t => by
    have ht : t.val < 88 := Nat.lt_of_lt_of_eq t.isLt N_0
    have e1 : (grid0.coords t 1).val = t.val / 11 % 2 := Pipeline.Grid.coords_val t 1 (by decide) rfl
    simp only [cond1, k0_cond2, e1]
    word_cmp
   : ∀ t : Fin grid0.N, cond1 (grid0.coords t) ↔ t.val / 11 % 2 = 0)

/-- Window 0's staging memref at a point, and its being whole. -/
abbrev ms0 (t : Fin cfg0.N) : Memref sig .tc .vmem S1x1024x2048 .f32 := win0_0.stage (cfg0.slots t 0)
abbrev hs0 (t : Fin cfg0.N) : (ms0 t).IsWhole := hstage0_0 ((cfg0.slots t 0).cast nbuf0_0)
/-- Window 1's staging memref at a point, and its being whole. -/
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
/-- Window 2's staging memref at a point, and its being whole. -/
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
/-- Window 3's staging memref at a point, and its being whole. -/
abbrev ms3 (t : Fin cfg0.N) : Memref sig .tc .vmem S1x2x512 .f32 := win0_3.stage (cfg0.slots t 3)
abbrev hs3 (t : Fin cfg0.N) : (ms3 t).IsWhole := hstage0_3 ((cfg0.slots t 3).cast nbuf0_3)
/-- Window 4's staging memref at a point, and its being whole. -/
abbrev ms4 (t : Fin cfg0.N) : Memref sig .tc .vmem S3x512 .f32 := win0_4.stage (cfg0.slots t 4)
abbrev hs4 (t : Fin cfg0.N) : (ms4 t).IsWhole := hstage0_4 ((cfg0.slots t 4).cast nbuf0_4)
/-- Window 5's staging memref at a point, and its being whole. -/
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
/-- Window 6's staging memref at a point, and its being whole. -/
abbrev ms6 (t : Fin cfg0.N) : Memref sig .tc .vmem S1024x512 .bf16 := win0_6.stage (cfg0.slots t 6)
abbrev hs6 (t : Fin cfg0.N) : (ms6 t).IsWhole := hstage0_6 ((cfg0.slots t 6).cast nbuf0_6)
/-- Window 7's staging memref at a point, and its being whole. -/
abbrev ms7 (t : Fin cfg0.N) : Memref sig .tc .vmem S1x1x2x512 .f32 := win0_7.stage (cfg0.slots t 7)
abbrev hs7 (t : Fin cfg0.N) : (ms7 t).IsWhole := hstage0_7 ((cfg0.slots t 7).cast nbuf0_7)
/-- The rounded rows' scratch and the carried rows' scratch. -/
abbrev scA : Memref sig .tc .vmem S1024x2048 .bf16 := Memref.whole cc0_scratch0
abbrev scC : Memref sig .tc .vmem S11x1x2x512 .f32 := Memref.whole cc0_scratch1
/-- What the launch hands the region: both scratch buffers at some contents, the generator register at some state. -/
theorem phi_eq (c : Dev nD) :
    (Pipeline.ΦA spec0 c : sProp 𝕄)
      = iprop(iprop((∃ d, owns (c : Thread nD τ) scA fullShare d) ∗ (∃ d, owns (c : Thread nD τ) scC fullShare d)) ∗ (∃ r, prngReg c r)) := by
  unfold Pipeline.ΦA; rw [scopedRest0_eq]; simp only [scA, scC, owns_whole]; try rfl

end Cert.FfnInIdeal.Body

end
-- ==== Proof.FfnInRunA.lean ====
module

public import proofs.«01_k».proof.Proof.FfnInKit

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

set_option maxHeartbeats 1000000 in
/-- The kernel's body at the first column tile of the first row tile: the pieces it leaves in the two results and in the two scratch buffers, the second of
    which it finds at `xs1`. -/
noncomputable def runA (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) :
    Σ' (L6 : List (View.Piece (Elt F) S1024x512 .bf16)), Σ' (L7 : List (View.Piece (Elt F) S1x1x2x512 .f32)), Σ' (LS0 : List (View.Piece (Elt F) S1024x2048 .bf16)), { LS1 : List (View.Piece (Elt F) S11x1x2x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0_ffn_in i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_ffn_in_eq_skeleton]; unfold cc0_ffn_in_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]; · iexists _; iexact HS0
    iexact HS1

end Cert.FfnInIdeal.Body

end
-- ==== Proof.FfnInRunB.lean ====
module

public import proofs.«01_k».proof.Proof.FfnInRunA

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

set_option maxHeartbeats 1000000 in
/-- The kernel's body at a later column tile of the first row tile: the pieces it leaves in the two results and in the two scratch buffers, the second of
    which it finds at `xs1`. -/
noncomputable def runB (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : ¬cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs0 : Vec F S1024x2048 .bf16) (xs1 : Vec F S11x1x2x512 .f32) :
    Σ' (L6 : List (View.Piece (Elt F) S1024x512 .bf16)), Σ' (L7 : List (View.Piece (Elt F) S1x1x2x512 .f32)), { LS1 : List (View.Piece (Elt F) S11x1x2x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0 ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0_ffn_in i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_ffn_in_eq_skeleton]; unfold cc0_ffn_in_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0; obtain rfl := harg12.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]
    · iexists _; isplitr; · ipureintro; exact harg11.read_unread _
      iexact HS0
    iexact HS1

end Cert.FfnInIdeal.Body

end
-- ==== Proof.FfnInRunC.lean ====
module

public import proofs.«01_k».proof.Proof.FfnInRunB

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

set_option maxHeartbeats 1000000 in
/-- The kernel's body at the first column tile of the second row tile: the pieces it leaves in the two results and in the two scratch buffers, the second of
    which it finds at `xs1`. -/
noncomputable def runC (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) :
    Σ' (L6 : List (View.Piece (Elt F) S1024x512 .bf16)), Σ' (L7 : List (View.Piece (Elt F) S1x1x2x512 .f32)), Σ' (LS0 : List (View.Piece (Elt F) S1024x2048 .bf16)), { LS1 : List (View.Piece (Elt F) S11x1x2x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0_ffn_in i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_ffn_in_eq_skeleton]; unfold cc0_ffn_in_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]; · iexists _; iexact HS0
    iexact HS1

end Cert.FfnInIdeal.Body

end
-- ==== Proof.FfnInRunD.lean ====
module

public import proofs.«01_k».proof.Proof.FfnInRunC

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

set_option maxHeartbeats 1000000 in
/-- The kernel's body at a later column tile of the second row tile: the pieces it leaves in the two results and in the two scratch buffers, the second of
    which it finds at `xs1`. -/
noncomputable def runD (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : ¬cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs0 : Vec F S1024x2048 .bf16) (xs1 : Vec F S11x1x2x512 .f32) :
    Σ' (L6 : List (View.Piece (Elt F) S1024x512 .bf16)), Σ' (L7 : List (View.Piece (Elt F) S1x1x2x512 .f32)), { LS1 : List (View.Piece (Elt F) S11x1x2x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0 ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0_ffn_in i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_ffn_in_eq_skeleton]; unfold cc0_ffn_in_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0; obtain rfl := harg12.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]
    · iexists _; isplitr; · ipureintro; exact harg11.read_unread _
      iexact HS0
    iexact HS1

end Cert.FfnInIdeal.Body

end
-- ==== Proof.FfnInOuts.lean ====
module

public import proofs.«01_k».proof.Proof.FfnInRunD
public import Idealize.ShloMosaic.Lib.VecWindow
public import Idealize.ShloMosaic.Lib.WritesUnit
public import Idealize.ShloMosaic.Lib.Pipeline.ValueKit

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

/-! What the body leaves, named: the gated tile, the last two rows of its gate product, and the carried rows with the
tile's slot overwritten. -/

/-- The gated tile: from the rounded rows, the two weight tiles, the two rows before the tile, the taps and the bias. -/
def gated (a : Vec F S1024x2048 .bf16) (wg wv : Vec F S2048x512 .bf16) (prev : Vec F S1x1x2x512 .f32)
    (cw : Vec F S3x512 .f32) (cb : Vec F S1x512 .f32) : FVec F S1024x512 .bf16 :=
  k0_pay14 (k0_pay6 a wg) (k0_pay7 a wv) (k0_pay9 prev) (k0_pay10 prev) 1024#32 k0_pay11 k0_pay12 k0_pay13 0#1 cw cb

/-- The last two rows of the gate product. -/
def rows (a : Vec F S1024x2048 .bf16) (wg : Vec F S2048x512 .bf16) : FVec F S1x1x2x512 .f32 := k0_pay2 (k0_pay6 a wg)

/-- The rows a point finds in the carried scratch at its own column tile. -/
def slot (i : grid0.Coords) (d : Vec F S11x1x2x512 .f32) : Vec F S1x1x2x512 .f32 :=
  View.ld d (Rect.unit (s := S11x1x2x512) (k0_off2 i) S1x1x2x512.size (k0_off2_inb i))

set_option maxHeartbeats 1000000 in
theorem runA_tile (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) (f) :
    arg9.view.read (Elt F) (arg9.view.writes (Elt F) f (runA c i arg3 harg3 arg4 harg4 arg5 harg5 arg6 harg6 arg7 harg7 arg8 harg8 arg9 harg9 arg10 harg10 arg11 harg11 arg12 harg12 hc0 hc1 x0 x1 x2 x3 x4 x5 xs1).1) = gated (k0_pay4 x0) x1 x2 (k0_pay5 x3) x4 x5 := by
  simp only [runA, runA.sl.HS0_1, runA.sl.HS1_1]
  refine (View.read_writes_full (s := S1024x512) _ _ (off := ![0, 0]) inb_S1024x512_S1024x512_0_0 _ _).trans ?_
  simp only [runA.sl.v6, runA.sl.HS0_1, runA.sl.v14, runA.sl.HS1_1, runA.sl.r, runA.sl.r_1, runA.sl.r_2, runA.sl.r_3]
  simp (disch := decide) only [View.readAt_eq_ld, View.ld_unit_lit', View.readCov_unit_lit', View.readCov_cons_unit_lit', Memref.IsWhole.read_unread]
  exact congrArg (fun p => gated (k0_pay4 x0) x1 x2 p x4 x5) (View.readCov_cons_toLoadRect _ _ _ _)

theorem runA_last (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) (f) :
    arg10.view.read (Elt F) (arg10.view.writes (Elt F) f (runA c i arg3 harg3 arg4 harg4 arg5 harg5 arg6 harg6 arg7 harg7 arg8 harg8 arg9 harg9 arg10 harg10 arg11 harg11 arg12 harg12 hc0 hc1 x0 x1 x2 x3 x4 x5 xs1).2.1) = rows (k0_pay4 x0) x1 := by
  simp only [runA, runA.sl.HS0_1, runA.sl.HS1_1]
  refine (View.read_writes_full (s := S1x1x2x512) _ _ (off := ![0, 0, 0, 0]) inb_S1x1x2x512_S1x1x2x512_0_0_0_0 _ _).trans ?_
  simp only [runA.sl.v6, runA.sl.HS0_1, runA.sl.v14, runA.sl.HS1_1, runA.sl.r, runA.sl.r_1, runA.sl.r_2, runA.sl.r_3]
  simp (disch := decide) only [View.readAt_eq_ld, View.ld_unit_lit', View.readCov_unit_lit', View.readCov_cons_unit_lit', Memref.IsWhole.read_unread]
  rfl

set_option maxHeartbeats 1000000 in
theorem runA_rows (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) (f) :
    arg11.view.read (Elt F) (arg11.view.writes (Elt F) f (runA c i arg3 harg3 arg4 harg4 arg5 harg5 arg6 harg6 arg7 harg7 arg8 harg8 arg9 harg9 arg10 harg10 arg11 harg11 arg12 harg12 hc0 hc1 x0 x1 x2 x3 x4 x5 xs1).2.2.1) = k0_pay4 x0 := by
  simp only [runA, runA.sl.HS0_1, runA.sl.HS1_1]
  refine (View.read_writes_full (s := S1024x2048) _ _ (off := ![0, 0]) inb_S1024x2048_S1024x2048_0_0 _ _).trans ?_
  simp (disch := decide) only [View.readAt_eq_ld, View.ld_unit_lit', View.readCov_unit_lit', View.readCov_cons_unit_lit', Memref.IsWhole.read_unread]

set_option maxHeartbeats 1000000 in
theorem runA_own (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) (f) :
    slot i (arg12.view.read (Elt F) (arg12.view.writes (Elt F) f (runA c i arg3 harg3 arg4 harg4 arg5 harg5 arg6 harg6 arg7 harg7 arg8 harg8 arg9 harg9 arg10 harg10 arg11 harg11 arg12 harg12 hc0 hc1 x0 x1 x2 x3 x4 x5 xs1).2.2.2.1)) = rows (k0_pay4 x0) x1 := by
  simp only [runA, runA.sl.HS0_1, runA.sl.HS1_1]
  funext z
  unfold slot View.ld
  refine Eq.trans (View.read_writes_cons_unit_of_mem (off' := k0_off2 i) (size := S1x1x2x512.size) arg12.view f (k0_off2_inb i) _ _ _ z rfl fun a => ?_) ?_
  · show k0_off2 i a + 1 * (z a).val = k0_off2 i a + (z a).val
    rw [Nat.one_mul]
  simp only [runA.sl.v6, runA.sl.HS0_1, runA.sl.v14, runA.sl.HS1_1, runA.sl.r, runA.sl.r_1, runA.sl.r_2, runA.sl.r_3]
  simp (disch := decide) only [View.readAt_eq_ld, View.ld_unit_lit', View.readCov_unit_lit', View.readCov_cons_unit_lit', Memref.IsWhole.read_unread]
  rfl

theorem runA_other (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) (y : S11x1x2x512.Idx) (hy : (y 0).val ≠ k0_off2 i 0) :
    arg12.view.read (Elt F) (arg12.view.writes (Elt F) (harg12.unread xs1) (runA c i arg3 harg3 arg4 harg4 arg5 harg5 arg6 harg6 arg7 harg7 arg8 harg8 arg9 harg9 arg10 harg10 arg11 harg11 arg12 harg12 hc0 hc1 x0 x1 x2 x3 x4 x5 xs1).2.2.2.1) y = xs1 y := by
  simp only [runA, runA.sl.HS0_1, runA.sl.HS1_1]
  refine Eq.trans (View.read_writes_cons_unit_of_not_mem (off' := k0_off2 i) (size := S1x1x2x512.size) arg12.view _ (k0_off2_inb i) _ _ y rfl (0 : Fin 4) ?_) ?_
  · show (y 0).val < k0_off2 i 0 ∨ k0_off2 i 0 + 1 ≤ (y 0).val
    omega
  refine Eq.trans (View.read_writes_cons_unit_of_not_mem (off' := k0_off1 i) (size := S1x1x2x512.size) arg12.view _ (k0_off1_inb i hc1) _ _ y rfl (0 : Fin 4) ?_) ?_
  · show (y 0).val < k0_off2 i 0 ∨ k0_off2 i 0 + 1 ≤ (y 0).val
    omega
  exact congrFun (harg12.read_unread xs1) y

set_option maxHeartbeats 1000000 in
theorem runB_tile (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : ¬cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs0 : Vec F S1024x2048 .bf16) (xs1 : Vec F S11x1x2x512 .f32) (f) :
    arg9.view.read (Elt F) (arg9.view.writes (Elt F) f (runB c i arg3 harg3 arg4 harg4 arg5 harg5 arg6 harg6 arg7 harg7 arg8 harg8 arg9 harg9 arg10 harg10 arg11 harg11 arg12 harg12 hc0 hc1 x0 x1 x2 x3 x4 x5 xs0 xs1).1) = gated xs0 x1 x2 (k0_pay5 x3) x4 x5 := by
  simp only [runB, runB.sl.HS1_1]
  refine (View.read_writes_full (s := S1024x512) _ _ (off := ![0, 0]) inb_S1024x512_S1024x512_0_0 _ _).trans ?_
  simp only [runB.sl.v14, runB.sl.HS1_1, runB.sl.r, runB.sl.r_1, runB.sl.r_2, runB.sl.r_3]
  simp (disch := decide) only [View.readAt_eq_ld, View.ld_unit_lit', View.readCov_unit_lit', View.readCov_cons_unit_lit', Memref.IsWhole.read_unread]
  exact congrArg (fun p => gated xs0 x1 x2 p x4 x5) (View.readCov_cons_toLoadRect _ _ _ _)

theorem runB_last (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : ¬cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs0 : Vec F S1024x2048 .bf16) (xs1 : Vec F S11x1x2x512 .f32) (f) :
    arg10.view.read (Elt F) (arg10.view.writes (Elt F) f (runB c i arg3 harg3 arg4 harg4 arg5 harg5 arg6 harg6 arg7 harg7 arg8 harg8 arg9 harg9 arg10 harg10 arg11 harg11 arg12 harg12 hc0 hc1 x0 x1 x2 x3 x4 x5 xs0 xs1).2.1) = rows xs0 x1 := by
  simp only [runB, runB.sl.HS1_1]
  refine (View.read_writes_full (s := S1x1x2x512) _ _ (off := ![0, 0, 0, 0]) inb_S1x1x2x512_S1x1x2x512_0_0_0_0 _ _).trans ?_
  simp only [runB.sl.v14, runB.sl.HS1_1, runB.sl.r, runB.sl.r_1, runB.sl.r_2, runB.sl.r_3]
  simp (disch := decide) only [View.readAt_eq_ld, View.ld_unit_lit', View.readCov_unit_lit', View.readCov_cons_unit_lit', Memref.IsWhole.read_unread]
  rfl

set_option maxHeartbeats 1000000 in
theorem runB_own (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : ¬cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs0 : Vec F S1024x2048 .bf16) (xs1 : Vec F S11x1x2x512 .f32) (f) :
    slot i (arg12.view.read (Elt F) (arg12.view.writes (Elt F) f (runB c i arg3 harg3 arg4 harg4 arg5 harg5 arg6 harg6 arg7 harg7 arg8 harg8 arg9 harg9 arg10 harg10 arg11 harg11 arg12 harg12 hc0 hc1 x0 x1 x2 x3 x4 x5 xs0 xs1).2.2.1)) = rows xs0 x1 := by
  simp only [runB, runB.sl.HS1_1]
  funext z
  unfold slot View.ld
  refine Eq.trans (View.read_writes_cons_unit_of_mem (off' := k0_off2 i) (size := S1x1x2x512.size) arg12.view f (k0_off2_inb i) _ _ _ z rfl fun a => ?_) ?_
  · show k0_off2 i a + 1 * (z a).val = k0_off2 i a + (z a).val
    rw [Nat.one_mul]
  simp only [runB.sl.v14, runB.sl.HS1_1, runB.sl.r, runB.sl.r_1, runB.sl.r_2, runB.sl.r_3]
  simp (disch := decide) only [View.readAt_eq_ld, View.ld_unit_lit', View.readCov_unit_lit', View.readCov_cons_unit_lit', Memref.IsWhole.read_unread]
  rfl

theorem runB_other (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : ¬cond0 i) (hc1 : cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs0 : Vec F S1024x2048 .bf16) (xs1 : Vec F S11x1x2x512 .f32) (y : S11x1x2x512.Idx) (hy : (y 0).val ≠ k0_off2 i 0) :
    arg12.view.read (Elt F) (arg12.view.writes (Elt F) (harg12.unread xs1) (runB c i arg3 harg3 arg4 harg4 arg5 harg5 arg6 harg6 arg7 harg7 arg8 harg8 arg9 harg9 arg10 harg10 arg11 harg11 arg12 harg12 hc0 hc1 x0 x1 x2 x3 x4 x5 xs0 xs1).2.2.1) y = xs1 y := by
  simp only [runB, runB.sl.HS1_1]
  refine Eq.trans (View.read_writes_cons_unit_of_not_mem (off' := k0_off2 i) (size := S1x1x2x512.size) arg12.view _ (k0_off2_inb i) _ _ y rfl (0 : Fin 4) ?_) ?_
  · show (y 0).val < k0_off2 i 0 ∨ k0_off2 i 0 + 1 ≤ (y 0).val
    omega
  refine Eq.trans (View.read_writes_cons_unit_of_not_mem (off' := k0_off1 i) (size := S1x1x2x512.size) arg12.view _ (k0_off1_inb i hc1) _ _ y rfl (0 : Fin 4) ?_) ?_
  · show (y 0).val < k0_off2 i 0 ∨ k0_off2 i 0 + 1 ≤ (y 0).val
    omega
  exact congrFun (harg12.read_unread xs1) y

set_option maxHeartbeats 1000000 in
theorem runC_tile (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) (f) :
    arg9.view.read (Elt F) (arg9.view.writes (Elt F) f (runC c i arg3 harg3 arg4 harg4 arg5 harg5 arg6 harg6 arg7 harg7 arg8 harg8 arg9 harg9 arg10 harg10 arg11 harg11 arg12 harg12 hc0 hc1 x0 x1 x2 x3 x4 x5 xs1).1) = gated (k0_pay4 x0) x1 x2 (slot i xs1) x4 x5 := by
  simp only [runC, runC.sl.HS0_1]
  refine (View.read_writes_full (s := S1024x512) _ _ (off := ![0, 0]) inb_S1024x512_S1024x512_0_0 _ _).trans ?_
  simp only [runC.sl.v6, runC.sl.HS0_1, runC.sl.r, runC.sl.r_1, runC.sl.r_2, runC.sl.r_3]
  simp (disch := decide) only [View.readAt_eq_ld, View.ld_unit_lit', View.readCov_unit_lit', View.readCov_cons_unit_lit', Memref.IsWhole.read_unread]
  rfl

theorem runC_last (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) (f) :
    arg10.view.read (Elt F) (arg10.view.writes (Elt F) f (runC c i arg3 harg3 arg4 harg4 arg5 harg5 arg6 harg6 arg7 harg7 arg8 harg8 arg9 harg9 arg10 harg10 arg11 harg11 arg12 harg12 hc0 hc1 x0 x1 x2 x3 x4 x5 xs1).2.1) = rows (k0_pay4 x0) x1 := by
  simp only [runC, runC.sl.HS0_1]
  refine (View.read_writes_full (s := S1x1x2x512) _ _ (off := ![0, 0, 0, 0]) inb_S1x1x2x512_S1x1x2x512_0_0_0_0 _ _).trans ?_
  simp only [runC.sl.v6, runC.sl.HS0_1, runC.sl.r, runC.sl.r_1, runC.sl.r_2, runC.sl.r_3]
  simp (disch := decide) only [View.readAt_eq_ld, View.ld_unit_lit', View.readCov_unit_lit', View.readCov_cons_unit_lit', Memref.IsWhole.read_unread]
  rfl

set_option maxHeartbeats 1000000 in
theorem runC_rows (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) (f) :
    arg11.view.read (Elt F) (arg11.view.writes (Elt F) f (runC c i arg3 harg3 arg4 harg4 arg5 harg5 arg6 harg6 arg7 harg7 arg8 harg8 arg9 harg9 arg10 harg10 arg11 harg11 arg12 harg12 hc0 hc1 x0 x1 x2 x3 x4 x5 xs1).2.2.1) = k0_pay4 x0 := by
  simp only [runC, runC.sl.HS0_1]
  refine (View.read_writes_full (s := S1024x2048) _ _ (off := ![0, 0]) inb_S1024x2048_S1024x2048_0_0 _ _).trans ?_
  simp (disch := decide) only [View.readAt_eq_ld, View.ld_unit_lit', View.readCov_unit_lit', View.readCov_cons_unit_lit', Memref.IsWhole.read_unread]

set_option maxHeartbeats 1000000 in
theorem runC_own (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) (f) :
    slot i (arg12.view.read (Elt F) (arg12.view.writes (Elt F) f (runC c i arg3 harg3 arg4 harg4 arg5 harg5 arg6 harg6 arg7 harg7 arg8 harg8 arg9 harg9 arg10 harg10 arg11 harg11 arg12 harg12 hc0 hc1 x0 x1 x2 x3 x4 x5 xs1).2.2.2.1)) = rows (k0_pay4 x0) x1 := by
  simp only [runC, runC.sl.HS0_1]
  funext z
  unfold slot View.ld
  refine Eq.trans (View.read_writes_cons_unit_of_mem (off' := k0_off2 i) (size := S1x1x2x512.size) arg12.view f (k0_off2_inb i) _ _ _ z rfl fun a => ?_) ?_
  · show k0_off2 i a + 1 * (z a).val = k0_off2 i a + (z a).val
    rw [Nat.one_mul]
  simp only [runC.sl.v6, runC.sl.HS0_1, runC.sl.r, runC.sl.r_1, runC.sl.r_2, runC.sl.r_3]
  simp (disch := decide) only [View.readAt_eq_ld, View.ld_unit_lit', View.readCov_unit_lit', View.readCov_cons_unit_lit', Memref.IsWhole.read_unread]
  rfl

theorem runC_other (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs1 : Vec F S11x1x2x512 .f32) (y : S11x1x2x512.Idx) (hy : (y 0).val ≠ k0_off2 i 0) :
    arg12.view.read (Elt F) (arg12.view.writes (Elt F) (harg12.unread xs1) (runC c i arg3 harg3 arg4 harg4 arg5 harg5 arg6 harg6 arg7 harg7 arg8 harg8 arg9 harg9 arg10 harg10 arg11 harg11 arg12 harg12 hc0 hc1 x0 x1 x2 x3 x4 x5 xs1).2.2.2.1) y = xs1 y := by
  simp only [runC, runC.sl.HS0_1]
  refine Eq.trans (View.read_writes_cons_unit_of_not_mem (off' := k0_off2 i) (size := S1x1x2x512.size) arg12.view _ (k0_off2_inb i) _ _ y rfl (0 : Fin 4) ?_) ?_
  · show (y 0).val < k0_off2 i 0 ∨ k0_off2 i 0 + 1 ≤ (y 0).val
    omega
  exact congrFun (harg12.read_unread xs1) y

set_option maxHeartbeats 1000000 in
theorem runD_tile (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : ¬cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs0 : Vec F S1024x2048 .bf16) (xs1 : Vec F S11x1x2x512 .f32) (f) :
    arg9.view.read (Elt F) (arg9.view.writes (Elt F) f (runD c i arg3 harg3 arg4 harg4 arg5 harg5 arg6 harg6 arg7 harg7 arg8 harg8 arg9 harg9 arg10 harg10 arg11 harg11 arg12 harg12 hc0 hc1 x0 x1 x2 x3 x4 x5 xs0 xs1).1) = gated xs0 x1 x2 (slot i xs1) x4 x5 := by
  simp only [runD]
  refine (View.read_writes_full (s := S1024x512) _ _ (off := ![0, 0]) inb_S1024x512_S1024x512_0_0 _ _).trans ?_
  simp only [runD.sl.r, runD.sl.r_1, runD.sl.r_2, runD.sl.r_3]
  simp (disch := decide) only [View.readAt_eq_ld, View.ld_unit_lit', View.readCov_unit_lit', View.readCov_cons_unit_lit', Memref.IsWhole.read_unread]
  rfl

theorem runD_last (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : ¬cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs0 : Vec F S1024x2048 .bf16) (xs1 : Vec F S11x1x2x512 .f32) (f) :
    arg10.view.read (Elt F) (arg10.view.writes (Elt F) f (runD c i arg3 harg3 arg4 harg4 arg5 harg5 arg6 harg6 arg7 harg7 arg8 harg8 arg9 harg9 arg10 harg10 arg11 harg11 arg12 harg12 hc0 hc1 x0 x1 x2 x3 x4 x5 xs0 xs1).2.1) = rows xs0 x1 := by
  simp only [runD]
  refine (View.read_writes_full (s := S1x1x2x512) _ _ (off := ![0, 0, 0, 0]) inb_S1x1x2x512_S1x1x2x512_0_0_0_0 _ _).trans ?_
  simp only [runD.sl.r, runD.sl.r_1, runD.sl.r_2, runD.sl.r_3]
  simp (disch := decide) only [View.readAt_eq_ld, View.ld_unit_lit', View.readCov_unit_lit', View.readCov_cons_unit_lit', Memref.IsWhole.read_unread]
  rfl

set_option maxHeartbeats 1000000 in
theorem runD_own (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : ¬cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs0 : Vec F S1024x2048 .bf16) (xs1 : Vec F S11x1x2x512 .f32) (f) :
    slot i (arg12.view.read (Elt F) (arg12.view.writes (Elt F) f (runD c i arg3 harg3 arg4 harg4 arg5 harg5 arg6 harg6 arg7 harg7 arg8 harg8 arg9 harg9 arg10 harg10 arg11 harg11 arg12 harg12 hc0 hc1 x0 x1 x2 x3 x4 x5 xs0 xs1).2.2.1)) = rows xs0 x1 := by
  simp only [runD]
  funext z
  unfold slot View.ld
  refine Eq.trans (View.read_writes_cons_unit_of_mem (off' := k0_off2 i) (size := S1x1x2x512.size) arg12.view f (k0_off2_inb i) _ _ _ z rfl fun a => ?_) ?_
  · show k0_off2 i a + 1 * (z a).val = k0_off2 i a + (z a).val
    rw [Nat.one_mul]
  simp only [runD.sl.r, runD.sl.r_1, runD.sl.r_2, runD.sl.r_3]
  simp (disch := decide) only [View.readAt_eq_ld, View.ld_unit_lit', View.readCov_unit_lit', View.readCov_cons_unit_lit', Memref.IsWhole.read_unread]
  rfl

theorem runD_other (c : Dev nD) (i : grid0.Coords) (arg3 : Memref sig .tc .vmem S1x1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x1x2x512 .f32) (harg10 : arg10.IsWhole) (arg11 : Memref sig .tc .vmem S1024x2048 .bf16) (harg11 : arg11.IsWhole) (arg12 : Memref sig .tc .vmem S11x1x2x512 .f32) (harg12 : arg12.IsWhole) (hc0 : ¬cond0 i) (hc1 : ¬cond1 i)
    (x0 : Vec F S1x1024x2048 .f32) (x1 : Vec F S2048x512 .bf16) (x2 : Vec F S2048x512 .bf16) (x3 : Vec F S1x2x512 .f32) (x4 : Vec F S3x512 .f32) (x5 : Vec F S1x512 .f32) (xs0 : Vec F S1024x2048 .bf16) (xs1 : Vec F S11x1x2x512 .f32) (y : S11x1x2x512.Idx) (hy : (y 0).val ≠ k0_off2 i 0) :
    arg12.view.read (Elt F) (arg12.view.writes (Elt F) (harg12.unread xs1) (runD c i arg3 harg3 arg4 harg4 arg5 harg5 arg6 harg6 arg7 harg7 arg8 harg8 arg9 harg9 arg10 harg10 arg11 harg11 arg12 harg12 hc0 hc1 x0 x1 x2 x3 x4 x5 xs0 xs1).2.2.1) y = xs1 y := by
  simp only [runD]
  refine Eq.trans (View.read_writes_cons_unit_of_not_mem (off' := k0_off2 i) (size := S1x1x2x512.size) arg12.view _ (k0_off2_inb i) _ _ y rfl (0 : Fin 4) ?_) ?_
  · show (y 0).val < k0_off2 i 0 ∨ k0_off2 i 0 + 1 ≤ (y 0).val
    omega
  exact congrFun (harg12.read_unread xs1) y

end Cert.FfnInIdeal.Body

end
-- ==== Proof.FfnInFrame.lean ====
module

public import proofs.«01_k».proof.Proof.FfnInOuts
public import Idealize.ShloMosaic.Lib.Claim

@[expose] public section

set_option maxRecDepth 16384

noncomputable section

namespace Cert.FfnInIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnInIdeal.Gen

variable {F : FTy → Type} [FloatOps F]

local notation "𝕄" => MT nD τ sig Unit (Elt F) ℕ (UR sig nD τ) ℕ

/-! The gated convolution's pipeline point by point: the rounded rows stay in scratch over a row tile, and the slot of each of
the last eleven points holds that point's last two gate rows. -/

variable (m : (ℓ : Loc nD τ sig) → Buf (Elt F) ℓ) (ρ : Dev nD → PrngReg)

/-- The first point of a point's row tile. -/
def head (t : Fin cfg0.N) : Fin cfg0.N := ⟨t.val - t.val % 11, lt_of_le_of_lt (Nat.sub_le _ _) t.isLt⟩

/-- The row tile's rounded rows, taken at its first point. -/
def held (c : Dev nD) (t : Fin cfg0.N) : FVec F S1024x2048 .bf16 := k0_pay4 (iblk m c 0 (head t))

/-- The last two rows of a point's gate product. -/
def last (c : Dev nD) (t : Fin cfg0.N) : FVec F S1x1x2x512 .f32 := rows (held m c t) (iblk m c 1 t)

/-- The two rows before a point's tile: the carried-in state on the first row tile, else what the row tile before left. -/
def prev (c : Dev nD) (t : Fin cfg0.N) : FVec F S1x1x2x512 .f32 :=
  if t.val / 11 % 2 = 0 then k0_pay5 (iblk m c 3 t)
  else last m c ⟨t.val - 11, lt_of_le_of_lt (Nat.sub_le _ _) t.isLt⟩

/-- The gated tile of a point. -/
def tile (c : Dev nD) (t : Fin cfg0.N) : FVec F S1024x512 .bf16 :=
  gated (held m c t) (iblk m c 1 t) (iblk m c 2 t) (prev m c t) (iblk m c 4 t) (iblk m c 5 t)

theorem head_of_zero (t : Fin cfg0.N) (h : t.val % 11 = 0) : head t = t := Fin.ext (by unfold head; simp only [h]; omega)

theorem held_zero (c : Dev nD) (t : Fin cfg0.N) (h : t.val % 11 = 0) : k0_pay4 (iblk m c 0 t) = held m c t := by
  unfold held; rw [head_of_zero t h]

theorem held_succ (c : Dev nD) (s t : Fin cfg0.N) (hs : s.val + 1 = t.val) (h : t.val % 11 ≠ 0) : held m c s = held m c t := by
  unfold held
  rw [show head s = head t from Fin.ext (by unfold head; show s.val - s.val % 11 = t.val - t.val % 11; omega)]

/-- The carried scratch before a point: the slots of the last eleven points hold those points' rows. -/
def Good (c : Dev nD) (n : ℕ) (d : Vec F S11x1x2x512 .f32) : Prop :=
  ∀ s : Fin cfg0.N, s.val < n → n ≤ s.val + 11 → slot (grid0.coords s) d = last m c s

/-- A point's slot is its column tile. -/
theorem off_val (t : Fin cfg0.N) : k0_off2 (grid0.coords t) 0 = t.val % 11 := by
  have e2 : (grid0.coords t 2).val = t.val / 1 % 11 := Pipeline.Grid.coords_val t 2 (by decide) rfl
  rw [Nat.div_one] at e2
  have h : ∀ n : Fin 11, (Scalar.indexCast (BitVec.ofNat 32 n.val) : Index).toNat = n.val := by decide
  exact (h ⟨(grid0.coords t 2).val, by rw [e2]; exact Nat.mod_lt _ (by omega)⟩).trans e2

/-- Overwriting a point's slot keeps the invariant. -/
theorem good_step (c : Dev nD) (t : Fin cfg0.N) (d d' : Vec F S11x1x2x512 .f32) (h : Good m c t.val d)
    (own : slot (grid0.coords t) d' = last m c t)
    (other : ∀ y : S11x1x2x512.Idx, (y 0).val ≠ k0_off2 (grid0.coords t) 0 → d' y = d y) : Good m c (t.val + 1) d' := by
  intro s hs hn
  rcases Nat.lt_or_ge s.val t.val with hlt | hge
  · refine Eq.trans (funext fun z => ?_) (h s hlt (by omega))
    unfold slot View.ld
    refine other _ ?_
    have hz : (z 0).val = 0 := Nat.lt_one_iff.mp (z 0).isLt
    show k0_off2 (grid0.coords s) 0 + 1 * (z 0).val ≠ k0_off2 (grid0.coords t) 0
    rw [off_val, off_val, hz]
    omega
  · obtain rfl : s = t := Fin.ext (by omega)
    exact own

/-- What the region keeps between points. -/
def Phi (c : Dev nD) (n : ℕ) (_ : n ≤ cfg0.N) : sProp 𝕄 :=
  iprop(iprop((∃ a, ⌜∀ s : Fin cfg0.N, s.val + 1 = n → a = held m c s⌝ ∗ owns (c : Thread nD τ) scA fullShare a)
      ∗ (∃ d, ⌜Good m c n d⌝ ∗ owns (c : Thread nD τ) scC fullShare d)) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile m c t
    | ⟨7, _⟩ => last m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = tile m c t := by dsimp only [dats]
theorem after_7 (c : Dev nD) (t : Fin cfg0.N) : (dats m 0 c).after 7 t = last m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, after_7]
  rw [show (dats m 0 c).Φ t.succ = Phi m c (t.val + 1) t.isLt from rfl, phi_castSucc]
  have hN : t.val < 88 := lt_of_lt_of_eq t.isLt (show cfg0.N = 88 from N_0)
  have hN' : cfg0.N = 88 := N_0
  unfold Phi
  iintro ⟨⟨⟨⟨%a, %hA, HS0⟩, ⟨%d, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 11 = 0 <;> by_cases h1 : t.val / 11 % 2 = 0
  · have hp : k0_pay5 (iblk m c 3 t) = prev m c t := by unfold prev; exact (if_pos h1).symm
    iapply ((runA c (grid0.coords t) _ _ _ _ _ _ _ _ _ _ _ _ _ _ _ _ _ _ _ _ ((hcond0 t).mpr h0) ((hcond1 t).mpr h1) (iblk m c 0 t) (iblk m c 1 t) (iblk m c 2 t) (iblk m c 3 t) (iblk m c 4 t) (iblk m c 5 t) d).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexists _; iexact HS0
    isplitl [HS1]; · iexact HS1
    iintro ⟨H0, H1, H2, H3, H4, H5, ⟨%e6, H6⟩, ⟨%e7, H7⟩, ⟨%es0, HS0⟩, HS1⟩
    isplitl [HS0 HS1 Hg]
    · isplitl [HS0 HS1]
      · isplitl [HS0]
        · iexists held m c t; isplitr
          · ipureintro; intro s hs; rw [show s = t from Fin.ext (Nat.succ.inj hs)]
          unfold owns; iexists _; isplitr; swap; · iexact HS0
          ipureintro; exact (runA_rows c (grid0.coords t) _ _ _ _ _ _ _ _ _ _ _ _ _ _ _ _ _ _ _ _ ((hcond0 t).mpr h0) ((hcond1 t).mpr h1) (iblk m c 0 t) (iblk m c 1 t) (iblk m c 2 t) (iblk m c 3 t) (iblk m c 4 t) (iblk m c 5 t) d _).trans (held_zero m c t h0)
        · iexists _; isplitr
          swap
          · unfold owns; iexists _; isplitr; swap; · iexact HS1
            ipureintro; rfl
          ipureintro
          refine good_step m c t d _ hd ((runA_own c (grid0.coords t) _ _ _ _ _ _ _ _ _ _ _ _ _ _ _ _ _ _ _ _ ((hcond0 t).mpr h0) ((hcond1 t).mpr h1) (iblk m c 0 t) (iblk m c 1 t) (iblk m c 2 t) (iblk m c 3 t) (iblk m c 4 t) (iblk m c 5 t) d _).trans ?_) fun y hy => runA_other c (grid0.coords t) _ _ _ _ _ _ _ _ _ _ _ _ _ _ _ _ _ _ _ _ ((hcond0 t).mpr h0) ((hcond1 t).mpr h1) (iblk m c 0 t) (iblk m c 1 t) (iblk m c 2 t) (iblk m c 3 t) (iblk m c 4 t) (iblk m c 5 t) d y hy
          exact congrArg (fun a => rows a (iblk m c 1 t)) (held_zero m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro
      refine (runA_tile c (grid0.coords t) _ _ _ _ _ _ _ _ _ _ _ _ _ _ _ _ _ _ _ _ ((hcond0 t).mpr h0) ((hcond1 t).mpr h1) (iblk m c 0 t) (iblk m c 1 t) (iblk m c 2 t) (iblk m c 3 t) (iblk m c 4 t) (iblk m c 5 t) d _).trans ?_
      rw [hp, held_zero m c t h0]; rfl
    · unfold owns; iexists _; isplitr; swap; · iexact H7
      ipureintro
      refine (runA_last c (grid0.coords t) _ _ _ _ _ _ _ _ _ _ _ _ _ _ _ _ _ _ _ _ ((hcond0 t).mpr h0) ((hcond1 t).mpr h1) (iblk m c 0 t) (iblk m c 1 t) (iblk m c 2 t) (iblk m c 3 t) (iblk m c 4 t) (iblk m c 5 t) d _).trans ?_
      exact congrArg (fun a => rows a (iblk m c 1 t)) (held_zero m c t h0)
  · have hp : slot (grid0.coords t) d = prev m c t := by
      have hs : (grid0.coords t) 2 = (grid0.coords (⟨t.val - 11, by omega⟩ : Fin cfg0.N)) 2 := Fin.ext (by
        rw [show (grid0.coords t 2).val = t.val / 1 % 11 from Pipeline.Grid.coords_val t 2 (by decide) rfl,
          show (grid0.coords (⟨t.val - 11, by omega⟩ : Fin cfg0.N) 2).val = (t.val - 11) / 1 % 11 from Pipeline.Grid.coords_val _ 2 (by decide) rfl]
        omega)
      refine Eq.trans ?_ ((hd ⟨t.val - 11, by omega⟩ (by show t.val - 11 < t.val; omega) (by show t.val ≤ t.val - 11 + 11; omega)).trans ?_)
      · refine funext fun z => ?_
        unfold slot View.ld
        refine congrArg d (funext fun a => Fin.ext ?_)
        show k0_off2 (grid0.coords t) a + 1 * (z a).val = k0_off2 (grid0.coords (⟨t.val - 11, by omega⟩ : Fin cfg0.N)) a + 1 * (z a).val
        rw [show k0_off2 (grid0.coords t) = k0_off2 (grid0.coords (⟨t.val - 11, by omega⟩ : Fin cfg0.N)) from by unfold k0_off2; rw [hs]]
      · unfold prev; exact (if_neg h1).symm
    iapply ((runC c (grid0.coords t) _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) d).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexists _; iexact HS0
    isplitl [HS1]; · iexact HS1
    iintro ⟨H0, H1, H2, H3, H4, H5, ⟨%e6, H6⟩, ⟨%e7, H7⟩, ⟨%es0, HS0⟩, HS1⟩
    isplitl [HS0 HS1 Hg]
    · isplitl [HS0 HS1]
      · isplitl [HS0]
        · iexists held m c t; isplitr
          · ipureintro; intro s hs; rw [show s = t from Fin.ext (Nat.succ.inj hs)]
          unfold owns; iexists _; isplitr; swap; · iexact HS0
          ipureintro; exact (runC_rows c (grid0.coords t) _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) d _).trans (held_zero m c t h0)
        · iexists _; isplitr
          swap
          · unfold owns; iexists _; isplitr; swap; · iexact HS1
            ipureintro; rfl
          ipureintro
          refine good_step m c t d _ hd ((runC_own c (grid0.coords t) _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) d _).trans ?_) fun y hy => runC_other c (grid0.coords t) _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) d y hy
          exact congrArg (fun a => rows a (iblk m c 1 t)) (held_zero m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro
      refine (runC_tile c (grid0.coords t) _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) d _).trans ?_
      rw [hp, held_zero m c t h0]; rfl
    · unfold owns; iexists _; isplitr; swap; · iexact H7
      ipureintro
      refine (runC_last c (grid0.coords t) _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) d _).trans ?_
      exact congrArg (fun a => rows a (iblk m c 1 t)) (held_zero m c t h0)
  · have ha : a = held m c t := by
      have hz : t.val ≠ 0 := fun h => h0 (by rw [h])
      exact (hA ⟨t.val - 1, by omega⟩ (Nat.succ_pred_eq_of_ne_zero hz)).trans (held_succ m c _ t (Nat.succ_pred_eq_of_ne_zero hz) h0)
    have hp : k0_pay5 (iblk m c 3 t) = prev m c t := by unfold prev; exact (if_pos h1).symm
    iapply ((runB c (grid0.coords t) _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) a d).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, ⟨%e6, H6⟩, ⟨%e7, H7⟩, HS0, HS1⟩
    isplitl [HS0 HS1 Hg]
    · isplitl [HS0 HS1]
      · isplitl [HS0]
        · iexists held m c t; isplitr
          · ipureintro; intro s hs; rw [show s = t from Fin.ext (Nat.succ.inj hs)]
          rw [← ha]; iexact HS0
        · iexists _; isplitr
          swap
          · unfold owns; iexists _; isplitr; swap; · iexact HS1
            ipureintro; rfl
          ipureintro
          refine good_step m c t d _ hd ((runB_own c (grid0.coords t) _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) a d _).trans ?_) fun y hy => runB_other c (grid0.coords t) _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) a d y hy
          exact congrArg (fun a => rows a (iblk m c 1 t)) (ha)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro
      refine (runB_tile c (grid0.coords t) _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) a d _).trans ?_
      rw [hp, ha]; rfl
    · unfold owns; iexists _; isplitr; swap; · iexact H7
      ipureintro
      refine (runB_last c (grid0.coords t) _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) a d _).trans ?_
      exact congrArg (fun a => rows a (iblk m c 1 t)) (ha)
  · have ha : a = held m c t := by
      have hz : t.val ≠ 0 := fun h => h0 (by rw [h])
      exact (hA ⟨t.val - 1, by omega⟩ (Nat.succ_pred_eq_of_ne_zero hz)).trans (held_succ m c _ t (Nat.succ_pred_eq_of_ne_zero hz) h0)
    have hp : slot (grid0.coords t) d = prev m c t := by
      have hs : (grid0.coords t) 2 = (grid0.coords (⟨t.val - 11, by omega⟩ : Fin cfg0.N)) 2 := Fin.ext (by
        rw [show (grid0.coords t 2).val = t.val / 1 % 11 from Pipeline.Grid.coords_val t 2 (by decide) rfl,
          show (grid0.coords (⟨t.val - 11, by omega⟩ : Fin cfg0.N) 2).val = (t.val - 11) / 1 % 11 from Pipeline.Grid.coords_val _ 2 (by decide) rfl]
        omega)
      refine Eq.trans ?_ ((hd ⟨t.val - 11, by omega⟩ (by show t.val - 11 < t.val; omega) (by show t.val ≤ t.val - 11 + 11; omega)).trans ?_)
      · refine funext fun z => ?_
        unfold slot View.ld
        refine congrArg d (funext fun a => Fin.ext ?_)
        show k0_off2 (grid0.coords t) a + 1 * (z a).val = k0_off2 (grid0.coords (⟨t.val - 11, by omega⟩ : Fin cfg0.N)) a + 1 * (z a).val
        rw [show k0_off2 (grid0.coords t) = k0_off2 (grid0.coords (⟨t.val - 11, by omega⟩ : Fin cfg0.N)) from by unfold k0_off2; rw [hs]]
      · unfold prev; exact (if_neg h1).symm
    iapply ((runD c (grid0.coords t) _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) a d).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, ⟨%e6, H6⟩, ⟨%e7, H7⟩, HS0, HS1⟩
    isplitl [HS0 HS1 Hg]
    · isplitl [HS0 HS1]
      · isplitl [HS0]
        · iexists held m c t; isplitr
          · ipureintro; intro s hs; rw [show s = t from Fin.ext (Nat.succ.inj hs)]
          rw [← ha]; iexact HS0
        · iexists _; isplitr
          swap
          · unfold owns; iexists _; isplitr; swap; · iexact HS1
            ipureintro; rfl
          ipureintro
          refine good_step m c t d _ hd ((runD_own c (grid0.coords t) _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) a d _).trans ?_) fun y hy => runD_other c (grid0.coords t) _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) a d y hy
          exact congrArg (fun a => rows a (iblk m c 1 t)) (ha)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro
      refine (runD_tile c (grid0.coords t) _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) a d _).trans ?_
      rw [hp, ha]; rfl
    · unfold owns; iexists _; isplitr; swap; · iexact H7
      ipureintro
      refine (runD_last c (grid0.coords t) _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) a d _).trans ?_
      exact congrArg (fun a => rows a (iblk m c 1 t)) (ha)

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point: nothing has been stored yet. -/
theorem hin (c : Dev nD) : Pipeline.ΦA spec0 c ⊢ (dats m 0 c).Φ 0 := by
  rw [show (dats m 0 c).Φ 0 = Phi m c 0 (Nat.zero_le _) from rfl, phi_eq]
  unfold Phi
  iintro ⟨⟨⟨%a, HS0⟩, ⟨%d, HS1⟩⟩, Hg⟩
  isplitl [HS0 HS1]
  · isplitl [HS0]
    · iexists a; isplitr
      · ipureintro; intro s hs; exact absurd hs (Nat.succ_ne_zero _)
      iexact HS0
    iexists d; isplitr
    · ipureintro; intro s hs; exact absurd hs (Nat.not_lt_zero _)
    iexact HS1
  iexact Hg

/-- After the last point the scratch is given back at some contents. -/
theorem hout (c : Dev nD) : (dats m 0 c).Φ (Fin.last cfg0.N) ⊢ Pipeline.ΦA spec0 c := by
  rw [show (dats m 0 c).Φ (Fin.last cfg0.N) = Phi m c cfg0.N le_rfl from rfl, phi_eq]
  unfold Phi
  iintro ⟨⟨⟨%a, -, HS0⟩, ⟨%d, -, HS1⟩⟩, Hg⟩
  isplitl [HS0 HS1]
  · isplitl [HS0]
    · iexists _; iexact HS0
    iexists _; iexact HS1
  iexact Hg

set_option backward.isDefEq.respectTransparency.types false in
set_option maxHeartbeats 800000 in
/-- The launch, with the counters at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnInIdeal.Body

end
-- ==== Proof.FfnInValue.lean ====
/-
  The VALUE of the feed-forward's first product with its causal convolution and gate. A grid point multiplies 1024 token rows
  by 512 gate and 512 value columns; the two rows before its tile are the carried-in ones on a batch's first row tile, else
  the last two of the point eleven before (`prev_at`). So each tap meets the reference's padded row, and both result arrays
  after the run are the reference's (`final_h`, `final_c`).
-/
module

public import proofs.«01_k».proof.Proof.FfnInTile
public import proofs.«01_k».proof.Proof.FfnInPlain
public import proofs.«01_k».proof.Proof.FfnInFrame

@[expose] public section

set_option maxRecDepth 16384

noncomputable section

open Idealize.ShloMosaic Idealize.ShloMosaic.TcCoe Idealize.SL.Sem
open Idealize.ShloMosaic.Pipeline (Dat)

namespace Cert.FfnInIdeal.Bridge

open Cert.FfnInIdeal Cert.FfnInIdeal.Gen Cert.FfnInIdeal.Body
open Cert.FfnInRefIdeal.Plain

variable (m : (ℓ : Loc nD τ sig) → Buf (Elt Ideal) ℓ)

/-- The arguments, as the reference takes them. -/
abbrev aX (c : Dev nD) : FVec Ideal Cert.FfnInRefIdeal.S4x2048x2048 .f32 := m ((c : Thread nD τ).loc main_arg0)
abbrev aW (c : Dev nD) : FVec Ideal Cert.FfnInRefIdeal.S2048x11264 .f32 := m ((c : Thread nD τ).loc main_arg1)
abbrev aS (c : Dev nD) : FVec Ideal Cert.FfnInRefIdeal.S4x2x5632 .f32 := m ((c : Thread nD τ).loc main_arg2)
abbrev aC (c : Dev nD) : FVec Ideal Cert.FfnInRefIdeal.S3x5632 .f32 := m ((c : Thread nD τ).loc main_arg3)
abbrev aB (c : Dev nD) : FVec Ideal Cert.FfnInRefIdeal.S5632 .f32 := m ((c : Thread nD τ).loc main_arg4)

/-- Where each window's block lies at each grid point. -/
theorem idx : ∀ t : Fin cfg0.N, win0_0.index t = ![t.val / 22, t.val / 11 % 2, 0] ∧ win0_1.index t = ![0, t.val % 11] ∧ win0_2.index t = ![0, t.val % 11]
    ∧ win0_3.index t = ![t.val / 22, 0, t.val % 11] ∧ win0_4.index t = ![0, t.val % 11] ∧ win0_5.index t = ![0, t.val % 11]
    ∧ win0_6.index t = ![t.val / 11, t.val % 11] ∧ win0_7.index t = ![t.val / 11 % 2, t.val / 22, 0, t.val % 11] :=
  (by decide +kernel : ∀ t : Fin grid0.N, _)

/-- The gate columns the host hands over. -/
theorem V_gate (c : Dev nD) : V m c main_v1 = (truncf .bf16 (extractStridedSlice S2048x5632 ![0, 0] (aW m c) slices_S2048x11264_S2048x5632_0_0) bitsLt_bf16_f32 : FVec Ideal S2048x5632 .bf16) := by
  unfold V V0
  simp only [hostOps0, List.flatten_cons, List.flatten_nil, List.cons_append, List.nil_append]
  after_results

/-- The value columns the host hands over. -/
theorem V_val (c : Dev nD) : V m c main_v3 = (truncf .bf16 (extractStridedSlice S2048x5632 ![0, 5632] (aW m c) slices_S2048x11264_S2048x5632_0_5632) bitsLt_bf16_f32 : FVec Ideal S2048x5632 .bf16) := by
  unfold V V0
  simp only [hostOps0, List.flatten_cons, List.flatten_nil, List.cons_append, List.nil_append]
  after_results

/-- The bias row the host hands over. -/
theorem V_bias (c : Dev nD) : V m c main_v4 = (broadcastInDim S1x5632 ![1] bcast_S5632_S1x5632_1 (aB m c) : FVec Ideal S1x5632 .f32) := by
  unfold V V0
  simp only [hostOps0, List.flatten_cons, List.flatten_nil, List.cons_append, List.nil_append]
  after_results

/-- A point's gate columns. -/
theorem gate_cols (c : Dev nD) (t : Fin cfg0.N) (k : Fin 2048) (q : Fin 512) (f : Fin 5632) (hf : t.val % 11 * 512 + q.val = f.val) :
    iblk m c 1 t (ix2 k q) = aW m c (ix2 k (⟨f.val, by omega⟩ : Fin 11264)) := by
  refine Eq.trans (b := V m c main_v1 (((cfg0.win 1).blk t).view.emb (ix2 k q))) rfl ?_
  rw [V_gate]
  pointwise
  blk_point [idx t]

/-- A point's value columns. -/
theorem val_cols (c : Dev nD) (t : Fin cfg0.N) (k : Fin 2048) (q : Fin 512) (f : Fin 5632) (hf : t.val % 11 * 512 + q.val = f.val) :
    iblk m c 2 t (ix2 k q) = aW m c (ix2 k (⟨5632 + f.val, by omega⟩ : Fin 11264)) := by
  refine Eq.trans (b := V m c main_v3 (((cfg0.win 2).blk t).view.emb (ix2 k q))) rfl ?_
  rw [V_val]
  pointwise
  blk_point [idx t]

/-- A point's bias. -/
theorem bias_at (c : Dev nD) (t : Fin cfg0.N) (q : Fin 512) (f : Fin 5632) (hf : t.val % 11 * 512 + q.val = f.val) :
    iblk m c 5 t (ix2 0 q) = aB m c (ix1 f) := by
  refine Eq.trans (b := V m c main_v4 (((cfg0.win 5).blk t).view.emb (ix2 0 q))) rfl ?_
  rw [V_bias]
  pointwise
  blk_point [idx t]

/-- A point's taps. -/
theorem taps_cols (c : Dev nD) (t : Fin cfg0.N) (k : Fin 3) (q : Fin 512) (f : Fin 5632) (hf : t.val % 11 * 512 + q.val = f.val) :
    iblk m c 4 t (ix2 k q) = aC m c (ix2 k f) := by
  blk_point [iblk, V, idx t]

/-- A point's carried-in rows. -/
theorem state_at (c : Dev nD) (t : Fin cfg0.N) (e : Fin 2) (q : Fin 512) (a : Fin 4) (f : Fin 5632) (ha : t.val / 22 = a.val) (hf : t.val % 11 * 512 + q.val = f.val) :
    iblk m c 3 t (ix3 0 e q) = aS m c (ix3 a e f) := by
  blk_point [iblk, V, idx t]

/-- A point's token rows. -/
theorem held_at (c : Dev nD) (t : Fin cfg0.N) (p : Fin 1024) (k : Fin 2048) (a : Fin 4) (r : Fin 2048)
    (ha : t.val / 22 = a.val) (hr : t.val / 11 % 2 * 1024 + p.val = r.val) : held m c t (ix2 p k) = aX m c (ix3 a r k) := by
  have h1 : (head t).val / 22 = a.val := by unfold head; dsimp only; omega
  have h2 : (head t).val / 11 % 2 * 1024 + p.val = r.val := by unfold head; dsimp only; omega
  pointwise [held, k0_pay4]
  blk_point [iblk, V, idx (head t)]
  all_goals first | exact (Nat.add_zero _).trans h1 | exact h2

theorem pay6_at (x : FVec Ideal S1024x2048 .bf16) (w : FVec Ideal S2048x512 .bf16) (X : FVec Ideal Cert.FfnInRefIdeal.S4x2048x2048 .f32) (W : FVec Ideal Cert.FfnInRefIdeal.S2048x11264 .f32)
    (p : Fin 1024) (q : Fin 512) (a : Fin 4) (r : Fin 2048) (f : Fin 11264) (hx : ∀ k : Fin 2048, x (ix2 p k) = X (ix3 a r k)) (hw : ∀ k : Fin 2048, w (ix2 k q) = W (ix2 k f)) :
    k0_pay6 x w (ix2 p q) = prod X W (ix3 a r f) := by
  pointwise [k0_pay6, prod]
  simp only [hx, hw]

theorem pay7_at (x : FVec Ideal S1024x2048 .bf16) (w : FVec Ideal S2048x512 .bf16) (X : FVec Ideal Cert.FfnInRefIdeal.S4x2048x2048 .f32) (W : FVec Ideal Cert.FfnInRefIdeal.S2048x11264 .f32)
    (p : Fin 1024) (q : Fin 512) (a : Fin 4) (r : Fin 2048) (f : Fin 11264) (hx : ∀ k : Fin 2048, x (ix2 p k) = X (ix3 a r k)) (hw : ∀ k : Fin 2048, w (ix2 k q) = W (ix2 k f)) :
    k0_pay7 x w (ix2 p q) = prod X W (ix3 a r f) :=
  pay6_at x w X W p q a r f hx hw

/-- A gate product of a point is the reference's padded row two further on. -/
theorem gate_prod (c : Dev nD) (t : Fin cfg0.N) (p : Fin 1024) (q : Fin 512) (a : Fin 4) (s : Fin 2050) (f : Fin 5632)
    (ha : t.val / 22 = a.val) (hs : t.val / 11 % 2 * 1024 + p.val + 2 = s.val) (hf : t.val % 11 * 512 + q.val = f.val) :
    k0_pay6 (held m c t) (iblk m c 1 t) (ix2 p q) = padded (prod (aX m c) (aW m c)) (aS m c) (ix3 a s f) := by
  rw [padded_new _ _ a s ⟨s.val - 2, by omega⟩ f (by dsimp only; omega)]
  exact pay6_at _ _ _ _ p q a _ _ (fun k => held_at m c t p k a _ ha (by dsimp only; omega)) (fun k => gate_cols m c t k q f hf)

/-- A value product of a point. -/
theorem val_prod (c : Dev nD) (t : Fin cfg0.N) (p : Fin 1024) (q : Fin 512) (a : Fin 4) (r : Fin 2048) (f : Fin 5632)
    (ha : t.val / 22 = a.val) (hr : t.val / 11 % 2 * 1024 + p.val = r.val) (hf : t.val % 11 * 512 + q.val = f.val) :
    k0_pay7 (held m c t) (iblk m c 2 t) (ix2 p q) = prod (aX m c) (aW m c) (ix3 a r (⟨5632 + f.val, by omega⟩ : Fin 11264)) :=
  pay7_at _ _ _ _ p q a _ _ (fun k => held_at m c t p k a _ ha hr) (fun k => val_cols m c t k q f hf)

theorem rows_at (x : FVec Ideal S1024x2048 .bf16) (w : FVec Ideal S2048x512 .bf16) (e : Fin 2) (q : Fin 512) :
    rows (F := Ideal) x w (ix4 0 0 e q) = k0_pay6 (F := Ideal) x w (ix2 (⟨1022 + e.val, by omega⟩ : Fin 1024) q) := by
  unfold rows
  generalize k0_pay6 (F := Ideal) x w = g
  pointwise [k0_pay2, k0_pay1]

/-- The last two rows of a point's gate product. -/
theorem last_at (c : Dev nD) (t : Fin cfg0.N) (e : Fin 2) (q : Fin 512) (a : Fin 4) (s : Fin 2050) (f : Fin 5632)
    (ha : t.val / 22 = a.val) (hs : t.val / 11 % 2 * 1024 + 1024 + e.val = s.val) (hf : t.val % 11 * 512 + q.val = f.val) :
    last m c t (ix4 0 0 e q) = padded (prod (aX m c) (aW m c)) (aS m c) (ix3 a s f) := by
  unfold last
  rw [rows_at]
  exact gate_prod m c t _ q a s f ha (by dsimp only; omega) hf

theorem pay5_at (v : FVec Ideal S1x2x512 .f32) (e : Fin 2) (q : Fin 512) : k0_pay5 v (ix4 0 0 e q) = v (ix3 0 e q) := by
  pointwise [k0_pay5]

/-- The two rows before a point's tile are the reference's padded rows there. -/
theorem prev_at (c : Dev nD) (t : Fin cfg0.N) (e : Fin 2) (q : Fin 512) (a : Fin 4) (s : Fin 2050) (f : Fin 5632)
    (ha : t.val / 22 = a.val) (hs : t.val / 11 % 2 * 1024 + e.val = s.val) (hf : t.val % 11 * 512 + q.val = f.val) :
    prev m c t (ix4 0 0 e q) = padded (prod (aX m c) (aW m c)) (aS m c) (ix3 a s f) := by
  unfold prev
  split
  · rename_i h
    rw [pay5_at, padded_old _ _ a s e f (by omega)]
    exact state_at m c t e q a f ha hf
  · rename_i h
    exact last_at m c _ e q a s f (by dsimp only; omega) (by dsimp only; omega) (by dsimp only; omega)

theorem pay9_at (v : FVec Ideal S1x1x2x512 .f32) (p : Fin 1024) (q : Fin 512) : k0_pay9 v (ix2 p q) = v (ix4 0 0 0 q) := by
  pointwise [k0_pay9, k0_pay8]

theorem pay10_at (v : FVec Ideal S1x1x2x512 .f32) (p : Fin 1024) (q : Fin 512) : k0_pay10 v (ix2 p q) = v (ix4 0 0 1 q) := by
  pointwise [k0_pay10, k0_pay8]

/-- One row back from a tile's row is the reference's padded row one further on. -/
theorem one_at (c : Dev nD) (t : Fin cfg0.N) (p : Fin 1024) (q : Fin 512) (a : Fin 4) (s : Fin 2050) (f : Fin 5632)
    (ha : t.val / 22 = a.val) (hs : t.val / 11 % 2 * 1024 + p.val + 1 = s.val) (hf : t.val % 11 * 512 + q.val = f.val) :
    oneBack (k0_pay6 (held m c t) (iblk m c 1 t)) (k0_pay10 (prev m c t)) (ix2 p q) = padded (prod (aX m c) (aW m c)) (aS m c) (ix3 a s f) := by
  rcases Nat.eq_zero_or_pos p.val with h0 | h0
  · obtain rfl : p = 0 := Fin.ext h0
    rw [oneBack_zero, pay10_at]
    exact prev_at m c t 1 q a s f ha (by show _ + 1 = _; simpa using hs) hf
  · rw [oneBack_succ _ _ p ⟨p.val - 1, by omega⟩ q (by dsimp only; omega)]
    exact gate_prod m c t _ q a s f ha (by dsimp only; omega) hf

/-- Two rows back from a tile's row is the reference's padded row. -/
theorem two_at (c : Dev nD) (t : Fin cfg0.N) (p : Fin 1024) (q : Fin 512) (a : Fin 4) (s : Fin 2050) (f : Fin 5632)
    (ha : t.val / 22 = a.val) (hs : t.val / 11 % 2 * 1024 + p.val = s.val) (hf : t.val % 11 * 512 + q.val = f.val) :
    twoBack (k0_pay6 (held m c t) (iblk m c 1 t)) (k0_pay9 (prev m c t)) (k0_pay10 (prev m c t)) (ix2 p q) = padded (prod (aX m c) (aW m c)) (aS m c) (ix3 a s f) := by
  rcases Nat.lt_or_ge p.val 2 with h0 | h0
  · rcases Nat.eq_zero_or_pos p.val with h1 | h1
    · obtain rfl : p = 0 := Fin.ext h1
      rw [twoBack_zero, pay9_at]
      exact prev_at m c t 0 q a s f ha (by simpa using hs) hf
    · obtain rfl : p = 1 := Fin.ext (by show p.val = 1; omega)
      rw [twoBack_one, pay10_at]
      exact prev_at m c t 1 q a s f ha (by simpa using hs) hf
  · rw [twoBack_succ _ _ _ p ⟨p.val - 2, by omega⟩ q (by dsimp only; omega)]
    exact gate_prod m c t _ q a s f ha (by dsimp only; omega) hf

/-- What a point stores in the gated array is the reference at that place. -/
theorem point_h (c : Dev nD) (t : Fin cfg0.N) (y : S1024x512.Idx) :
    tile m c t y = REF_h (aX m c) (aW m c) (aS m c) (aC m c) (aB m c) (((cfg0.win 6).blk t).view.emb y) := by
  have ht : t.val < 88 := lt_of_lt_of_eq t.isLt N_0
  obtain ⟨p, q, rfl⟩ : ∃ (p : Fin 1024) (q : Fin 512), y = ix2 p q := ⟨y 0, y 1, by blk_ext⟩
  have hf : t.val % 11 * 512 + q.val = (⟨t.val % 11 * 512 + q.val, by omega⟩ : Fin 5632).val := rfl
  have ha : t.val / 22 = (⟨t.val / 22, by omega⟩ : Fin 4).val := rfl
  have hr : t.val / 11 % 2 * 1024 + p.val = (⟨t.val / 11 % 2 * 1024 + p.val, by omega⟩ : Fin 2048).val := rfl
  generalize (⟨t.val % 11 * 512 + q.val, by omega⟩ : Fin 5632) = f at hf
  generalize (⟨t.val / 22, by omega⟩ : Fin 4) = a at ha
  generalize (⟨t.val / 11 % 2 * 1024 + p.val, by omega⟩ : Fin 2048) = r at hr
  rw [REF_h_at _ _ _ _ _ _ a r f (by blk_simp [idx t]; omega) (by blk_simp [idx t]; exact hf)]
  have hC : conv (twoBack (k0_pay6 (held m c t) (iblk m c 1 t)) (k0_pay9 (prev m c t)) (k0_pay10 (prev m c t)))
      (oneBack (k0_pay6 (held m c t) (iblk m c 1 t)) (k0_pay10 (prev m c t))) (k0_pay6 (held m c t) (iblk m c 1 t)) (iblk m c 4 t) (iblk m c 5 t) (ix2 p q)
      = taps (padded (prod (aX m c) (aW m c)) (aS m c)) (aC m c) (aB m c) (ix3 a r f) := by
    rw [conv_at, taps_at, bias_at m c t q f hf, taps_cols m c t 0 q f hf, taps_cols m c t 1 q f hf, taps_cols m c t 2 q f hf,
      two_at m c t p q a ⟨r.val, by omega⟩ f ha hr hf, one_at m c t p q a ⟨1 + r.val, by omega⟩ f ha (by dsimp only; omega) hf,
      gate_prod m c t p q a ⟨2 + r.val, by omega⟩ f ha (by dsimp only; omega) hf]
    rw [add_assoc, add_assoc, ← add_assoc (aC m c (ix2 0 f) * _), mul_comm (aC m c (ix2 0 f)), mul_comm (aC m c (ix2 1 f)), mul_comm (aC m c (ix2 2 f))]
  unfold tile gated
  rw [pay14_eq, gate_at, gated3_at, hC, val_prod m c t p q a r f ha hr hf]

/-- The gated array after the run is the reference's. -/
theorem final_h (c : Dev nD) : (dats m 0 c).arrAt 6 (cfgs 0).N = REF_h (aX m c) (aW m c) (aS m c) (aC m c) (aB m c) := by
  refine (dats m 0 c).arrAt_eq_of_covers 6 _ (by decide +kernel) fun t _ y => ?_
  blk_simp
  rw [after_6]
  exact point_h m c t y

/-- Every tile's last two rows, by row tile and batch. -/
def ends (X : FVec Ideal Cert.FfnInRefIdeal.S4x2048x2048 .f32) (W : FVec Ideal Cert.FfnInRefIdeal.S2048x11264 .f32) (c0 : FVec Ideal Cert.FfnInRefIdeal.S4x2x5632 .f32) : FVec Ideal S2x4x2x5632 .f32 :=
  fun i => padded (prod X W) c0 (ix3 (i 1) (⟨(i 0).val * 1024 + 1024 + (i 2).val, by
    have h0 : (i 0).val < 2 := (i 0).isLt
    have h2 : (i 2).val < 2 := (i 2).isLt
    omega⟩ : Fin 2050) (i 3))

/-- What a point stores in the state array. -/
theorem point_c (c : Dev nD) (t : Fin cfg0.N) (y : S1x1x2x512.Idx) :
    last m c t y = ends (aX m c) (aW m c) (aS m c) (((cfg0.win 7).blk t).view.emb y) := by
  have ht : t.val < 88 := lt_of_lt_of_eq t.isLt N_0
  obtain ⟨e, q, rfl⟩ : ∃ (e : Fin 2) (q : Fin 512), y = ix4 0 0 e q := ⟨y 2, y 3, by blk_ext⟩
  unfold ends
  refine (last_at m c t e q ⟨t.val / 22, by omega⟩ ⟨t.val / 11 % 2 * 1024 + 1024 + e.val, by omega⟩ ⟨t.val % 11 * 512 + q.val, by omega⟩ rfl rfl rfl).trans ?_
  refine congrArg _ ?_
  blk_ext [idx t]

/-- The state array after the run. -/
theorem final_ends (c : Dev nD) : (dats m 0 c).arrAt 7 (cfgs 0).N = ends (aX m c) (aW m c) (aS m c) := by
  refine (dats m 0 c).arrAt_eq_of_covers 7 _ (by decide +kernel) fun t _ y => ?_
  blk_simp
  rw [after_7]
  exact point_c m c t y

/-- The last row tile's slice of the state array is the reference's new state. -/
theorem ends_last (X : FVec Ideal Cert.FfnInRefIdeal.S4x2048x2048 .f32) (W : FVec Ideal Cert.FfnInRefIdeal.S2048x11264 .f32) (c0 : FVec Ideal Cert.FfnInRefIdeal.S4x2x5632 .f32) :
    (shapeCast S4x2x5632 (extractStridedSlice S1x4x2x5632 ![1, 0, 0, 0] (ends X W c0) slices_S2x4x2x5632_S1x4x2x5632_1_0_0_0) shapeCasts_S1x4x2x5632_S4x2x5632 : FVec Ideal S4x2x5632 .f32)
      = REF_c X W c0 := by
  funext y
  obtain ⟨a, e, f, rfl⟩ : ∃ (a : Fin 4) (e : Fin 2) (f : Fin 5632), y = ix3 a e f := ⟨y 0, y 1, y 2, by blk_ext⟩
  unfold REF_c ends
  generalize padded (prod X W) c0 = H
  pointwise
  blk_ext

end Cert.FfnInIdeal.Bridge

end
-- ==== Proof.FfnInClaim.lean ====
/-
  The claims about `FfnIn`: the two kernel programs (one text at two readings of a float) and the reference run clean, and kernel and reference end with the same two arrays.
-/
module

public import proofs.«01_k».proof.Defs
public import proofs.«01_k».proof.Proof.FfnInValue
public import proofs.«01_k».proof.Proof.Gen.FfnIn
public import Idealize.ShloMosaic.Lib.Claim

@[expose] public section

set_option maxRecDepth 16384

noncomputable section

open Idealize.ShloMosaic Idealize.ShloMosaic.TcCoe Idealize.SL.Sem

namespace Cert.FfnInClaim

open Cert.FfnInIdeal Cert.FfnInIdeal.Gen Cert.FfnInIdeal.Body Cert.FfnInIdeal.Bridge

/-- The two programs' kernel bodies are one text. -/
theorem bodies : (Cert.FfnIn.defs₀ (F := Bits)) = Cert.FfnInIdeal.defs₀ (F := Bits) := by
  unfold Cert.FfnIn.defs₀ Cert.FfnInIdeal.defs₀
  refine congrArg Defs.onTc (funext fun l => ?_)
  match l with
  | ⟨0, _⟩ => exact funext fun a => rfl

/-- So are their body tables. -/
theorem tables : (Cert.FfnIn.defs (F := Bits)) = Cert.FfnInIdeal.defs (F := Bits) := by
  unfold Cert.FfnIn.defs
  rw [bodies]; rfl

/-- The kernel over machine floats runs and leaves its arguments and every counter as they were. -/
theorem kernel_frame : Cert.quiescent_FfnIn := fun m ρ _ => by
  rw [tables]
  exact Cert.FfnInIdeal.Body.frame (F := Bits) m ρ

/-- So does the idealized kernel. -/
theorem ideal_frame : Cert.quiescent_FfnInIdeal := fun m ρ _ => Cert.FfnInIdeal.Body.frame m ρ

/-- The reference runs and leaves its arguments and every counter as they were. -/
theorem ref_frame : Cert.quiescent_FfnInRefIdeal := fun m ρ _ =>
  (θ_run Cert.FfnInRefIdeal.defs _ _).mono (fun r h => ⟨fun c => (h c).2.2, sem_eq_zero_of_no_sems (by decide) r.2⟩)
    (Cert.FfnInRefIdeal.Value.run m ρ)

/-- The new state the host slices off the state array. -/
theorem state (m : (ℓ : Loc nD τ sig) → Buf (Elt Ideal) ℓ) (c : Dev nD) :
    Pipeline.afterTail₀ cfgs (dats m) 0 (V0 m) [hostOps1] c main_v7 = Cert.FfnInRefIdeal.Plain.REF_c (aX m c) (aW m c) (aS m c) := by
  refine Eq.trans ?_ (ends_last (aX m c) (aW m c) (aS m c))
  rw [← final_ends m c]
  unfold Pipeline.afterTail₀
  simp only [hostOps1, List.flatten_cons, List.flatten_nil, List.append_nil, List.cons_append, List.nil_append]
  after_results
  refine Eq.trans (b := (shapeCast S4x2x5632 (extractStridedSlice S1x4x2x5632 ![1, 0, 0, 0]
    (Pipeline.withArrays (cfgs 0).spec c (V0 m c) (fun w => (dats m 0 c).arrAt w (cfgs 0).N) (Proc.tc.devRef main_v5_1))
    slices_S2x4x2x5632_S1x4x2x5632_1_0_0_0) shapeCasts_S1x4x2x5632_S4x2x5632 : FVec Ideal S4x2x5632 .f32)) rfl ?_
  refine congrArg (fun x : FVec Ideal S2x4x2x5632 .f32 => shapeCast S4x2x5632 (extractStridedSlice S1x4x2x5632 ![1, 0, 0, 0] x
    slices_S2x4x2x5632_S1x4x2x5632_1_0_0_0) shapeCasts_S1x4x2x5632_S4x2x5632) ?_
  exact Pipeline.withArrays_arr (cfgs 0).spec (by decide) c (V0 m c) (fun w => (dats m 0 c).arrAt w (cfgs 0).N) 7

/-- Kernel and reference end with equal results over the extended reals. -/
theorem algebraic : Cert.algebraic_FfnInIdeal_FfnInRefIdeal := by
  pair_intro
  · run_from Cert.FfnInIdeal.Body.run_main m g
    · exact W_main_arg1 m (dats m) c
    · exact W_main_arg4 m (dats m) c
  · run_from Cert.FfnInRefIdeal.Value.run m' g'
    · unfold Cert.FfnInRefIdeal.Value.res_main_v32
      obtain ⟨h0, h1, h2, h3, h4⟩ := hagree c
      rw [h0, h1, h2, h3, h4]
      exact (final_h m c).symm
    · exact (state m c).symm

end Cert.FfnInClaim

end
-- ==== Proof.LayerNorm.lean ====
/-
  LAYER NORMALISATION, once for every kernel that ends in it. The reference normalises each row of a f32[4,2048,2048]
  array; the kernels normalise the rows of a block of 256 or 512 tokens. Here: if a block's row is a row of the array,
  then the block's normalised row is the array's.
-/
module

public import proofs.«01_k».proof.Proof.Gen.FfnDownIdeal
public import proofs.«01_k».proof.Proof.Gen.FfnDownRefIdeal
public import proofs.«01_k».proof.Proof.Gen.WoIdeal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.LayerNorm

/-! ## The reference's normalisation -/

/-- The row mean the reference takes, kept as a column. -/
def mean (v : FVec Ideal Cert.FfnDownRefIdeal.S4x2048x2048 .f32) : FVec Ideal Cert.FfnDownRefIdeal.S4x2048x1 .f32 :=
  Host.divf (broadcastInDim Cert.FfnDownRefIdeal.S4x2048x1 ![0, 1] Cert.FfnDownRefIdeal.Gen.bcast_S4x2048_S4x2048x1_0_1
      (Host.reduceAdd v (constant Cert.FfnDownRefIdeal.S_ .f32 0x00000000#32) Cert.FfnDownRefIdeal.Gen.reducesTo_S4x2048x2048_S4x2048_d2 Cert.FfnDownRefIdeal.Gen.h_S_))
    (broadcastInDim Cert.FfnDownRefIdeal.S4x2048x1 ![] Cert.FfnDownRefIdeal.Gen.bcast_S_S4x2048x1 (constant Cert.FfnDownRefIdeal.S_ .f32 0x45000000#32))

/-- The rows less their means. -/
def centred (v : FVec Ideal Cert.FfnDownRefIdeal.S4x2048x2048 .f32) : FVec Ideal Cert.FfnDownRefIdeal.S4x2048x2048 .f32 :=
  subf v (broadcastInDim Cert.FfnDownRefIdeal.S4x2048x2048 ![0, 1, 2] Cert.FfnDownRefIdeal.Gen.bcast_S4x2048x1_S4x2048x2048_0_1_2 (mean v))

/-- A gain or bias vector repeated over all rows. -/
def rows (g : FVec Ideal Cert.FfnDownRefIdeal.S2048 .f32) : FVec Ideal Cert.FfnDownRefIdeal.S4x2048x2048 .f32 :=
  broadcastInDim Cert.FfnDownRefIdeal.S4x2048x2048 ![0, 1, 2] Cert.FfnDownRefIdeal.Gen.bcast_S1x1x2048_S4x2048x2048_0_1_2
    (broadcastInDim Cert.FfnDownRefIdeal.S1x1x2048 ![2] Cert.FfnDownRefIdeal.Gen.bcast_S2048_S1x1x2048_2 g)

/-- The reference's layer normalisation. -/
def norm (v : FVec Ideal Cert.FfnDownRefIdeal.S4x2048x2048 .f32) (g b : FVec Ideal Cert.FfnDownRefIdeal.S2048 .f32) :
    FVec Ideal Cert.FfnDownRefIdeal.S4x2048x2048 .f32 :=
  addf (mulf (mulf (centred v) (broadcastInDim Cert.FfnDownRefIdeal.S4x2048x2048 ![0, 1, 2] Cert.FfnDownRefIdeal.Gen.bcast_S4x2048x1_S4x2048x2048_0_1_2
      (Host.rsqrt (addf (mean (mulf (centred v) (centred v)))
        (broadcastInDim Cert.FfnDownRefIdeal.S4x2048x1 ![] Cert.FfnDownRefIdeal.Gen.bcast_S_S4x2048x1 (constant Cert.FfnDownRefIdeal.S_ .f32 0x3727C5AC#32)))))) (rows g)) (rows b)

/-! ## The kernels' normalisation -/

/-- The mean column of a block of 256 rows. -/
def mean256 (v : FVec Ideal Cert.FfnDownIdeal.S256x2048 .f32) : FVec Ideal Cert.FfnDownIdeal.S256x1 .f32 :=
  divf (shapeCast Cert.FfnDownIdeal.S256x1 (multiReduction .add [1] Cert.FfnDownIdeal.S256 v 0x00000000#32 Cert.FfnDownIdeal.Gen.reduces_S256x2048_S256 (.inl rfl) rfl) Cert.FfnDownIdeal.Gen.shapeCasts_S256_S256x1)
    (broadcast Cert.FfnDownIdeal.S256x1 (Scalar.ofBits .f32 0x45000000#32))

/-- A block's rows less their means. -/
def centred256 (v : FVec Ideal Cert.FfnDownIdeal.S256x2048 .f32) : FVec Ideal Cert.FfnDownIdeal.S256x2048 .f32 :=
  subf v (broadcastTo Cert.FfnDownIdeal.S256x2048 (mean256 v) Cert.FfnDownIdeal.Gen.broadcasts_S256x1_S256x2048)

/-- The normalisation of a block of 256 rows, as the kernel body spells it. -/
def norm256 (v : FVec Ideal Cert.FfnDownIdeal.S256x2048 .f32) (g b : FVec Ideal Cert.FfnDownIdeal.S1x2048 .f32) : FVec Ideal Cert.FfnDownIdeal.S256x2048 .f32 :=
  addf (mulf (mulf (centred256 v) (broadcastTo Cert.FfnDownIdeal.S256x2048 (rsqrt (addf (mean256 (mulf (centred256 v) (centred256 v)))
      (broadcast Cert.FfnDownIdeal.S256x1 (Scalar.ofBits .f32 0x3727C5AC#32)))) Cert.FfnDownIdeal.Gen.broadcasts_S256x1_S256x2048))
    (broadcastTo Cert.FfnDownIdeal.S256x2048 (shapeCast Cert.FfnDownIdeal.S1x2048 g Cert.FfnDownIdeal.Gen.shapeCasts_S1x2048_S1x2048) Cert.FfnDownIdeal.Gen.broadcasts_S1x2048_S256x2048))
    (broadcastTo Cert.FfnDownIdeal.S256x2048 (shapeCast Cert.FfnDownIdeal.S1x2048 b Cert.FfnDownIdeal.Gen.shapeCasts_S1x2048_S1x2048) Cert.FfnDownIdeal.Gen.broadcasts_S1x2048_S256x2048)

/-- A block row that is the array's row `(a, r)` is normalised as the reference normalises that row. -/
theorem norm256_eq (v : FVec Ideal Cert.FfnDownIdeal.S256x2048 .f32) (g' b' : FVec Ideal Cert.FfnDownIdeal.S1x2048 .f32)
    (X : FVec Ideal Cert.FfnDownRefIdeal.S4x2048x2048 .f32) (g b : FVec Ideal Cert.FfnDownRefIdeal.S2048 .f32)
    (p : Fin 256) (a : Fin 4) (r j : Fin 2048) (hv : ∀ k : Fin 2048, v (ix2 p k) = X (ix3 a r k))
    (hg : g' (ix2 0 j) = g (ix1 j)) (hb : b' (ix2 0 j) = b (ix1 j)) :
    norm256 v g' b' (ix2 p j) = norm X g b (ix3 a r j) := by
  pointwise [norm256, centred256, mean256, norm, centred, mean, rows]
  simp only [hv, hg, hb]

/-- The mean column of a block of 512 rows. -/
def mean512 (v : FVec Ideal Cert.WoIdeal.S512x2048 .f32) : FVec Ideal Cert.WoIdeal.S512x1 .f32 :=
  divf (shapeCast Cert.WoIdeal.S512x1 (multiReduction .add [1] Cert.WoIdeal.S512 v 0x00000000#32 Cert.WoIdeal.Gen.reduces_S512x2048_S512 (.inl rfl) rfl) Cert.WoIdeal.Gen.shapeCasts_S512_S512x1)
    (broadcast Cert.WoIdeal.S512x1 (Scalar.ofBits .f32 0x45000000#32))

/-- A block's rows less their means. -/
def centred512 (v : FVec Ideal Cert.WoIdeal.S512x2048 .f32) : FVec Ideal Cert.WoIdeal.S512x2048 .f32 :=
  subf v (broadcastTo Cert.WoIdeal.S512x2048 (mean512 v) Cert.WoIdeal.Gen.broadcasts_S512x1_S512x2048)

/-- The normalisation of a block of 512 rows, as the kernel body spells it. -/
def norm512 (v : FVec Ideal Cert.WoIdeal.S512x2048 .f32) (g b : FVec Ideal Cert.WoIdeal.S1x2048 .f32) : FVec Ideal Cert.WoIdeal.S512x2048 .f32 :=
  addf (mulf (mulf (centred512 v) (broadcastTo Cert.WoIdeal.S512x2048 (rsqrt (addf (mean512 (mulf (centred512 v) (centred512 v)))
      (broadcast Cert.WoIdeal.S512x1 (Scalar.ofBits .f32 0x3727C5AC#32)))) Cert.WoIdeal.Gen.broadcasts_S512x1_S512x2048))
    (broadcastTo Cert.WoIdeal.S512x2048 (shapeCast Cert.WoIdeal.S1x2048 g Cert.WoIdeal.Gen.shapeCasts_S1x2048_S1x2048) Cert.WoIdeal.Gen.broadcasts_S1x2048_S512x2048))
    (broadcastTo Cert.WoIdeal.S512x2048 (shapeCast Cert.WoIdeal.S1x2048 b Cert.WoIdeal.Gen.shapeCasts_S1x2048_S1x2048) Cert.WoIdeal.Gen.broadcasts_S1x2048_S512x2048)

/-- A block row that is the array's row `(a, r)` is normalised as the reference normalises that row. -/
theorem norm512_eq (v : FVec Ideal Cert.WoIdeal.S512x2048 .f32) (g' b' : FVec Ideal Cert.WoIdeal.S1x2048 .f32)
    (X : FVec Ideal Cert.FfnDownRefIdeal.S4x2048x2048 .f32) (g b : FVec Ideal Cert.FfnDownRefIdeal.S2048 .f32)
    (p : Fin 512) (a : Fin 4) (r j : Fin 2048) (hv : ∀ k : Fin 2048, v (ix2 p k) = X (ix3 a r k))
    (hg : g' (ix2 0 j) = g (ix1 j)) (hb : b' (ix2 0 j) = b (ix1 j)) :
    norm512 v g' b' (ix2 p j) = norm X g b (ix3 a r j) := by
  pointwise [norm512, centred512, mean512, norm, centred, mean, rows]
  simp only [hv, hg, hb]

end Cert.LayerNorm

end
-- ==== Proof.FfnDownValue.lean ====
/-
  The VALUE of the FFN's down projection. Each of the 32 grid points takes 256 token rows of the hidden layer, multiplies
  them by the whole down-projection matrix, adds the scaled residual row and normalises each row by its mean and variance.
  Here: what a point leaves in its block is the reference's own term read at the block's place in the array (`point`), and
  so the array after the run is the reference's array (`final`).
-/
module

public import proofs.«01_k».proof.Proof.Gen.FfnDownIdeal.Frame
public import proofs.«01_k».proof.Proof.Gen.FfnDownRefIdeal.Run
public import proofs.«01_k».proof.Proof.LayerNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.Bridge

open Cert.FfnDownIdeal Cert.FfnDownIdeal.Gen

variable (m : (ℓ : Loc nD τ sig) → Buf (Elt Ideal) ℓ)

/-- The reference's residual sum before the normalisation: the scaled input plus the hidden layer through the matrix. -/
def mix (h : FVec Ideal Cert.FfnDownRefIdeal.S8192x5632 .bf16) (w : FVec Ideal Cert.FfnDownRefIdeal.S5632x2048 .f32)
    (x : FVec Ideal Cert.FfnDownRefIdeal.S4x2048x2048 .f32) : FVec Ideal Cert.FfnDownRefIdeal.S4x2048x2048 .f32 :=
  addf (mulf (broadcastInDim Cert.FfnDownRefIdeal.S4x2048x2048 ![] Cert.FfnDownRefIdeal.Gen.bcast_S_S4x2048x2048 (constant Cert.FfnDownRefIdeal.S_ .f32 0x3FD744FD#32)) x)
    (Host.dotGeneral Cert.FfnDownRefIdeal.dot_S4x2048x5632_S5632x2048_S4x2048x2048_2_0_01_1_n_n none
      (shapeCast _ (extf .f32 h Cert.FfnDownRefIdeal.Gen.bitsLt_bf16_f32) Cert.FfnDownRefIdeal.Gen.shapeCasts_S8192x5632_S4x2048x5632) w)

/-- The reference's result over its five arguments. -/
abbrev REF (h : FVec Ideal Cert.FfnDownRefIdeal.S8192x5632 .bf16) (w : FVec Ideal Cert.FfnDownRefIdeal.S5632x2048 .f32)
    (x : FVec Ideal Cert.FfnDownRefIdeal.S4x2048x2048 .f32) (g b : FVec Ideal Cert.FfnDownRefIdeal.S2048 .f32) :
    FVec Ideal Cert.FfnDownRefIdeal.S8192x2048 .f32 :=
  shapeCast _ (LayerNorm.norm (mix h w x) g b) Cert.FfnDownRefIdeal.Gen.shapeCasts_S4x2048x2048_S8192x2048

/-- Where each window's block lies at each grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- The kernel's residual sum over a block of 256 rows. -/
def mix256 (h : FVec Ideal S256x5632 .bf16) (w : FVec Ideal S5632x2048 .bf16) (x : FVec Ideal S256x2048 .f32) : FVec Ideal S256x2048 .f32 :=
  addf (mulf (broadcast S256x2048 (Scalar.ofBits .f32 0x3FD744FD#32)) (shapeCast S256x2048 x shapeCasts_S256x2048_S256x2048))
    (matmul dot_S256x5632_S5632x2048_S256x2048_1_0_0_1_n_n none h (shapeCast S5632x2048 w shapeCasts_S5632x2048_S5632x2048) (constant S256x2048 .f32 0x00000000#32))

/-- The stored value is the normalisation of the residual sum. -/
theorem pay_eq (h : FVec Ideal S256x5632 .bf16) (w : FVec Ideal S5632x2048 .bf16) (x : FVec Ideal S256x2048 .f32) (g b : FVec Ideal S1x2048 .f32) :
    k0_pay1 h w x g b = LayerNorm.norm256 (mix256 h w x) g b := rfl

/-- The reference's result at a flat row is the normalised array at the batch and the time of the row. -/
theorem REF_at (h : FVec Ideal Cert.FfnDownRefIdeal.S8192x5632 .bf16) (w : FVec Ideal Cert.FfnDownRefIdeal.S5632x2048 .f32)
    (x : FVec Ideal Cert.FfnDownRefIdeal.S4x2048x2048 .f32) (g b : FVec Ideal Cert.FfnDownRefIdeal.S2048 .f32) (i : Cert.FfnDownRefIdeal.S8192x2048.Idx)
    (a : Fin 4) (r j : Fin 2048) (h0 : (i 0 : ℕ) = a.val * 2048 + r.val) (h1 : (i 1 : ℕ) = j.val) :
    REF h w x g b i = LayerNorm.norm (mix h w x) g b (ix3 a r j) := by
  pointwise [REF]
  blk_ext

/-- A block row of the residual sum is a row of the reference's. -/
theorem mix_at (c : Dev nD) (t : Fin cfg0.N) (p : Fin 256) (k : Fin 2048) (a : Fin 4) (r : Fin 2048) (hr : t.val * 256 + p.val = a.val * 2048 + r.val) :
    mix256 (iblk m c 0 t) (iblk m c 1 t) (iblk m c 2 t) (ix2 p k)
      = mix (m ((c : Thread nD τ).loc main_arg0)) (m ((c : Thread nD τ).loc main_arg1)) (m ((c : Thread nD τ).loc main_arg2)) (ix3 a r k) := by
  pointwise [mix256, mix]
  blk_point [iblk, V, idx t]

/-- What the body stores at index `y` of point `t`'s block is the reference at that place of the array. -/
theorem point (c : Dev nD) (t : Fin cfg0.N) (y : S256x2048.Idx) :
    k0_pay1 (iblk m c 0 t) (iblk m c 1 t) (iblk m c 2 t) (iblk m c 3 t) (iblk m c 4 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have ht : t.val < 32 := lt_of_lt_of_eq t.isLt N_0
  obtain ⟨p, j, rfl⟩ : ∃ (p : Fin 256) (j : Fin 2048), y = ix2 p j := ⟨y 0, y 1, by blk_ext⟩
  obtain ⟨a, r, hr⟩ : ∃ (a : Fin 4) (r : Fin 2048), t.val * 256 + p.val = a.val * 2048 + r.val :=
    ⟨⟨(t.val * 256 + p.val) / 2048, by omega⟩, ⟨(t.val * 256 + p.val) % 2048, by omega⟩, by dsimp only; omega⟩
  rw [REF_at _ _ _ _ _ _ a r j (by blk_simp [idx t]; exact hr) (by blk_simp [idx t])]
  rw [pay_eq]
  refine LayerNorm.norm256_eq _ _ _ _ _ _ p _ _ j (fun k => mix_at m c t p k a r hr) ?_ ?_
  · blk_point [iblk, V, idx t]
  · blk_point [iblk, V, idx t]

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]; unfold outsAt0; frame_out
  exact point m c t y

end Cert.FfnDownIdeal.Bridge

end
-- ==== Proof.FfnDownClaim.lean ====
/-
  The claims about `FfnDown`: the two kernel programs and the reference run clean, and kernel and reference end with the same
  arrays.
-/
module

public import proofs.«01_k».proof.Defs
public import proofs.«01_k».proof.Proof.FfnDownValue
public import proofs.«01_k».proof.Proof.Gen.FfnDown
public import proofs.«01_k».proof.Proof.Gen.FfnDown.Frame
public import Idealize.ShloMosaic.Lib.Claim

@[expose] public section

set_option maxRecDepth 16384

noncomputable section

open Idealize.ShloMosaic Idealize.ShloMosaic.TcCoe Idealize.SL.Sem

namespace Cert.FfnDownClaim

/-- The reference runs and leaves its arguments and every counter as they were. -/
theorem ref_frame : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run m ρ)

/-- Kernel and reference end with equal results over the extended reals. -/
theorem algebraic : Cert.algebraic_FfnDownIdeal_FfnDownRefIdeal := by
  pair_intro
  · run_from Cert.FfnDownIdeal.Gen.run_main m g
  · run_from Cert.FfnDownRefIdeal.Value.run m' g'
    · unfold Cert.FfnDownRefIdeal.Value.res_main_v30; obtain ⟨h0, h1, h2, h3, h4⟩ := hagree c; rw [h0, h1, h2, h3, h4]; exact (Cert.FfnDownIdeal.Bridge.final m c).symm

end Cert.FfnDownClaim

end
-- ==== Proof.QkvValue.lean ====
/-
  The VALUE of the attention layer's query, key and value projections. Four grid points share 1024 token rows: the first
  keeps the rows in a scratch buffer, and each multiplies them by 512 columns of the three matrices. The scratch holds the
  point's own rows at every point (`scratch`), so each of the three arrays after the run is the reference's (`final_q`,
  `final_k`, `final_v`).
-/
module

public import proofs.«01_k».proof.Proof.Gen.QkvIdeal.Frame
public import proofs.«01_k».proof.Proof.Gen.QkvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvIdeal.Bridge

open Cert.QkvIdeal Cert.QkvIdeal.Gen

variable (m : (ℓ : Loc nD τ sig) → Buf (Elt Ideal) ℓ)

/-- The reference's projection with the three heads' axes apart. -/
abbrev all (x : FVec Ideal Cert.QkvRefIdeal.S4x2048x2048 .f32) (w : FVec Ideal Cert.QkvRefIdeal.S2048x6144 .f32) : FVec Ideal Cert.QkvRefIdeal.S4x2048x3x16x128 .f32 :=
  shapeCast _ (Host.dotGeneral Cert.QkvRefIdeal.dot_S4x2048x2048_S2048x6144_S4x2048x6144_2_0_01_1_n_n none x w) Cert.QkvRefIdeal.Gen.shapeCasts_S4x2048x6144_S4x2048x3x16x128

/-- The reference's queries. -/
abbrev REF_q (x : FVec Ideal Cert.QkvRefIdeal.S4x2048x2048 .f32) (w : FVec Ideal Cert.QkvRefIdeal.S2048x6144 .f32) : FVec Ideal Cert.QkvRefIdeal.S8192x2048 .f32 :=
  shapeCast _ (shapeCast _ (extractStridedSlice Cert.QkvRefIdeal.S4x2048x1x16x128 ![0, 0, 0, 0, 0] (all x w) Cert.QkvRefIdeal.Gen.slices_S4x2048x3x16x128_S4x2048x1x16x128_0_0_0_0_0)
    Cert.QkvRefIdeal.Gen.shapeCasts_S4x2048x1x16x128_S4x2048x16x128) Cert.QkvRefIdeal.Gen.shapeCasts_S4x2048x16x128_S8192x2048

/-- The reference's keys. -/
abbrev REF_k (x : FVec Ideal Cert.QkvRefIdeal.S4x2048x2048 .f32) (w : FVec Ideal Cert.QkvRefIdeal.S2048x6144 .f32) : FVec Ideal Cert.QkvRefIdeal.S8192x2048 .f32 :=
  shapeCast _ (shapeCast _ (extractStridedSlice Cert.QkvRefIdeal.S4x2048x1x16x128 ![0, 0, 1, 0, 0] (all x w) Cert.QkvRefIdeal.Gen.slices_S4x2048x3x16x128_S4x2048x1x16x128_0_0_1_0_0)
    Cert.QkvRefIdeal.Gen.shapeCasts_S4x2048x1x16x128_S4x2048x16x128) Cert.QkvRefIdeal.Gen.shapeCasts_S4x2048x16x128_S8192x2048

/-- The reference's values. -/
abbrev REF_v (x : FVec Ideal Cert.QkvRefIdeal.S4x2048x2048 .f32) (w : FVec Ideal Cert.QkvRefIdeal.S2048x6144 .f32) : FVec Ideal Cert.QkvRefIdeal.S8192x2048 .f32 :=
  shapeCast _ (shapeCast _ (extractStridedSlice Cert.QkvRefIdeal.S4x2048x1x16x128 ![0, 0, 2, 0, 0] (all x w) Cert.QkvRefIdeal.Gen.slices_S4x2048x3x16x128_S4x2048x1x16x128_0_0_2_0_0)
    Cert.QkvRefIdeal.Gen.shapeCasts_S4x2048x1x16x128_S4x2048x16x128) Cert.QkvRefIdeal.Gen.shapeCasts_S4x2048x16x128_S8192x2048

/-- Where each window's block lies at each grid point. -/
theorem idx : ∀ t : Fin cfg0.N, win0_0.index t = ![t.val / 4, 0] ∧ win0_1.index t = ![0, t.val % 4] ∧ win0_2.index t = ![0, t.val % 4]
    ∧ win0_3.index t = ![0, t.val % 4] ∧ win0_4.index t = ![t.val / 4, t.val % 4] ∧ win0_5.index t = ![t.val / 4, t.val % 4]
    ∧ win0_6.index t = ![t.val / 4, t.val % 4] :=
  (by decide +kernel : ∀ t : Fin grid0.N, _)

/-- Two points of the same group of four see the same token rows. -/
theorem rows_eq (c : Dev nD) (t t' : Fin cfg0.N) (h : t.val / 4 = t'.val / 4) : (iblk m c 0 t : FVec Ideal S1024x2048 .f32) = iblk m c 0 t' := by
  funext y
  idx_vars y
  blk_ext [iblk, V, idx t, idx t']

/-- The scratch buffer holds the point's own token rows after every point. -/
theorem scratch (c : Dev nD) (n : ℕ) (hn : n < cfg0.N) : (outsAt0 m c n hn).2.2.2 = k0_pay1 (iblk m c 0 ⟨n, hn⟩) := by
  induction n with
  | zero => rw [outsAt0_A m c ⟨0, hn⟩ rfl]; frame_out
  | succ n ih =>
    by_cases h0 : (n + 1) % 4 = 0
    · rw [outsAt0_A m c ⟨n + 1, hn⟩ h0]; frame_out
    · rw [outsAt0_B m c ⟨n + 1, hn⟩ h0]
      dsimp only [sout0_B_0]
      refine (ih (Nat.lt_of_succ_lt hn)).trans ?_
      rw [rows_eq m c ⟨n, Nat.lt_of_succ_lt hn⟩ ⟨n + 1, hn⟩ (by dsimp only; omega)]

/-- What every point leaves in output 0: its rows times its columns. -/
theorem left_4 (c : Dev nD) (t : Fin cfg0.N) : (outsAt0 m c t.val t.isLt).1 = k0_pay2 (k0_pay1 (iblk m c 0 t)) (iblk m c 1 t) := by
  by_cases h0 : t.val % 4 = 0
  · rw [outsAt0_A m c t h0]; frame_out
  · rw [outsAt0_B m c t h0]; frame_out
    rw [scratch m c (t.val - 1), rows_eq m c ⟨t.val - 1, Nat.lt_of_le_of_lt (Nat.sub_le _ _) t.isLt⟩ t (by dsimp only; omega)]
    erw [Memref.IsWhole.read_unread]

/-- What every point leaves in output 1: its rows times its columns. -/
theorem left_5 (c : Dev nD) (t : Fin cfg0.N) : (outsAt0 m c t.val t.isLt).2.1 = k0_pay3 (k0_pay1 (iblk m c 0 t)) (iblk m c 2 t) := by
  by_cases h0 : t.val % 4 = 0
  · rw [outsAt0_A m c t h0]; frame_out
  · rw [outsAt0_B m c t h0]; frame_out
    rw [scratch m c (t.val - 1), rows_eq m c ⟨t.val - 1, Nat.lt_of_le_of_lt (Nat.sub_le _ _) t.isLt⟩ t (by dsimp only; omega)]
    erw [Memref.IsWhole.read_unread]

/-- What every point leaves in output 2: its rows times its columns. -/
theorem left_6 (c : Dev nD) (t : Fin cfg0.N) : (outsAt0 m c t.val t.isLt).2.2.1 = k0_pay4 (k0_pay1 (iblk m c 0 t)) (iblk m c 3 t) := by
  by_cases h0 : t.val % 4 = 0
  · rw [outsAt0_A m c t h0]; frame_out
  · rw [outsAt0_B m c t h0]; frame_out
    rw [scratch m c (t.val - 1), rows_eq m c ⟨t.val - 1, Nat.lt_of_le_of_lt (Nat.sub_le _ _) t.isLt⟩ t (by dsimp only; omega)]
    erw [Memref.IsWhole.read_unread]

set_option maxHeartbeats 1000000 in
/-- The reference's output 0 at a flat row: one entry of the product. -/
theorem REF_q_at (x : FVec Ideal Cert.QkvRefIdeal.S4x2048x2048 .f32) (w : FVec Ideal Cert.QkvRefIdeal.S2048x6144 .f32) (i : Cert.QkvRefIdeal.S8192x2048.Idx)
    (a : Fin 4) (r j : Fin 2048) (h0 : (i 0 : ℕ) = a.val * 2048 + r.val) (h1 : (i 1 : ℕ) = j.val) :
    REF_q x w i = Host.dotGeneral Cert.QkvRefIdeal.dot_S4x2048x2048_S2048x6144_S4x2048x6144_2_0_01_1_n_n none x w (ix3 a r (⟨j.val + 0, by omega⟩ : Fin 6144)) := by
  unfold REF_q all
  generalize Host.dotGeneral Cert.QkvRefIdeal.dot_S4x2048x2048_S2048x6144_S4x2048x6144_2_0_01_1_n_n none x w = D
  pointwise
  blk_ext

/-- A block of output 0 is the reference read at the block's place. -/
theorem point_q (c : Dev nD) (t : Fin cfg0.N) (y : S1024x512.Idx) : k0_pay2 (k0_pay1 (iblk m c 0 t)) (iblk m c 1 t) y
    = REF_q (m ((c : Thread nD τ).loc main_arg0)) (m ((c : Thread nD τ).loc main_arg1)) (((cfg0.win 4).blk t).view.emb y) := by
  have ht : t.val < 32 := lt_of_lt_of_eq t.isLt N_0
  obtain ⟨p, j, rfl⟩ : ∃ (p : Fin 1024) (j : Fin 512), y = ix2 p j := ⟨y 0, y 1, by blk_ext⟩
  obtain ⟨a, r, hr⟩ : ∃ (a : Fin 4) (r : Fin 2048), t.val / 4 * 1024 + p.val = a.val * 2048 + r.val :=
    ⟨⟨(t.val / 4 * 1024 + p.val) / 2048, by omega⟩, ⟨(t.val / 4 * 1024 + p.val) % 2048, by omega⟩, by dsimp only; omega⟩
  rw [REF_q_at _ _ _ a r ⟨t.val % 4 * 512 + j.val, by omega⟩ (by blk_simp [idx t]; exact hr) (by blk_simp [idx t])]
  pointwise [k0_pay2, k0_pay1]
  blk_point [iblk, V, idx t]

/-- Output 0 after the run is the reference's. -/
theorem final_q (c : Dev nD) : (dats m 0 c).arrAt 4 (cfgs 0).N = REF_q (m ((c : Thread nD τ).loc main_arg0)) (m ((c : Thread nD τ).loc main_arg1)) := by
  refine (dats m 0 c).arrAt_eq_of_covers 4 _ (by decide +kernel) fun t _ y => ?_
  blk_simp
  rw [after0_4, left_4]
  exact point_q m c t y

set_option maxHeartbeats 1000000 in
/-- The reference's output 1 at a flat row: one entry of the product. -/
theorem REF_k_at (x : FVec Ideal Cert.QkvRefIdeal.S4x2048x2048 .f32) (w : FVec Ideal Cert.QkvRefIdeal.S2048x6144 .f32) (i : Cert.QkvRefIdeal.S8192x2048.Idx)
    (a : Fin 4) (r j : Fin 2048) (h0 : (i 0 : ℕ) = a.val * 2048 + r.val) (h1 : (i 1 : ℕ) = j.val) :
    REF_k x w i = Host.dotGeneral Cert.QkvRefIdeal.dot_S4x2048x2048_S2048x6144_S4x2048x6144_2_0_01_1_n_n none x w (ix3 a r (⟨j.val + 2048, by omega⟩ : Fin 6144)) := by
  unfold REF_k all
  generalize Host.dotGeneral Cert.QkvRefIdeal.dot_S4x2048x2048_S2048x6144_S4x2048x6144_2_0_01_1_n_n none x w = D
  pointwise
  blk_ext

/-- A block of output 1 is the reference read at the block's place. -/
theorem point_k (c : Dev nD) (t : Fin cfg0.N) (y : S1024x512.Idx) : k0_pay3 (k0_pay1 (iblk m c 0 t)) (iblk m c 2 t) y
    = REF_k (m ((c : Thread nD τ).loc main_arg0)) (m ((c : Thread nD τ).loc main_arg1)) (((cfg0.win 5).blk t).view.emb y) := by
  have ht : t.val < 32 := lt_of_lt_of_eq t.isLt N_0
  obtain ⟨p, j, rfl⟩ : ∃ (p : Fin 1024) (j : Fin 512), y = ix2 p j := ⟨y 0, y 1, by blk_ext⟩
  obtain ⟨a, r, hr⟩ : ∃ (a : Fin 4) (r : Fin 2048), t.val / 4 * 1024 + p.val = a.val * 2048 + r.val :=
    ⟨⟨(t.val / 4 * 1024 + p.val) / 2048, by omega⟩, ⟨(t.val / 4 * 1024 + p.val) % 2048, by omega⟩, by dsimp only; omega⟩
  rw [REF_k_at _ _ _ a r ⟨t.val % 4 * 512 + j.val, by omega⟩ (by blk_simp [idx t]; exact hr) (by blk_simp [idx t])]
  pointwise [k0_pay3, k0_pay1]
  blk_point [iblk, V, idx t]

/-- Output 1 after the run is the reference's. -/
theorem final_k (c : Dev nD) : (dats m 0 c).arrAt 5 (cfgs 0).N = REF_k (m ((c : Thread nD τ).loc main_arg0)) (m ((c : Thread nD τ).loc main_arg1)) := by
  refine (dats m 0 c).arrAt_eq_of_covers 5 _ (by decide +kernel) fun t _ y => ?_
  blk_simp
  rw [after0_5, left_5]
  exact point_k m c t y

set_option maxHeartbeats 1000000 in
/-- The reference's output 2 at a flat row: one entry of the product. -/
theorem REF_v_at (x : FVec Ideal Cert.QkvRefIdeal.S4x2048x2048 .f32) (w : FVec Ideal Cert.QkvRefIdeal.S2048x6144 .f32) (i : Cert.QkvRefIdeal.S8192x2048.Idx)
    (a : Fin 4) (r j : Fin 2048) (h0 : (i 0 : ℕ) = a.val * 2048 + r.val) (h1 : (i 1 : ℕ) = j.val) :
    REF_v x w i = Host.dotGeneral Cert.QkvRefIdeal.dot_S4x2048x2048_S2048x6144_S4x2048x6144_2_0_01_1_n_n none x w (ix3 a r (⟨j.val + 4096, by omega⟩ : Fin 6144)) := by
  unfold REF_v all
  generalize Host.dotGeneral Cert.QkvRefIdeal.dot_S4x2048x2048_S2048x6144_S4x2048x6144_2_0_01_1_n_n none x w = D
  pointwise
  blk_ext

/-- A block of output 2 is the reference read at the block's place. -/
theorem point_v (c : Dev nD) (t : Fin cfg0.N) (y : S1024x512.Idx) : k0_pay4 (k0_pay1 (iblk m c 0 t)) (iblk m c 3 t) y
    = REF_v (m ((c : Thread nD τ).loc main_arg0)) (m ((c : Thread nD τ).loc main_arg1)) (((cfg0.win 6).blk t).view.emb y) := by
  have ht : t.val < 32 := lt_of_lt_of_eq t.isLt N_0
  obtain ⟨p, j, rfl⟩ : ∃ (p : Fin 1024) (j : Fin 512), y = ix2 p j := ⟨y 0, y 1, by blk_ext⟩
  obtain ⟨a, r, hr⟩ : ∃ (a : Fin 4) (r : Fin 2048), t.val / 4 * 1024 + p.val = a.val * 2048 + r.val :=
    ⟨⟨(t.val / 4 * 1024 + p.val) / 2048, by omega⟩, ⟨(t.val / 4 * 1024 + p.val) % 2048, by omega⟩, by dsimp only; omega⟩
  rw [REF_v_at _ _ _ a r ⟨t.val % 4 * 512 + j.val, by omega⟩ (by blk_simp [idx t]; exact hr) (by blk_simp [idx t])]
  pointwise [k0_pay4, k0_pay1]
  blk_point [iblk, V, idx t]

/-- Output 2 after the run is the reference's. -/
theorem final_v (c : Dev nD) : (dats m 0 c).arrAt 6 (cfgs 0).N = REF_v (m ((c : Thread nD τ).loc main_arg0)) (m ((c : Thread nD τ).loc main_arg1)) := by
  refine (dats m 0 c).arrAt_eq_of_covers 6 _ (by decide +kernel) fun t _ y => ?_
  blk_simp
  rw [after0_6, left_6]
  exact point_v m c t y

end Cert.QkvIdeal.Bridge

end
-- ==== Proof.QkvClaim.lean ====
/-
  The claims about `Qkv`: the two kernel programs and the reference run clean, and kernel and reference end with the same
  arrays.
-/
module

public import proofs.«01_k».proof.Defs
public import proofs.«01_k».proof.Proof.QkvValue
public import proofs.«01_k».proof.Proof.Gen.Qkv
public import proofs.«01_k».proof.Proof.Gen.Qkv.Frame
public import Idealize.ShloMosaic.Lib.Claim

@[expose] public section

set_option maxRecDepth 16384

noncomputable section

open Idealize.ShloMosaic Idealize.ShloMosaic.TcCoe Idealize.SL.Sem

namespace Cert.QkvClaim

/-- The reference runs and leaves its arguments and every counter as they were. -/
theorem ref_frame : Cert.quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run m ρ)

/-- Kernel and reference end with equal results over the extended reals. -/
theorem algebraic : Cert.algebraic_QkvIdeal_QkvRefIdeal := by
  pair_intro
  · run_from Cert.QkvIdeal.Gen.run_main m g
  · run_from Cert.QkvRefIdeal.Value.run m' g'
    · exact (Cert.QkvIdeal.Bridge.final_q m c).symm
    · exact (Cert.QkvIdeal.Bridge.final_k m c).symm
    · exact (Cert.QkvIdeal.Bridge.final_v m c).symm

end Cert.QkvClaim

end
-- ==== Proof.GateValue.lean ====
/-
  The VALUE of the gated output of the state-space layer. Each of the 32 grid points takes 256 token rows through two
  matrices, multiplies the one product by the sigmoid of the other, adds the scaled residual row and normalises. What a
  point leaves in its block is the reference's term at the block's place (`point`), so the array after the run is the
  reference's (`final`).
-/
module

public import proofs.«01_k».proof.Proof.Gen.GateIdeal.Frame
public import proofs.«01_k».proof.Proof.Gen.GateRefIdeal.Run
public import proofs.«01_k».proof.Proof.LayerNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Bridge

open Cert.GateIdeal Cert.GateIdeal.Gen

variable (m : (ℓ : Loc nD τ sig) → Buf (Elt Ideal) ℓ)

/-- The reference's residual sum before the normalisation. -/
def mix (z : FVec Ideal Cert.GateRefIdeal.S4x2048x2048 .f32) (w q : FVec Ideal Cert.GateRefIdeal.S2048x2048 .f32) (x : FVec Ideal Cert.GateRefIdeal.S4x2048x2048 .f32) : FVec Ideal Cert.GateRefIdeal.S4x2048x2048 .f32 :=
  addf (mulf (broadcastInDim Cert.GateRefIdeal.S4x2048x2048 ![] Cert.GateRefIdeal.Gen.bcast_S_S4x2048x2048 (constant Cert.GateRefIdeal.S_ .f32 0x3FD744FD#32)) x)
    (mulf (Host.dotGeneral Cert.GateRefIdeal.dot_S4x2048x2048_S2048x2048_S4x2048x2048_2_0_01_1_n_n none z w)
      (Host.divf (broadcastInDim Cert.GateRefIdeal.S4x2048x2048 ![] Cert.GateRefIdeal.Gen.bcast_S_S4x2048x2048 (constant Cert.GateRefIdeal.S_ .f32 0x3F800000#32))
        (addf (broadcastInDim Cert.GateRefIdeal.S4x2048x2048 ![] Cert.GateRefIdeal.Gen.bcast_S_S4x2048x2048 (constant Cert.GateRefIdeal.S_ .f32 0x3F800000#32))
          (Host.exp (Host.negf (Host.dotGeneral Cert.GateRefIdeal.dot_S4x2048x2048_S2048x2048_S4x2048x2048_2_0_01_1_n_n none z q))))))

/-- The reference's result over its arguments. -/
abbrev REF (z : FVec Ideal Cert.GateRefIdeal.S4x2048x2048 .f32) (w q : FVec Ideal Cert.GateRefIdeal.S2048x2048 .f32) (x : FVec Ideal Cert.GateRefIdeal.S4x2048x2048 .f32) (g b : FVec Ideal Cert.GateRefIdeal.S2048 .f32) : FVec Ideal Cert.GateRefIdeal.S8192x2048 .f32 :=
  shapeCast _ (LayerNorm.norm (mix z w q x) g b) Cert.GateRefIdeal.Gen.shapeCasts_S4x2048x2048_S8192x2048

/-- Where each window's block lies at each grid point. -/
theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![0, 0] ∧ win0_6.index t = ![t.val, 0] :=
  (by decide +kernel : ∀ t : Fin grid0.N, _)

/-- The kernel's residual sum over a block of 256 rows. -/
def mix256 (z : FVec Ideal S256x2048 .f32) (w q : FVec Ideal S2048x2048 .bf16) (x : FVec Ideal S256x2048 .f32) : FVec Ideal S256x2048 .f32 :=
  addf (mulf (broadcast S256x2048 (Scalar.ofBits .f32 0x3FD744FD#32)) (shapeCast S256x2048 x shapeCasts_S256x2048_S256x2048))
    (mulf (matmul dot_S256x2048_S2048x2048_S256x2048_1_0_0_1_n_n none
        (truncf .bf16 (shapeCast S256x2048 z shapeCasts_S256x2048_S256x2048) bitsLt_bf16_f32)
        (shapeCast S2048x2048 w shapeCasts_S2048x2048_S2048x2048) (constant S256x2048 .f32 0x00000000#32))
      (divf (broadcast S256x2048 (Scalar.ofBits .f32 0x3F800000#32)) (addf (broadcast S256x2048 (Scalar.ofBits .f32 0x3F800000#32))
        (exp (subf (broadcast S256x2048 (Scalar.ofBits .f32 0x00000000#32)) (matmul dot_S256x2048_S2048x2048_S256x2048_1_0_0_1_n_n none
          (truncf .bf16 (shapeCast S256x2048 z shapeCasts_S256x2048_S256x2048) bitsLt_bf16_f32)
          (shapeCast S2048x2048 q shapeCasts_S2048x2048_S2048x2048) (constant S256x2048 .f32 0x00000000#32)))))))

/-- The stored value is the normalisation of the residual sum. -/
theorem pay_eq (z : FVec Ideal S256x2048 .f32) (w q : FVec Ideal S2048x2048 .bf16) (x : FVec Ideal S256x2048 .f32) (g b : FVec Ideal S1x2048 .f32) :
    k0_pay1 (k0_pay2 g) (k0_pay3 b) (k0_pay4 z w q x) (k0_pay5 z w q x) = LayerNorm.norm256 (mix256 z w q x) g b := rfl

/-- The reference's result at a flat row is the normalised array at the batch and the time of the row. -/
theorem REF_at (z : FVec Ideal Cert.GateRefIdeal.S4x2048x2048 .f32) (w q : FVec Ideal Cert.GateRefIdeal.S2048x2048 .f32) (x : FVec Ideal Cert.GateRefIdeal.S4x2048x2048 .f32) (g b : FVec Ideal Cert.GateRefIdeal.S2048 .f32) (i : Cert.GateRefIdeal.S8192x2048.Idx)
    (a : Fin 4) (r j : Fin 2048) (h0 : (i 0 : ℕ) = a.val * 2048 + r.val) (h1 : (i 1 : ℕ) = j.val) :
    REF z w q x g b i = LayerNorm.norm (mix z w q x) g b (ix3 a r j) := by
  pointwise [REF]
  blk_ext

/-- A block row of the residual sum is a row of the reference's. -/
theorem mix_at (c : Dev nD) (t : Fin cfg0.N) (p : Fin 256) (k : Fin 2048) (a : Fin 4) (r : Fin 2048) (hr : t.val * 256 + p.val = a.val * 2048 + r.val) :
    mix256 (iblk m c 0 t) (iblk m c 1 t) (iblk m c 2 t) (iblk m c 3 t) (ix2 p k)
      = mix (m ((c : Thread nD τ).loc main_arg0)) (m ((c : Thread nD τ).loc main_arg1)) (m ((c : Thread nD τ).loc main_arg2)) (m ((c : Thread nD τ).loc main_arg3)) (ix3 a r k) := by
  pointwise [mix256, mix]
  simp only [zero_sub]
  blk_point [iblk, V, idx t]

/-- What the body stores at index `y` of point `t`'s block is the reference at that place of the array. -/
theorem point (c : Dev nD) (t : Fin cfg0.N) (y : S256x2048.Idx) :
    k0_pay1 (k0_pay2 (iblk m c 4 t)) (k0_pay3 (iblk m c 5 t)) (k0_pay4 (iblk m c 0 t) (iblk m c 1 t) (iblk m c 2 t) (iblk m c 3 t)) (k0_pay5 (iblk m c 0 t) (iblk m c 1 t) (iblk m c 2 t) (iblk m c 3 t)) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  have ht : t.val < 32 := lt_of_lt_of_eq t.isLt N_0
  obtain ⟨p, j, rfl⟩ : ∃ (p : Fin 256) (j : Fin 2048), y = ix2 p j := ⟨y 0, y 1, by blk_ext⟩
  obtain ⟨a, r, hr⟩ : ∃ (a : Fin 4) (r : Fin 2048), t.val * 256 + p.val = a.val * 2048 + r.val :=
    ⟨⟨(t.val * 256 + p.val) / 2048, by omega⟩, ⟨(t.val * 256 + p.val) % 2048, by omega⟩, by dsimp only; omega⟩
  rw [REF_at _ _ _ _ _ _ _ a r j (by blk_simp [idx t]; exact hr) (by blk_simp [idx t])]
  rw [pay_eq]
  refine LayerNorm.norm256_eq _ _ _ _ _ _ p _ _ j (fun k => mix_at m c t p k a r hr) ?_ ?_
  · blk_point [iblk, V, idx t]
  · blk_point [iblk, V, idx t]

/-- The result array after the run is the reference's. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

end Cert.GateIdeal.Bridge

end
-- ==== Proof.GateClaim.lean ====
/-
  The claims about `Gate`: the two kernel programs and the reference run clean, and kernel and reference end with the same
  arrays.
-/
module

public import proofs.«01_k».proof.Defs
public import proofs.«01_k».proof.Proof.GateValue
public import proofs.«01_k».proof.Proof.Gen.Gate
public import proofs.«01_k».proof.Proof.Gen.Gate.Frame
public import Idealize.ShloMosaic.Lib.Claim

@[expose] public section

set_option maxRecDepth 16384

noncomputable section

open Idealize.ShloMosaic Idealize.ShloMosaic.TcCoe Idealize.SL.Sem

namespace Cert.GateClaim

/-- The reference runs and leaves its arguments and every counter as they were. -/
theorem ref_frame : Cert.quiescent_GateRefIdeal := fun m ρ _ =>
  (θ_run Cert.GateRefIdeal.defs _ _).mono (fun r h => ⟨fun c => (h c).2, sem_eq_zero_of_no_sems (by decide) r.2⟩)
    (Cert.GateRefIdeal.Value.run m ρ)

/-- Kernel and reference end with equal results over the extended reals. -/
theorem algebraic : Cert.algebraic_GateIdeal_GateRefIdeal := by
  pair_intro
  · run_from Cert.GateIdeal.Gen.run_main m g
  · run_from Cert.GateRefIdeal.Value.run m' g'
    · unfold Cert.GateRefIdeal.Value.res_main_v36; obtain ⟨h0, h1, h2, h3, h4, h5⟩ := hagree c; rw [h0, h1, h2, h3, h4, h5]; exact (Cert.GateIdeal.Bridge.final m c).symm

end Cert.GateClaim

end
-- ==== Proof.WoValue.lean ====
/-
  The VALUE of the recurrent layer's output projection. Each of the 16 grid points multiplies 512 token rows by their gates,
  takes them through the whole output matrix, adds the scaled residual row and normalises. What a point leaves in its block
  is the reference's term at the block's place (`point`), so the array after the run is the reference's (`final`).
-/
module

public import proofs.«01_k».proof.Proof.Gen.WoIdeal.Frame
public import proofs.«01_k».proof.Proof.Gen.WoRefIdeal.Run
public import proofs.«01_k».proof.Proof.LayerNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WoIdeal.Bridge

open Cert.WoIdeal Cert.WoIdeal.Gen

variable (m : (ℓ : Loc nD τ sig) → Buf (Elt Ideal) ℓ)

/-- The reference's residual sum before the normalisation. -/
def mix (z : FVec Ideal Cert.WoRefIdeal.S4x2048x2048 .f32) (q : FVec Ideal Cert.WoRefIdeal.S8192x2048 .bf16) (w : FVec Ideal Cert.WoRefIdeal.S2048x2048 .f32) (x : FVec Ideal Cert.WoRefIdeal.S4x2048x2048 .f32) : FVec Ideal Cert.WoRefIdeal.S4x2048x2048 .f32 :=
  addf (mulf (broadcastInDim Cert.WoRefIdeal.S4x2048x2048 ![] Cert.WoRefIdeal.Gen.bcast_S_S4x2048x2048 (constant Cert.WoRefIdeal.S_ .f32 0x3FD744FD#32)) x)
    (Host.dotGeneral Cert.WoRefIdeal.dot_S4x2048x2048_S2048x2048_S4x2048x2048_2_0_01_1_n_n none
      (mulf z (shapeCast _ (extf .f32 q Cert.WoRefIdeal.Gen.bitsLt_bf16_f32) Cert.WoRefIdeal.Gen.shapeCasts_S8192x2048_S4x2048x2048)) w)

/-- The reference's result over its arguments. -/
abbrev REF (z : FVec Ideal Cert.WoRefIdeal.S4x2048x2048 .f32) (q : FVec Ideal Cert.WoRefIdeal.S8192x2048 .bf16) (w : FVec Ideal Cert.WoRefIdeal.S2048x2048 .f32) (x : FVec Ideal Cert.WoRefIdeal.S4x2048x2048 .f32) (g b : FVec Ideal Cert.WoRefIdeal.S2048 .f32) : FVec Ideal Cert.WoRefIdeal.S8192x2048 .f32 :=
  shapeCast _ (LayerNorm.norm (mix z q w x) g b) Cert.WoRefIdeal.Gen.shapeCasts_S4x2048x2048_S8192x2048

/-- Where each window's block lies at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0] :=
  (by decide +kernel : ∀ t : Fin grid0.N, _)

/-- The kernel's residual sum over a block of 512 rows. -/
def mix512 (z : FVec Ideal S512x2048 .f32) (q : FVec Ideal S512x2048 .bf16) (w : FVec Ideal S2048x2048 .bf16) (x : FVec Ideal S512x2048 .f32) : FVec Ideal S512x2048 .f32 :=
  addf (mulf (broadcast S512x2048 (Scalar.ofBits .f32 0x3FD744FD#32)) (shapeCast S512x2048 x shapeCasts_S512x2048_S512x2048))
    (matmul dot_S512x2048_S2048x2048_S512x2048_1_0_0_1_n_n none
      (truncf .bf16 (mulf (shapeCast S512x2048 z shapeCasts_S512x2048_S512x2048) (extf .f32 q bitsLt_bf16_f32)) bitsLt_bf16_f32)
      (shapeCast S2048x2048 w shapeCasts_S2048x2048_S2048x2048) (constant S512x2048 .f32 0x00000000#32))

/-- The stored value is the normalisation of the residual sum. -/
theorem pay_eq (z : FVec Ideal S512x2048 .f32) (q : FVec Ideal S512x2048 .bf16) (w : FVec Ideal S2048x2048 .bf16) (x : FVec Ideal S512x2048 .f32) (g b : FVec Ideal S1x2048 .f32) :
    k0_pay1 z q w x g b = LayerNorm.norm512 (mix512 z q w x) g b := rfl

/-- The reference's result at a flat row is the normalised array at the batch and the time of the row. -/
theorem REF_at (z : FVec Ideal Cert.WoRefIdeal.S4x2048x2048 .f32) (q : FVec Ideal Cert.WoRefIdeal.S8192x2048 .bf16) (w : FVec Ideal Cert.WoRefIdeal.S2048x2048 .f32) (x : FVec Ideal Cert.WoRefIdeal.S4x2048x2048 .f32) (g b : FVec Ideal Cert.WoRefIdeal.S2048 .f32) (i : Cert.WoRefIdeal.S8192x2048.Idx)
    (a : Fin 4) (r j : Fin 2048) (h0 : (i 0 : ℕ) = a.val * 2048 + r.val) (h1 : (i 1 : ℕ) = j.val) :
    REF z q w x g b i = LayerNorm.norm (mix z q w x) g b (ix3 a r j) := by
  pointwise [REF]
  blk_ext

/-- A block row of the residual sum is a row of the reference's. -/
theorem mix_at (c : Dev nD) (t : Fin cfg0.N) (p : Fin 512) (k : Fin 2048) (a : Fin 4) (r : Fin 2048) (hr : t.val * 512 + p.val = a.val * 2048 + r.val) :
    mix512 (iblk m c 0 t) (iblk m c 1 t) (iblk m c 2 t) (iblk m c 3 t) (ix2 p k)
      = mix (m ((c : Thread nD τ).loc main_arg0)) (m ((c : Thread nD τ).loc main_arg1)) (m ((c : Thread nD τ).loc main_arg2)) (m ((c : Thread nD τ).loc main_arg3)) (ix3 a r k) := by
  pointwise [mix512, mix]
  blk_point [iblk, V, idx t]

/-- What the body stores at index `y` of point `t`'s block is the reference at that place of the array. -/
theorem point (c : Dev nD) (t : Fin cfg0.N) (y : S512x2048.Idx) :
    k0_pay1 (iblk m c 0 t) (iblk m c 1 t) (iblk m c 2 t) (iblk m c 3 t) (iblk m c 4 t) (iblk m c 5 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  have ht : t.val < 16 := lt_of_lt_of_eq t.isLt N_0
  obtain ⟨p, j, rfl⟩ : ∃ (p : Fin 512) (j : Fin 2048), y = ix2 p j := ⟨y 0, y 1, by blk_ext⟩
  obtain ⟨a, r, hr⟩ : ∃ (a : Fin 4) (r : Fin 2048), t.val * 512 + p.val = a.val * 2048 + r.val :=
    ⟨⟨(t.val * 512 + p.val) / 2048, by omega⟩, ⟨(t.val * 512 + p.val) % 2048, by omega⟩, by dsimp only; omega⟩
  rw [REF_at _ _ _ _ _ _ _ a r j (by blk_simp [idx t]; exact hr) (by blk_simp [idx t])]
  rw [pay_eq]
  refine LayerNorm.norm512_eq _ _ _ _ _ _ p _ _ j (fun k => mix_at m c t p k a r hr) ?_ ?_
  · blk_point [iblk, V, idx t]
  · blk_point [iblk, V, idx t]

/-- The result array after the run is the reference's. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; unfold outsAt0; frame_out
  exact point m c t y

end Cert.WoIdeal.Bridge

end
-- ==== Proof.WoClaim.lean ====
/-
  The claims about `Wo`: the two kernel programs and the reference run clean, and kernel and reference end with the same
  arrays.
-/
module

public import proofs.«01_k».proof.Defs
public import proofs.«01_k».proof.Proof.WoValue
public import proofs.«01_k».proof.Proof.Gen.Wo
public import proofs.«01_k».proof.Proof.Gen.Wo.Frame
public import Idealize.ShloMosaic.Lib.Claim

@[expose] public section

set_option maxRecDepth 16384

noncomputable section

open Idealize.ShloMosaic Idealize.ShloMosaic.TcCoe Idealize.SL.Sem

namespace Cert.WoClaim

/-- The reference runs and leaves its arguments and every counter as they were. -/
theorem ref_frame : Cert.quiescent_WoRefIdeal := fun m ρ _ =>
  (θ_run Cert.WoRefIdeal.defs _ _).mono (fun r h => ⟨fun c => (h c).2, sem_eq_zero_of_no_sems (by decide) r.2⟩)
    (Cert.WoRefIdeal.Value.run m ρ)

/-- Kernel and reference end with equal results over the extended reals. -/
theorem algebraic : Cert.algebraic_WoIdeal_WoRefIdeal := by
  pair_intro
  · run_from Cert.WoIdeal.Gen.run_main m g
  · run_from Cert.WoRefIdeal.Value.run m' g'
    · unfold Cert.WoRefIdeal.Value.res_main_v31; obtain ⟨h0, h1, h2, h3, h4, h5⟩ := hagree c; rw [h0, h1, h2, h3, h4, h5]; exact (Cert.WoIdeal.Bridge.final m c).symm

end Cert.WoClaim

end
-- ==== Proof.LayerNormS.lean ====
/-
  LAYER NORMALISATION, as the sample batch's kernels end in it. The reference normalises each row of a f32[8,8,2048]
  array; the kernels normalise the rows of a block of 64 tokens. Here: if a block's row is a row of the array,
  then the block's normalised row is the array's.
-/
module

public import proofs.«01_k».proof.Proof.Gen.FfnDownSIdeal
public import proofs.«01_k».proof.Proof.Gen.FfnDownSRefIdeal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.LayerNormS

/-! ## The reference's normalisation -/

/-- The row mean the reference takes, kept as a column. -/
def mean (v : FVec Ideal Cert.FfnDownSRefIdeal.S8x8x2048 .f32) : FVec Ideal Cert.FfnDownSRefIdeal.S8x8x1 .f32 :=
  Host.divf (broadcastInDim Cert.FfnDownSRefIdeal.S8x8x1 ![0, 1] Cert.FfnDownSRefIdeal.Gen.bcast_S8x8_S8x8x1_0_1
      (Host.reduceAdd v (constant Cert.FfnDownSRefIdeal.S_ .f32 0x00000000#32) Cert.FfnDownSRefIdeal.Gen.reducesTo_S8x8x2048_S8x8_d2 Cert.FfnDownSRefIdeal.Gen.h_S_))
    (broadcastInDim Cert.FfnDownSRefIdeal.S8x8x1 ![] Cert.FfnDownSRefIdeal.Gen.bcast_S_S8x8x1 (constant Cert.FfnDownSRefIdeal.S_ .f32 0x45000000#32))

/-- The rows less their means. -/
def centred (v : FVec Ideal Cert.FfnDownSRefIdeal.S8x8x2048 .f32) : FVec Ideal Cert.FfnDownSRefIdeal.S8x8x2048 .f32 :=
  subf v (broadcastInDim Cert.FfnDownSRefIdeal.S8x8x2048 ![0, 1, 2] Cert.FfnDownSRefIdeal.Gen.bcast_S8x8x1_S8x8x2048_0_1_2 (mean v))

/-- A gain or bias vector repeated over all rows. -/
def rows (g : FVec Ideal Cert.FfnDownSRefIdeal.S2048 .f32) : FVec Ideal Cert.FfnDownSRefIdeal.S8x8x2048 .f32 :=
  broadcastInDim Cert.FfnDownSRefIdeal.S8x8x2048 ![0, 1, 2] Cert.FfnDownSRefIdeal.Gen.bcast_S1x1x2048_S8x8x2048_0_1_2
    (broadcastInDim Cert.FfnDownSRefIdeal.S1x1x2048 ![2] Cert.FfnDownSRefIdeal.Gen.bcast_S2048_S1x1x2048_2 g)

/-- The reference's layer normalisation. -/
def norm (v : FVec Ideal Cert.FfnDownSRefIdeal.S8x8x2048 .f32) (g b : FVec Ideal Cert.FfnDownSRefIdeal.S2048 .f32) :
    FVec Ideal Cert.FfnDownSRefIdeal.S8x8x2048 .f32 :=
  addf (mulf (mulf (centred v) (broadcastInDim Cert.FfnDownSRefIdeal.S8x8x2048 ![0, 1, 2] Cert.FfnDownSRefIdeal.Gen.bcast_S8x8x1_S8x8x2048_0_1_2
      (Host.rsqrt (addf (mean (mulf (centred v) (centred v)))
        (broadcastInDim Cert.FfnDownSRefIdeal.S8x8x1 ![] Cert.FfnDownSRefIdeal.Gen.bcast_S_S8x8x1 (constant Cert.FfnDownSRefIdeal.S_ .f32 0x3727C5AC#32)))))) (rows g)) (rows b)

/-! ## The kernels' normalisation -/

/-- The mean column of a block of 64 rows. -/
def mean64 (v : FVec Ideal Cert.FfnDownSIdeal.S64x2048 .f32) : FVec Ideal Cert.FfnDownSIdeal.S64x1 .f32 :=
  divf (shapeCast Cert.FfnDownSIdeal.S64x1 (multiReduction .add [1] Cert.FfnDownSIdeal.S64 v 0x00000000#32 Cert.FfnDownSIdeal.Gen.reduces_S64x2048_S64 (.inl rfl) rfl) Cert.FfnDownSIdeal.Gen.shapeCasts_S64_S64x1)
    (broadcast Cert.FfnDownSIdeal.S64x1 (Scalar.ofBits .f32 0x45000000#32))

/-- A block's rows less their means. -/
def centred64 (v : FVec Ideal Cert.FfnDownSIdeal.S64x2048 .f32) : FVec Ideal Cert.FfnDownSIdeal.S64x2048 .f32 :=
  subf v (broadcastTo Cert.FfnDownSIdeal.S64x2048 (mean64 v) Cert.FfnDownSIdeal.Gen.broadcasts_S64x1_S64x2048)

/-- The normalisation of a block of 64 rows, as the kernel body spells it. -/
def norm64 (v : FVec Ideal Cert.FfnDownSIdeal.S64x2048 .f32) (g b : FVec Ideal Cert.FfnDownSIdeal.S1x2048 .f32) : FVec Ideal Cert.FfnDownSIdeal.S64x2048 .f32 :=
  addf (mulf (mulf (centred64 v) (broadcastTo Cert.FfnDownSIdeal.S64x2048 (rsqrt (addf (mean64 (mulf (centred64 v) (centred64 v)))
      (broadcast Cert.FfnDownSIdeal.S64x1 (Scalar.ofBits .f32 0x3727C5AC#32)))) Cert.FfnDownSIdeal.Gen.broadcasts_S64x1_S64x2048))
    (broadcastTo Cert.FfnDownSIdeal.S64x2048 (shapeCast Cert.FfnDownSIdeal.S1x2048 g Cert.FfnDownSIdeal.Gen.shapeCasts_S1x2048_S1x2048) Cert.FfnDownSIdeal.Gen.broadcasts_S1x2048_S64x2048))
    (broadcastTo Cert.FfnDownSIdeal.S64x2048 (shapeCast Cert.FfnDownSIdeal.S1x2048 b Cert.FfnDownSIdeal.Gen.shapeCasts_S1x2048_S1x2048) Cert.FfnDownSIdeal.Gen.broadcasts_S1x2048_S64x2048)

/-- A block row that is the array's row `(a, r)` is normalised as the reference normalises that row. -/
theorem norm64_eq (v : FVec Ideal Cert.FfnDownSIdeal.S64x2048 .f32) (g' b' : FVec Ideal Cert.FfnDownSIdeal.S1x2048 .f32)
    (X : FVec Ideal Cert.FfnDownSRefIdeal.S8x8x2048 .f32) (g b : FVec Ideal Cert.FfnDownSRefIdeal.S2048 .f32)
    (p : Fin 64) (a r : Fin 8) (j : Fin 2048) (hv : ∀ k : Fin 2048, v (ix2 p k) = X (ix3 a r k))
    (hg : g' (ix2 0 j) = g (ix1 j)) (hb : b' (ix2 0 j) = b (ix1 j)) :
    norm64 v g' b' (ix2 p j) = norm X g b (ix3 a r j) := by
  pointwise [norm64, centred64, mean64, norm, centred, mean, rows]
  simp only [hv, hg, hb]

end Cert.LayerNormS

end
-- ==== Proof.FfnDownSValue.lean ====
/-
  The VALUE of the FFN's down projection. Each of the 32 grid points takes 64 token rows of the hidden layer, multiplies
  them by the whole down-projection matrix, adds the scaled residual row and normalises each row by its mean and variance.
  Here: what a point leaves in its block is the reference's own term read at the block's place in the array (`point`), and
  so the array after the run is the reference's array (`final`).
-/
module

public import proofs.«01_k».proof.Proof.Gen.FfnDownSIdeal.Frame
public import proofs.«01_k».proof.Proof.Gen.FfnDownSRefIdeal.Run
public import proofs.«01_k».proof.Proof.LayerNormS
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownSIdeal.Bridge

open Cert.FfnDownSIdeal Cert.FfnDownSIdeal.Gen

variable (m : (ℓ : Loc nD τ sig) → Buf (Elt Ideal) ℓ)

/-- The reference's residual sum before the normalisation: the scaled input plus the hidden layer through the matrix. -/
def mix (h : FVec Ideal Cert.FfnDownSRefIdeal.S64x5632 .bf16) (w : FVec Ideal Cert.FfnDownSRefIdeal.S5632x2048 .f32)
    (x : FVec Ideal Cert.FfnDownSRefIdeal.S8x8x2048 .f32) : FVec Ideal Cert.FfnDownSRefIdeal.S8x8x2048 .f32 :=
  addf (mulf (broadcastInDim Cert.FfnDownSRefIdeal.S8x8x2048 ![] Cert.FfnDownSRefIdeal.Gen.bcast_S_S8x8x2048 (constant Cert.FfnDownSRefIdeal.S_ .f32 0x3FD744FD#32)) x)
    (Host.dotGeneral Cert.FfnDownSRefIdeal.dot_S8x8x5632_S5632x2048_S8x8x2048_2_0_01_1_n_n none
      (shapeCast _ (extf .f32 h Cert.FfnDownSRefIdeal.Gen.bitsLt_bf16_f32) Cert.FfnDownSRefIdeal.Gen.shapeCasts_S64x5632_S8x8x5632) w)

/-- The reference's result over its five arguments. -/
abbrev REF (h : FVec Ideal Cert.FfnDownSRefIdeal.S64x5632 .bf16) (w : FVec Ideal Cert.FfnDownSRefIdeal.S5632x2048 .f32)
    (x : FVec Ideal Cert.FfnDownSRefIdeal.S8x8x2048 .f32) (g b : FVec Ideal Cert.FfnDownSRefIdeal.S2048 .f32) :
    FVec Ideal Cert.FfnDownSRefIdeal.S64x2048 .f32 :=
  shapeCast _ (LayerNormS.norm (mix h w x) g b) Cert.FfnDownSRefIdeal.Gen.shapeCasts_S8x8x2048_S64x2048

/-- Where each window's block lies at each grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- The kernel's residual sum over a block of 64 rows. -/
def mix64 (h : FVec Ideal S64x5632 .bf16) (w : FVec Ideal S5632x2048 .bf16) (x : FVec Ideal S64x2048 .f32) : FVec Ideal S64x2048 .f32 :=
  addf (mulf (broadcast S64x2048 (Scalar.ofBits .f32 0x3FD744FD#32)) (shapeCast S64x2048 x shapeCasts_S64x2048_S64x2048))
    (matmul dot_S64x5632_S5632x2048_S64x2048_1_0_0_1_n_n none h (shapeCast S5632x2048 w shapeCasts_S5632x2048_S5632x2048) (constant S64x2048 .f32 0x00000000#32))

/-- The stored value is the normalisation of the residual sum. -/
theorem pay_eq (h : FVec Ideal S64x5632 .bf16) (w : FVec Ideal S5632x2048 .bf16) (x : FVec Ideal S64x2048 .f32) (g b : FVec Ideal S1x2048 .f32) :
    k0_pay1 h w x g b = LayerNormS.norm64 (mix64 h w x) g b := rfl

/-- The reference's result at a flat row is the normalised array at the batch and the time of the row. -/
theorem REF_at (h : FVec Ideal Cert.FfnDownSRefIdeal.S64x5632 .bf16) (w : FVec Ideal Cert.FfnDownSRefIdeal.S5632x2048 .f32)
    (x : FVec Ideal Cert.FfnDownSRefIdeal.S8x8x2048 .f32) (g b : FVec Ideal Cert.FfnDownSRefIdeal.S2048 .f32) (i : Cert.FfnDownSRefIdeal.S64x2048.Idx)
    (a r : Fin 8) (j : Fin 2048) (h0 : (i 0 : ℕ) = a.val * 8 + r.val) (h1 : (i 1 : ℕ) = j.val) :
    REF h w x g b i = LayerNormS.norm (mix h w x) g b (ix3 a r j) := by
  pointwise [REF]
  blk_ext

/-- A block row of the residual sum is a row of the reference's. -/
theorem mix_at (c : Dev nD) (t : Fin cfg0.N) (p : Fin 64) (k : Fin 2048) (a r : Fin 8) (hr : t.val * 64 + p.val = a.val * 8 + r.val) :
    mix64 (iblk m c 0 t) (iblk m c 1 t) (iblk m c 2 t) (ix2 p k)
      = mix (m ((c : Thread nD τ).loc main_arg0)) (m ((c : Thread nD τ).loc main_arg1)) (m ((c : Thread nD τ).loc main_arg2)) (ix3 a r k) := by
  pointwise [mix64, mix]
  blk_point [iblk, V, idx t]

/-- What the body stores at index `y` of point `t`'s block is the reference at that place of the array. -/
theorem point (c : Dev nD) (t : Fin cfg0.N) (y : S64x2048.Idx) :
    k0_pay1 (iblk m c 0 t) (iblk m c 1 t) (iblk m c 2 t) (iblk m c 3 t) (iblk m c 4 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have ht : t.val < 1 := lt_of_lt_of_eq t.isLt N_0
  obtain ⟨p, j, rfl⟩ : ∃ (p : Fin 64) (j : Fin 2048), y = ix2 p j := ⟨y 0, y 1, by blk_ext⟩
  obtain ⟨a, r, hr⟩ : ∃ (a r : Fin 8), t.val * 64 + p.val = a.val * 8 + r.val :=
    ⟨⟨(t.val * 64 + p.val) / 8, by omega⟩, ⟨(t.val * 64 + p.val) % 8, by omega⟩, by dsimp only; omega⟩
  rw [REF_at _ _ _ _ _ _ a r j (by blk_simp [idx t]; omega) (by blk_simp [idx t])]
  rw [pay_eq]
  refine LayerNormS.norm64_eq _ _ _ _ _ _ p _ _ j (fun k => mix_at m c t p k a r hr) ?_ ?_
  · blk_point [iblk, V, idx t]
  · blk_point [iblk, V, idx t]

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]; unfold outsAt0; frame_out
  exact point m c t y

end Cert.FfnDownSIdeal.Bridge

end
-- ==== Proof.FfnDownSClaim.lean ====
/-
  The claims about `FfnDownS`: the two kernel programs and the reference run clean, and kernel and reference end with the same
  arrays.
-/
module

public import proofs.«01_k».proof.Defs
public import proofs.«01_k».proof.Proof.FfnDownSValue
public import proofs.«01_k».proof.Proof.Gen.FfnDownS
public import proofs.«01_k».proof.Proof.Gen.FfnDownS.Frame
public import Idealize.ShloMosaic.Lib.Claim

@[expose] public section

set_option maxRecDepth 16384

noncomputable section

open Idealize.ShloMosaic Idealize.ShloMosaic.TcCoe Idealize.SL.Sem

namespace Cert.FfnDownSClaim

/-- The reference runs and leaves its arguments and every counter as they were. -/
theorem ref_frame : Cert.quiescent_FfnDownSRefIdeal := fun m ρ _ =>
  (θ_run Cert.FfnDownSRefIdeal.defs _ _).mono (fun r h => ⟨fun c => (h c).2, sem_eq_zero_of_no_sems (by decide) r.2⟩)
    (Cert.FfnDownSRefIdeal.Value.run m ρ)

/-- Kernel and reference end with equal results over the extended reals. -/
theorem algebraic : Cert.algebraic_FfnDownSIdeal_FfnDownSRefIdeal := by
  pair_intro
  · run_from Cert.FfnDownSIdeal.Gen.run_main m g
  · run_from Cert.FfnDownSRefIdeal.Value.run m' g'
    · exact (Cert.FfnDownSIdeal.Bridge.final m c).symm

end Cert.FfnDownSClaim

end
-- ==== Proof.QkvSValue.lean ====
/-
  The VALUE of the attention layer's query, key and value projections. Four grid points share 64 token rows: the first
  keeps the rows in a scratch buffer, and each multiplies them by 512 columns of the three matrices. The scratch holds the
  point's own rows at every point (`scratch`), so each of the three arrays after the run is the reference's (`final_q`,
  `final_k`, `final_v`).
-/
module

public import proofs.«01_k».proof.Proof.Gen.QkvSIdeal.Frame
public import proofs.«01_k».proof.Proof.Gen.QkvSRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvSIdeal.Bridge

open Cert.QkvSIdeal Cert.QkvSIdeal.Gen

variable (m : (ℓ : Loc nD τ sig) → Buf (Elt Ideal) ℓ)

/-- The reference's projection with the three heads' axes apart. -/
abbrev all (x : FVec Ideal Cert.QkvSRefIdeal.S8x8x2048 .f32) (w : FVec Ideal Cert.QkvSRefIdeal.S2048x6144 .f32) : FVec Ideal Cert.QkvSRefIdeal.S8x8x3x16x128 .f32 :=
  shapeCast _ (Host.dotGeneral Cert.QkvSRefIdeal.dot_S8x8x2048_S2048x6144_S8x8x6144_2_0_01_1_n_n none x w) Cert.QkvSRefIdeal.Gen.shapeCasts_S8x8x6144_S8x8x3x16x128

/-- The reference's queries. -/
abbrev REF_q (x : FVec Ideal Cert.QkvSRefIdeal.S8x8x2048 .f32) (w : FVec Ideal Cert.QkvSRefIdeal.S2048x6144 .f32) : FVec Ideal Cert.QkvSRefIdeal.S64x2048 .f32 :=
  shapeCast _ (shapeCast _ (extractStridedSlice Cert.QkvSRefIdeal.S8x8x1x16x128 ![0, 0, 0, 0, 0] (all x w) Cert.QkvSRefIdeal.Gen.slices_S8x8x3x16x128_S8x8x1x16x128_0_0_0_0_0)
    Cert.QkvSRefIdeal.Gen.shapeCasts_S8x8x1x16x128_S8x8x16x128) Cert.QkvSRefIdeal.Gen.shapeCasts_S8x8x16x128_S64x2048

/-- The reference's keys. -/
abbrev REF_k (x : FVec Ideal Cert.QkvSRefIdeal.S8x8x2048 .f32) (w : FVec Ideal Cert.QkvSRefIdeal.S2048x6144 .f32) : FVec Ideal Cert.QkvSRefIdeal.S64x2048 .f32 :=
  shapeCast _ (shapeCast _ (extractStridedSlice Cert.QkvSRefIdeal.S8x8x1x16x128 ![0, 0, 1, 0, 0] (all x w) Cert.QkvSRefIdeal.Gen.slices_S8x8x3x16x128_S8x8x1x16x128_0_0_1_0_0)
    Cert.QkvSRefIdeal.Gen.shapeCasts_S8x8x1x16x128_S8x8x16x128) Cert.QkvSRefIdeal.Gen.shapeCasts_S8x8x16x128_S64x2048

/-- The reference's values. -/
abbrev REF_v (x : FVec Ideal Cert.QkvSRefIdeal.S8x8x2048 .f32) (w : FVec Ideal Cert.QkvSRefIdeal.S2048x6144 .f32) : FVec Ideal Cert.QkvSRefIdeal.S64x2048 .f32 :=
  shapeCast _ (shapeCast _ (extractStridedSlice Cert.QkvSRefIdeal.S8x8x1x16x128 ![0, 0, 2, 0, 0] (all x w) Cert.QkvSRefIdeal.Gen.slices_S8x8x3x16x128_S8x8x1x16x128_0_0_2_0_0)
    Cert.QkvSRefIdeal.Gen.shapeCasts_S8x8x1x16x128_S8x8x16x128) Cert.QkvSRefIdeal.Gen.shapeCasts_S8x8x16x128_S64x2048

/-- Where each window's block lies at each grid point. -/
theorem idx : ∀ t : Fin cfg0.N, win0_0.index t = ![t.val / 4, 0] ∧ win0_1.index t = ![0, t.val % 4] ∧ win0_2.index t = ![0, t.val % 4]
    ∧ win0_3.index t = ![0, t.val % 4] ∧ win0_4.index t = ![t.val / 4, t.val % 4] ∧ win0_5.index t = ![t.val / 4, t.val % 4]
    ∧ win0_6.index t = ![t.val / 4, t.val % 4] :=
  (by decide +kernel : ∀ t : Fin grid0.N, _)

/-- Two points of the same group of four see the same token rows. -/
theorem rows_eq (c : Dev nD) (t t' : Fin cfg0.N) (h : t.val / 4 = t'.val / 4) : (iblk m c 0 t : FVec Ideal S64x2048 .f32) = iblk m c 0 t' := by
  funext y
  idx_vars y
  blk_ext [iblk, V, idx t, idx t']

/-- The scratch buffer holds the point's own token rows after every point. -/
theorem scratch (c : Dev nD) (n : ℕ) (hn : n < cfg0.N) : (outsAt0 m c n hn).2.2.2 = k0_pay1 (iblk m c 0 ⟨n, hn⟩) := by
  induction n with
  | zero => rw [outsAt0_A m c ⟨0, hn⟩ rfl]; frame_out
  | succ n ih =>
    by_cases h0 : (n + 1) % 4 = 0
    · rw [outsAt0_A m c ⟨n + 1, hn⟩ h0]; frame_out
    · rw [outsAt0_B m c ⟨n + 1, hn⟩ h0]
      dsimp only [sout0_B_0]
      refine (ih (Nat.lt_of_succ_lt hn)).trans ?_
      rw [rows_eq m c ⟨n, Nat.lt_of_succ_lt hn⟩ ⟨n + 1, hn⟩ (by dsimp only; omega)]

/-- What every point leaves in output 0: its rows times its columns. -/
theorem left_4 (c : Dev nD) (t : Fin cfg0.N) : (outsAt0 m c t.val t.isLt).1 = k0_pay2 (k0_pay1 (iblk m c 0 t)) (iblk m c 1 t) := by
  by_cases h0 : t.val % 4 = 0
  · rw [outsAt0_A m c t h0]; frame_out
  · rw [outsAt0_B m c t h0]; frame_out
    rw [scratch m c (t.val - 1), rows_eq m c ⟨t.val - 1, Nat.lt_of_le_of_lt (Nat.sub_le _ _) t.isLt⟩ t (by dsimp only; omega)]
    erw [Memref.IsWhole.read_unread]

/-- What every point leaves in output 1: its rows times its columns. -/
theorem left_5 (c : Dev nD) (t : Fin cfg0.N) : (outsAt0 m c t.val t.isLt).2.1 = k0_pay3 (k0_pay1 (iblk m c 0 t)) (iblk m c 2 t) := by
  by_cases h0 : t.val % 4 = 0
  · rw [outsAt0_A m c t h0]; frame_out
  · rw [outsAt0_B m c t h0]; frame_out
    rw [scratch m c (t.val - 1), rows_eq m c ⟨t.val - 1, Nat.lt_of_le_of_lt (Nat.sub_le _ _) t.isLt⟩ t (by dsimp only; omega)]
    erw [Memref.IsWhole.read_unread]

/-- What every point leaves in output 2: its rows times its columns. -/
theorem left_6 (c : Dev nD) (t : Fin cfg0.N) : (outsAt0 m c t.val t.isLt).2.2.1 = k0_pay4 (k0_pay1 (iblk m c 0 t)) (iblk m c 3 t) := by
  by_cases h0 : t.val % 4 = 0
  · rw [outsAt0_A m c t h0]; frame_out
  · rw [outsAt0_B m c t h0]; frame_out
    rw [scratch m c (t.val - 1), rows_eq m c ⟨t.val - 1, Nat.lt_of_le_of_lt (Nat.sub_le _ _) t.isLt⟩ t (by dsimp only; omega)]
    erw [Memref.IsWhole.read_unread]

set_option maxHeartbeats 1000000 in
/-- The reference's output 0 at a flat row: one entry of the product. -/
theorem REF_q_at (x : FVec Ideal Cert.QkvSRefIdeal.S8x8x2048 .f32) (w : FVec Ideal Cert.QkvSRefIdeal.S2048x6144 .f32) (i : Cert.QkvSRefIdeal.S64x2048.Idx)
    (a r : Fin 8) (j : Fin 2048) (h0 : (i 0 : ℕ) = a.val * 8 + r.val) (h1 : (i 1 : ℕ) = j.val) :
    REF_q x w i = Host.dotGeneral Cert.QkvSRefIdeal.dot_S8x8x2048_S2048x6144_S8x8x6144_2_0_01_1_n_n none x w (ix3 a r (⟨j.val + 0, by omega⟩ : Fin 6144)) := by
  unfold REF_q all
  generalize Host.dotGeneral Cert.QkvSRefIdeal.dot_S8x8x2048_S2048x6144_S8x8x6144_2_0_01_1_n_n none x w = D
  pointwise
  blk_ext

/-- A block of output 0 is the reference read at the block's place. -/
theorem point_q (c : Dev nD) (t : Fin cfg0.N) (y : S64x512.Idx) : k0_pay2 (k0_pay1 (iblk m c 0 t)) (iblk m c 1 t) y
    = REF_q (m ((c : Thread nD τ).loc main_arg0)) (m ((c : Thread nD τ).loc main_arg1)) (((cfg0.win 4).blk t).view.emb y) := by
  have ht : t.val < 4 := lt_of_lt_of_eq t.isLt N_0
  obtain ⟨p, j, rfl⟩ : ∃ (p : Fin 64) (j : Fin 512), y = ix2 p j := ⟨y 0, y 1, by blk_ext⟩
  obtain ⟨a, r, hr⟩ : ∃ (a r : Fin 8), t.val / 4 * 64 + p.val = a.val * 8 + r.val :=
    ⟨⟨(t.val / 4 * 64 + p.val) / 8, by omega⟩, ⟨(t.val / 4 * 64 + p.val) % 8, by omega⟩, by dsimp only; omega⟩
  rw [REF_q_at _ _ _ a r ⟨t.val % 4 * 512 + j.val, by omega⟩ (by blk_simp [idx t]; exact hr) (by blk_simp [idx t])]
  pointwise [k0_pay2, k0_pay1]
  blk_point [iblk, V, idx t]

/-- Output 0 after the run is the reference's. -/
theorem final_q (c : Dev nD) : (dats m 0 c).arrAt 4 (cfgs 0).N = REF_q (m ((c : Thread nD τ).loc main_arg0)) (m ((c : Thread nD τ).loc main_arg1)) := by
  refine (dats m 0 c).arrAt_eq_of_covers 4 _ (by decide +kernel) fun t _ y => ?_
  blk_simp
  rw [after0_4, left_4]
  exact point_q m c t y

set_option maxHeartbeats 1000000 in
/-- The reference's output 1 at a flat row: one entry of the product. -/
theorem REF_k_at (x : FVec Ideal Cert.QkvSRefIdeal.S8x8x2048 .f32) (w : FVec Ideal Cert.QkvSRefIdeal.S2048x6144 .f32) (i : Cert.QkvSRefIdeal.S64x2048.Idx)
    (a r : Fin 8) (j : Fin 2048) (h0 : (i 0 : ℕ) = a.val * 8 + r.val) (h1 : (i 1 : ℕ) = j.val) :
    REF_k x w i = Host.dotGeneral Cert.QkvSRefIdeal.dot_S8x8x2048_S2048x6144_S8x8x6144_2_0_01_1_n_n none x w (ix3 a r (⟨j.val + 2048, by omega⟩ : Fin 6144)) := by
  unfold REF_k all
  generalize Host.dotGeneral Cert.QkvSRefIdeal.dot_S8x8x2048_S2048x6144_S8x8x6144_2_0_01_1_n_n none x w = D
  pointwise
  blk_ext

/-- A block of output 1 is the reference read at the block's place. -/
theorem point_k (c : Dev nD) (t : Fin cfg0.N) (y : S64x512.Idx) : k0_pay3 (k0_pay1 (iblk m c 0 t)) (iblk m c 2 t) y
    = REF_k (m ((c : Thread nD τ).loc main_arg0)) (m ((c : Thread nD τ).loc main_arg1)) (((cfg0.win 5).blk t).view.emb y) := by
  have ht : t.val < 4 := lt_of_lt_of_eq t.isLt N_0
  obtain ⟨p, j, rfl⟩ : ∃ (p : Fin 64) (j : Fin 512), y = ix2 p j := ⟨y 0, y 1, by blk_ext⟩
  obtain ⟨a, r, hr⟩ : ∃ (a r : Fin 8), t.val / 4 * 64 + p.val = a.val * 8 + r.val :=
    ⟨⟨(t.val / 4 * 64 + p.val) / 8, by omega⟩, ⟨(t.val / 4 * 64 + p.val) % 8, by omega⟩, by dsimp only; omega⟩
  rw [REF_k_at _ _ _ a r ⟨t.val % 4 * 512 + j.val, by omega⟩ (by blk_simp [idx t]; exact hr) (by blk_simp [idx t])]
  pointwise [k0_pay3, k0_pay1]
  blk_point [iblk, V, idx t]

/-- Output 1 after the run is the reference's. -/
theorem final_k (c : Dev nD) : (dats m 0 c).arrAt 5 (cfgs 0).N = REF_k (m ((c : Thread nD τ).loc main_arg0)) (m ((c : Thread nD τ).loc main_arg1)) := by
  refine (dats m 0 c).arrAt_eq_of_covers 5 _ (by decide +kernel) fun t _ y => ?_
  blk_simp
  rw [after0_5, left_5]
  exact point_k m c t y

set_option maxHeartbeats 1000000 in
/-- The reference's output 2 at a flat row: one entry of the product. -/
theorem REF_v_at (x : FVec Ideal Cert.QkvSRefIdeal.S8x8x2048 .f32) (w : FVec Ideal Cert.QkvSRefIdeal.S2048x6144 .f32) (i : Cert.QkvSRefIdeal.S64x2048.Idx)
    (a r : Fin 8) (j : Fin 2048) (h0 : (i 0 : ℕ) = a.val * 8 + r.val) (h1 : (i 1 : ℕ) = j.val) :
    REF_v x w i = Host.dotGeneral Cert.QkvSRefIdeal.dot_S8x8x2048_S2048x6144_S8x8x6144_2_0_01_1_n_n none x w (ix3 a r (⟨j.val + 4096, by omega⟩ : Fin 6144)) := by
  unfold REF_v all
  generalize Host.dotGeneral Cert.QkvSRefIdeal.dot_S8x8x2048_S2048x6144_S8x8x6144_2_0_01_1_n_n none x w = D
  pointwise
  blk_ext

/-- A block of output 2 is the reference read at the block's place. -/
theorem point_v (c : Dev nD) (t : Fin cfg0.N) (y : S64x512.Idx) : k0_pay4 (k0_pay1 (iblk m c 0 t)) (iblk m c 3 t) y
    = REF_v (m ((c : Thread nD τ).loc main_arg0)) (m ((c : Thread nD τ).loc main_arg1)) (((cfg0.win 6).blk t).view.emb y) := by
  have ht : t.val < 4 := lt_of_lt_of_eq t.isLt N_0
  obtain ⟨p, j, rfl⟩ : ∃ (p : Fin 64) (j : Fin 512), y = ix2 p j := ⟨y 0, y 1, by blk_ext⟩
  obtain ⟨a, r, hr⟩ : ∃ (a r : Fin 8), t.val / 4 * 64 + p.val = a.val * 8 + r.val :=
    ⟨⟨(t.val / 4 * 64 + p.val) / 8, by omega⟩, ⟨(t.val / 4 * 64 + p.val) % 8, by omega⟩, by dsimp only; omega⟩
  rw [REF_v_at _ _ _ a r ⟨t.val % 4 * 512 + j.val, by omega⟩ (by blk_simp [idx t]; exact hr) (by blk_simp [idx t])]
  pointwise [k0_pay4, k0_pay1]
  blk_point [iblk, V, idx t]

/-- Output 2 after the run is the reference's. -/
theorem final_v (c : Dev nD) : (dats m 0 c).arrAt 6 (cfgs 0).N = REF_v (m ((c : Thread nD τ).loc main_arg0)) (m ((c : Thread nD τ).loc main_arg1)) := by
  refine (dats m 0 c).arrAt_eq_of_covers 6 _ (by decide +kernel) fun t _ y => ?_
  blk_simp
  rw [after0_6, left_6]
  exact point_v m c t y

end Cert.QkvSIdeal.Bridge

end
-- ==== Proof.QkvSClaim.lean ====
/-
  The claims about `QkvS`: the two kernel programs and the reference run clean, and kernel and reference end with the same
  arrays.
-/
module

public import proofs.«01_k».proof.Defs
public import proofs.«01_k».proof.Proof.QkvSValue
public import proofs.«01_k».proof.Proof.Gen.QkvS
public import proofs.«01_k».proof.Proof.Gen.QkvS.Frame
public import Idealize.ShloMosaic.Lib.Claim

@[expose] public section

set_option maxRecDepth 16384

noncomputable section

open Idealize.ShloMosaic Idealize.ShloMosaic.TcCoe Idealize.SL.Sem

namespace Cert.QkvSClaim

/-- The reference runs and leaves its arguments and every counter as they were. -/
theorem ref_frame : Cert.quiescent_QkvSRefIdeal := fun m ρ _ =>
  (θ_run Cert.QkvSRefIdeal.defs _ _).mono (fun r h => ⟨fun c => (h c).2.2.2, sem_eq_zero_of_no_sems (by decide) r.2⟩)
    (Cert.QkvSRefIdeal.Value.run m ρ)

/-- Kernel and reference end with equal results over the extended reals. -/
theorem algebraic : Cert.algebraic_QkvSIdeal_QkvSRefIdeal := by
  pair_intro
  · run_from Cert.QkvSIdeal.Gen.run_main m g
  · run_from Cert.QkvSRefIdeal.Value.run m' g'
    · exact (Cert.QkvSIdeal.Bridge.final_q m c).symm
    · exact (Cert.QkvSIdeal.Bridge.final_k m c).symm
    · exact (Cert.QkvSIdeal.Bridge.final_v m c).symm

end Cert.QkvSClaim

end
-- ==== Proof.ProjKit.lean ====
module

public import proofs.«01_k».proof.Proof.Gen.ProjIdeal.Frame
public import proofs.«01_k».proof.Proof.Gen.ProjIdeal.Skeleton
public import Idealize.ShloMosaic.Lib.Pipeline.TableIdle

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

/-! What the body of the projections' kernel branches on, and the memrefs it is called with at a point. -/

/-- The first branch's condition: the first column block. -/
abbrev cond0 (i : grid0.Coords) : Prop := (Scalar.cmpi .ne (Scalar.extui (Scalar.cmpi .eq (BitVec.ofNat 32 (i 1).val) 0#32)) 0#32) = 1#1
/-- The branch of column blocks 0 and 1. -/
abbrev cond2 (i : grid0.Coords) : Prop := k0_cond2 i = 1#1
/-- The branch of column blocks 2 and 3. -/
abbrev cond3 (i : grid0.Coords) : Prop := k0_cond3 i = 1#1
/-- The branch of column blocks 4 and 5. -/
abbrev cond4 (i : grid0.Coords) : Prop := k0_cond4 i = 1#1

/-- The second coordinate counts a row block's column blocks. -/
theorem col_val (t : Fin cfg0.N) : (grid0.coords t 1).val = t.val % 6 := by
  have e : (grid0.coords t 1).val = t.val / 1 % 6 := Pipeline.Grid.coords_val t 1 (by decide) rfl
  rwa [Nat.div_one] at e

/-- The first coordinate is the row block. -/
theorem row_val (t : Fin cfg0.N) : (grid0.coords t 0).val = t.val / 6 := by
  have e : (grid0.coords t 0).val = t.val / 6 % 16 := Pipeline.Grid.coords_val t 0 (by decide) rfl
  have ht : t.val < 96 := Nat.lt_of_lt_of_eq t.isLt N_0
  rw [e]; omega

theorem cond0_iff (i : grid0.Coords) : cond0 i ↔ (i 1).val = 0 := by
  unfold cond0
  have h : ∀ j : Fin 6, (Scalar.cmpi .ne (Scalar.extui (Scalar.cmpi .eq (BitVec.ofNat 32 j.val) 0#32) : BitVec 32) 0#32) = 1#1 ↔ j.val = 0 := by decide +kernel
  exact h (i 1)

theorem cond2_iff (i : grid0.Coords) : cond2 i ↔ (i 1).val / 2 = 0 := by
  unfold cond2 k0_cond2
  generalize hj : i 1 = j
  clear hj
  revert j
  decide +kernel

theorem cond3_iff (i : grid0.Coords) : cond3 i ↔ (i 1).val / 2 = 1 := by
  unfold cond3 k0_cond3
  generalize hj : i 1 = j
  clear hj
  revert j
  decide +kernel

theorem cond4_iff (i : grid0.Coords) : cond4 i ↔ (i 1).val / 2 = 2 := by
  unfold cond4 k0_cond4
  generalize hj : i 1 = j
  clear hj
  revert j
  decide +kernel

theorem hcond0 (t : Fin cfg0.N) : cond0 (grid0.coords t) ↔ t.val % 6 = 0 := by rw [cond0_iff, col_val]
theorem hcond2 (t : Fin cfg0.N) : cond2 (grid0.coords t) ↔ t.val % 6 / 2 = 0 := by rw [cond2_iff, col_val]
theorem hcond3 (t : Fin cfg0.N) : cond3 (grid0.coords t) ↔ t.val % 6 / 2 = 1 := by rw [cond3_iff, col_val]
theorem hcond4 (t : Fin cfg0.N) : cond4 (grid0.coords t) ↔ t.val % 6 / 2 = 2 := by rw [cond4_iff, col_val]
/-- Window 0's staging memref at a point. -/
abbrev ms0 (t : Fin cfg0.N) : Memref sig .tc .vmem S512x2048 .f32 := win0_0.stage (cfg0.slots t 0)
/-- Window 1's staging memref at a point. -/
abbrev ms1 (t : Fin cfg0.N) : Memref sig .tc .vmem S1x1x2048 .f32 := win0_1.stage (cfg0.slots t 1)
/-- Window 2's staging memref at a point. -/
abbrev ms2 (t : Fin cfg0.N) : Memref sig .tc .vmem S6x2048 .f32 := win0_2.stage (cfg0.slots t 2)
/-- Window 3's staging memref at a point. -/
abbrev ms3 (t : Fin cfg0.N) : Memref sig .tc .vmem S2048x1024 .bf16 := win0_3.stage (cfg0.slots t 3)
/-- Window 4's staging memref at a point. -/
abbrev ms4 (t : Fin cfg0.N) : Memref sig .tc .vmem S2048x128 .bf16 := win0_4.stage (cfg0.slots t 4)
/-- Window 5's staging memref at a point. -/
abbrev ms5 (t : Fin cfg0.N) : Memref sig .tc .vmem S2048x128 .bf16 := win0_5.stage (cfg0.slots t 5)
/-- Window 6's staging memref at a point. -/
abbrev ms6 (t : Fin cfg0.N) : Memref sig .tc .vmem S2048x256 .bf16 := win0_6.stage (cfg0.slots t 6)
/-- Window 7's staging memref at a point. -/
abbrev ms7 (t : Fin cfg0.N) : Memref sig .tc .vmem S128x1024 .bf16 := win0_7.stage (cfg0.slots t 7)
/-- Window 8's staging memref at a point. -/
abbrev ms8 (t : Fin cfg0.N) : Memref sig .tc .vmem S128x1024 .bf16 := win0_8.stage (cfg0.slots t 8)
/-- Window 9's staging memref at a point. -/
abbrev ms9 (t : Fin cfg0.N) : Memref sig .tc .vmem S256x1024 .bf16 := win0_9.stage (cfg0.slots t 9)
/-- Window 10's staging memref at a point. -/
abbrev ms10 (t : Fin cfg0.N) : Memref sig .tc .vmem S1x1024 .f32 := win0_10.stage (cfg0.slots t 10)
/-- Window 11's staging memref at a point. -/
abbrev ms11 (t : Fin cfg0.N) : Memref sig .tc .vmem S1x1024 .f32 := win0_11.stage (cfg0.slots t 11)
/-- Window 12's staging memref at a point. -/
abbrev ms12 (t : Fin cfg0.N) : Memref sig .tc .vmem S512x1024 .bf16 := win0_12.stage (cfg0.slots t 12)
/-- Window 13's staging memref at a point. -/
abbrev ms13 (t : Fin cfg0.N) : Memref sig .tc .vmem S512x1024 .bf16 := win0_13.stage (cfg0.slots t 13)
/-- Window 14's staging memref at a point. -/
abbrev ms14 (t : Fin cfg0.N) : Memref sig .tc .vmem S512x1024 .bf16 := win0_14.stage (cfg0.slots t 14)
/-- Window 15's staging memref at a point. -/
abbrev ms15 (t : Fin cfg0.N) : Memref sig .tc .vmem S512x1024 .f32 := win0_15.stage (cfg0.slots t 15)
/-- Window 16's staging memref at a point. -/
abbrev ms16 (t : Fin cfg0.N) : Memref sig .tc .vmem S512x1024 .bf16 := win0_16.stage (cfg0.slots t 16)
/-- Window 17's staging memref at a point. -/
abbrev ms17 (t : Fin cfg0.N) : Memref sig .tc .vmem S512x1024 .bf16 := win0_17.stage (cfg0.slots t 17)
/-- Scratch buffer 0. -/
abbrev sc0 : Memref sig .tc .vmem S3x512x2048 .bf16 := Memref.whole cc0_scratch0
/-- Scratch buffer 1. -/
abbrev sc1 : Memref sig .tc .vmem S512x128 .bf16 := Memref.whole cc0_scratch1
/-- Scratch buffer 2. -/
abbrev sc2 : Memref sig .tc .vmem S512x128 .bf16 := Memref.whole cc0_scratch2
/-- Scratch buffer 3. -/
abbrev sc3 : Memref sig .tc .vmem S512x256 .bf16 := Memref.whole cc0_scratch3
/-- Scratch buffer 4. -/
abbrev sc4 : Memref sig .tc .vmem S8x2048 .f32 := Memref.whole cc0_scratch4
/-- What the launch hands the region: the scratch buffers at some contents, the generator register at some state. -/
theorem phi_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.ProjIdeal.Body

end
-- ==== Proof.ProjRunA.lean ====
module

public import proofs.«01_k».proof.Proof.ProjKit

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (c : Dev nD) (i : grid0.Coords) (arg2 : Memref sig .tc .vmem S512x2048 .f32) (harg2 : arg2.IsWhole)
  (arg3 : Memref sig .tc .vmem S1x1x2048 .f32) (harg3 : arg3.IsWhole)
  (arg4 : Memref sig .tc .vmem S6x2048 .f32) (harg4 : arg4.IsWhole)
  (arg5 : Memref sig .tc .vmem S2048x1024 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x256 .bf16) (harg8 : arg8.IsWhole)
  (arg9 : Memref sig .tc .vmem S128x1024 .bf16) (harg9 : arg9.IsWhole)
  (arg10 : Memref sig .tc .vmem S128x1024 .bf16) (harg10 : arg10.IsWhole)
  (arg11 : Memref sig .tc .vmem S256x1024 .bf16) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S512x1024 .bf16) (harg14 : arg14.IsWhole)
  (arg15 : Memref sig .tc .vmem S512x1024 .bf16) (harg15 : arg15.IsWhole)
  (arg16 : Memref sig .tc .vmem S512x1024 .bf16) (harg16 : arg16.IsWhole)
  (arg17 : Memref sig .tc .vmem S512x1024 .f32) (harg17 : arg17.IsWhole)
  (arg18 : Memref sig .tc .vmem S512x1024 .bf16) (harg18 : arg18.IsWhole)
  (arg19 : Memref sig .tc .vmem S512x1024 .bf16) (harg19 : arg19.IsWhole)
  (arg20 : Memref sig .tc .vmem S3x512x2048 .bf16) (harg20 : arg20.IsWhole)
  (arg21 : Memref sig .tc .vmem S512x128 .bf16) (harg21 : arg21.IsWhole)
  (arg22 : Memref sig .tc .vmem S512x128 .bf16) (harg22 : arg22.IsWhole)
  (arg23 : Memref sig .tc .vmem S512x256 .bf16) (harg23 : arg23.IsWhole)
  (arg24 : Memref sig .tc .vmem S8x2048 .f32) (harg24 : arg24.IsWhole)

set_option maxHeartbeats 4000000 in
/-- The kernel's body at the first column block: the mixes and the low-rank hidden rows are formed. -/
noncomputable def runA (hc0 : cond0 i) (hc2 : cond2 i) (hc3 : ¬cond3 i) (hc4 : ¬cond4 i)
    (x2 : Vec F S512x2048 .f32) (x3 : Vec F S1x1x2048 .f32) (x4 : Vec F S6x2048 .f32) (x5 : Vec F S2048x1024 .bf16) (x6 : Vec F S2048x128 .bf16) (x7 : Vec F S2048x128 .bf16) (x8 : Vec F S2048x256 .bf16) (x9 : Vec F S128x1024 .bf16) (x12 : Vec F S1x1024 .f32) (x24 : Vec F S8x2048 .f32) :
    Σ' (L14 : List (View.Piece (Elt F) S512x1024 .bf16)), Σ' (L17 : List (View.Piece (Elt F) S512x1024 .f32)), Σ' (L20 : List (View.Piece (Elt F) S3x512x2048 .bf16)), Σ' (L21 : List (View.Piece (Elt F) S512x128 .bf16)), Σ' (L22 : List (View.Piece (Elt F) S512x128 .bf16)), Σ' (L23 : List (View.Piece (Elt F) S512x256 .bf16)), { L24 : List (View.Piece (Elt F) S8x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ owns (c : Thread nD τ) arg24 fullShare x24 ∗ (∃ d, owns (c : Thread nD τ) arg14 fullShare d) ∗ (∃ d, owns (c : Thread nD τ) arg17 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ (∃ f, arg14.view.loc (c : Thread nD τ) ↦[arg14.view.set]{fullShare} arg14.view.writes (Elt F) f L14) ∗ (∃ f, arg17.view.loc (c : Thread nD τ) ↦[arg17.view.set]{fullShare} arg17.view.writes (Elt F) f L17) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (arg24.view.loc (c : Thread nD τ) ↦[arg24.view.set]{fullShare} arg24.view.writes (Elt F) (harg24.unread x24) L24)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_proj_eq_skeleton]; unfold cc0_proj_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f12, %hf12, H12⟩, ⟨%f24, %hf24, H24⟩, ⟨%d14, %f14, -, H14⟩, ⟨%d17, %f17, -, H17⟩, ⟨%d20, %f20, -, H20⟩, ⟨%d21, %f21, -, H21⟩, ⟨%d22, %f22, -, H22⟩, ⟨%d23, %f23, -, H23⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg24.eq_unread hf24
    sl_exec (disch := first | sl_exact hc0 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H12]
    · iexists _; isplitr; · ipureintro; exact harg12.read_unread _
      iexact H12
    isplitl [H14]; · iexists _; iexact H14
    isplitl [H17]; · iexists _; iexact H17
    isplitl [H20]; · iexists _; iexact H20
    isplitl [H21]; · iexists _; iexact H21
    isplitl [H22]; · iexists _; iexact H22
    isplitl [H23]; · iexists _; iexact H23
    iexact H24

end Cert.ProjIdeal.Body

end
-- ==== Proof.ProjRunB.lean ====
module

public import proofs.«01_k».proof.Proof.ProjKit

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (c : Dev nD) (i : grid0.Coords) (arg2 : Memref sig .tc .vmem S512x2048 .f32) (harg2 : arg2.IsWhole)
  (arg3 : Memref sig .tc .vmem S1x1x2048 .f32) (harg3 : arg3.IsWhole)
  (arg4 : Memref sig .tc .vmem S6x2048 .f32) (harg4 : arg4.IsWhole)
  (arg5 : Memref sig .tc .vmem S2048x1024 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x256 .bf16) (harg8 : arg8.IsWhole)
  (arg9 : Memref sig .tc .vmem S128x1024 .bf16) (harg9 : arg9.IsWhole)
  (arg10 : Memref sig .tc .vmem S128x1024 .bf16) (harg10 : arg10.IsWhole)
  (arg11 : Memref sig .tc .vmem S256x1024 .bf16) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S512x1024 .bf16) (harg14 : arg14.IsWhole)
  (arg15 : Memref sig .tc .vmem S512x1024 .bf16) (harg15 : arg15.IsWhole)
  (arg16 : Memref sig .tc .vmem S512x1024 .bf16) (harg16 : arg16.IsWhole)
  (arg17 : Memref sig .tc .vmem S512x1024 .f32) (harg17 : arg17.IsWhole)
  (arg18 : Memref sig .tc .vmem S512x1024 .bf16) (harg18 : arg18.IsWhole)
  (arg19 : Memref sig .tc .vmem S512x1024 .bf16) (harg19 : arg19.IsWhole)
  (arg20 : Memref sig .tc .vmem S3x512x2048 .bf16) (harg20 : arg20.IsWhole)
  (arg21 : Memref sig .tc .vmem S512x128 .bf16) (harg21 : arg21.IsWhole)
  (arg22 : Memref sig .tc .vmem S512x128 .bf16) (harg22 : arg22.IsWhole)
  (arg23 : Memref sig .tc .vmem S512x256 .bf16) (harg23 : arg23.IsWhole)
  (arg24 : Memref sig .tc .vmem S8x2048 .f32) (harg24 : arg24.IsWhole)

set_option maxHeartbeats 4000000 in
/-- The kernel's body at the second column block. -/
noncomputable def runB (hc0 : ¬cond0 i) (hc2 : cond2 i) (hc3 : ¬cond3 i) (hc4 : ¬cond4 i)
    (x5 : Vec F S2048x1024 .bf16) (x9 : Vec F S128x1024 .bf16) (x12 : Vec F S1x1024 .f32) (x20 : Vec F S3x512x2048 .bf16) (x21 : Vec F S512x128 .bf16) :
    Σ' (L14 : List (View.Piece (Elt F) S512x1024 .bf16)), { L17 : List (View.Piece (Elt F) S512x1024 .f32) //
      ∀ (E : Set ℕ) (K : PUnit → sProp 𝕄),
        iprop(owns (c : Thread nD τ) arg5 fullShare x5 ∗ owns (c : Thread nD τ) arg9 fullShare x9 ∗ owns (c : Thread nD τ) arg12 fullShare x12 ∗ owns (c : Thread nD τ) arg20 fullShare x20 ∗ owns (c : Thread nD τ) arg21 fullShare x21 ∗ (∃ d, owns (c : Thread nD τ) arg14 fullShare d) ∗ (∃ d, owns (c : Thread nD τ) arg17 fullShare d)
            ∗ (iprop(owns (c : Thread nD τ) arg5 fullShare x5 ∗ owns (c : Thread nD τ) arg9 fullShare x9 ∗ owns (c : Thread nD τ) arg12 fullShare x12 ∗ owns (c : Thread nD τ) arg20 fullShare x20 ∗ owns (c : Thread nD τ) arg21 fullShare x21 ∗ (∃ f, arg14.view.loc (c : Thread nD τ) ↦[arg14.view.set]{fullShare} arg14.view.writes (Elt F) f L14) ∗ (∃ f, arg17.view.loc (c : Thread nD τ) ↦[arg17.view.set]{fullShare} arg17.view.writes (Elt F) f L17)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun E K => ?run⟩
  case run =>
    simp only [cc0_proj_eq_skeleton]; unfold cc0_proj_skel
    simp only [k0_part1_eq_skeleton, k0_part2_eq_skeleton]
    unfold owns
    iintro ⟨⟨%f5, %hf5, H5⟩, ⟨%f9, %hf9, H9⟩, ⟨%f12, %hf12, H12⟩, ⟨%f20, %hf20, H20⟩, ⟨%f21, %hf21, H21⟩, ⟨%d14, %f14, -, H14⟩, ⟨%d17, %f17, -, H17⟩, Hk⟩
    obtain rfl := harg5.eq_unread hf5; obtain rfl := harg9.eq_unread hf9; obtain rfl := harg12.eq_unread hf12; obtain rfl := harg20.eq_unread hf20; obtain rfl := harg21.eq_unread hf21
    sl_exec (disch := first | sl_exact hc0 | sl_exact hc2 | sl_exact hc3 | sl_exact hc4)
    sl_step
    iapply Hk
    isplitl [H5]
    · iexists _; isplitr; · ipureintro; exact harg5.read_unread _
      iexact H5
    isplitl [H9]
    · iexists _; isplitr; · ipureintro; exact harg9.read_unread _
      iexact H9
    isplitl [H12]
    · iexists _; isplitr; · ipureintro; exact harg12.read_unread _
      iexact H12
    isplitl [H20]
    · iexists _; isplitr; · ipureintro; exact harg20.read_unread _
      iexact H20
    isplitl [H21]
    · iexists _; isplitr; · ipureintro; exact harg21.read_unread _
      iexact H21
    isplitl [H14]; · iexists _; iexact H14
    iexists _; iexact H17

end Cert.ProjIdeal.Body

end
-- ==== Proof.ProjRunC.lean ====
module

public import proofs.«01_k».proof.Proof.ProjKit

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (c : Dev nD) (i : grid0.Coords) (arg2 : Memref sig .tc .vmem S512x2048 .f32) (harg2 : arg2.IsWhole)
  (arg3 : Memref sig .tc .vmem S1x1x2048 .f32) (harg3 : arg3.IsWhole)
  (arg4 : Memref sig .tc .vmem S6x2048 .f32) (harg4 : arg4.IsWhole)
  (arg5 : Memref sig .tc .vmem S2048x1024 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x256 .bf16) (harg8 : arg8.IsWhole)
  (arg9 : Memref sig .tc .vmem S128x1024 .bf16) (harg9 : arg9.IsWhole)
  (arg10 : Memref sig .tc .vmem S128x1024 .bf16) (harg10 : arg10.IsWhole)
  (arg11 : Memref sig .tc .vmem S256x1024 .bf16) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S512x1024 .bf16) (harg14 : arg14.IsWhole)
  (arg15 : Memref sig .tc .vmem S512x1024 .bf16) (harg15 : arg15.IsWhole)
  (arg16 : Memref sig .tc .vmem S512x1024 .bf16) (harg16 : arg16.IsWhole)
  (arg17 : Memref sig .tc .vmem S512x1024 .f32) (harg17 : arg17.IsWhole)
  (arg18 : Memref sig .tc .vmem S512x1024 .bf16) (harg18 : arg18.IsWhole)
  (arg19 : Memref sig .tc .vmem S512x1024 .bf16) (harg19 : arg19.IsWhole)
  (arg20 : Memref sig .tc .vmem S3x512x2048 .bf16) (harg20 : arg20.IsWhole)
  (arg21 : Memref sig .tc .vmem S512x128 .bf16) (harg21 : arg21.IsWhole)
  (arg22 : Memref sig .tc .vmem S512x128 .bf16) (harg22 : arg22.IsWhole)
  (arg23 : Memref sig .tc .vmem S512x256 .bf16) (harg23 : arg23.IsWhole)
  (arg24 : Memref sig .tc .vmem S8x2048 .f32) (harg24 : arg24.IsWhole)

set_option maxHeartbeats 4000000 in
/-- The kernel's body at the third and fourth column blocks. -/
noncomputable def runC (hc0 : ¬cond0 i) (hc2 : ¬cond2 i) (hc3 : cond3 i) (hc4 : ¬cond4 i)
    (x5 : Vec F S2048x1024 .bf16) (x10 : Vec F S128x1024 .bf16) (x13 : Vec F S1x1024 .f32) (x20 : Vec F S3x512x2048 .bf16) (x22 : Vec F S512x128 .bf16) :
    Σ' (L15 : List (View.Piece (Elt F) S512x1024 .bf16)), { L18 : List (View.Piece (Elt F) S512x1024 .bf16) //
      ∀ (E : Set ℕ) (K : PUnit → sProp 𝕄),
        iprop(owns (c : Thread nD τ) arg5 fullShare x5 ∗ owns (c : Thread nD τ) arg10 fullShare x10 ∗ owns (c : Thread nD τ) arg13 fullShare x13 ∗ owns (c : Thread nD τ) arg20 fullShare x20 ∗ owns (c : Thread nD τ) arg22 fullShare x22 ∗ (∃ d, owns (c : Thread nD τ) arg15 fullShare d) ∗ (∃ d, owns (c : Thread nD τ) arg18 fullShare d)
            ∗ (iprop(owns (c : Thread nD τ) arg5 fullShare x5 ∗ owns (c : Thread nD τ) arg10 fullShare x10 ∗ owns (c : Thread nD τ) arg13 fullShare x13 ∗ owns (c : Thread nD τ) arg20 fullShare x20 ∗ owns (c : Thread nD τ) arg22 fullShare x22 ∗ (∃ f, arg15.view.loc (c : Thread nD τ) ↦[arg15.view.set]{fullShare} arg15.view.writes (Elt F) f L15) ∗ (∃ f, arg18.view.loc (c : Thread nD τ) ↦[arg18.view.set]{fullShare} arg18.view.writes (Elt F) f L18)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun E K => ?run⟩
  case run =>
    simp only [cc0_proj_eq_skeleton]; unfold cc0_proj_skel
    simp only [k0_part1_eq_skeleton, k0_part2_eq_skeleton]
    unfold owns
    iintro ⟨⟨%f5, %hf5, H5⟩, ⟨%f10, %hf10, H10⟩, ⟨%f13, %hf13, H13⟩, ⟨%f20, %hf20, H20⟩, ⟨%f22, %hf22, H22⟩, ⟨%d15, %f15, -, H15⟩, ⟨%d18, %f18, -, H18⟩, Hk⟩
    obtain rfl := harg5.eq_unread hf5; obtain rfl := harg10.eq_unread hf10; obtain rfl := harg13.eq_unread hf13; obtain rfl := harg20.eq_unread hf20; obtain rfl := harg22.eq_unread hf22
    sl_exec (disch := first | sl_exact hc0 | sl_exact hc2 | sl_exact hc3 | sl_exact hc4)
    sl_step
    iapply Hk
    isplitl [H5]
    · iexists _; isplitr; · ipureintro; exact harg5.read_unread _
      iexact H5
    isplitl [H10]
    · iexists _; isplitr; · ipureintro; exact harg10.read_unread _
      iexact H10
    isplitl [H13]
    · iexists _; isplitr; · ipureintro; exact harg13.read_unread _
      iexact H13
    isplitl [H20]
    · iexists _; isplitr; · ipureintro; exact harg20.read_unread _
      iexact H20
    isplitl [H22]
    · iexists _; isplitr; · ipureintro; exact harg22.read_unread _
      iexact H22
    isplitl [H15]; · iexists _; iexact H15
    iexists _; iexact H18

end Cert.ProjIdeal.Body

end
-- ==== Proof.ProjRunD.lean ====
module

public import proofs.«01_k».proof.Proof.ProjKit

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (c : Dev nD) (i : grid0.Coords) (arg2 : Memref sig .tc .vmem S512x2048 .f32) (harg2 : arg2.IsWhole)
  (arg3 : Memref sig .tc .vmem S1x1x2048 .f32) (harg3 : arg3.IsWhole)
  (arg4 : Memref sig .tc .vmem S6x2048 .f32) (harg4 : arg4.IsWhole)
  (arg5 : Memref sig .tc .vmem S2048x1024 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x256 .bf16) (harg8 : arg8.IsWhole)
  (arg9 : Memref sig .tc .vmem S128x1024 .bf16) (harg9 : arg9.IsWhole)
  (arg10 : Memref sig .tc .vmem S128x1024 .bf16) (harg10 : arg10.IsWhole)
  (arg11 : Memref sig .tc .vmem S256x1024 .bf16) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S512x1024 .bf16) (harg14 : arg14.IsWhole)
  (arg15 : Memref sig .tc .vmem S512x1024 .bf16) (harg15 : arg15.IsWhole)
  (arg16 : Memref sig .tc .vmem S512x1024 .bf16) (harg16 : arg16.IsWhole)
  (arg17 : Memref sig .tc .vmem S512x1024 .f32) (harg17 : arg17.IsWhole)
  (arg18 : Memref sig .tc .vmem S512x1024 .bf16) (harg18 : arg18.IsWhole)
  (arg19 : Memref sig .tc .vmem S512x1024 .bf16) (harg19 : arg19.IsWhole)
  (arg20 : Memref sig .tc .vmem S3x512x2048 .bf16) (harg20 : arg20.IsWhole)
  (arg21 : Memref sig .tc .vmem S512x128 .bf16) (harg21 : arg21.IsWhole)
  (arg22 : Memref sig .tc .vmem S512x128 .bf16) (harg22 : arg22.IsWhole)
  (arg23 : Memref sig .tc .vmem S512x256 .bf16) (harg23 : arg23.IsWhole)
  (arg24 : Memref sig .tc .vmem S8x2048 .f32) (harg24 : arg24.IsWhole)

set_option maxHeartbeats 4000000 in
/-- The kernel's body at the last two column blocks. -/
noncomputable def runD (hc0 : ¬cond0 i) (hc2 : ¬cond2 i) (hc3 : ¬cond3 i) (hc4 : cond4 i)
    (x5 : Vec F S2048x1024 .bf16) (x11 : Vec F S256x1024 .bf16) (x20 : Vec F S3x512x2048 .bf16) (x23 : Vec F S512x256 .bf16) :
    Σ' (L16 : List (View.Piece (Elt F) S512x1024 .bf16)), { L19 : List (View.Piece (Elt F) S512x1024 .bf16) //
      ∀ (E : Set ℕ) (K : PUnit → sProp 𝕄),
        iprop(owns (c : Thread nD τ) arg5 fullShare x5 ∗ owns (c : Thread nD τ) arg11 fullShare x11 ∗ owns (c : Thread nD τ) arg20 fullShare x20 ∗ owns (c : Thread nD τ) arg23 fullShare x23 ∗ (∃ d, owns (c : Thread nD τ) arg16 fullShare d) ∗ (∃ d, owns (c : Thread nD τ) arg19 fullShare d)
            ∗ (iprop(owns (c : Thread nD τ) arg5 fullShare x5 ∗ owns (c : Thread nD τ) arg11 fullShare x11 ∗ owns (c : Thread nD τ) arg20 fullShare x20 ∗ owns (c : Thread nD τ) arg23 fullShare x23 ∗ (∃ f, arg16.view.loc (c : Thread nD τ) ↦[arg16.view.set]{fullShare} arg16.view.writes (Elt F) f L16) ∗ (∃ f, arg19.view.loc (c : Thread nD τ) ↦[arg19.view.set]{fullShare} arg19.view.writes (Elt F) f L19)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, fun E K => ?run⟩
  case run =>
    simp only [cc0_proj_eq_skeleton]; unfold cc0_proj_skel
    simp only [k0_part1_eq_skeleton, k0_part2_eq_skeleton]
    unfold owns
    iintro ⟨⟨%f5, %hf5, H5⟩, ⟨%f11, %hf11, H11⟩, ⟨%f20, %hf20, H20⟩, ⟨%f23, %hf23, H23⟩, ⟨%d16, %f16, -, H16⟩, ⟨%d19, %f19, -, H19⟩, Hk⟩
    obtain rfl := harg5.eq_unread hf5; obtain rfl := harg11.eq_unread hf11; obtain rfl := harg20.eq_unread hf20; obtain rfl := harg23.eq_unread hf23
    sl_exec (disch := first | sl_exact hc0 | sl_exact hc2 | sl_exact hc3 | sl_exact hc4)
    sl_step
    iapply Hk
    isplitl [H5]
    · iexists _; isplitr; · ipureintro; exact harg5.read_unread _
      iexact H5
    isplitl [H11]
    · iexists _; isplitr; · ipureintro; exact harg11.read_unread _
      iexact H11
    isplitl [H20]
    · iexists _; isplitr; · ipureintro; exact harg20.read_unread _
      iexact H20
    isplitl [H23]
    · iexists _; isplitr; · ipureintro; exact harg23.read_unread _
      iexact H23
    isplitl [H16]; · iexists _; iexact H16
    iexists _; iexact H19

end Cert.ProjIdeal.Body

end
-- ==== Proof.ProjOuts.lean ====
module

public import proofs.«01_k».proof.Proof.ProjRunA
public import proofs.«01_k».proof.Proof.ProjRunB
public import proofs.«01_k».proof.Proof.ProjRunC
public import proofs.«01_k».proof.Proof.ProjRunD
public import Idealize.ShloMosaic.Lib.VecWindow
public import Idealize.ShloMosaic.Lib.WritesUnit
public import Idealize.ShloMosaic.Lib.Pipeline.ValueKit

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

/-! What the body leaves, named. -/

/-- A row of the interpolation weights. -/
def mrow0 (mu : Vec F S6x2048 .f32) : Vec F S1x2048 .f32 := View.ld mu (Rect.unit (s := S6x2048) ![0, 0] S1x2048.size inb_S6x2048_S1x2048_0_0)
def mrow1 (mu : Vec F S6x2048 .f32) : Vec F S1x2048 .f32 := View.ld mu (Rect.unit (s := S6x2048) ![1, 0] S1x2048.size inb_S6x2048_S1x2048_1_0)
def mrow2 (mu : Vec F S6x2048 .f32) : Vec F S1x2048 .f32 := View.ld mu (Rect.unit (s := S6x2048) ![2, 0] S1x2048.size inb_S6x2048_S1x2048_2_0)
def mrow3 (mu : Vec F S6x2048 .f32) : Vec F S1x2048 .f32 := View.ld mu (Rect.unit (s := S6x2048) ![3, 0] S1x2048.size inb_S6x2048_S1x2048_3_0)
def mrow4 (mu : Vec F S6x2048 .f32) : Vec F S1x2048 .f32 := View.ld mu (Rect.unit (s := S6x2048) ![4, 0] S1x2048.size inb_S6x2048_S1x2048_4_0)
def mrow5 (mu : Vec F S6x2048 .f32) : Vec F S1x2048 .f32 := View.ld mu (Rect.unit (s := S6x2048) ![5, 0] S1x2048.size inb_S6x2048_S1x2048_5_0)

/-- A slice of the scratch that keeps the three mixes. -/
def part0 (d : Vec F S3x512x2048 .bf16) : Vec F S1x512x2048 .bf16 := View.ld d (Rect.unit (s := S3x512x2048) ![0, 0, 0] S1x512x2048.size inb_S3x512x2048_S1x512x2048_0_0_0)
def part1 (d : Vec F S3x512x2048 .bf16) : Vec F S1x512x2048 .bf16 := View.ld d (Rect.unit (s := S3x512x2048) ![1, 0, 0] S1x512x2048.size inb_S3x512x2048_S1x512x2048_1_0_0)
def part2 (d : Vec F S3x512x2048 .bf16) : Vec F S1x512x2048 .bf16 := View.ld d (Rect.unit (s := S3x512x2048) ![2, 0, 0] S1x512x2048.size inb_S3x512x2048_S1x512x2048_2_0_0)

/-- The row kept from the row block before. -/
def kept (d : Vec F S8x2048 .f32) : Vec F S1x2048 .f32 := View.ld d (Rect.unit (s := S8x2048) ![0, 0] S1x2048.size inb_S8x2048_S1x2048_0_0)

/-- The three mixes, and the three low-rank hidden blocks, from a row block, the shift state's row, the kept row and the
    interpolation weights. -/
def mixR (n : BitVec 32) (x : Vec F S512x2048 .f32) (s : Vec F S1x1x2048 .f32) (l : Vec F S1x2048 .f32) (mu : Vec F S6x2048 .f32) : FVec F S1x512x2048 .bf16 :=
  k0_pay13 (k0_pay12 n x s l (mrow0 mu))
def mixK (n : BitVec 32) (x : Vec F S512x2048 .f32) (s : Vec F S1x1x2048 .f32) (l : Vec F S1x2048 .f32) (mu : Vec F S6x2048 .f32) : FVec F S1x512x2048 .bf16 :=
  k0_pay14 (k0_pay9 x) (k0_pay11 n x s l) (mrow2 mu)
def mixV (n : BitVec 32) (x : Vec F S512x2048 .f32) (s : Vec F S1x1x2048 .f32) (l : Vec F S1x2048 .f32) (mu : Vec F S6x2048 .f32) : FVec F S1x512x2048 .bf16 :=
  k0_pay15 (k0_pay9 x) (k0_pay11 n x s l) (mrow3 mu)
def hidW (n : BitVec 32) (x : Vec F S512x2048 .f32) (s : Vec F S1x1x2048 .f32) (l : Vec F S1x2048 .f32) (mu : Vec F S6x2048 .f32) (w : Vec F S2048x128 .bf16) : FVec F S512x128 .bf16 :=
  k0_pay16 (k0_pay9 x) (k0_pay11 n x s l) (mrow1 mu) w
def hidA (n : BitVec 32) (x : Vec F S512x2048 .f32) (s : Vec F S1x1x2048 .f32) (l : Vec F S1x2048 .f32) (mu : Vec F S6x2048 .f32) (w : Vec F S2048x128 .bf16) : FVec F S512x128 .bf16 :=
  k0_pay1 (k0_pay17 (k0_pay9 x) (k0_pay11 n x s l) (mrow4 mu)) w
def hidG (n : BitVec 32) (x : Vec F S512x2048 .f32) (s : Vec F S1x1x2048 .f32) (l : Vec F S1x2048 .f32) (mu : Vec F S6x2048 .f32) (w : Vec F S2048x256 .bf16) : FVec F S512x256 .bf16 :=
  k0_pay2 (k0_pay9 x) (k0_pay11 n x s l) (mrow5 mu) w

/-- Slice 0 of the scratch after its three slices were stored. -/
theorem part0_writes {sp : Space} (v : View sig .tc sp S3x512x2048 .bf16) (f) (w0 w1 w2 : Vec F S1x512x2048 .bf16) :
    part0 (v.read (Elt F) (v.writes (Elt F) f [(⟨Rect.unit (s := S3x512x2048) ![2, 0, 0] S1x512x2048.size inb_S3x512x2048_S1x512x2048_2_0_0, w2⟩ : View.Piece (Elt F) S3x512x2048 .bf16), (⟨Rect.unit (s := S3x512x2048) ![1, 0, 0] S1x512x2048.size inb_S3x512x2048_S1x512x2048_1_0_0, w1⟩ : View.Piece (Elt F) S3x512x2048 .bf16), (⟨Rect.unit (s := S3x512x2048) ![0, 0, 0] S1x512x2048.size inb_S3x512x2048_S1x512x2048_0_0_0, w0⟩ : View.Piece (Elt F) S3x512x2048 .bf16)])) = w0 := by
  funext z
  have hz : (z 0).val = 0 := Nat.lt_one_iff.mp (z 0).isLt
  unfold part0 View.ld
  refine Eq.trans (View.read_writes_cons_unit_of_not_mem (off' := ![2, 0, 0]) (size := S1x512x2048.size) v f inb_S3x512x2048_S1x512x2048_2_0_0 _ _ _ rfl (0 : Fin 3) ?_) ?_
  · show 0 + 1 * (z 0).val < 2 ∨ 2 + 1 ≤ 0 + 1 * (z 0).val
    omega
  refine Eq.trans (View.read_writes_cons_unit_of_not_mem (off' := ![1, 0, 0]) (size := S1x512x2048.size) v f inb_S3x512x2048_S1x512x2048_1_0_0 _ _ _ rfl (0 : Fin 3) ?_) ?_
  · show 0 + 1 * (z 0).val < 1 ∨ 1 + 1 ≤ 0 + 1 * (z 0).val
    omega
  refine View.read_writes_cons_unit_of_mem (off' := ![0, 0, 0]) (size := S1x512x2048.size) v f inb_S3x512x2048_S1x512x2048_0_0_0 _ _ _ z rfl fun a => ?_
  show (![0, 0, 0] : Fin 3 → ℕ) a + 1 * (z a).val = (![0, 0, 0] : Fin 3 → ℕ) a + (z a).val
  rw [Nat.one_mul]

/-- Slice 1 of the scratch after its three slices were stored. -/
theorem part1_writes {sp : Space} (v : View sig .tc sp S3x512x2048 .bf16) (f) (w0 w1 w2 : Vec F S1x512x2048 .bf16) :
    part1 (v.read (Elt F) (v.writes (Elt F) f [(⟨Rect.unit (s := S3x512x2048) ![2, 0, 0] S1x512x2048.size inb_S3x512x2048_S1x512x2048_2_0_0, w2⟩ : View.Piece (Elt F) S3x512x2048 .bf16), (⟨Rect.unit (s := S3x512x2048) ![1, 0, 0] S1x512x2048.size inb_S3x512x2048_S1x512x2048_1_0_0, w1⟩ : View.Piece (Elt F) S3x512x2048 .bf16), (⟨Rect.unit (s := S3x512x2048) ![0, 0, 0] S1x512x2048.size inb_S3x512x2048_S1x512x2048_0_0_0, w0⟩ : View.Piece (Elt F) S3x512x2048 .bf16)])) = w1 := by
  funext z
  have hz : (z 0).val = 0 := Nat.lt_one_iff.mp (z 0).isLt
  unfold part1 View.ld
  refine Eq.trans (View.read_writes_cons_unit_of_not_mem (off' := ![2, 0, 0]) (size := S1x512x2048.size) v f inb_S3x512x2048_S1x512x2048_2_0_0 _ _ _ rfl (0 : Fin 3) ?_) ?_
  · show 1 + 1 * (z 0).val < 2 ∨ 2 + 1 ≤ 1 + 1 * (z 0).val
    omega
  refine View.read_writes_cons_unit_of_mem (off' := ![1, 0, 0]) (size := S1x512x2048.size) v f inb_S3x512x2048_S1x512x2048_1_0_0 _ _ _ z rfl fun a => ?_
  show (![1, 0, 0] : Fin 3 → ℕ) a + 1 * (z a).val = (![1, 0, 0] : Fin 3 → ℕ) a + (z a).val
  rw [Nat.one_mul]

/-- Slice 2 of the scratch after its three slices were stored. -/
theorem part2_writes {sp : Space} (v : View sig .tc sp S3x512x2048 .bf16) (f) (w0 w1 w2 : Vec F S1x512x2048 .bf16) :
    part2 (v.read (Elt F) (v.writes (Elt F) f [(⟨Rect.unit (s := S3x512x2048) ![2, 0, 0] S1x512x2048.size inb_S3x512x2048_S1x512x2048_2_0_0, w2⟩ : View.Piece (Elt F) S3x512x2048 .bf16), (⟨Rect.unit (s := S3x512x2048) ![1, 0, 0] S1x512x2048.size inb_S3x512x2048_S1x512x2048_1_0_0, w1⟩ : View.Piece (Elt F) S3x512x2048 .bf16), (⟨Rect.unit (s := S3x512x2048) ![0, 0, 0] S1x512x2048.size inb_S3x512x2048_S1x512x2048_0_0_0, w0⟩ : View.Piece (Elt F) S3x512x2048 .bf16)])) = w2 := by
  funext z
  have hz : (z 0).val = 0 := Nat.lt_one_iff.mp (z 0).isLt
  unfold part2 View.ld
  refine View.read_writes_cons_unit_of_mem (off' := ![2, 0, 0]) (size := S1x512x2048.size) v f inb_S3x512x2048_S1x512x2048_2_0_0 _ _ _ z rfl fun a => ?_
  show (![2, 0, 0] : Fin 3 → ℕ) a + 1 * (z a).val = (![2, 0, 0] : Fin 3 → ℕ) a + (z a).val
  rw [Nat.one_mul]
variable (c : Dev nD) (i : grid0.Coords) (arg2 : Memref sig .tc .vmem S512x2048 .f32) (harg2 : arg2.IsWhole)
  (arg3 : Memref sig .tc .vmem S1x1x2048 .f32) (harg3 : arg3.IsWhole)
  (arg4 : Memref sig .tc .vmem S6x2048 .f32) (harg4 : arg4.IsWhole)
  (arg5 : Memref sig .tc .vmem S2048x1024 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S2048x256 .bf16) (harg8 : arg8.IsWhole)
  (arg9 : Memref sig .tc .vmem S128x1024 .bf16) (harg9 : arg9.IsWhole)
  (arg10 : Memref sig .tc .vmem S128x1024 .bf16) (harg10 : arg10.IsWhole)
  (arg11 : Memref sig .tc .vmem S256x1024 .bf16) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S512x1024 .bf16) (harg14 : arg14.IsWhole)
  (arg15 : Memref sig .tc .vmem S512x1024 .bf16) (harg15 : arg15.IsWhole)
  (arg16 : Memref sig .tc .vmem S512x1024 .bf16) (harg16 : arg16.IsWhole)
  (arg17 : Memref sig .tc .vmem S512x1024 .f32) (harg17 : arg17.IsWhole)
  (arg18 : Memref sig .tc .vmem S512x1024 .bf16) (harg18 : arg18.IsWhole)
  (arg19 : Memref sig .tc .vmem S512x1024 .bf16) (harg19 : arg19.IsWhole)
  (arg20 : Memref sig .tc .vmem S3x512x2048 .bf16) (harg20 : arg20.IsWhole)
  (arg21 : Memref sig .tc .vmem S512x128 .bf16) (harg21 : arg21.IsWhole)
  (arg22 : Memref sig .tc .vmem S512x128 .bf16) (harg22 : arg22.IsWhole)
  (arg23 : Memref sig .tc .vmem S512x256 .bf16) (harg23 : arg23.IsWhole)
  (arg24 : Memref sig .tc .vmem S8x2048 .f32) (harg24 : arg24.IsWhole)

set_option maxHeartbeats 4000000 in
theorem runA_14 (hc0 : cond0 i) (hc2 : cond2 i) (hc3 : ¬cond3 i) (hc4 : ¬cond4 i) (x2 : Vec F S512x2048 .f32) (x3 : Vec F S1x1x2048 .f32) (x4 : Vec F S6x2048 .f32) (x5 : Vec F S2048x1024 .bf16) (x6 : Vec F S2048x128 .bf16) (x7 : Vec F S2048x128 .bf16) (x8 : Vec F S2048x256 .bf16) (x9 : Vec F S128x1024 .bf16) (x12 : Vec F S1x1024 .f32) (x24 : Vec F S8x2048 .f32) (f) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x2 x3 x4 x5 x6 x7 x8 x9 x12 x24).1) = k0_pay3 (mixR (BitVec.ofNat 32 (i 0).val) x2 x3 (kept x24) x4) x5 := by
  simp only [runA, runA.sl.H21_1]
  refine (View.read_writes_full (s := S512x1024) _ _ (off := ![0, 0]) inb_S512x1024_S512x1024_0_0 _ _).trans ?_
  try simp only [runA.sl.v29]
  simp (disch := decide) only [View.readAt_eq_ld, View.ld_unit_lit', View.readCov_unit_lit', View.readCov_cons_unit_lit', Memref.IsWhole.read_unread]
  refine congrArg (fun q => k0_pay3 q x5) ((part0_writes arg20.view _ _ _ _).trans ?_)
  try simp only [runA.sl.r_2]
  simp (disch := decide) only [View.readAt_eq_ld, View.ld_unit_lit', View.readCov_unit_lit', View.readCov_cons_unit_lit', Memref.IsWhole.read_unread]
  rfl

set_option maxHeartbeats 4000000 in
theorem runA_17 (hc0 : cond0 i) (hc2 : cond2 i) (hc3 : ¬cond3 i) (hc4 : ¬cond4 i) (x2 : Vec F S512x2048 .f32) (x3 : Vec F S1x1x2048 .f32) (x4 : Vec F S6x2048 .f32) (x5 : Vec F S2048x1024 .bf16) (x6 : Vec F S2048x128 .bf16) (x7 : Vec F S2048x128 .bf16) (x8 : Vec F S2048x256 .bf16) (x9 : Vec F S128x1024 .bf16) (x12 : Vec F S1x1024 .f32) (x24 : Vec F S8x2048 .f32) (f) :
    arg17.view.read (Elt F) (arg17.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x2 x3 x4 x5 x6 x7 x8 x9 x12 x24).2.1) = k0_pay4 x12 (hidW (BitVec.ofNat 32 (i 0).val) x2 x3 (kept x24) x4 x6) x9 := by
  simp only [runA, runA.sl.H21_1]
  refine (View.read_writes_full (s := S512x1024) _ _ (off := ![0, 0]) inb_S512x1024_S512x1024_0_0 _ _).trans ?_
  try simp only [runA.sl.v38, runA.sl.H21_1, runA.sl.r, runA.sl.r_1]
  simp (disch := decide) only [View.readAt_eq_ld, View.ld_unit_lit', View.readCov_unit_lit', View.readCov_cons_unit_lit', Memref.IsWhole.read_unread]
  rfl

set_option maxHeartbeats 4000000 in
theorem runA_20_0 (hc0 : cond0 i) (hc2 : cond2 i) (hc3 : ¬cond3 i) (hc4 : ¬cond4 i) (x2 : Vec F S512x2048 .f32) (x3 : Vec F S1x1x2048 .f32) (x4 : Vec F S6x2048 .f32) (x5 : Vec F S2048x1024 .bf16) (x6 : Vec F S2048x128 .bf16) (x7 : Vec F S2048x128 .bf16) (x8 : Vec F S2048x256 .bf16) (x9 : Vec F S128x1024 .bf16) (x12 : Vec F S1x1024 .f32) (x24 : Vec F S8x2048 .f32) (f) :
    part0 (arg20.view.read (Elt F) (arg20.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x2 x3 x4 x5 x6 x7 x8 x9 x12 x24).2.2.1)) = mixR (BitVec.ofNat 32 (i 0).val) x2 x3 (kept x24) x4 := by
  simp only [runA]
  refine (part0_writes arg20.view _ _ _ _).trans ?_
  try simp only [runA.sl.r_2, runA.sl.r, runA.sl.r_1]
  simp (disch := decide) only [View.readAt_eq_ld, View.ld_unit_lit', View.readCov_unit_lit', View.readCov_cons_unit_lit', Memref.IsWhole.read_unread]
  rfl

set_option maxHeartbeats 4000000 in
theorem runA_20_1 (hc0 : cond0 i) (hc2 : cond2 i) (hc3 : ¬cond3 i) (hc4 : ¬cond4 i) (x2 : Vec F S512x2048 .f32) (x3 : Vec F S1x1x2048 .f32) (x4 : Vec F S6x2048 .f32) (x5 : Vec F S2048x1024 .bf16) (x6 : Vec F S2048x128 .bf16) (x7 : Vec F S2048x128 .bf16) (x8 : Vec F S2048x256 .bf16) (x9 : Vec F S128x1024 .bf16) (x12 : Vec F S1x1024 .f32) (x24 : Vec F S8x2048 .f32) (f) :
    part1 (arg20.view.read (Elt F) (arg20.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x2 x3 x4 x5 x6 x7 x8 x9 x12 x24).2.2.1)) = mixK (BitVec.ofNat 32 (i 0).val) x2 x3 (kept x24) x4 := by
  simp only [runA]
  refine (part1_writes arg20.view _ _ _ _).trans ?_
  try simp only [runA.sl.r_2, runA.sl.r, runA.sl.r_1]
  simp (disch := decide) only [View.readAt_eq_ld, View.ld_unit_lit', View.readCov_unit_lit', View.readCov_cons_unit_lit', Memref.IsWhole.read_unread]
  rfl

set_option maxHeartbeats 4000000 in
theorem runA_20_2 (hc0 : cond0 i) (hc2 : cond2 i) (hc3 : ¬cond3 i) (hc4 : ¬cond4 i) (x2 : Vec F S512x2048 .f32) (x3 : Vec F S1x1x2048 .f32) (x4 : Vec F S6x2048 .f32) (x5 : Vec F S2048x1024 .bf16) (x6 : Vec F S2048x128 .bf16) (x7 : Vec F S2048x128 .bf16) (x8 : Vec F S2048x256 .bf16) (x9 : Vec F S128x1024 .bf16) (x12 : Vec F S1x1024 .f32) (x24 : Vec F S8x2048 .f32) (f) :
    part2 (arg20.view.read (Elt F) (arg20.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x2 x3 x4 x5 x6 x7 x8 x9 x12 x24).2.2.1)) = mixV (BitVec.ofNat 32 (i 0).val) x2 x3 (kept x24) x4 := by
  simp only [runA]
  refine (part2_writes arg20.view _ _ _ _).trans ?_
  try simp only [runA.sl.r_2, runA.sl.r, runA.sl.r_1]
  simp (disch := decide) only [View.readAt_eq_ld, View.ld_unit_lit', View.readCov_unit_lit', View.readCov_cons_unit_lit', Memref.IsWhole.read_unread]
  rfl

set_option maxHeartbeats 4000000 in
theorem runA_21 (hc0 : cond0 i) (hc2 : cond2 i) (hc3 : ¬cond3 i) (hc4 : ¬cond4 i) (x2 : Vec F S512x2048 .f32) (x3 : Vec F S1x1x2048 .f32) (x4 : Vec F S6x2048 .f32) (x5 : Vec F S2048x1024 .bf16) (x6 : Vec F S2048x128 .bf16) (x7 : Vec F S2048x128 .bf16) (x8 : Vec F S2048x256 .bf16) (x9 : Vec F S128x1024 .bf16) (x12 : Vec F S1x1024 .f32) (x24 : Vec F S8x2048 .f32) (f) :
    arg21.view.read (Elt F) (arg21.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x2 x3 x4 x5 x6 x7 x8 x9 x12 x24).2.2.2.1) = hidW (BitVec.ofNat 32 (i 0).val) x2 x3 (kept x24) x4 x6 := by
  simp only [runA, runA.sl.H21_1]
  refine (View.read_writes_full (s := S512x128) _ _ (off := ![0, 0]) inb_S512x128_S512x128_0_0 _ _).trans ?_
  try simp only [runA.sl.r, runA.sl.r_1, runA.sl.r_2, runA.sl.r_3]
  simp (disch := decide) only [View.readAt_eq_ld, View.ld_unit_lit', View.readCov_unit_lit', View.readCov_cons_unit_lit', Memref.IsWhole.read_unread]
  rfl

set_option maxHeartbeats 4000000 in
theorem runA_22 (hc0 : cond0 i) (hc2 : cond2 i) (hc3 : ¬cond3 i) (hc4 : ¬cond4 i) (x2 : Vec F S512x2048 .f32) (x3 : Vec F S1x1x2048 .f32) (x4 : Vec F S6x2048 .f32) (x5 : Vec F S2048x1024 .bf16) (x6 : Vec F S2048x128 .bf16) (x7 : Vec F S2048x128 .bf16) (x8 : Vec F S2048x256 .bf16) (x9 : Vec F S128x1024 .bf16) (x12 : Vec F S1x1024 .f32) (x24 : Vec F S8x2048 .f32) (f) :
    arg22.view.read (Elt F) (arg22.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x2 x3 x4 x5 x6 x7 x8 x9 x12 x24).2.2.2.2.1) = hidA (BitVec.ofNat 32 (i 0).val) x2 x3 (kept x24) x4 x7 := by
  simp only [runA, runA.sl.H21_1]
  refine (View.read_writes_full (s := S512x128) _ _ (off := ![0, 0]) inb_S512x128_S512x128_0_0 _ _).trans ?_
  try simp only [runA.sl.r_3, runA.sl.r, runA.sl.r_1]
  simp (disch := decide) only [View.readAt_eq_ld, View.ld_unit_lit', View.readCov_unit_lit', View.readCov_cons_unit_lit', Memref.IsWhole.read_unread]
  rfl

set_option maxHeartbeats 4000000 in
theorem runA_23 (hc0 : cond0 i) (hc2 : cond2 i) (hc3 : ¬cond3 i) (hc4 : ¬cond4 i) (x2 : Vec F S512x2048 .f32) (x3 : Vec F S1x1x2048 .f32) (x4 : Vec F S6x2048 .f32) (x5 : Vec F S2048x1024 .bf16) (x6 : Vec F S2048x128 .bf16) (x7 : Vec F S2048x128 .bf16) (x8 : Vec F S2048x256 .bf16) (x9 : Vec F S128x1024 .bf16) (x12 : Vec F S1x1024 .f32) (x24 : Vec F S8x2048 .f32) (f) :
    arg23.view.read (Elt F) (arg23.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x2 x3 x4 x5 x6 x7 x8 x9 x12 x24).2.2.2.2.2.1) = hidG (BitVec.ofNat 32 (i 0).val) x2 x3 (kept x24) x4 x8 := by
  simp only [runA, runA.sl.H21_1]
  refine (View.read_writes_full (s := S512x256) _ _ (off := ![0, 0]) inb_S512x256_S512x256_0_0 _ _).trans ?_
  try simp only [runA.sl.r, runA.sl.r_1, runA.sl.r_2, runA.sl.r_3]
  simp (disch := decide) only [View.readAt_eq_ld, View.ld_unit_lit', View.readCov_unit_lit', View.readCov_cons_unit_lit', Memref.IsWhole.read_unread]
  rfl

set_option maxHeartbeats 4000000 in
theorem runA_24 (hc0 : cond0 i) (hc2 : cond2 i) (hc3 : ¬cond3 i) (hc4 : ¬cond4 i) (x2 : Vec F S512x2048 .f32) (x3 : Vec F S1x1x2048 .f32) (x4 : Vec F S6x2048 .f32) (x5 : Vec F S2048x1024 .bf16) (x6 : Vec F S2048x128 .bf16) (x7 : Vec F S2048x128 .bf16) (x8 : Vec F S2048x256 .bf16) (x9 : Vec F S128x1024 .bf16) (x12 : Vec F S1x1024 .f32) (x24 : Vec F S8x2048 .f32) (f) :
    kept (arg24.view.read (Elt F) (arg24.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x2 x3 x4 x5 x6 x7 x8 x9 x12 x24).2.2.2.2.2.2.1)) = k0_pay10 x2 := by
  simp only [runA]
  funext z
  unfold kept View.ld
  refine Eq.trans (View.read_writes_cons_unit_of_mem (off' := ![0, 0]) (size := S1x2048.size) arg24.view f inb_S8x2048_S1x2048_0_0 _ _ _ z rfl fun a => ?_) ?_
  · show (![0, 0] : Fin 2 → ℕ) a + 1 * (z a).val = (![0, 0] : Fin 2 → ℕ) a + (z a).val
    rw [Nat.one_mul]
  simp (disch := decide) only [View.readAt_eq_ld, View.ld_unit_lit', View.readCov_unit_lit', View.readCov_cons_unit_lit', Memref.IsWhole.read_unread]

set_option maxHeartbeats 4000000 in
theorem runB_14 (hc0 : ¬cond0 i) (hc2 : cond2 i) (hc3 : ¬cond3 i) (hc4 : ¬cond4 i) (x5 : Vec F S2048x1024 .bf16) (x9 : Vec F S128x1024 .bf16) (x12 : Vec F S1x1024 .f32) (x20 : Vec F S3x512x2048 .bf16) (x21 : Vec F S512x128 .bf16) (f) :
    arg14.view.read (Elt F) (arg14.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x5 x9 x12 x20 x21).1) = k0_pay3 (part0 x20) x5 := by
  simp only [runB]
  refine (View.read_writes_full (s := S512x1024) _ _ (off := ![0, 0]) inb_S512x1024_S512x1024_0_0 _ _).trans ?_
  skip
  simp (disch := decide) only [View.readAt_eq_ld, View.ld_unit_lit', View.readCov_unit_lit', View.readCov_cons_unit_lit', Memref.IsWhole.read_unread]
  rfl

set_option maxHeartbeats 4000000 in
theorem runB_17 (hc0 : ¬cond0 i) (hc2 : cond2 i) (hc3 : ¬cond3 i) (hc4 : ¬cond4 i) (x5 : Vec F S2048x1024 .bf16) (x9 : Vec F S128x1024 .bf16) (x12 : Vec F S1x1024 .f32) (x20 : Vec F S3x512x2048 .bf16) (x21 : Vec F S512x128 .bf16) (f) :
    arg17.view.read (Elt F) (arg17.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x5 x9 x12 x20 x21).2.1) = k0_pay4 x12 x21 x9 := by
  simp only [runB]
  refine (View.read_writes_full (s := S512x1024) _ _ (off := ![0, 0]) inb_S512x1024_S512x1024_0_0 _ _).trans ?_
  skip
  simp (disch := decide) only [View.readAt_eq_ld, View.ld_unit_lit', View.readCov_unit_lit', View.readCov_cons_unit_lit', Memref.IsWhole.read_unread]
  try rfl

set_option maxHeartbeats 4000000 in
theorem runC_15 (hc0 : ¬cond0 i) (hc2 : ¬cond2 i) (hc3 : cond3 i) (hc4 : ¬cond4 i) (x5 : Vec F S2048x1024 .bf16) (x10 : Vec F S128x1024 .bf16) (x13 : Vec F S1x1024 .f32) (x20 : Vec F S3x512x2048 .bf16) (x22 : Vec F S512x128 .bf16) (f) :
    arg15.view.read (Elt F) (arg15.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x5 x10 x13 x20 x22).1) = k0_pay5 (part1 x20) x5 := by
  simp only [runC]
  refine (View.read_writes_full (s := S512x1024) _ _ (off := ![0, 0]) inb_S512x1024_S512x1024_0_0 _ _).trans ?_
  skip
  simp (disch := decide) only [View.readAt_eq_ld, View.ld_unit_lit', View.readCov_unit_lit', View.readCov_cons_unit_lit', Memref.IsWhole.read_unread]
  rfl

set_option maxHeartbeats 4000000 in
theorem runC_18 (hc0 : ¬cond0 i) (hc2 : ¬cond2 i) (hc3 : cond3 i) (hc4 : ¬cond4 i) (x5 : Vec F S2048x1024 .bf16) (x10 : Vec F S128x1024 .bf16) (x13 : Vec F S1x1024 .f32) (x20 : Vec F S3x512x2048 .bf16) (x22 : Vec F S512x128 .bf16) (f) :
    arg18.view.read (Elt F) (arg18.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x5 x10 x13 x20 x22).2.1) = k0_pay6 x13 x22 x10 := by
  simp only [runC]
  refine (View.read_writes_full (s := S512x1024) _ _ (off := ![0, 0]) inb_S512x1024_S512x1024_0_0 _ _).trans ?_
  skip
  simp (disch := decide) only [View.readAt_eq_ld, View.ld_unit_lit', View.readCov_unit_lit', View.readCov_cons_unit_lit', Memref.IsWhole.read_unread]
  try rfl

set_option maxHeartbeats 4000000 in
theorem runD_16 (hc0 : ¬cond0 i) (hc2 : ¬cond2 i) (hc3 : ¬cond3 i) (hc4 : cond4 i) (x5 : Vec F S2048x1024 .bf16) (x11 : Vec F S256x1024 .bf16) (x20 : Vec F S3x512x2048 .bf16) (x23 : Vec F S512x256 .bf16) (f) :
    arg16.view.read (Elt F) (arg16.view.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x5 x11 x20 x23).1) = k0_pay7 (part2 x20) x5 := by
  simp only [runD]
  refine (View.read_writes_full (s := S512x1024) _ _ (off := ![0, 0]) inb_S512x1024_S512x1024_0_0 _ _).trans ?_
  skip
  simp (disch := decide) only [View.readAt_eq_ld, View.ld_unit_lit', View.readCov_unit_lit', View.readCov_cons_unit_lit', Memref.IsWhole.read_unread]
  rfl

set_option maxHeartbeats 4000000 in
theorem runD_19 (hc0 : ¬cond0 i) (hc2 : ¬cond2 i) (hc3 : ¬cond3 i) (hc4 : cond4 i) (x5 : Vec F S2048x1024 .bf16) (x11 : Vec F S256x1024 .bf16) (x20 : Vec F S3x512x2048 .bf16) (x23 : Vec F S512x256 .bf16) (f) :
    arg19.view.read (Elt F) (arg19.view.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc2 hc3 hc4 x5 x11 x20 x23).2.1) = k0_pay8 x23 x11 := by
  simp only [runD]
  refine (View.read_writes_full (s := S512x1024) _ _ (off := ![0, 0]) inb_S512x1024_S512x1024_0_0 _ _).trans ?_
  skip
  simp (disch := decide) only [View.readAt_eq_ld, View.ld_unit_lit', View.readCov_unit_lit', View.readCov_cons_unit_lit', Memref.IsWhole.read_unread]
  try rfl

end Cert.ProjIdeal.Body

end
-- ==== Proof.ProjTile.lean ====
/-
  The VALUE of the recurrent layer's projections on one row block, over the extended reals. The body turns the rows down by
  one, puts the carried row in front (`pay11_zero_new`, `pay11_zero_kept`, `pay11_succ`), interpolates, and multiplies; the two
  zero-padded low-rank products lose their padding (`sum_low`).
-/
module

public import proofs.«01_k».proof.Proof.ProjOuts
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ProjIdeal.Bridge

open Cert.ProjIdeal Cert.ProjIdeal.Gen Cert.ProjIdeal.Body

/-- Whether a row block begins a sequence, as the body computes it. -/
def flag (n : BitVec 32) : BitVec 1 :=
  let v33 : BitVec 1 := Scalar.cmpi .eq 4#32 0#32
  let v34 : BitVec 32 := Scalar.select v33 1#32 4#32
  let v35 : BitVec 32 := Scalar.remsi n v34
  let v36 : BitVec 1 := Scalar.cmpi .ne v35 0#32
  let v37 : BitVec 1 := Scalar.cmpi .slt v35 0#32
  let v38 : BitVec 1 := Scalar.cmpi .slt v34 0#32
  let v39 : BitVec 1 := Scalar.xori v37 v38
  let v40 : BitVec 1 := Scalar.andi v39 v36
  let v41 : BitVec 32 := Scalar.addi v35 v34
  let v42 : BitVec 32 := Scalar.select v40 v41 v35
  Scalar.cmpi .eq v42 0#32

theorem flag_at : ∀ i : Fin 16, flag (BitVec.ofNat 32 i.val) = if i.val % 4 = 0 then 1#1 else 0#1 := by decide +kernel

/-- The row number of every place of a tile. -/
def rowNo : IVec S512x2048 32 := iota .tc S512x2048 32 [0] iota_S512x2048_d0_w32

theorem rowNo_at (r : Fin 512) (q : Fin 2048) : rowNo (ix2 r q) = BitVec.ofNat 32 r.val := by
  have h : ∀ r : Fin 512, rowNo (ix2 r 0) = BitVec.ofNat 32 r.val := by decide +kernel
  exact Eq.trans rfl (h r)

/-- The row put in front of a row block. -/
def front (n : BitVec 32) (s : FVec Ideal S1x1x2048 .f32) (l : FVec Ideal S1x2048 .f32) : FVec Ideal S1x2048 .f32 :=
  Scalar.select (flag n) (shapeCast S1x2048 s shapeCasts_S1x1x2048_S1x2048) l

/-- The rows one step back. -/
def oneBack (g : FVec Ideal S512x2048 .f32) (f : FVec Ideal S1x2048 .f32) : FVec Ideal S512x2048 .f32 :=
  select (cmpi .eq rowNo (broadcast S512x2048 0#32))
    (broadcastTo S512x2048 (shapeCast S1x2048 f shapeCasts_S1x2048_S1x2048) broadcasts_S1x2048_S512x2048) (dynamicRotate 0 1#32 none g rotates_S512x2048_d0)

theorem pay11_eq (n : BitVec 32) (x : FVec Ideal S512x2048 .f32) (s : FVec Ideal S1x1x2048 .f32) (l : FVec Ideal S1x2048 .f32) :
    k0_pay11 n x s l = subf (oneBack (k0_pay9 x) (front n s l)) (k0_pay9 x) := rfl

theorem oneBack_zero (g : FVec Ideal S512x2048 .f32) (f : FVec Ideal S1x2048 .f32) (q : Fin 2048) : oneBack g f (ix2 0 q) = f (ix2 0 q) := by
  have h := rowNo_at 0 q
  unfold oneBack
  show Scalar.select (Scalar.cmpi .eq (rowNo (ix2 0 q)) 0#32) _ _ = _
  rw [h]
  refine Eq.trans (b := broadcastTo S512x2048 (shapeCast S1x2048 f shapeCasts_S1x2048_S1x2048) broadcasts_S1x2048_S512x2048 (ix2 0 q)) rfl ?_
  pointwise

theorem oneBack_succ (g : FVec Ideal S512x2048 .f32) (f : FVec Ideal S1x2048 .f32) (r r' : Fin 512) (q : Fin 2048) (hr : r.val = r'.val + 1) :
    oneBack g f (ix2 r q) = g (ix2 r' q) := by
  have h := rowNo_at r q
  unfold oneBack
  show Scalar.select (Scalar.cmpi .eq (rowNo (ix2 r q)) 0#32) _ _ = _
  rw [h, show Scalar.cmpi .eq (BitVec.ofNat 32 r.val) 0#32 = 0#1 from
    (by decide +kernel : ∀ r : Fin 512, r.val ≠ 0 → Scalar.cmpi .eq (BitVec.ofNat 32 r.val) 0#32 = 0#1) r (by omega)]
  refine Eq.trans (b := dynamicRotate 0 1#32 none g rotates_S512x2048_d0 (ix2 r q)) rfl ?_
  refine dynamicRotate_apply 0 1#32 g _ _ _ fun a => ?_
  match a with
  | ⟨0, _⟩ =>
    refine Eq.trans (b := (r.val + 512 - (1#32 : BitVec 32).toNat % 512) % 512) ?_ rfl
    show r'.val = (r.val + 512 - 1 % 512) % 512
    omega
  | ⟨1, _⟩ => rfl

theorem pay9_at (x : FVec Ideal S512x2048 .f32) (p : Fin 512) (k : Fin 2048) : k0_pay9 (F := Ideal) x (ix2 p k) = x (ix2 p k) := by
  pointwise [k0_pay9]

/-- The kept row is a block's last. -/
theorem pay10_at (x : FVec Ideal S512x2048 .f32) (k : Fin 2048) : k0_pay10 (F := Ideal) x (ix2 0 k) = x (ix2 511 k) := by
  pointwise [k0_pay10, k0_pay9]
  try blk_ext

variable (n : BitVec 32) (x : FVec Ideal S512x2048 .f32) (s : FVec Ideal S1x1x2048 .f32) (l : FVec Ideal S1x2048 .f32) (mu : FVec Ideal S6x2048 .f32)

theorem front_new (h : flag n = 1#1) (k : Fin 2048) : front n s l (ix2 0 k) = s (ix3 0 0 k) := by
  unfold front
  rw [h]
  refine Eq.trans (b := shapeCast S1x2048 s shapeCasts_S1x1x2048_S1x2048 (ix2 0 k)) rfl ?_
  pointwise

theorem front_kept (h : flag n = 0#1) (k : Fin 2048) : front n s l (ix2 0 k) = l (ix2 0 k) := by
  unfold front
  rw [h]; rfl

/-- The differences to the rows one step back. -/
theorem pay11_zero_at (k : Fin 2048) : k0_pay11 (F := Ideal) n x s l (ix2 0 k) = ((front n s l (ix2 0 k) - x (ix2 0 k) : EReal) : Ideal .f32) := by
  rw [pay11_eq]
  refine Eq.trans (b := ((oneBack (k0_pay9 (F := Ideal) x) (front n s l) (ix2 0 k) - k0_pay9 (F := Ideal) x (ix2 0 k) : EReal) : Ideal .f32)) rfl ?_
  rw [oneBack_zero, pay9_at]

theorem pay11_succ_at (p p' : Fin 512) (k : Fin 2048) (h : p.val = p'.val + 1) :
    k0_pay11 (F := Ideal) n x s l (ix2 p k) = ((x (ix2 p' k) - x (ix2 p k) : EReal) : Ideal .f32) := by
  rw [pay11_eq]
  refine Eq.trans (b := ((oneBack (k0_pay9 (F := Ideal) x) (front n s l) (ix2 p k) - k0_pay9 (F := Ideal) x (ix2 p k) : EReal) : Ideal .f32)) rfl ?_
  rw [oneBack_succ _ _ p p' k h, pay9_at, pay9_at]

/-! A row of the interpolation weights. -/
theorem mrow0_at (k : Fin 2048) : mrow0 (F := Ideal) mu (ix2 0 k) = mu (ix2 0 k) := by
  unfold mrow0 View.ld
  refine congrArg mu (funext fun b => Fin.ext ?_)
  match b with
  | ⟨0, _⟩ => rfl
  | ⟨1, _⟩ =>
    show 0 + 1 * k.val = k.val
    omega

theorem mrow1_at (k : Fin 2048) : mrow1 (F := Ideal) mu (ix2 0 k) = mu (ix2 1 k) := by
  unfold mrow1 View.ld
  refine congrArg mu (funext fun b => Fin.ext ?_)
  match b with
  | ⟨0, _⟩ => rfl
  | ⟨1, _⟩ =>
    show 0 + 1 * k.val = k.val
    omega

theorem mrow2_at (k : Fin 2048) : mrow2 (F := Ideal) mu (ix2 0 k) = mu (ix2 2 k) := by
  unfold mrow2 View.ld
  refine congrArg mu (funext fun b => Fin.ext ?_)
  match b with
  | ⟨0, _⟩ => rfl
  | ⟨1, _⟩ =>
    show 0 + 1 * k.val = k.val
    omega

theorem mrow3_at (k : Fin 2048) : mrow3 (F := Ideal) mu (ix2 0 k) = mu (ix2 3 k) := by
  unfold mrow3 View.ld
  refine congrArg mu (funext fun b => Fin.ext ?_)
  match b with
  | ⟨0, _⟩ => rfl
  | ⟨1, _⟩ =>
    show 0 + 1 * k.val = k.val
    omega

theorem mrow4_at (k : Fin 2048) : mrow4 (F := Ideal) mu (ix2 0 k) = mu (ix2 4 k) := by
  unfold mrow4 View.ld
  refine congrArg mu (funext fun b => Fin.ext ?_)
  match b with
  | ⟨0, _⟩ => rfl
  | ⟨1, _⟩ =>
    show 0 + 1 * k.val = k.val
    omega

theorem mrow5_at (k : Fin 2048) : mrow5 (F := Ideal) mu (ix2 0 k) = mu (ix2 5 k) := by
  unfold mrow5 View.ld
  refine congrArg mu (funext fun b => Fin.ext ?_)
  match b with
  | ⟨0, _⟩ => rfl
  | ⟨1, _⟩ =>
    show 0 + 1 * k.val = k.val
    omega

/-! The six mixes of a row block. -/
theorem mixR_at (p : Fin 512) (k : Fin 2048) : mixR (F := Ideal) n x s l mu (ix3 0 p k) = ((x (ix2 p k) + k0_pay11 (F := Ideal) n x s l (ix2 p k) * mu (ix2 0 k) : EReal) : Ideal .bf16) := by
  rw [← mrow0_at mu k]
  unfold mixR
  unfold k0_pay12
  generalize k0_pay11 (F := Ideal) n x s l = D
  generalize mrow0 (F := Ideal) mu = M
  pointwise [k0_pay13, k0_pay9]

theorem mixK_at (p : Fin 512) (k : Fin 2048) : mixK (F := Ideal) n x s l mu (ix3 0 p k) = ((x (ix2 p k) + k0_pay11 (F := Ideal) n x s l (ix2 p k) * mu (ix2 2 k) : EReal) : Ideal .bf16) := by
  rw [← mrow2_at mu k]
  unfold mixK
  skip
  generalize k0_pay11 (F := Ideal) n x s l = D
  generalize mrow2 (F := Ideal) mu = M
  pointwise [k0_pay14, k0_pay9]

theorem mixV_at (p : Fin 512) (k : Fin 2048) : mixV (F := Ideal) n x s l mu (ix3 0 p k) = ((x (ix2 p k) + k0_pay11 (F := Ideal) n x s l (ix2 p k) * mu (ix2 3 k) : EReal) : Ideal .bf16) := by
  rw [← mrow3_at mu k]
  unfold mixV
  skip
  generalize k0_pay11 (F := Ideal) n x s l = D
  generalize mrow3 (F := Ideal) mu = M
  pointwise [k0_pay15, k0_pay9]

/-- The mix behind a low-rank product. -/
def lowMix (D : FVec Ideal S512x2048 .f32) (M : FVec Ideal S1x2048 .f32) : FVec Ideal S512x2048 .f32 :=
  addf x (mulf D (broadcastTo S512x2048 M broadcasts_S1x2048_S512x2048))

theorem lowMix_at (D : FVec Ideal S512x2048 .f32) (M : FVec Ideal S1x2048 .f32) (p : Fin 512) (k : Fin 2048) :
    lowMix x D M (ix2 p k) = ((x (ix2 p k) + D (ix2 p k) * M (ix2 0 k) : EReal) : Ideal .f32) := by
  pointwise [lowMix]

/-- A sum over the padded rank whose padding vanishes. -/
theorem sum_low (f : Fin 128 → EReal) (g : Fin 96 → EReal) (h : ∀ i : Fin 96, f ⟨i.val, by omega⟩ = g i) (h0 : ∀ i : Fin 128, 96 ≤ i.val → f i = 0) :
    ∑ i : Fin 128, f i = ∑ i : Fin 96, g i := by
  refine (Fin.sum_univ_add (a := 96) (b := 32) f).trans ?_
  rw [Finset.sum_eq_zero (s := (Finset.univ : Finset (Fin 32))) (fun i _ => h0 _ (by show 96 ≤ 96 + i.val; omega)), add_zero]
  exact Finset.sum_congr rfl fun i _ => h i

end Cert.ProjIdeal.Bridge

end
-- ==== Proof.ProjPlain.lean ====
/-
  The reference of the recurrent layer's projections, read at an index over the extended reals: the rows one step back
  (`prevRows_zero`, `prevRows_succ`), a channel's interpolation between them and the present rows (`mixed_at`), and the six results at a flat row.
-/
module

public import proofs.«01_k».proof.Proof.Gen.ProjRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ProjRefIdeal.Plain

open Cert.ProjRefIdeal Cert.ProjRefIdeal.Gen

/-- The token rows one step back: the carried row first. -/
def prevRows (x : FVec Ideal S4x2048x2048 .f32) (s : FVec Ideal S4x2048 .f32) : FVec Ideal S4x2048x2048 .f32 :=
  (concatenate S4x2048x2048 1 [⟨S4x1x2048, (broadcastInDim S4x1x2048 ![0, 2] bcast_S4x2048_S4x1x2048_0_2 s)⟩, ⟨S4x2047x2048, (extractStridedSlice S4x2047x2048 ![0, 0, 0] x slices_S4x2048x2048_S4x2047x2048_0_0_0)⟩] concatenates_S4x1x2048_S4x2047x2048_S4x2048x2048_d1)

/-- The six interpolations of the rows with those one step back. -/
def mixed (x : FVec Ideal S4x2048x2048 .f32) (s : FVec Ideal S4x2048 .f32) (mu : FVec Ideal S6x2048 .f32) : FVec Ideal S4x2048x6x2048 .f32 :=
  (addf (broadcastInDim S4x2048x6x2048 ![0, 1, 2, 3] bcast_S4x2048x1x2048_S4x2048x6x2048_0_1_2_3 (broadcastInDim S4x2048x1x2048 ![0, 1, 3] bcast_S4x2048x2048_S4x2048x1x2048_0_1_3 x)) (mulf (broadcastInDim S4x2048x6x2048 ![0, 1, 2, 3] bcast_S4x2048x1x2048_S4x2048x6x2048_0_1_2_3 (broadcastInDim S4x2048x1x2048 ![0, 1, 3] bcast_S4x2048x2048_S4x2048x1x2048_0_1_3 (subf (prevRows x s) x))) (broadcastInDim S4x2048x6x2048 ![0, 1, 2, 3] bcast_S1x1x6x2048_S4x2048x6x2048_0_1_2_3 (broadcastInDim S1x1x6x2048 ![2, 3] bcast_S6x2048_S1x1x6x2048_2_3 mu))))

/-! One of the six. -/
def lane0 (X : FVec Ideal S4x2048x6x2048 .f32) : FVec Ideal S4x2048x2048 .f32 :=
  shapeCast _ (extractStridedSlice S4x2048x1x2048 ![0, 0, 0, 0] X slices_S4x2048x6x2048_S4x2048x1x2048_0_0_0_0) shapeCasts_S4x2048x1x2048_S4x2048x2048
def lane1 (X : FVec Ideal S4x2048x6x2048 .f32) : FVec Ideal S4x2048x2048 .f32 :=
  shapeCast _ (extractStridedSlice S4x2048x1x2048 ![0, 0, 1, 0] X slices_S4x2048x6x2048_S4x2048x1x2048_0_0_1_0) shapeCasts_S4x2048x1x2048_S4x2048x2048
def lane2 (X : FVec Ideal S4x2048x6x2048 .f32) : FVec Ideal S4x2048x2048 .f32 :=
  shapeCast _ (extractStridedSlice S4x2048x1x2048 ![0, 0, 2, 0] X slices_S4x2048x6x2048_S4x2048x1x2048_0_0_2_0) shapeCasts_S4x2048x1x2048_S4x2048x2048
def lane3 (X : FVec Ideal S4x2048x6x2048 .f32) : FVec Ideal S4x2048x2048 .f32 :=
  shapeCast _ (extractStridedSlice S4x2048x1x2048 ![0, 0, 3, 0] X slices_S4x2048x6x2048_S4x2048x1x2048_0_0_3_0) shapeCasts_S4x2048x1x2048_S4x2048x2048
def lane4 (X : FVec Ideal S4x2048x6x2048 .f32) : FVec Ideal S4x2048x2048 .f32 :=
  shapeCast _ (extractStridedSlice S4x2048x1x2048 ![0, 0, 4, 0] X slices_S4x2048x6x2048_S4x2048x1x2048_0_0_4_0) shapeCasts_S4x2048x1x2048_S4x2048x2048
def lane5 (X : FVec Ideal S4x2048x6x2048 .f32) : FVec Ideal S4x2048x2048 .f32 :=
  shapeCast _ (extractStridedSlice S4x2048x1x2048 ![0, 0, 5, 0] X slices_S4x2048x6x2048_S4x2048x1x2048_0_0_5_0) shapeCasts_S4x2048x1x2048_S4x2048x2048

/-- The first row one step back is the carried one. -/
theorem prevRows_zero (x : FVec Ideal S4x2048x2048 .f32) (s : FVec Ideal S4x2048 .f32) (a : Fin 4) (r : Fin 2048) (k : Fin 2048)
    (h : r.val = 0) : prevRows x s (ix3 a r k) = s (ix2 a k) := by
  unfold prevRows
  refine (concatenate_apply_piece 1 [⟨S4x1x2048, (broadcastInDim S4x1x2048 ![0, 2] bcast_S4x2048_S4x1x2048_0_2 s)⟩, ⟨S4x2047x2048, (extractStridedSlice S4x2047x2048 ![0, 0, 0] x slices_S4x2048x2048_S4x2047x2048_0_0_0)⟩]
    concatenates_S4x1x2048_S4x2047x2048_S4x2048x2048_d1 (ix3 a r k) 0 (by simp) S4x1x2048 _ rfl rfl 0 rfl (ix3 a 0 k)
    (fun b hb => by
      match b with
      | ⟨0, _⟩ => rfl
      | ⟨1, _⟩ => exact absurd rfl hb
      | ⟨2, _⟩ => rfl) ((Nat.zero_add _).trans h.symm)).trans ?_
  pointwise

/-- The other rows one step back are the rows before. -/
theorem prevRows_succ (x : FVec Ideal S4x2048x2048 .f32) (s : FVec Ideal S4x2048 .f32) (a : Fin 4) (r r' : Fin 2048) (k : Fin 2048)
    (h : r.val = r'.val + 1) : prevRows x s (ix3 a r k) = x (ix3 a r' k) := by
  unfold prevRows
  refine (concatenate_apply_piece 1 [⟨S4x1x2048, (broadcastInDim S4x1x2048 ![0, 2] bcast_S4x2048_S4x1x2048_0_2 s)⟩, ⟨S4x2047x2048, (extractStridedSlice S4x2047x2048 ![0, 0, 0] x slices_S4x2048x2048_S4x2047x2048_0_0_0)⟩]
    concatenates_S4x1x2048_S4x2047x2048_S4x2048x2048_d1 (ix3 a r k) 1 (by simp) S4x2047x2048 _ rfl rfl 1 rfl (ix3 a ⟨r'.val, by omega⟩ k)
    (fun b hb => by
      match b with
      | ⟨0, _⟩ => rfl
      | ⟨1, _⟩ => exact absurd rfl hb
      | ⟨2, _⟩ => rfl) ((Nat.add_comm _ _).trans h.symm)).trans ?_
  pointwise
  try blk_ext

/-- The interpolation `n` at a row's channel. -/
def xmix (x : FVec Ideal S4x2048x2048 .f32) (s : FVec Ideal S4x2048 .f32) (mu : FVec Ideal S6x2048 .f32) (n : Fin 6) (a : Fin 4) (r k : Fin 2048) : EReal :=
  x (ix3 a r k) + (prevRows x s (ix3 a r k) - x (ix3 a r k)) * mu (ix2 n k)

theorem mixed_at (x : FVec Ideal S4x2048x2048 .f32) (s : FVec Ideal S4x2048 .f32) (mu : FVec Ideal S6x2048 .f32) (n : Fin 6) (a : Fin 4) (r k : Fin 2048) :
    mixed x s mu (ix4 a r n k) = ((x (ix3 a r k) + (prevRows x s (ix3 a r k) - x (ix3 a r k)) * mu (ix2 n k) : EReal) : Ideal .f32) := by
  unfold mixed
  generalize prevRows x s = D
  pointwise

variable (x : FVec Ideal S4x2048x2048 .f32) (s : FVec Ideal S4x2048 .f32) (mu : FVec Ideal S6x2048 .f32)

/-! The six at a row. -/
theorem lane0_at (a : Fin 4) (r k : Fin 2048) : lane0 (mixed x s mu) (ix3 a r k) = xmix x s mu 0 a r k := by
  unfold xmix
  rw [← mixed_at]
  unfold lane0
  generalize mixed x s mu = D
  pointwise
  blk_ext

theorem lane1_at (a : Fin 4) (r k : Fin 2048) : lane1 (mixed x s mu) (ix3 a r k) = xmix x s mu 1 a r k := by
  unfold xmix
  rw [← mixed_at]
  unfold lane1
  generalize mixed x s mu = D
  pointwise
  blk_ext

theorem lane2_at (a : Fin 4) (r k : Fin 2048) : lane2 (mixed x s mu) (ix3 a r k) = xmix x s mu 2 a r k := by
  unfold xmix
  rw [← mixed_at]
  unfold lane2
  generalize mixed x s mu = D
  pointwise
  blk_ext

theorem lane3_at (a : Fin 4) (r k : Fin 2048) : lane3 (mixed x s mu) (ix3 a r k) = xmix x s mu 3 a r k := by
  unfold xmix
  rw [← mixed_at]
  unfold lane3
  generalize mixed x s mu = D
  pointwise
  blk_ext

theorem lane4_at (a : Fin 4) (r k : Fin 2048) : lane4 (mixed x s mu) (ix3 a r k) = xmix x s mu 4 a r k := by
  unfold xmix
  rw [← mixed_at]
  unfold lane4
  generalize mixed x s mu = D
  pointwise
  blk_ext

theorem lane5_at (a : Fin 4) (r k : Fin 2048) : lane5 (mixed x s mu) (ix3 a r k) = xmix x s mu 5 a r k := by
  unfold xmix
  rw [← mixed_at]
  unfold lane5
  generalize mixed x s mu = D
  pointwise
  blk_ext

/-- The receptances before their rows are numbered flat. -/
def bR (X : FVec Ideal S4x2048x2048 .f32) (w : FVec Ideal S3x2048x2048 .f32) : FVec Ideal S4x2048x2048 .f32 :=
  (Host.dotGeneral dot_S4x2048x2048_S2048x2048_S4x2048x2048_2_0_01_1_n_n none X (shapeCast _ (extractStridedSlice S1x2048x2048 ![0, 0, 0] w slices_S3x2048x2048_S1x2048x2048_0_0_0) shapeCasts_S1x2048x2048_S2048x2048))

/-- The reference's receptances. -/
def REF_R (x : FVec Ideal S4x2048x2048 .f32) (s : FVec Ideal S4x2048 .f32) (mu : FVec Ideal S6x2048 .f32) (w : FVec Ideal S3x2048x2048 .f32) : FVec Ideal S8192x2048 .bf16 :=
  truncf .bf16 (shapeCast _ (bR (lane0 (mixed x s mu)) w) shapeCasts_S4x2048x2048_S8192x2048) bitsLt_bf16_f32

theorem REF_R_at (w : FVec Ideal S3x2048x2048 .f32) (i : S8192x2048.Idx) (a : Fin 4) (r j : Fin 2048) (h0 : (i 0 : ℕ) = a.val * 2048 + r.val) (h1 : (i 1 : ℕ) = j.val) :
    REF_R x s mu w i = bR (lane0 (mixed x s mu)) w (ix3 a r j) := by
  unfold REF_R
  generalize bR (lane0 (mixed x s mu)) w = D
  pointwise
  blk_ext

/-- The keys before their rows are numbered flat. -/
def bK (X : FVec Ideal S4x2048x2048 .f32) (w : FVec Ideal S3x2048x2048 .f32) : FVec Ideal S4x2048x2048 .f32 :=
  (Host.dotGeneral dot_S4x2048x2048_S2048x2048_S4x2048x2048_2_0_01_1_n_n none X (shapeCast _ (extractStridedSlice S1x2048x2048 ![1, 0, 0] w slices_S3x2048x2048_S1x2048x2048_1_0_0) shapeCasts_S1x2048x2048_S2048x2048))

/-- The reference's keys. -/
def REF_K (x : FVec Ideal S4x2048x2048 .f32) (s : FVec Ideal S4x2048 .f32) (mu : FVec Ideal S6x2048 .f32) (w : FVec Ideal S3x2048x2048 .f32) : FVec Ideal S8192x2048 .bf16 :=
  truncf .bf16 (shapeCast _ (bK (lane2 (mixed x s mu)) w) shapeCasts_S4x2048x2048_S8192x2048) bitsLt_bf16_f32

theorem REF_K_at (w : FVec Ideal S3x2048x2048 .f32) (i : S8192x2048.Idx) (a : Fin 4) (r j : Fin 2048) (h0 : (i 0 : ℕ) = a.val * 2048 + r.val) (h1 : (i 1 : ℕ) = j.val) :
    REF_K x s mu w i = bK (lane2 (mixed x s mu)) w (ix3 a r j) := by
  unfold REF_K
  generalize bK (lane2 (mixed x s mu)) w = D
  pointwise
  blk_ext

/-- The values before their rows are numbered flat. -/
def bV (X : FVec Ideal S4x2048x2048 .f32) (w : FVec Ideal S3x2048x2048 .f32) : FVec Ideal S4x2048x2048 .f32 :=
  (Host.dotGeneral dot_S4x2048x2048_S2048x2048_S4x2048x2048_2_0_01_1_n_n none X (shapeCast _ (extractStridedSlice S1x2048x2048 ![2, 0, 0] w slices_S3x2048x2048_S1x2048x2048_2_0_0) shapeCasts_S1x2048x2048_S2048x2048))

/-- The reference's values. -/
def REF_V (x : FVec Ideal S4x2048x2048 .f32) (s : FVec Ideal S4x2048 .f32) (mu : FVec Ideal S6x2048 .f32) (w : FVec Ideal S3x2048x2048 .f32) : FVec Ideal S8192x2048 .bf16 :=
  truncf .bf16 (shapeCast _ (bV (lane3 (mixed x s mu)) w) shapeCasts_S4x2048x2048_S8192x2048) bitsLt_bf16_f32

theorem REF_V_at (w : FVec Ideal S3x2048x2048 .f32) (i : S8192x2048.Idx) (a : Fin 4) (r j : Fin 2048) (h0 : (i 0 : ℕ) = a.val * 2048 + r.val) (h1 : (i 1 : ℕ) = j.val) :
    REF_V x s mu w i = bV (lane3 (mixed x s mu)) w (ix3 a r j) := by
  unfold REF_V
  generalize bV (lane3 (mixed x s mu)) w = D
  pointwise
  blk_ext

/-- The learning rates before their rows are numbered flat. -/
def bA (X : FVec Ideal S4x2048x2048 .f32) (a0 : FVec Ideal S2048 .f32) (a1 : FVec Ideal S2048x96 .f32) (a2 : FVec Ideal S96x2048 .f32) : FVec Ideal S4x2048x2048 .f32 :=
  (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (addf (broadcastInDim S4x2048x2048 ![0, 1, 2] bcast_S1x1x2048_S4x2048x2048_0_1_2 (broadcastInDim S1x1x2048 ![2] bcast_S2048_S1x1x2048_2 a0)) (Host.dotGeneral dot_S4x2048x96_S96x2048_S4x2048x2048_2_0_01_1_n_n none (Host.dotGeneral dot_S4x2048x2048_S2048x96_S4x2048x96_2_0_01_1_n_n none X a1) a2))))))

/-- The reference's learning rates. -/
def REF_A (x : FVec Ideal S4x2048x2048 .f32) (s : FVec Ideal S4x2048 .f32) (mu : FVec Ideal S6x2048 .f32) (a0 : FVec Ideal S2048 .f32) (a1 : FVec Ideal S2048x96 .f32) (a2 : FVec Ideal S96x2048 .f32) : FVec Ideal S8192x2048 .bf16 :=
  truncf .bf16 (shapeCast _ (bA (lane4 (mixed x s mu)) a0 a1 a2) shapeCasts_S4x2048x2048_S8192x2048) bitsLt_bf16_f32

theorem REF_A_at (a0 : FVec Ideal S2048 .f32) (a1 : FVec Ideal S2048x96 .f32) (a2 : FVec Ideal S96x2048 .f32) (i : S8192x2048.Idx) (a : Fin 4) (r j : Fin 2048) (h0 : (i 0 : ℕ) = a.val * 2048 + r.val) (h1 : (i 1 : ℕ) = j.val) :
    REF_A x s mu a0 a1 a2 i = bA (lane4 (mixed x s mu)) a0 a1 a2 (ix3 a r j) := by
  unfold REF_A
  generalize bA (lane4 (mixed x s mu)) a0 a1 a2 = D
  pointwise
  blk_ext

/-- The gates before their rows are numbered flat. -/
def bG (X : FVec Ideal S4x2048x2048 .f32) (g1 : FVec Ideal S2048x256 .f32) (g2 : FVec Ideal S256x2048 .f32) : FVec Ideal S4x2048x2048 .f32 :=
  (Host.dotGeneral dot_S4x2048x256_S256x2048_S4x2048x2048_2_0_01_1_n_n none (Host.divf (broadcastInDim S4x2048x256 ![] bcast_S_S4x2048x256 (constant S_ .f32 0x3F800000#32)) (addf (broadcastInDim S4x2048x256 ![] bcast_S_S4x2048x256 (constant S_ .f32 0x3F800000#32)) (Host.exp (Host.negf (Host.dotGeneral dot_S4x2048x2048_S2048x256_S4x2048x256_2_0_01_1_n_n none X g1))))) g2)

/-- The reference's gates. -/
def REF_G (x : FVec Ideal S4x2048x2048 .f32) (s : FVec Ideal S4x2048 .f32) (mu : FVec Ideal S6x2048 .f32) (g1 : FVec Ideal S2048x256 .f32) (g2 : FVec Ideal S256x2048 .f32) : FVec Ideal S8192x2048 .bf16 :=
  truncf .bf16 (shapeCast _ (bG (lane5 (mixed x s mu)) g1 g2) shapeCasts_S4x2048x2048_S8192x2048) bitsLt_bf16_f32

theorem REF_G_at (g1 : FVec Ideal S2048x256 .f32) (g2 : FVec Ideal S256x2048 .f32) (i : S8192x2048.Idx) (a : Fin 4) (r j : Fin 2048) (h0 : (i 0 : ℕ) = a.val * 2048 + r.val) (h1 : (i 1 : ℕ) = j.val) :
    REF_G x s mu g1 g2 i = bG (lane5 (mixed x s mu)) g1 g2 (ix3 a r j) := by
  unfold REF_G
  generalize bG (lane5 (mixed x s mu)) g1 g2 = D
  pointwise
  blk_ext

/-- The softplus' argument. -/
def bY (X : FVec Ideal S4x2048x2048 .f32) (w0 : FVec Ideal S2048 .f32) (w1 : FVec Ideal S2048x96 .f32) (w2 : FVec Ideal S96x2048 .f32) : FVec Ideal S4x2048x2048 .f32 :=
  Host.negf (addf (broadcastInDim S4x2048x2048 ![0, 1, 2] bcast_S1x1x2048_S4x2048x2048_0_1_2 (broadcastInDim S1x1x2048 ![2] bcast_S2048_S1x1x2048_2 w0)) (Host.dotGeneral dot_S4x2048x96_S96x2048_S4x2048x2048_2_0_01_1_n_n none (Host.tanh (Host.dotGeneral dot_S4x2048x2048_S2048x96_S4x2048x96_2_0_01_1_n_n none X w1)) w2))

/-- The logarithms of the decay before their rows are numbered flat. -/
def bW (Y : FVec Ideal S4x2048x2048 .f32) : FVec Ideal S4x2048x2048 .f32 :=
  (Host.negf (Host.exp (subf (Host.negf (select (cmpf .une (subf Y (broadcastInDim S4x2048x2048 ![] bcast_S_S4x2048x2048 (constant S_ .f32 0x00000000#32))) (subf Y (broadcastInDim S4x2048x2048 ![] bcast_S_S4x2048x2048 (constant S_ .f32 0x00000000#32)))) (addf Y (broadcastInDim S4x2048x2048 ![] bcast_S_S4x2048x2048 (constant S_ .f32 0x00000000#32))) (addf (maximumf Y (broadcastInDim S4x2048x2048 ![] bcast_S_S4x2048x2048 (constant S_ .f32 0x00000000#32))) (Host.log1p (Host.exp (Host.negf (Host.absf (subf Y (broadcastInDim S4x2048x2048 ![] bcast_S_S4x2048x2048 (constant S_ .f32 0x00000000#32)))))))))) (broadcastInDim S4x2048x2048 ![] bcast_S_S4x2048x2048 (constant S_ .f32 0x3F000000#32)))))

/-- The reference's logarithms of the decay. -/
def REF_W (x : FVec Ideal S4x2048x2048 .f32) (s : FVec Ideal S4x2048 .f32) (mu : FVec Ideal S6x2048 .f32) (w0 : FVec Ideal S2048 .f32) (w1 : FVec Ideal S2048x96 .f32) (w2 : FVec Ideal S96x2048 .f32) : FVec Ideal S8192x2048 .f32 :=
  shapeCast _ (bW (bY (lane1 (mixed x s mu)) w0 w1 w2)) shapeCasts_S4x2048x2048_S8192x2048

theorem REF_W_at (w0 : FVec Ideal S2048 .f32) (w1 : FVec Ideal S2048x96 .f32) (w2 : FVec Ideal S96x2048 .f32) (i : S8192x2048.Idx) (a : Fin 4) (r j : Fin 2048) (h0 : (i 0 : ℕ) = a.val * 2048 + r.val) (h1 : (i 1 : ℕ) = j.val) :
    REF_W x s mu w0 w1 w2 i = bW (bY (lane1 (mixed x s mu)) w0 w1 w2) (ix3 a r j) := by
  unfold REF_W
  generalize bW (bY (lane1 (mixed x s mu)) w0 w1 w2) = D
  pointwise
  blk_ext

end Cert.ProjRefIdeal.Plain

end
-- ==== Proof.ProjMatch.lean ====
/-
  The tiles of the recurrent layer's projections against the reference's arrays, both as expressions over abstract blocks: a
  tile's entry is the reference's once the rows and columns it reads are.
-/
module

public import proofs.«01_k».proof.Proof.ProjTile
public import proofs.«01_k».proof.Proof.ProjPlain

@[expose] public section

set_option maxRecDepth 16384

noncomputable section

open Idealize.ShloMosaic Idealize.ShloMosaic.TcCoe Idealize.SL.Sem
open Idealize.ShloMosaic.Pipeline (Dat)

namespace Cert.ProjIdeal.Bridge

open Cert.ProjRefIdeal.Plain
open Cert.ProjIdeal Cert.ProjIdeal.Gen Cert.ProjIdeal.Body

/-- The decay's hidden rows in the reference. -/
def HW (X : FVec Ideal Cert.ProjRefIdeal.S4x2048x2048 .f32) (w : FVec Ideal Cert.ProjRefIdeal.S2048x96 .f32) : FVec Ideal Cert.ProjRefIdeal.S4x2048x96 .f32 :=
  Host.tanh (Host.dotGeneral Cert.ProjRefIdeal.dot_S4x2048x2048_S2048x96_S4x2048x96_2_0_01_1_n_n none X w)

/-- The learning rate's hidden rows in the reference. -/
def HA (X : FVec Ideal Cert.ProjRefIdeal.S4x2048x2048 .f32) (w : FVec Ideal Cert.ProjRefIdeal.S2048x96 .f32) : FVec Ideal Cert.ProjRefIdeal.S4x2048x96 .f32 :=
  Host.dotGeneral Cert.ProjRefIdeal.dot_S4x2048x2048_S2048x96_S4x2048x96_2_0_01_1_n_n none X w

/-- The gate's hidden rows in the reference. -/
def HG (X : FVec Ideal Cert.ProjRefIdeal.S4x2048x2048 .f32) (w : FVec Ideal Cert.ProjRefIdeal.S2048x256 .f32) : FVec Ideal Cert.ProjRefIdeal.S4x2048x256 .f32 :=
  Host.divf (broadcastInDim Cert.ProjRefIdeal.S4x2048x256 ![] Cert.ProjRefIdeal.Gen.bcast_S_S4x2048x256 (constant Cert.ProjRefIdeal.S_ .f32 0x3F800000#32)) (addf (broadcastInDim Cert.ProjRefIdeal.S4x2048x256 ![] Cert.ProjRefIdeal.Gen.bcast_S_S4x2048x256 (constant Cert.ProjRefIdeal.S_ .f32 0x3F800000#32))
    (Host.exp (Host.negf (Host.dotGeneral Cert.ProjRefIdeal.dot_S4x2048x2048_S2048x256_S4x2048x256_2_0_01_1_n_n none X w))))

variable (X : FVec Ideal Cert.ProjRefIdeal.S4x2048x2048 .f32) (p : Fin 512) (a : Fin 4) (r : Fin 2048)

/-! The three products with the large matrices. -/
theorem pay3_at (M : FVec Ideal S1x512x2048 .bf16) (w : FVec Ideal S2048x1024 .bf16) (W : FVec Ideal Cert.ProjRefIdeal.S3x2048x2048 .f32) (q : Fin 1024) (j : Fin 2048)
    (hM : ∀ k : Fin 2048, M (ix3 0 p k) = X (ix3 a r k)) (hw : ∀ k : Fin 2048, w (ix2 k q) = W (ix3 0 k j)) :
    k0_pay3 (F := Ideal) M w (ix2 p q) = bR X W (ix3 a r j) := by
  pointwise [k0_pay3, bR]
  simp only [hM, hw]
  try rfl

theorem pay5_at (M : FVec Ideal S1x512x2048 .bf16) (w : FVec Ideal S2048x1024 .bf16) (W : FVec Ideal Cert.ProjRefIdeal.S3x2048x2048 .f32) (q : Fin 1024) (j : Fin 2048)
    (hM : ∀ k : Fin 2048, M (ix3 0 p k) = X (ix3 a r k)) (hw : ∀ k : Fin 2048, w (ix2 k q) = W (ix3 1 k j)) :
    k0_pay5 (F := Ideal) M w (ix2 p q) = bK X W (ix3 a r j) := by
  pointwise [k0_pay5, bK]
  simp only [hM, hw]
  try rfl

theorem pay7_at (M : FVec Ideal S1x512x2048 .bf16) (w : FVec Ideal S2048x1024 .bf16) (W : FVec Ideal Cert.ProjRefIdeal.S3x2048x2048 .f32) (q : Fin 1024) (j : Fin 2048)
    (hM : ∀ k : Fin 2048, M (ix3 0 p k) = X (ix3 a r k)) (hw : ∀ k : Fin 2048, w (ix2 k q) = W (ix3 2 k j)) :
    k0_pay7 (F := Ideal) M w (ix2 p q) = bV X W (ix3 a r j) := by
  pointwise [k0_pay7, bV]
  simp only [hM, hw]
  try rfl

/-! The hidden rows. -/
theorem pay16_at (x D : FVec Ideal S512x2048 .f32) (M : FVec Ideal S1x2048 .f32) (w : FVec Ideal S2048x128 .bf16) (W : FVec Ideal Cert.ProjRefIdeal.S2048x96 .f32) (h : Fin 96)
    (hD : ∀ k : Fin 2048, lowMix x D M (ix2 p k) = X (ix3 a r k)) (hw : ∀ k : Fin 2048, w (ix2 k (⟨h.val, by omega⟩ : Fin 128)) = W (ix2 k h)) :
    k0_pay16 (F := Ideal) x D M w (ix2 p (⟨h.val, by omega⟩ : Fin 128)) = HW X W (ix3 a r h) := by
  refine Eq.trans (b := (tanh (matmul dot_S512x2048_S2048x128_S512x128_1_0_0_1_n_n none (truncf .bf16 (lowMix x D M) bitsLt_bf16_f32 : FVec Ideal S512x2048 .bf16)
    (shapeCast S2048x128 w shapeCasts_S2048x128_S2048x128 : FVec Ideal S2048x128 .bf16) (constant S512x128 .f32 0x00000000#32)) : FVec Ideal S512x128 .f32) (ix2 p (⟨h.val, by omega⟩ : Fin 128))) ?_ ?_
  · pointwise [k0_pay16, lowMix]
  · generalize lowMix x D M = L at hD ⊢
    pointwise [HW]
    simp only [hD, hw]

theorem pay17_at (x D : FVec Ideal S512x2048 .f32) (M : FVec Ideal S1x2048 .f32) (w : FVec Ideal S2048x128 .bf16) (W : FVec Ideal Cert.ProjRefIdeal.S2048x96 .f32) (h : Fin 96)
    (hD : ∀ k : Fin 2048, lowMix x D M (ix2 p k) = X (ix3 a r k)) (hw : ∀ k : Fin 2048, w (ix2 k (⟨h.val, by omega⟩ : Fin 128)) = W (ix2 k h)) :
    k0_pay1 (F := Ideal) (k0_pay17 x D M) w (ix2 p (⟨h.val, by omega⟩ : Fin 128)) = HA X W (ix3 a r h) := by
  have e : (k0_pay17 (F := Ideal) x D M) = (truncf .bf16 (lowMix x D M) bitsLt_bf16_f32 : FVec Ideal S512x2048 .bf16) := rfl
  rw [e]
  generalize lowMix x D M = L at hD ⊢
  pointwise [k0_pay1, HA]
  simp only [hD, hw]

theorem pay2_at (x D : FVec Ideal S512x2048 .f32) (M : FVec Ideal S1x2048 .f32) (w : FVec Ideal S2048x256 .bf16) (W : FVec Ideal Cert.ProjRefIdeal.S2048x256 .f32) (h : Fin 256)
    (hD : ∀ k : Fin 2048, lowMix x D M (ix2 p k) = X (ix3 a r k)) (hw : ∀ k : Fin 2048, w (ix2 k h) = W (ix2 k h)) :
    k0_pay2 (F := Ideal) x D M w (ix2 p h) = HG X W (ix3 a r h) := by
  have hD' : ∀ k : Fin 2048, ((x (ix2 p k) + D (ix2 p k) * M (ix2 0 k) : EReal) : Ideal .f32) = X (ix3 a r k) := fun k => (lowMix_at x D M p k).symm.trans (hD k)
  pointwise [k0_pay2, HG]
  simp only [zero_sub, hD', hw]

/-! The second products. -/
theorem pay8_at (H : FVec Ideal S512x256 .bf16) (w : FVec Ideal S256x1024 .bf16) (g1 : FVec Ideal Cert.ProjRefIdeal.S2048x256 .f32) (g2 : FVec Ideal Cert.ProjRefIdeal.S256x2048 .f32) (q : Fin 1024) (j : Fin 2048)
    (hH : ∀ h : Fin 256, H (ix2 p h) = HG X g1 (ix3 a r h)) (hw : ∀ h : Fin 256, w (ix2 h q) = g2 (ix2 h j)) :
    k0_pay8 (F := Ideal) H w (ix2 p q) = bG X g1 g2 (ix3 a r j) := by
  refine Eq.trans ?_ (b := Host.dotGeneral Cert.ProjRefIdeal.dot_S4x2048x256_S256x2048_S4x2048x2048_2_0_01_1_n_n none (HG X g1) g2 (ix3 a r j)) rfl
  generalize HG X g1 = G at hH ⊢
  pointwise [k0_pay8]
  simp only [hH, hw]

/-- A padded low-rank product is the low-rank product. -/
theorem low_sum (H : FVec Ideal S512x128 .bf16) (w : FVec Ideal S128x1024 .bf16) (G : FVec Ideal Cert.ProjRefIdeal.S4x2048x96 .f32) (W : FVec Ideal Cert.ProjRefIdeal.S96x2048 .f32) (q : Fin 1024) (j : Fin 2048)
    (hH : ∀ h : Fin 96, H (ix2 p (⟨h.val, by omega⟩ : Fin 128)) = G (ix3 a r h)) (hw : ∀ h : Fin 96, w (ix2 (⟨h.val, by omega⟩ : Fin 128) q) = W (ix2 h j))
    (h0 : ∀ h : Fin 128, 96 ≤ h.val → w (ix2 h q) = ((0 : EReal) : Ideal .bf16)) :
    (∑ h : Fin 128, ((H (ix2 p h) : EReal) * w (ix2 h q) : EReal)) = ∑ h : Fin 96, ((G (ix3 a r h) : EReal) * W (ix2 h j) : EReal) := by
  refine sum_low _ _ (fun h => ?_) (fun h hh => ?_)
  · rw [hH, hw]
  · rw [h0 h hh]
    exact mul_zero _

theorem pay6_at (b : FVec Ideal S1x1024 .f32) (H : FVec Ideal S512x128 .bf16) (w : FVec Ideal S128x1024 .bf16) (a0 : FVec Ideal Cert.ProjRefIdeal.S2048 .f32) (a1 : FVec Ideal Cert.ProjRefIdeal.S2048x96 .f32) (a2 : FVec Ideal Cert.ProjRefIdeal.S96x2048 .f32) (q : Fin 1024) (j : Fin 2048)
    (hb : b (ix2 0 q) = a0 (ix1 j)) (hH : ∀ h : Fin 96, H (ix2 p (⟨h.val, by omega⟩ : Fin 128)) = HA X a1 (ix3 a r h)) (hw : ∀ h : Fin 96, w (ix2 (⟨h.val, by omega⟩ : Fin 128) q) = a2 (ix2 h j))
    (h0 : ∀ h : Fin 128, 96 ≤ h.val → w (ix2 h q) = ((0 : EReal) : Ideal .bf16)) :
    k0_pay6 (F := Ideal) b H w (ix2 p q) = bA X a0 a1 a2 (ix3 a r j) := by
  have hs := low_sum p a r H w _ _ q j hH hw h0
  have e : bA X a0 a1 a2 = Host.divf (broadcastInDim Cert.ProjRefIdeal.S4x2048x2048 ![] Cert.ProjRefIdeal.Gen.bcast_S_S4x2048x2048 (constant Cert.ProjRefIdeal.S_ .f32 0x3F800000#32)) (addf (broadcastInDim Cert.ProjRefIdeal.S4x2048x2048 ![] Cert.ProjRefIdeal.Gen.bcast_S_S4x2048x2048 (constant Cert.ProjRefIdeal.S_ .f32 0x3F800000#32))
    (Host.exp (Host.negf (addf (broadcastInDim Cert.ProjRefIdeal.S4x2048x2048 ![0, 1, 2] Cert.ProjRefIdeal.Gen.bcast_S1x1x2048_S4x2048x2048_0_1_2 (broadcastInDim Cert.ProjRefIdeal.S1x1x2048 ![2] Cert.ProjRefIdeal.Gen.bcast_S2048_S1x1x2048_2 a0))
      (Host.dotGeneral Cert.ProjRefIdeal.dot_S4x2048x96_S96x2048_S4x2048x2048_2_0_01_1_n_n none (HA X a1) a2))))) := rfl
  rw [e]
  generalize HA X a1 = G at hs ⊢
  pointwise [k0_pay6]
  simp only [zero_sub]
  rw [hs, hb]

theorem bY_at (w0 : FVec Ideal Cert.ProjRefIdeal.S2048 .f32) (w1 : FVec Ideal Cert.ProjRefIdeal.S2048x96 .f32) (w2 : FVec Ideal Cert.ProjRefIdeal.S96x2048 .f32) (j : Fin 2048) :
    bY X w0 w1 w2 (ix3 a r j) = ((-(w0 (ix1 j) + ∑ h : Fin 96, ((HW X w1 (ix3 a r h) : EReal) * w2 (ix2 h j) : EReal)) : EReal) : Ideal .f32) := by
  refine Eq.trans (b := (Host.negf (addf (broadcastInDim Cert.ProjRefIdeal.S4x2048x2048 ![0, 1, 2] Cert.ProjRefIdeal.Gen.bcast_S1x1x2048_S4x2048x2048_0_1_2 (broadcastInDim Cert.ProjRefIdeal.S1x1x2048 ![2] Cert.ProjRefIdeal.Gen.bcast_S2048_S1x1x2048_2 w0))
      (Host.dotGeneral Cert.ProjRefIdeal.dot_S4x2048x96_S96x2048_S4x2048x2048_2_0_01_1_n_n none (HW X w1) w2)) : FVec Ideal Cert.ProjRefIdeal.S4x2048x2048 .f32) (ix3 a r j)) rfl ?_
  generalize HW X w1 = G
  pointwise

theorem pay4_at (b : FVec Ideal S1x1024 .f32) (H : FVec Ideal S512x128 .bf16) (w : FVec Ideal S128x1024 .bf16) (Y : FVec Ideal Cert.ProjRefIdeal.S4x2048x2048 .f32) (q : Fin 1024) (j : Fin 2048)
    (hY : Y (ix3 a r j) = ((-(b (ix2 0 q) + ∑ h : Fin 128, ((H (ix2 p h) : EReal) * w (ix2 h q) : EReal)) : EReal) : Ideal .f32)) :
    k0_pay4 (F := Ideal) b H w (ix2 p q) = bW Y (ix3 a r j) := by
  pointwise [k0_pay4, bW]
  simp only [zero_sub]
  rw [hY]
  rw [if_neg (fun h => h rfl)]

end Cert.ProjIdeal.Bridge

end
-- ==== Proof.ProjHost.lean ====
/-
  The blocks a grid point of the recurrent layer's projections reads, as places of the arguments: the host hands the kernel the
  three matrices side by side (`V_main`) and the low-rank matrices filled up with zeros (`V_w1` to `V_a2`).
-/
module

public import proofs.«01_k».proof.Proof.Gen.ProjIdeal.Frame
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ProjIdeal.Bridge

open Cert.ProjIdeal Cert.ProjIdeal.Gen

variable (m : (ℓ : Loc nD τ sig) → Buf (Elt Ideal) ℓ)

/-! The arguments, as the reference takes them. -/
abbrev aX (c : Dev nD) : FVec Ideal S4x2048x2048 .f32 := m ((c : Thread nD τ).loc main_arg0)
abbrev aS (c : Dev nD) : FVec Ideal S4x2048 .f32 := m ((c : Thread nD τ).loc main_arg1)
abbrev aMu (c : Dev nD) : FVec Ideal S6x2048 .f32 := m ((c : Thread nD τ).loc main_arg2)
abbrev aM (c : Dev nD) : FVec Ideal S3x2048x2048 .f32 := m ((c : Thread nD τ).loc main_arg3)
abbrev aW0 (c : Dev nD) : FVec Ideal S2048 .f32 := m ((c : Thread nD τ).loc main_arg4)
abbrev aW1 (c : Dev nD) : FVec Ideal S2048x96 .f32 := m ((c : Thread nD τ).loc main_arg5)
abbrev aW2 (c : Dev nD) : FVec Ideal S96x2048 .f32 := m ((c : Thread nD τ).loc main_arg6)
abbrev aA0 (c : Dev nD) : FVec Ideal S2048 .f32 := m ((c : Thread nD τ).loc main_arg7)
abbrev aA1 (c : Dev nD) : FVec Ideal S2048x96 .f32 := m ((c : Thread nD τ).loc main_arg8)
abbrev aA2 (c : Dev nD) : FVec Ideal S96x2048 .f32 := m ((c : Thread nD τ).loc main_arg9)
abbrev aG1 (c : Dev nD) : FVec Ideal S2048x256 .f32 := m ((c : Thread nD τ).loc main_arg10)
abbrev aG2 (c : Dev nD) : FVec Ideal S256x2048 .f32 := m ((c : Thread nD τ).loc main_arg11)

/-! What the host hands the kernel. -/

theorem V_main (c : Dev nD) : V m c main_v9 = (concatenate S2048x6144 1 [⟨S2048x2048, (truncf .bf16 (shapeCast S2048x2048 (extractStridedSlice S1x2048x2048 ![0, 0, 0] (aM m c) slices_S3x2048x2048_S1x2048x2048_0_0_0) shapeCasts_S1x2048x2048_S2048x2048) bitsLt_bf16_f32 : FVec Ideal S2048x2048 .bf16)⟩, ⟨S2048x2048, (truncf .bf16 (shapeCast S2048x2048 (extractStridedSlice S1x2048x2048 ![1, 0, 0] (aM m c) slices_S3x2048x2048_S1x2048x2048_1_0_0) shapeCasts_S1x2048x2048_S2048x2048) bitsLt_bf16_f32 : FVec Ideal S2048x2048 .bf16)⟩, ⟨S2048x2048, (truncf .bf16 (shapeCast S2048x2048 (extractStridedSlice S1x2048x2048 ![2, 0, 0] (aM m c) slices_S3x2048x2048_S1x2048x2048_2_0_0) shapeCasts_S1x2048x2048_S2048x2048) bitsLt_bf16_f32 : FVec Ideal S2048x2048 .bf16)⟩] concatenates_S2048x2048_S2048x2048_S2048x2048_S2048x6144_d1 : FVec Ideal S2048x6144 .bf16) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

theorem V_w1 (c : Dev nD) : V m c main_v11 = (truncf .bf16 (pad S2048x128 ![0, 0] ![0, 32] ![0, 0] (aW1 m c) (sitofp .f32 (constantI S_ 32 0#32) : FVec Ideal S_ .f32) pads_S2048x96_S2048x128_000_0320 h_S_) bitsLt_bf16_f32 : FVec Ideal S2048x128 .bf16) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

theorem V_a1 (c : Dev nD) : V m c main_v13 = (truncf .bf16 (pad S2048x128 ![0, 0] ![0, 32] ![0, 0] (aA1 m c) (sitofp .f32 (constantI S_ 32 0#32) : FVec Ideal S_ .f32) pads_S2048x96_S2048x128_000_0320 h_S_) bitsLt_bf16_f32 : FVec Ideal S2048x128 .bf16) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

theorem V_g1 (c : Dev nD) : V m c main_v14 = (truncf .bf16 (aG1 m c) bitsLt_bf16_f32 : FVec Ideal S2048x256 .bf16) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

theorem V_w2 (c : Dev nD) : V m c main_v16 = (truncf .bf16 (pad S128x2048 ![0, 0] ![32, 0] ![0, 0] (aW2 m c) (sitofp .f32 (constantI S_ 32 0#32) : FVec Ideal S_ .f32) pads_S96x2048_S128x2048_0320_000 h_S_) bitsLt_bf16_f32 : FVec Ideal S128x2048 .bf16) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

theorem V_a2 (c : Dev nD) : V m c main_v18 = (truncf .bf16 (pad S128x2048 ![0, 0] ![32, 0] ![0, 0] (aA2 m c) (sitofp .f32 (constantI S_ 32 0#32) : FVec Ideal S_ .f32) pads_S96x2048_S128x2048_0320_000 h_S_) bitsLt_bf16_f32 : FVec Ideal S128x2048 .bf16) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

theorem V_g2 (c : Dev nD) : V m c main_v19 = (truncf .bf16 (aG2 m c) bitsLt_bf16_f32 : FVec Ideal S256x2048 .bf16) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

theorem V_w0 (c : Dev nD) : V m c main_v20 = (broadcastInDim S1x2048 ![1] bcast_S2048_S1x2048_1 (aW0 m c) : FVec Ideal S1x2048 .f32) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

theorem V_a0 (c : Dev nD) : V m c main_v21 = (broadcastInDim S1x2048 ![1] bcast_S2048_S1x2048_1 (aA0 m c) : FVec Ideal S1x2048 .f32) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

theorem V_x (c : Dev nD) : V m c main_v22 = (shapeCast S8192x2048 (aX m c) shapeCasts_S4x2048x2048_S8192x2048 : FVec Ideal S8192x2048 .f32) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

theorem V_s (c : Dev nD) : V m c main_v23 = (shapeCast S4x1x2048 (aS m c) shapeCasts_S4x2048_S4x1x2048 : FVec Ideal S4x1x2048 .f32) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  try rfl

end Cert.ProjIdeal.Bridge

end
-- ==== Proof.ProjBlocks.lean ====
/-
  A grid point's blocks, read at an index: its token rows, its carried row, its columns of the matrices (each column block of
  1024 lies in one of the three matrices), and its blocks of the low-rank matrices with their zero rows.
-/
module

public import proofs.«01_k».proof.Proof.ProjHost

@[expose] public section

set_option maxRecDepth 16384

noncomputable section

open Idealize.ShloMosaic Idealize.ShloMosaic.TcCoe Idealize.SL.Sem
open Idealize.ShloMosaic.Pipeline (Dat)

namespace Cert.ProjIdeal.Bridge

open Cert.ProjIdeal Cert.ProjIdeal.Gen

variable (m : (ℓ : Loc nD τ sig) → Buf (Elt Ideal) ℓ)

/-- Where each window's block lies at each grid point. -/
theorem idx : ∀ t : Fin cfg0.N, win0_0.index t = ![t.val / 6, 0] ∧ win0_1.index t = ![t.val / 24, 0, 0] ∧ win0_2.index t = ![0, 0]
    ∧ win0_3.index t = ![0, t.val % 6] ∧ win0_4.index t = ![0, 0] ∧ win0_5.index t = ![0, 0] ∧ win0_6.index t = ![0, 0]
    ∧ win0_7.index t = ![0, t.val % 6 % 2] ∧ win0_8.index t = ![0, t.val % 6 % 2] ∧ win0_9.index t = ![0, t.val % 6 % 2]
    ∧ win0_10.index t = ![0, t.val % 6 % 2] ∧ win0_11.index t = ![0, t.val % 6 % 2]
    ∧ win0_12.index t = ![t.val / 6, min (t.val % 6) 1] ∧ win0_13.index t = ![t.val / 6, min (t.val % 6 - 2) 1] ∧ win0_14.index t = ![t.val / 6, min (t.val % 6 - 4) 1]
    ∧ win0_15.index t = ![t.val / 6, min (t.val % 6) 1] ∧ win0_16.index t = ![t.val / 6, min (t.val % 6 - 2) 1] ∧ win0_17.index t = ![t.val / 6, min (t.val % 6 - 4) 1] :=
  (by decide +kernel : ∀ t : Fin grid0.N, _)

/-- A point's token rows. -/
theorem x_at (c : Dev nD) (t : Fin cfg0.N) (p : Fin 512) (a : Fin 4) (r k : Fin 2048) (h : t.val / 6 * 512 + p.val = a.val * 2048 + r.val) :
    iblk m c 0 t (ix2 p k) = aX m c (ix3 a r k) := by
  refine Eq.trans (b := V m c main_v22 (((cfg0.win 0).blk t).view.emb (ix2 p k))) rfl ?_
  rw [V_x]
  pointwise
  blk_point [idx t]

/-- A point's carried row. -/
theorem s_at (c : Dev nD) (t : Fin cfg0.N) (a : Fin 4) (k : Fin 2048) (h : t.val / 24 = a.val) :
    iblk m c 1 t (ix3 0 0 k) = aS m c (ix2 a k) := by
  refine Eq.trans (b := V m c main_v23 (((cfg0.win 1).blk t).view.emb (ix3 0 0 k))) rfl ?_
  rw [V_s]
  pointwise
  blk_point [idx t]

/-- The interpolation weights. -/
theorem mu_at (c : Dev nD) (t : Fin cfg0.N) (n : Fin 6) (k : Fin 2048) : iblk m c 2 t (ix2 n k) = aMu m c (ix2 n k) := by
  blk_point [iblk, V, idx t]

/-! The three matrices the host lays side by side, and a point's columns of them. -/
def third0 (c : Dev nD) : FVec Ideal S2048x2048 .bf16 := (truncf .bf16 (shapeCast S2048x2048 (extractStridedSlice S1x2048x2048 ![0, 0, 0] (aM m c) slices_S3x2048x2048_S1x2048x2048_0_0_0) shapeCasts_S1x2048x2048_S2048x2048) bitsLt_bf16_f32 : FVec Ideal S2048x2048 .bf16)

theorem third0_at (c : Dev nD) (k j : Fin 2048) : third0 m c (ix2 k j) = aM m c (ix3 0 k j) := by
  pointwise [third0]
  try blk_ext

theorem side0_at (A0 A1 A2 : FVec Ideal S2048x2048 .bf16) (k : Fin 2048) (e : Fin 6144) (j : Fin 2048) (h : e.val = 0 + j.val) :
    (concatenate S2048x6144 1 [⟨S2048x2048, A0⟩, ⟨S2048x2048, A1⟩, ⟨S2048x2048, A2⟩] concatenates_S2048x2048_S2048x2048_S2048x2048_S2048x6144_d1 : FVec Ideal S2048x6144 .bf16) (ix2 k e) = A0 (ix2 k j) :=
  concatenate_apply_piece 1 [⟨S2048x2048, A0⟩, ⟨S2048x2048, A1⟩, ⟨S2048x2048, A2⟩]
    concatenates_S2048x2048_S2048x2048_S2048x2048_S2048x6144_d1 (ix2 k e) 0 (by simp) S2048x2048 A0 rfl rfl 0 (by simp [S2048x2048]) (ix2 k j)
    (fun b hb => by
      match b with
      | ⟨0, _⟩ => rfl
      | ⟨1, _⟩ => exact absurd rfl hb) h.symm

def third1 (c : Dev nD) : FVec Ideal S2048x2048 .bf16 := (truncf .bf16 (shapeCast S2048x2048 (extractStridedSlice S1x2048x2048 ![1, 0, 0] (aM m c) slices_S3x2048x2048_S1x2048x2048_1_0_0) shapeCasts_S1x2048x2048_S2048x2048) bitsLt_bf16_f32 : FVec Ideal S2048x2048 .bf16)

theorem third1_at (c : Dev nD) (k j : Fin 2048) : third1 m c (ix2 k j) = aM m c (ix3 1 k j) := by
  pointwise [third1]
  try blk_ext

theorem side1_at (A0 A1 A2 : FVec Ideal S2048x2048 .bf16) (k : Fin 2048) (e : Fin 6144) (j : Fin 2048) (h : e.val = 2048 + j.val) :
    (concatenate S2048x6144 1 [⟨S2048x2048, A0⟩, ⟨S2048x2048, A1⟩, ⟨S2048x2048, A2⟩] concatenates_S2048x2048_S2048x2048_S2048x2048_S2048x6144_d1 : FVec Ideal S2048x6144 .bf16) (ix2 k e) = A1 (ix2 k j) :=
  concatenate_apply_piece 1 [⟨S2048x2048, A0⟩, ⟨S2048x2048, A1⟩, ⟨S2048x2048, A2⟩]
    concatenates_S2048x2048_S2048x2048_S2048x2048_S2048x6144_d1 (ix2 k e) 1 (by simp) S2048x2048 A1 rfl rfl 2048 (by simp [S2048x2048]) (ix2 k j)
    (fun b hb => by
      match b with
      | ⟨0, _⟩ => rfl
      | ⟨1, _⟩ => exact absurd rfl hb) h.symm

def third2 (c : Dev nD) : FVec Ideal S2048x2048 .bf16 := (truncf .bf16 (shapeCast S2048x2048 (extractStridedSlice S1x2048x2048 ![2, 0, 0] (aM m c) slices_S3x2048x2048_S1x2048x2048_2_0_0) shapeCasts_S1x2048x2048_S2048x2048) bitsLt_bf16_f32 : FVec Ideal S2048x2048 .bf16)

theorem third2_at (c : Dev nD) (k j : Fin 2048) : third2 m c (ix2 k j) = aM m c (ix3 2 k j) := by
  pointwise [third2]
  try blk_ext

theorem side2_at (A0 A1 A2 : FVec Ideal S2048x2048 .bf16) (k : Fin 2048) (e : Fin 6144) (j : Fin 2048) (h : e.val = 4096 + j.val) :
    (concatenate S2048x6144 1 [⟨S2048x2048, A0⟩, ⟨S2048x2048, A1⟩, ⟨S2048x2048, A2⟩] concatenates_S2048x2048_S2048x2048_S2048x2048_S2048x6144_d1 : FVec Ideal S2048x6144 .bf16) (ix2 k e) = A2 (ix2 k j) :=
  concatenate_apply_piece 1 [⟨S2048x2048, A0⟩, ⟨S2048x2048, A1⟩, ⟨S2048x2048, A2⟩]
    concatenates_S2048x2048_S2048x2048_S2048x2048_S2048x6144_d1 (ix2 k e) 2 (by simp) S2048x2048 A2 rfl rfl 4096 (by simp [S2048x2048]) (ix2 k j)
    (fun b hb => by
      match b with
      | ⟨0, _⟩ => rfl
      | ⟨1, _⟩ => exact absurd rfl hb) h.symm

theorem V_side (c : Dev nD) : V m c main_v9 = (concatenate S2048x6144 1 [⟨S2048x2048, third0 m c⟩, ⟨S2048x2048, third1 m c⟩, ⟨S2048x2048, third2 m c⟩] concatenates_S2048x2048_S2048x2048_S2048x2048_S2048x6144_d1 : FVec Ideal S2048x6144 .bf16) :=
  V_main m c

theorem main0_at (c : Dev nD) (t : Fin cfg0.N) (k : Fin 2048) (q : Fin 1024) (j : Fin 2048) (h : t.val % 6 * 1024 + q.val = 0 + j.val) :
    iblk m c 3 t (ix2 k q) = aM m c (ix3 0 k j) := by
  have hb : t.val % 6 * 1024 + q.val < 6144 := by omega
  refine Eq.trans (b := V m c main_v9 (ix2 k (⟨t.val % 6 * 1024 + q.val, hb⟩ : Fin 6144))) ?_ ?_
  · refine Eq.trans (b := V m c main_v9 (((cfg0.win 3).blk t).view.emb (ix2 k q))) rfl ?_
    generalize V m c main_v9 = D
    blk_point [idx t]
  · rw [V_side, ← third0_at]
    exact side0_at _ _ _ k _ j h

theorem main1_at (c : Dev nD) (t : Fin cfg0.N) (k : Fin 2048) (q : Fin 1024) (j : Fin 2048) (h : t.val % 6 * 1024 + q.val = 2048 + j.val) :
    iblk m c 3 t (ix2 k q) = aM m c (ix3 1 k j) := by
  have hb : t.val % 6 * 1024 + q.val < 6144 := by omega
  refine Eq.trans (b := V m c main_v9 (ix2 k (⟨t.val % 6 * 1024 + q.val, hb⟩ : Fin 6144))) ?_ ?_
  · refine Eq.trans (b := V m c main_v9 (((cfg0.win 3).blk t).view.emb (ix2 k q))) rfl ?_
    generalize V m c main_v9 = D
    blk_point [idx t]
  · rw [V_side, ← third1_at]
    exact side1_at _ _ _ k _ j h

theorem main2_at (c : Dev nD) (t : Fin cfg0.N) (k : Fin 2048) (q : Fin 1024) (j : Fin 2048) (h : t.val % 6 * 1024 + q.val = 4096 + j.val) :
    iblk m c 3 t (ix2 k q) = aM m c (ix3 2 k j) := by
  have hb : t.val % 6 * 1024 + q.val < 6144 := by omega
  refine Eq.trans (b := V m c main_v9 (ix2 k (⟨t.val % 6 * 1024 + q.val, hb⟩ : Fin 6144))) ?_ ?_
  · refine Eq.trans (b := V m c main_v9 (((cfg0.win 3).blk t).view.emb (ix2 k q))) rfl ?_
    generalize V m c main_v9 = D
    blk_point [idx t]
  · rw [V_side, ← third2_at]
    exact side2_at _ _ _ k _ j h

/-! A point's blocks of the first low-rank matrices, inside. -/
theorem w1_at (c : Dev nD) (t : Fin cfg0.N) (k : Fin 2048) (h : Fin 96) : iblk m c 4 t (ix2 k (⟨h.val, by omega⟩ : Fin 128)) = aW1 m c (ix2 k h) := by
  refine Eq.trans (b := V m c main_v11 (ix2 k (⟨h.val, by omega⟩ : Fin 128))) ?_ ?_
  · refine Eq.trans (b := V m c main_v11 (((cfg0.win 4).blk t).view.emb (ix2 k (⟨h.val, by omega⟩ : Fin 128)))) rfl ?_
    generalize V m c main_v11 = D
    blk_point [idx t]
  · rw [V_w1]
    refine Eq.trans (b := pad S2048x128 ![0, 0] ![0, 32] ![0, 0] (aW1 m c) (sitofp .f32 (constantI S_ 32 0#32) : FVec Ideal S_ .f32) pads_S2048x96_S2048x128_000_0320 h_S_ (ix2 k (⟨h.val, by omega⟩ : Fin 128))) rfl ?_
    refine pad_apply_of_inside _ _ _ _ _ _ _ _ (ix2 k h) fun b => ?_
    match b with
    | ⟨0, _⟩ => show k.val = 0 + k.val * (0 + 1); omega
    | ⟨1, _⟩ => show h.val = 0 + h.val * (0 + 1); omega

theorem a1_at (c : Dev nD) (t : Fin cfg0.N) (k : Fin 2048) (h : Fin 96) : iblk m c 5 t (ix2 k (⟨h.val, by omega⟩ : Fin 128)) = aA1 m c (ix2 k h) := by
  refine Eq.trans (b := V m c main_v13 (ix2 k (⟨h.val, by omega⟩ : Fin 128))) ?_ ?_
  · refine Eq.trans (b := V m c main_v13 (((cfg0.win 5).blk t).view.emb (ix2 k (⟨h.val, by omega⟩ : Fin 128)))) rfl ?_
    generalize V m c main_v13 = D
    blk_point [idx t]
  · rw [V_a1]
    refine Eq.trans (b := pad S2048x128 ![0, 0] ![0, 32] ![0, 0] (aA1 m c) (sitofp .f32 (constantI S_ 32 0#32) : FVec Ideal S_ .f32) pads_S2048x96_S2048x128_000_0320 h_S_ (ix2 k (⟨h.val, by omega⟩ : Fin 128))) rfl ?_
    refine pad_apply_of_inside _ _ _ _ _ _ _ _ (ix2 k h) fun b => ?_
    match b with
    | ⟨0, _⟩ => show k.val = 0 + k.val * (0 + 1); omega
    | ⟨1, _⟩ => show h.val = 0 + h.val * (0 + 1); omega

/-! A point's blocks of the second low-rank matrices, inside and in their zero rows. -/
theorem w2_at (c : Dev nD) (t : Fin cfg0.N) (h : Fin 96) (q : Fin 1024) (j : Fin 2048) (hj : t.val % 6 % 2 * 1024 + q.val = j.val) :
    iblk m c 7 t (ix2 (⟨h.val, by omega⟩ : Fin 128) q) = aW2 m c (ix2 h j) := by
  refine Eq.trans (b := V m c main_v16 (ix2 (⟨h.val, by omega⟩ : Fin 128) j)) ?_ ?_
  · refine Eq.trans (b := V m c main_v16 (((cfg0.win 7).blk t).view.emb (ix2 (⟨h.val, by omega⟩ : Fin 128) q))) rfl ?_
    generalize V m c main_v16 = D
    blk_point [idx t]
  · rw [V_w2]
    refine Eq.trans (b := pad S128x2048 ![0, 0] ![32, 0] ![0, 0] (aW2 m c) (sitofp .f32 (constantI S_ 32 0#32) : FVec Ideal S_ .f32) pads_S96x2048_S128x2048_0320_000 h_S_ (ix2 (⟨h.val, by omega⟩ : Fin 128) j)) rfl ?_
    refine pad_apply_of_inside _ _ _ _ _ _ _ _ (ix2 h j) fun b => ?_
    match b with
    | ⟨0, _⟩ => show h.val = 0 + h.val * (0 + 1); omega
    | ⟨1, _⟩ => show j.val = 0 + j.val * (0 + 1); omega

theorem w2_zero (c : Dev nD) (t : Fin cfg0.N) (h : Fin 128) (q : Fin 1024) (hh : 96 ≤ h.val) : iblk m c 7 t (ix2 h q) = ((0 : EReal) : Ideal .bf16) := by
  have hb : t.val % 6 % 2 * 1024 + q.val < 2048 := by omega
  refine Eq.trans (b := V m c main_v16 (ix2 h (⟨t.val % 6 % 2 * 1024 + q.val, hb⟩ : Fin 2048))) ?_ ?_
  · refine Eq.trans (b := V m c main_v16 (((cfg0.win 7).blk t).view.emb (ix2 h q))) rfl ?_
    generalize V m c main_v16 = D
    blk_point [idx t]
  · rw [V_w2]
    refine Eq.trans (b := pad S128x2048 ![0, 0] ![32, 0] ![0, 0] (aW2 m c) (sitofp .f32 (constantI S_ 32 0#32) : FVec Ideal S_ .f32) pads_S96x2048_S128x2048_0320_000 h_S_ (ix2 h (⟨t.val % 6 % 2 * 1024 + q.val, hb⟩ : Fin 2048))) rfl ?_
    refine (pad_apply_of_not_inside _ _ _ _ _ _ _ _ (0 : Fin 2) ?_).trans ?_
    · rintro ⟨-, -, h3⟩
      have h4 : (h.val - 0) / (0 + 1) < 96 := h3
      omega
    · show (((0#32 : BitVec 32).toInt : ℝ) : EReal) = 0
      simp

theorem a2_at (c : Dev nD) (t : Fin cfg0.N) (h : Fin 96) (q : Fin 1024) (j : Fin 2048) (hj : t.val % 6 % 2 * 1024 + q.val = j.val) :
    iblk m c 8 t (ix2 (⟨h.val, by omega⟩ : Fin 128) q) = aA2 m c (ix2 h j) := by
  refine Eq.trans (b := V m c main_v18 (ix2 (⟨h.val, by omega⟩ : Fin 128) j)) ?_ ?_
  · refine Eq.trans (b := V m c main_v18 (((cfg0.win 8).blk t).view.emb (ix2 (⟨h.val, by omega⟩ : Fin 128) q))) rfl ?_
    generalize V m c main_v18 = D
    blk_point [idx t]
  · rw [V_a2]
    refine Eq.trans (b := pad S128x2048 ![0, 0] ![32, 0] ![0, 0] (aA2 m c) (sitofp .f32 (constantI S_ 32 0#32) : FVec Ideal S_ .f32) pads_S96x2048_S128x2048_0320_000 h_S_ (ix2 (⟨h.val, by omega⟩ : Fin 128) j)) rfl ?_
    refine pad_apply_of_inside _ _ _ _ _ _ _ _ (ix2 h j) fun b => ?_
    match b with
    | ⟨0, _⟩ => show h.val = 0 + h.val * (0 + 1); omega
    | ⟨1, _⟩ => show j.val = 0 + j.val * (0 + 1); omega

theorem a2_zero (c : Dev nD) (t : Fin cfg0.N) (h : Fin 128) (q : Fin 1024) (hh : 96 ≤ h.val) : iblk m c 8 t (ix2 h q) = ((0 : EReal) : Ideal .bf16) := by
  have hb : t.val % 6 % 2 * 1024 + q.val < 2048 := by omega
  refine Eq.trans (b := V m c main_v18 (ix2 h (⟨t.val % 6 % 2 * 1024 + q.val, hb⟩ : Fin 2048))) ?_ ?_
  · refine Eq.trans (b := V m c main_v18 (((cfg0.win 8).blk t).view.emb (ix2 h q))) rfl ?_
    generalize V m c main_v18 = D
    blk_point [idx t]
  · rw [V_a2]
    refine Eq.trans (b := pad S128x2048 ![0, 0] ![32, 0] ![0, 0] (aA2 m c) (sitofp .f32 (constantI S_ 32 0#32) : FVec Ideal S_ .f32) pads_S96x2048_S128x2048_0320_000 h_S_ (ix2 h (⟨t.val % 6 % 2 * 1024 + q.val, hb⟩ : Fin 2048))) rfl ?_
    refine (pad_apply_of_not_inside _ _ _ _ _ _ _ _ (0 : Fin 2) ?_).trans ?_
    · rintro ⟨-, -, h3⟩
      have h4 : (h.val - 0) / (0 + 1) < 96 := h3
      omega
    · show (((0#32 : BitVec 32).toInt : ℝ) : EReal) = 0
      simp

/-- A point's block of the gate's first matrix. -/
theorem g1_at (c : Dev nD) (t : Fin cfg0.N) (k : Fin 2048) (h : Fin 256) : iblk m c 6 t (ix2 k h) = aG1 m c (ix2 k h) := by
  refine Eq.trans (b := V m c main_v14 (((cfg0.win 6).blk t).view.emb (ix2 k h))) rfl ?_
  rw [V_g1]
  pointwise
  blk_point [idx t]

/-- A point's block of the gate's second matrix. -/
theorem g2_at (c : Dev nD) (t : Fin cfg0.N) (h : Fin 256) (q : Fin 1024) (j : Fin 2048) (hj : t.val % 6 % 2 * 1024 + q.val = j.val) :
    iblk m c 9 t (ix2 h q) = aG2 m c (ix2 h j) := by
  refine Eq.trans (b := V m c main_v19 (((cfg0.win 9).blk t).view.emb (ix2 h q))) rfl ?_
  rw [V_g2]
  pointwise
  blk_point [idx t]

/-- A point's columns of the decay's bias. -/
theorem w0_at (c : Dev nD) (t : Fin cfg0.N) (q : Fin 1024) (j : Fin 2048) (hj : t.val % 6 % 2 * 1024 + q.val = j.val) :
    iblk m c 10 t (ix2 0 q) = aW0 m c (ix1 j) := by
  refine Eq.trans (b := V m c main_v20 (((cfg0.win 10).blk t).view.emb (ix2 0 q))) rfl ?_
  rw [V_w0]
  pointwise
  blk_point [idx t]

/-- A point's columns of the learning rate's bias. -/
theorem a0_at (c : Dev nD) (t : Fin cfg0.N) (q : Fin 1024) (j : Fin 2048) (hj : t.val % 6 % 2 * 1024 + q.val = j.val) :
    iblk m c 11 t (ix2 0 q) = aA0 m c (ix1 j) := by
  refine Eq.trans (b := V m c main_v21 (((cfg0.win 11).blk t).view.emb (ix2 0 q))) rfl ?_
  rw [V_a0]
  pointwise
  blk_point [idx t]

end Cert.ProjIdeal.Bridge

end
-- ==== Proof.ProjDat.lean ====
module

public import proofs.«01_k».proof.Proof.ProjOuts
public import Idealize.ShloMosaic.Lib.Claim

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

/-! The projections' pipeline point by point. The mixes and the hidden blocks stay in scratch over a row block; the last row of
the row block stays for the next one. A result's window is stored at two of the six column blocks and written back, once
stored, when its block index moves or the row block ends; between, it keeps what was stored. -/

variable (m : (ℓ : Loc nD τ sig) → Buf (Elt F) ℓ) (ρ : Dev nD → PrngReg)

theorem N_eq : cfg0.N = 96 := N_0

/-- The first point of a point's row block. -/
def head (t : Fin cfg0.N) : Fin cfg0.N := ⟨t.val - t.val % 6, lt_of_le_of_lt (Nat.sub_le _ _) t.isLt⟩

/-- The point that last stored a window of the first pair of column blocks. -/
def cl0 (t : Fin cfg0.N) : Fin cfg0.N := ⟨t.val - t.val % 6 + min (t.val % 6) 1, by
  have h := t.isLt; omega⟩

/-- The point that last stored a window of the second pair. -/
def cl1 (t : Fin cfg0.N) : Fin cfg0.N := ⟨if t.val % 6 < 2 then t.val - t.val % 6 - 3 else t.val - t.val % 6 + min (t.val % 6) 3, by
  have h := t.isLt; split <;> omega⟩

/-- The row kept from the row block before. -/
def pk (c : Dev nD) (u : Fin cfg0.N) : FVec F S1x2048 .f32 :=
  k0_pay10 (iblk m c 0 ⟨u.val - 6, lt_of_le_of_lt (Nat.sub_le _ _) u.isLt⟩)
def pkept (c : Dev nD) (t : Fin cfg0.N) : FVec F S1x2048 .f32 := pk m c (head t)

/-- The row block's number, as the body has it. -/
def nrow (t : Fin cfg0.N) : BitVec 32 := BitVec.ofNat 32 (grid0.coords (head t) 0).val

/-! The row block's mixes and hidden blocks. -/
def hR (c : Dev nD) (t : Fin cfg0.N) : FVec F S1x512x2048 .bf16 := mixR (nrow t) (iblk m c 0 (head t)) (iblk m c 1 (head t)) (pkept m c t) (iblk m c 2 (head t))
def hK (c : Dev nD) (t : Fin cfg0.N) : FVec F S1x512x2048 .bf16 := mixK (nrow t) (iblk m c 0 (head t)) (iblk m c 1 (head t)) (pkept m c t) (iblk m c 2 (head t))
def hV (c : Dev nD) (t : Fin cfg0.N) : FVec F S1x512x2048 .bf16 := mixV (nrow t) (iblk m c 0 (head t)) (iblk m c 1 (head t)) (pkept m c t) (iblk m c 2 (head t))
def hW (c : Dev nD) (t : Fin cfg0.N) : FVec F S512x128 .bf16 := hidW (nrow t) (iblk m c 0 (head t)) (iblk m c 1 (head t)) (pkept m c t) (iblk m c 2 (head t)) (iblk m c 4 (head t))
def hA (c : Dev nD) (t : Fin cfg0.N) : FVec F S512x128 .bf16 := hidA (nrow t) (iblk m c 0 (head t)) (iblk m c 1 (head t)) (pkept m c t) (iblk m c 2 (head t)) (iblk m c 5 (head t))
def hG (c : Dev nD) (t : Fin cfg0.N) : FVec F S512x256 .bf16 := hidG (nrow t) (iblk m c 0 (head t)) (iblk m c 1 (head t)) (pkept m c t) (iblk m c 2 (head t)) (iblk m c 6 (head t))

/-! The six results' tiles of a point. -/
def oR (c : Dev nD) (t : Fin cfg0.N) : FVec F S512x1024 .bf16 := k0_pay3 (hR m c t) (iblk m c 3 t)
def oK (c : Dev nD) (t : Fin cfg0.N) : FVec F S512x1024 .bf16 := k0_pay5 (hK m c t) (iblk m c 3 t)
def oV (c : Dev nD) (t : Fin cfg0.N) : FVec F S512x1024 .bf16 := k0_pay7 (hV m c t) (iblk m c 3 t)
def oW (c : Dev nD) (t : Fin cfg0.N) : FVec F S512x1024 .f32 := k0_pay4 (iblk m c 10 t) (hW m c t) (iblk m c 7 t)
def oA (c : Dev nD) (t : Fin cfg0.N) : FVec F S512x1024 .bf16 := k0_pay6 (iblk m c 11 t) (hA m c t) (iblk m c 8 t)
def oG (c : Dev nD) (t : Fin cfg0.N) : FVec F S512x1024 .bf16 := k0_pay8 (hG m c t) (iblk m c 9 t)

theorem head_of_zero (t : Fin cfg0.N) (h : t.val % 6 = 0) : head t = t := Fin.ext (by unfold head; simp only [h]; omega)

theorem head_succ (s t : Fin cfg0.N) (hs : s.val + 1 = t.val) (h : t.val % 6 ≠ 0) : head s = head t :=
  Fin.ext (by unfold head; show s.val - s.val % 6 = t.val - t.val % 6; omega)

/-- On the first row block of a sequence the kept row is not looked at. -/
theorem pay11_zero (x : Vec F S512x2048 .f32) (s : Vec F S1x1x2048 .f32) (l l' : Vec F S1x2048 .f32) :
    k0_pay11 0#32 x s l = k0_pay11 0#32 x s l' := by
  unfold k0_pay11
  rfl

theorem pay12_zero (x : Vec F S512x2048 .f32) (s : Vec F S1x1x2048 .f32) (l l' : Vec F S1x2048 .f32) (mu : Vec F S1x2048 .f32) :
    k0_pay12 0#32 x s l mu = k0_pay12 0#32 x s l' mu := by
  unfold k0_pay12
  rw [pay11_zero x s l l']

/-- The differences a row block's first point forms with the row it finds kept. -/
theorem pay11_kept (c : Dev nD) (t : Fin cfg0.N) (h : t.val % 6 = 0) (l : Vec F S1x2048 .f32)
    (hl : ∀ s : Fin cfg0.N, s.val + 1 = t.val → l = k0_pay10 (iblk m c 0 (head s))) :
    k0_pay11 (nrow t) (iblk m c 0 t) (iblk m c 1 t) l = k0_pay11 (nrow t) (iblk m c 0 t) (iblk m c 1 t) (pkept m c t) := by
  by_cases h0 : t.val = 0
  · rw [show nrow t = 0#32 from by unfold nrow; rw [head_of_zero t h, row_val, h0]]
    exact pay11_zero _ _ _ _
  · rw [hl ⟨t.val - 1, by omega⟩ (by show t.val - 1 + 1 = t.val; omega)]
    unfold pkept pk
    rw [show head ⟨t.val - 1, by omega⟩ = ⟨(head t).val - 6, lt_of_le_of_lt (Nat.sub_le _ _) (head t).isLt⟩ from Fin.ext (by
      show t.val - 1 - (t.val - 1) % 6 = (t.val - t.val % 6) - 6; omega)]

theorem hR_first (c : Dev nD) (t : Fin cfg0.N) (h : t.val % 6 = 0) (l : Vec F S1x2048 .f32)
    (hl : ∀ s : Fin cfg0.N, s.val + 1 = t.val → l = k0_pay10 (iblk m c 0 (head s))) :
    mixR (BitVec.ofNat 32 (grid0.coords t 0).val) (iblk m c 0 t) (iblk m c 1 t) l (iblk m c 2 t) = hR m c t := by
  have e := pay11_kept m c t h l hl
  have hn : nrow t = BitVec.ofNat 32 (grid0.coords t 0).val := by unfold nrow; rw [head_of_zero t h]
  unfold hR mixR k0_pay12
  rw [head_of_zero t h, ← hn, e]
theorem hR_succ (c : Dev nD) (s t : Fin cfg0.N) (hs : s.val + 1 = t.val) (h : t.val % 6 ≠ 0) : hR m c s = hR m c t := by
  unfold hR pkept nrow
  rw [head_succ s t hs h]

theorem hK_first (c : Dev nD) (t : Fin cfg0.N) (h : t.val % 6 = 0) (l : Vec F S1x2048 .f32)
    (hl : ∀ s : Fin cfg0.N, s.val + 1 = t.val → l = k0_pay10 (iblk m c 0 (head s))) :
    mixK (BitVec.ofNat 32 (grid0.coords t 0).val) (iblk m c 0 t) (iblk m c 1 t) l (iblk m c 2 t) = hK m c t := by
  have e := pay11_kept m c t h l hl
  have hn : nrow t = BitVec.ofNat 32 (grid0.coords t 0).val := by unfold nrow; rw [head_of_zero t h]
  unfold hK mixK
  rw [head_of_zero t h, ← hn, e]
theorem hK_succ (c : Dev nD) (s t : Fin cfg0.N) (hs : s.val + 1 = t.val) (h : t.val % 6 ≠ 0) : hK m c s = hK m c t := by
  unfold hK pkept nrow
  rw [head_succ s t hs h]

theorem hV_first (c : Dev nD) (t : Fin cfg0.N) (h : t.val % 6 = 0) (l : Vec F S1x2048 .f32)
    (hl : ∀ s : Fin cfg0.N, s.val + 1 = t.val → l = k0_pay10 (iblk m c 0 (head s))) :
    mixV (BitVec.ofNat 32 (grid0.coords t 0).val) (iblk m c 0 t) (iblk m c 1 t) l (iblk m c 2 t) = hV m c t := by
  have e := pay11_kept m c t h l hl
  have hn : nrow t = BitVec.ofNat 32 (grid0.coords t 0).val := by unfold nrow; rw [head_of_zero t h]
  unfold hV mixV
  rw [head_of_zero t h, ← hn, e]
theorem hV_succ (c : Dev nD) (s t : Fin cfg0.N) (hs : s.val + 1 = t.val) (h : t.val % 6 ≠ 0) : hV m c s = hV m c t := by
  unfold hV pkept nrow
  rw [head_succ s t hs h]

theorem hW_first (c : Dev nD) (t : Fin cfg0.N) (h : t.val % 6 = 0) (l : Vec F S1x2048 .f32)
    (hl : ∀ s : Fin cfg0.N, s.val + 1 = t.val → l = k0_pay10 (iblk m c 0 (head s))) :
    hidW (BitVec.ofNat 32 (grid0.coords t 0).val) (iblk m c 0 t) (iblk m c 1 t) l (iblk m c 2 t) (iblk m c 4 t) = hW m c t := by
  have e := pay11_kept m c t h l hl
  have hn : nrow t = BitVec.ofNat 32 (grid0.coords t 0).val := by unfold nrow; rw [head_of_zero t h]
  unfold hW hidW
  rw [head_of_zero t h, ← hn, e]
theorem hW_succ (c : Dev nD) (s t : Fin cfg0.N) (hs : s.val + 1 = t.val) (h : t.val % 6 ≠ 0) : hW m c s = hW m c t := by
  unfold hW pkept nrow
  rw [head_succ s t hs h]

theorem hA_first (c : Dev nD) (t : Fin cfg0.N) (h : t.val % 6 = 0) (l : Vec F S1x2048 .f32)
    (hl : ∀ s : Fin cfg0.N, s.val + 1 = t.val → l = k0_pay10 (iblk m c 0 (head s))) :
    hidA (BitVec.ofNat 32 (grid0.coords t 0).val) (iblk m c 0 t) (iblk m c 1 t) l (iblk m c 2 t) (iblk m c 5 t) = hA m c t := by
  have e := pay11_kept m c t h l hl
  have hn : nrow t = BitVec.ofNat 32 (grid0.coords t 0).val := by unfold nrow; rw [head_of_zero t h]
  unfold hA hidA
  rw [head_of_zero t h, ← hn, e]
theorem hA_succ (c : Dev nD) (s t : Fin cfg0.N) (hs : s.val + 1 = t.val) (h : t.val % 6 ≠ 0) : hA m c s = hA m c t := by
  unfold hA pkept nrow
  rw [head_succ s t hs h]

theorem hG_first (c : Dev nD) (t : Fin cfg0.N) (h : t.val % 6 = 0) (l : Vec F S1x2048 .f32)
    (hl : ∀ s : Fin cfg0.N, s.val + 1 = t.val → l = k0_pay10 (iblk m c 0 (head s))) :
    hidG (BitVec.ofNat 32 (grid0.coords t 0).val) (iblk m c 0 t) (iblk m c 1 t) l (iblk m c 2 t) (iblk m c 6 t) = hG m c t := by
  have e := pay11_kept m c t h l hl
  have hn : nrow t = BitVec.ofNat 32 (grid0.coords t 0).val := by unfold nrow; rw [head_of_zero t h]
  unfold hG hidG
  rw [head_of_zero t h, ← hn, e]
theorem hG_succ (c : Dev nD) (s t : Fin cfg0.N) (hs : s.val + 1 = t.val) (h : t.val % 6 ≠ 0) : hG m c s = hG m c t := by
  unfold hG pkept nrow
  rw [head_succ s t hs h]

/-- What the region keeps between points. -/
def Phi (c : Dev nD) (n : ℕ) (_ : n ≤ cfg0.N) : sProp 𝕄 :=
  iprop(iprop((∃ a, ⌜∀ s : Fin cfg0.N, s.val + 1 = n → part0 a = hR m c s ∧ part1 a = hK m c s ∧ part2 a = hV m c s⌝ ∗ owns (c : Thread nD τ) sc0 fullShare a)
      ∗ (∃ a, ⌜∀ s : Fin cfg0.N, s.val + 1 = n → a = hW m c s⌝ ∗ owns (c : Thread nD τ) sc1 fullShare a)
      ∗ (∃ a, ⌜∀ s : Fin cfg0.N, s.val + 1 = n → a = hA m c s⌝ ∗ owns (c : Thread nD τ) sc2 fullShare a)
      ∗ (∃ a, ⌜∀ s : Fin cfg0.N, s.val + 1 = n → a = hG m c s⌝ ∗ owns (c : Thread nD τ) sc3 fullShare a)
      ∗ (∃ a, ⌜∀ s : Fin cfg0.N, s.val + 1 = n → kept a = k0_pay10 (iblk m c 0 (head s))⌝ ∗ owns (c : Thread nD τ) sc4 fullShare a)) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => oR m c (cl0 t)
    | ⟨13, _⟩ => oK m c (cl1 t)
    | ⟨14, _⟩ => oV m c (t)
    | ⟨15, _⟩ => oW m c (cl0 t)
    | ⟨16, _⟩ => oA m c (cl1 t)
    | ⟨17, _⟩ => oG m c (t)
    | ⟨n + 18, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = oR m c (cl0 t) := by dsimp only [dats]
theorem after_13 (c : Dev nD) (t : Fin cfg0.N) : (dats m 0 c).after 13 t = oK m c (cl1 t) := by dsimp only [dats]
theorem after_14 (c : Dev nD) (t : Fin cfg0.N) : (dats m 0 c).after 14 t = oV m c (t) := by dsimp only [dats]
theorem after_15 (c : Dev nD) (t : Fin cfg0.N) : (dats m 0 c).after 15 t = oW m c (cl0 t) := by dsimp only [dats]
theorem after_16 (c : Dev nD) (t : Fin cfg0.N) : (dats m 0 c).after 16 t = oA m c (cl1 t) := by dsimp only [dats]
theorem after_17 (c : Dev nD) (t : Fin cfg0.N) : (dats m 0 c).after 17 t = oG m c (t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-! Where a result's window is idle, what the body hands back. -/

theorem idle_12 (t : Fin cfg0.N) : cfg0.idle 12 (grid0.coords t) = true ↔ t.val % 6 / 2 ≠ 0 := by
  show (!(k0_cond2 (grid0.coords t) == 1#1)) = true ↔ _
  rw [Bool.not_eq_true', beq_eq_false_iff_ne]
  exact not_congr (hcond2 t)
theorem live_12 (t : Fin cfg0.N) (h : t.val % 6 / 2 = 0) : cfg0.idle 12 (grid0.coords t) = false :=
  Bool.eq_false_iff.mpr fun hi => (idle_12 t).mp hi h
theorem idle_13 (t : Fin cfg0.N) : cfg0.idle 13 (grid0.coords t) = true ↔ t.val % 6 / 2 ≠ 1 := by
  show (!(k0_cond3 (grid0.coords t) == 1#1)) = true ↔ _
  rw [Bool.not_eq_true', beq_eq_false_iff_ne]
  exact not_congr (hcond3 t)
theorem live_13 (t : Fin cfg0.N) (h : t.val % 6 / 2 = 1) : cfg0.idle 13 (grid0.coords t) = false :=
  Bool.eq_false_iff.mpr fun hi => (idle_13 t).mp hi h
theorem idle_14 (t : Fin cfg0.N) : cfg0.idle 14 (grid0.coords t) = true ↔ t.val % 6 / 2 ≠ 2 := by
  show (!(k0_cond4 (grid0.coords t) == 1#1)) = true ↔ _
  rw [Bool.not_eq_true', beq_eq_false_iff_ne]
  exact not_congr (hcond4 t)
theorem live_14 (t : Fin cfg0.N) (h : t.val % 6 / 2 = 2) : cfg0.idle 14 (grid0.coords t) = false :=
  Bool.eq_false_iff.mpr fun hi => (idle_14 t).mp hi h
theorem idle_15 (t : Fin cfg0.N) : cfg0.idle 15 (grid0.coords t) = true ↔ t.val % 6 / 2 ≠ 0 := by
  show (!(k0_cond2 (grid0.coords t) == 1#1)) = true ↔ _
  rw [Bool.not_eq_true', beq_eq_false_iff_ne]
  exact not_congr (hcond2 t)
theorem live_15 (t : Fin cfg0.N) (h : t.val % 6 / 2 = 0) : cfg0.idle 15 (grid0.coords t) = false :=
  Bool.eq_false_iff.mpr fun hi => (idle_15 t).mp hi h
theorem idle_16 (t : Fin cfg0.N) : cfg0.idle 16 (grid0.coords t) = true ↔ t.val % 6 / 2 ≠ 1 := by
  show (!(k0_cond3 (grid0.coords t) == 1#1)) = true ↔ _
  rw [Bool.not_eq_true', beq_eq_false_iff_ne]
  exact not_congr (hcond3 t)
theorem live_16 (t : Fin cfg0.N) (h : t.val % 6 / 2 = 1) : cfg0.idle 16 (grid0.coords t) = false :=
  Bool.eq_false_iff.mpr fun hi => (idle_16 t).mp hi h
theorem idle_17 (t : Fin cfg0.N) : cfg0.idle 17 (grid0.coords t) = true ↔ t.val % 6 / 2 ≠ 2 := by
  show (!(k0_cond4 (grid0.coords t) == 1#1)) = true ↔ _
  rw [Bool.not_eq_true', beq_eq_false_iff_ne]
  exact not_congr (hcond4 t)
theorem live_17 (t : Fin cfg0.N) (h : t.val % 6 / 2 = 2) : cfg0.idle 17 (grid0.coords t) = false :=
  Bool.eq_false_iff.mpr fun hi => (idle_17 t).mp hi h

/-- Window 12's buffer holds nothing stored since its last write-back at a row block's first 2 points. -/
theorem fresh_12 : ∀ n, n ≤ cfg0.N → cfg0.fresh 12 n = decide (n % 6 ≤ 1) :=
  cfg0.fresh_tab 12 (fun n => decide (n % 6 ≤ 1)) rfl fun t => by
    rw [Pipeline.Window.flush_eq_flushF]
    revert t
    exact (by decide +kernel : ∀ t : Fin grid0.N, decide ((t.val + 1) % 6 ≤ 1) = ((win0_12).flushF t || (idle0 12 (grid0.coords t) && decide (t.val % 6 ≤ 1))))
theorem flush_12 : ∀ t : Fin cfg0.N, t.val % 6 / 2 ≠ 0 → (cfg0.win 12).flush t = true → t.val % 6 = 5 := by
  intro t
  rw [Pipeline.Window.flush_eq_flushF]
  revert t
  exact (by decide +kernel : ∀ t : Fin grid0.N, t.val % 6 / 2 ≠ 0 → (win0_12).flushF t = true → t.val % 6 = 5)
/-- Idle points keep what the last stored point left. -/
theorem carry_12 (c : Dev nD) (t : Fin cfg0.N) (h0 : t.val ≠ 0) (h : t.val % 6 / 2 ≠ 0) :
    (dats m 0 c).after 12 t = (dats m 0 c).after 12 ⟨t.val - 1, by omega⟩ := by
  rw [after_12, after_12]
  rw [show cl0 t = cl0 ⟨t.val - 1, by omega⟩ from Fin.ext (by
    unfold cl0; dsimp only; omega)]
/-- At an idle point of window 12 the buffer is handed back as found; where it is written back it holds what was stored. -/
theorem leave_12 (c : Dev nD) (t : Fin cfg0.N) (h : t.val % 6 / 2 ≠ 0) (d) :
    owns (c : Thread nD τ) (ms12 t) fullShare ((dats m 0 c).before 12 t d) ⊢ (dats m 0 c).leavesExact 12 t := by
  by_cases hf : (cfg0.win 12).flush t = true
  · have h5 := flush_12 t h hf
    have hb : (dats m 0 c).before 12 t d = (dats m 0 c).after 12 t := by
      rw [(dats m 0 c).before_out_traj 12 rfl (fun _ _ => rfl) (fun t h0 hi _ => carry_12 m c t h0 ((idle_12 t).mp hi)) t.val t rfl d,
        if_neg (by rw [fresh_12 t.val t.isLt.le, h5]; decide), carry_12 m c t (by omega) h]
    rw [hb]
    unfold Dat.leavesExact
    rw [(idle_12 t).mpr h, hf]
  · rw [(dats m 0 c).leavesExact_idle 12 t ((idle_12 t).mpr h) (Bool.eq_false_iff.mpr hf)]
    iintro H
    iexists d
    iexact H

/-- Window 13's buffer holds nothing stored since its last write-back at a row block's first 4 points. -/
theorem fresh_13 : ∀ n, n ≤ cfg0.N → cfg0.fresh 13 n = decide (n % 6 ≤ 3) :=
  cfg0.fresh_tab 13 (fun n => decide (n % 6 ≤ 3)) rfl fun t => by
    rw [Pipeline.Window.flush_eq_flushF]
    revert t
    exact (by decide +kernel : ∀ t : Fin grid0.N, decide ((t.val + 1) % 6 ≤ 3) = ((win0_13).flushF t || (idle0 13 (grid0.coords t) && decide (t.val % 6 ≤ 3))))
theorem flush_13 : ∀ t : Fin cfg0.N, t.val % 6 / 2 ≠ 1 → (cfg0.win 13).flush t = true → t.val % 6 = 5 := by
  intro t
  rw [Pipeline.Window.flush_eq_flushF]
  revert t
  exact (by decide +kernel : ∀ t : Fin grid0.N, t.val % 6 / 2 ≠ 1 → (win0_13).flushF t = true → t.val % 6 = 5)
/-- Idle points keep what the last stored point left. -/
theorem carry_13 (c : Dev nD) (t : Fin cfg0.N) (h0 : t.val ≠ 0) (h : t.val % 6 / 2 ≠ 1) :
    (dats m 0 c).after 13 t = (dats m 0 c).after 13 ⟨t.val - 1, by omega⟩ := by
  rw [after_13, after_13]
  rw [show cl1 t = cl1 ⟨t.val - 1, by omega⟩ from Fin.ext (by
    unfold cl1; dsimp only; split_ifs <;> omega)]
/-- At an idle point of window 13 the buffer is handed back as found; where it is written back it holds what was stored. -/
theorem leave_13 (c : Dev nD) (t : Fin cfg0.N) (h : t.val % 6 / 2 ≠ 1) (d) :
    owns (c : Thread nD τ) (ms13 t) fullShare ((dats m 0 c).before 13 t d) ⊢ (dats m 0 c).leavesExact 13 t := by
  by_cases hf : (cfg0.win 13).flush t = true
  · have h5 := flush_13 t h hf
    have hb : (dats m 0 c).before 13 t d = (dats m 0 c).after 13 t := by
      rw [(dats m 0 c).before_out_traj 13 rfl (fun _ _ => rfl) (fun t h0 hi _ => carry_13 m c t h0 ((idle_13 t).mp hi)) t.val t rfl d,
        if_neg (by rw [fresh_13 t.val t.isLt.le, h5]; decide), carry_13 m c t (by omega) h]
    rw [hb]
    unfold Dat.leavesExact
    rw [(idle_13 t).mpr h, hf]
  · rw [(dats m 0 c).leavesExact_idle 13 t ((idle_13 t).mpr h) (Bool.eq_false_iff.mpr hf)]
    iintro H
    iexists d
    iexact H

theorem noflush_14 : ∀ t : Fin cfg0.N, t.val % 6 / 2 ≠ 2 → (cfg0.win 14).flush t = false := by
  intro t
  rw [Pipeline.Window.flush_eq_flushF]
  revert t
  exact (by decide +kernel : ∀ t : Fin grid0.N, t.val % 6 / 2 ≠ 2 → (win0_14).flushF t = false)
/-- At an idle point of window 14 the buffer is handed back as found. -/
theorem leave_14 (c : Dev nD) (t : Fin cfg0.N) (h : t.val % 6 / 2 ≠ 2) (d) :
    owns (c : Thread nD τ) (ms14 t) fullShare ((dats m 0 c).before 14 t d) ⊢ (dats m 0 c).leavesExact 14 t := by
  rw [(dats m 0 c).leavesExact_idle 14 t ((idle_14 t).mpr h) (noflush_14 t h)]
  iintro H
  iexists d
  iexact H

/-- Window 15's buffer holds nothing stored since its last write-back at a row block's first 2 points. -/
theorem fresh_15 : ∀ n, n ≤ cfg0.N → cfg0.fresh 15 n = decide (n % 6 ≤ 1) :=
  cfg0.fresh_tab 15 (fun n => decide (n % 6 ≤ 1)) rfl fun t => by
    rw [Pipeline.Window.flush_eq_flushF]
    revert t
    exact (by decide +kernel : ∀ t : Fin grid0.N, decide ((t.val + 1) % 6 ≤ 1) = ((win0_15).flushF t || (idle0 15 (grid0.coords t) && decide (t.val % 6 ≤ 1))))
theorem flush_15 : ∀ t : Fin cfg0.N, t.val % 6 / 2 ≠ 0 → (cfg0.win 15).flush t = true → t.val % 6 = 5 := by
  intro t
  rw [Pipeline.Window.flush_eq_flushF]
  revert t
  exact (by decide +kernel : ∀ t : Fin grid0.N, t.val % 6 / 2 ≠ 0 → (win0_15).flushF t = true → t.val % 6 = 5)
/-- Idle points keep what the last stored point left. -/
theorem carry_15 (c : Dev nD) (t : Fin cfg0.N) (h0 : t.val ≠ 0) (h : t.val % 6 / 2 ≠ 0) :
    (dats m 0 c).after 15 t = (dats m 0 c).after 15 ⟨t.val - 1, by omega⟩ := by
  rw [after_15, after_15]
  rw [show cl0 t = cl0 ⟨t.val - 1, by omega⟩ from Fin.ext (by
    unfold cl0; dsimp only; omega)]
/-- At an idle point of window 15 the buffer is handed back as found; where it is written back it holds what was stored. -/
theorem leave_15 (c : Dev nD) (t : Fin cfg0.N) (h : t.val % 6 / 2 ≠ 0) (d) :
    owns (c : Thread nD τ) (ms15 t) fullShare ((dats m 0 c).before 15 t d) ⊢ (dats m 0 c).leavesExact 15 t := by
  by_cases hf : (cfg0.win 15).flush t = true
  · have h5 := flush_15 t h hf
    have hb : (dats m 0 c).before 15 t d = (dats m 0 c).after 15 t := by
      rw [(dats m 0 c).before_out_traj 15 rfl (fun _ _ => rfl) (fun t h0 hi _ => carry_15 m c t h0 ((idle_15 t).mp hi)) t.val t rfl d,
        if_neg (by rw [fresh_15 t.val t.isLt.le, h5]; decide), carry_15 m c t (by omega) h]
    rw [hb]
    unfold Dat.leavesExact
    rw [(idle_15 t).mpr h, hf]
  · rw [(dats m 0 c).leavesExact_idle 15 t ((idle_15 t).mpr h) (Bool.eq_false_iff.mpr hf)]
    iintro H
    iexists d
    iexact H

/-- Window 16's buffer holds nothing stored since its last write-back at a row block's first 4 points. -/
theorem fresh_16 : ∀ n, n ≤ cfg0.N → cfg0.fresh 16 n = decide (n % 6 ≤ 3) :=
  cfg0.fresh_tab 16 (fun n => decide (n % 6 ≤ 3)) rfl fun t => by
    rw [Pipeline.Window.flush_eq_flushF]
    revert t
    exact (by decide +kernel : ∀ t : Fin grid0.N, decide ((t.val + 1) % 6 ≤ 3) = ((win0_16).flushF t || (idle0 16 (grid0.coords t) && decide (t.val % 6 ≤ 3))))
theorem flush_16 : ∀ t : Fin cfg0.N, t.val % 6 / 2 ≠ 1 → (cfg0.win 16).flush t = true → t.val % 6 = 5 := by
  intro t
  rw [Pipeline.Window.flush_eq_flushF]
  revert t
  exact (by decide +kernel : ∀ t : Fin grid0.N, t.val % 6 / 2 ≠ 1 → (win0_16).flushF t = true → t.val % 6 = 5)
/-- Idle points keep what the last stored point left. -/
theorem carry_16 (c : Dev nD) (t : Fin cfg0.N) (h0 : t.val ≠ 0) (h : t.val % 6 / 2 ≠ 1) :
    (dats m 0 c).after 16 t = (dats m 0 c).after 16 ⟨t.val - 1, by omega⟩ := by
  rw [after_16, after_16]
  rw [show cl1 t = cl1 ⟨t.val - 1, by omega⟩ from Fin.ext (by
    unfold cl1; dsimp only; split_ifs <;> omega)]
/-- At an idle point of window 16 the buffer is handed back as found; where it is written back it holds what was stored. -/
theorem leave_16 (c : Dev nD) (t : Fin cfg0.N) (h : t.val % 6 / 2 ≠ 1) (d) :
    owns (c : Thread nD τ) (ms16 t) fullShare ((dats m 0 c).before 16 t d) ⊢ (dats m 0 c).leavesExact 16 t := by
  by_cases hf : (cfg0.win 16).flush t = true
  · have h5 := flush_16 t h hf
    have hb : (dats m 0 c).before 16 t d = (dats m 0 c).after 16 t := by
      rw [(dats m 0 c).before_out_traj 16 rfl (fun _ _ => rfl) (fun t h0 hi _ => carry_16 m c t h0 ((idle_16 t).mp hi)) t.val t rfl d,
        if_neg (by rw [fresh_16 t.val t.isLt.le, h5]; decide), carry_16 m c t (by omega) h]
    rw [hb]
    unfold Dat.leavesExact
    rw [(idle_16 t).mpr h, hf]
  · rw [(dats m 0 c).leavesExact_idle 16 t ((idle_16 t).mpr h) (Bool.eq_false_iff.mpr hf)]
    iintro H
    iexists d
    iexact H

theorem noflush_17 : ∀ t : Fin cfg0.N, t.val % 6 / 2 ≠ 2 → (cfg0.win 17).flush t = false := by
  intro t
  rw [Pipeline.Window.flush_eq_flushF]
  revert t
  exact (by decide +kernel : ∀ t : Fin grid0.N, t.val % 6 / 2 ≠ 2 → (win0_17).flushF t = false)
/-- At an idle point of window 17 the buffer is handed back as found. -/
theorem leave_17 (c : Dev nD) (t : Fin cfg0.N) (h : t.val % 6 / 2 ≠ 2) (d) :
    owns (c : Thread nD τ) (ms17 t) fullShare ((dats m 0 c).before 17 t d) ⊢ (dats m 0 c).leavesExact 17 t := by
  rw [(dats m 0 c).leavesExact_idle 17 t ((idle_17 t).mpr h) (noflush_17 t h)]
  iintro H
  iexists d
  iexact H

/-- A live point of window 12 leaves the tile it stores. -/
theorem store_12 (c : Dev nD) (t : Fin cfg0.N) (h : t.val % 6 / 2 = 0) :
    owns (c : Thread nD τ) (ms12 t) fullShare (oR m c t) ⊢ (dats m 0 c).leavesExact 12 t := by
  unfold Dat.leavesExact
  rw [live_12 t h, after_12]
  rw [show cl0 t = t from Fin.ext (by unfold cl0; dsimp only; omega)]

/-- A live point of window 13 leaves the tile it stores. -/
theorem store_13 (c : Dev nD) (t : Fin cfg0.N) (h : t.val % 6 / 2 = 1) :
    owns (c : Thread nD τ) (ms13 t) fullShare (oK m c t) ⊢ (dats m 0 c).leavesExact 13 t := by
  unfold Dat.leavesExact
  rw [live_13 t h, after_13]
  rw [show cl1 t = t from Fin.ext (by unfold cl1; dsimp only; split_ifs <;> omega)]

/-- A live point of window 14 leaves the tile it stores. -/
theorem store_14 (c : Dev nD) (t : Fin cfg0.N) (h : t.val % 6 / 2 = 2) :
    owns (c : Thread nD τ) (ms14 t) fullShare (oV m c t) ⊢ (dats m 0 c).leavesExact 14 t := by
  unfold Dat.leavesExact
  rw [live_14 t h, after_14]

/-- A live point of window 15 leaves the tile it stores. -/
theorem store_15 (c : Dev nD) (t : Fin cfg0.N) (h : t.val % 6 / 2 = 0) :
    owns (c : Thread nD τ) (ms15 t) fullShare (oW m c t) ⊢ (dats m 0 c).leavesExact 15 t := by
  unfold Dat.leavesExact
  rw [live_15 t h, after_15]
  rw [show cl0 t = t from Fin.ext (by unfold cl0; dsimp only; omega)]

/-- A live point of window 16 leaves the tile it stores. -/
theorem store_16 (c : Dev nD) (t : Fin cfg0.N) (h : t.val % 6 / 2 = 1) :
    owns (c : Thread nD τ) (ms16 t) fullShare (oA m c t) ⊢ (dats m 0 c).leavesExact 16 t := by
  unfold Dat.leavesExact
  rw [live_16 t h, after_16]
  rw [show cl1 t = t from Fin.ext (by unfold cl1; dsimp only; split_ifs <;> omega)]

/-- A live point of window 17 leaves the tile it stores. -/
theorem store_17 (c : Dev nD) (t : Fin cfg0.N) (h : t.val % 6 / 2 = 2) :
    owns (c : Thread nD τ) (ms17 t) fullShare (oG m c t) ⊢ (dats m 0 c).leavesExact 17 t := by
  unfold Dat.leavesExact
  rw [live_17 t h, after_17]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

end Cert.ProjIdeal.Body

end
-- ==== Proof.ProjBodyA.lean ====
module

public import proofs.«01_k».proof.Proof.ProjDat

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a point of the first column block: the mixes and the low-rank hidden rows are formed. -/
theorem sound_A (c : Dev nD) (t : Fin cfg0.N) (h0 : t.val % 6 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11]
  rw [show (dats m 0 c).Φ t.succ = Phi m c (t.val + 1) t.isLt from rfl, phi_castSucc]
  have hN : t.val < 96 := lt_of_lt_of_eq t.isLt (show cfg0.N = 96 from N_0)
  have hN' : cfg0.N = 96 := N_0
  unfold Phi
  iintro ⟨⟨⟨⟨%a0, %hA0, S0⟩, ⟨%a1, %hA1, S1⟩, ⟨%a2, %hA2, S2⟩, ⟨%a3, %hA3, S3⟩, ⟨%a4, %hA4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  have hg : t.val % 6 / 2 = 0 := by omega
  have hl : ∀ s : Fin cfg0.N, s.val + 1 = t.val → kept a4 = k0_pay10 (iblk m c 0 (head s)) := hA4
  iapply ((runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond0 t).mpr h0) ((hcond2 t).mpr hg) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 10 t) a4).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [S4]; · iexact S4
  isplitl [H12]; · iexists _; iexact H12
  isplitl [H15]; · iexists _; iexact H15
  isplitl [S0]; · iexists _; iexact S0
  isplitl [S1]; · iexists _; iexact S1
  isplitl [S2]; · iexists _; iexact S2
  isplitl [S3]; · iexists _; iexact S3
  iintro ⟨H0, H1, H2, H3, H4, H5, H6, H7, H10, ⟨%e14, H12⟩, ⟨%e17, H15⟩, ⟨%e20, S0⟩, ⟨%e21, S1⟩, ⟨%e22, S2⟩, ⟨%e23, S3⟩, S4⟩
  isplitl [S0 S1 S2 S3 S4 Hg]
  · isplitl [S0 S1 S2 S3 S4]
    · isplitl [S0]
      · iexists _; isplitr; swap
        · unfold owns; iexists _; isplitr; swap; · iexact S0
          ipureintro; rfl
        ipureintro; intro s hs
        rw [show s = t from Fin.ext (Nat.succ.inj hs)]
        exact ⟨(runA_20_0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond0 t).mpr h0) ((hcond2 t).mpr hg) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 10 t) a4 _).trans (hR_first m c t h0 _ hl), (runA_20_1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond0 t).mpr h0) ((hcond2 t).mpr hg) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 10 t) a4 _).trans (hK_first m c t h0 _ hl), (runA_20_2 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond0 t).mpr h0) ((hcond2 t).mpr hg) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 10 t) a4 _).trans (hV_first m c t h0 _ hl)⟩
      isplitl [S1]
      · iexists _; isplitr; swap
        · unfold owns; iexists _; isplitr; swap; · iexact S1
          ipureintro; rfl
        ipureintro; intro s hs
        rw [show s = t from Fin.ext (Nat.succ.inj hs)]
        exact (runA_21 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond0 t).mpr h0) ((hcond2 t).mpr hg) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 10 t) a4 _).trans (hW_first m c t h0 _ hl)
      isplitl [S2]
      · iexists _; isplitr; swap
        · unfold owns; iexists _; isplitr; swap; · iexact S2
          ipureintro; rfl
        ipureintro; intro s hs
        rw [show s = t from Fin.ext (Nat.succ.inj hs)]
        exact (runA_22 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond0 t).mpr h0) ((hcond2 t).mpr hg) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 10 t) a4 _).trans (hA_first m c t h0 _ hl)
      isplitl [S3]
      · iexists _; isplitr; swap
        · unfold owns; iexists _; isplitr; swap; · iexact S3
          ipureintro; rfl
        ipureintro; intro s hs
        rw [show s = t from Fin.ext (Nat.succ.inj hs)]
        exact (runA_23 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond0 t).mpr h0) ((hcond2 t).mpr hg) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 10 t) a4 _).trans (hG_first m c t h0 _ hl)
      iexists _; isplitr; swap
      · unfold owns; iexists _; isplitr; swap; · iexact S4
        ipureintro; rfl
      ipureintro; intro s hs
      rw [show s = t from Fin.ext (Nat.succ.inj hs)]
      exact (runA_24 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond0 t).mpr h0) ((hcond2 t).mpr hg) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 10 t) a4 _).trans (by rw [head_of_zero t h0])
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (store_12 m c t hg)
    unfold owns; iexists _; isplitr; swap; · iexact H12
    ipureintro
    refine (runA_14 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond0 t).mpr h0) ((hcond2 t).mpr hg) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 10 t) a4 _).trans ?_
    rw [hR_first m c t h0 _ hl]; rfl
  isplitl [H13]
  · iapply (leave_13 m c t (by omega) d13); iexact H13
  isplitl [H14]
  · iapply (leave_14 m c t (by omega) d14); iexact H14
  isplitl [H15]
  · iapply (store_15 m c t hg)
    unfold owns; iexists _; isplitr; swap; · iexact H15
    ipureintro
    refine (runA_17 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond0 t).mpr h0) ((hcond2 t).mpr hg) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 10 t) a4 _).trans ?_
    rw [hW_first m c t h0 _ hl]; rfl
  isplitl [H16]
  · iapply (leave_16 m c t (by omega) d16); iexact H16
  iapply (leave_17 m c t (by omega) d17); iexact H17

end Cert.ProjIdeal.Body

end
-- ==== Proof.ProjBodyB.lean ====
module

public import proofs.«01_k».proof.Proof.ProjDat

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a point of the second column block. -/
theorem sound_B (c : Dev nD) (t : Fin cfg0.N) (h0 : t.val % 6 ≠ 0) (hg : t.val % 6 / 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11]
  rw [show (dats m 0 c).Φ t.succ = Phi m c (t.val + 1) t.isLt from rfl, phi_castSucc]
  have hN : t.val < 96 := lt_of_lt_of_eq t.isLt (show cfg0.N = 96 from N_0)
  have hN' : cfg0.N = 96 := N_0
  unfold Phi
  iintro ⟨⟨⟨⟨%a0, %hA0, S0⟩, ⟨%a1, %hA1, S1⟩, ⟨%a2, %hA2, S2⟩, ⟨%a3, %hA3, S3⟩, ⟨%a4, %hA4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  have hz : t.val ≠ 0 := fun h => h0 (by rw [h])
  obtain ⟨e0, e1, e2⟩ := hA0 ⟨t.val - 1, by omega⟩ (Nat.succ_pred_eq_of_ne_zero hz)
  rw [hR_succ m c _ t (Nat.succ_pred_eq_of_ne_zero hz) h0] at e0
  rw [hK_succ m c _ t (Nat.succ_pred_eq_of_ne_zero hz) h0] at e1
  rw [hV_succ m c _ t (Nat.succ_pred_eq_of_ne_zero hz) h0] at e2
  have q1 : a1 = hW m c t := (hA1 ⟨t.val - 1, by omega⟩ (Nat.succ_pred_eq_of_ne_zero hz)).trans (hW_succ m c _ t (Nat.succ_pred_eq_of_ne_zero hz) h0)
  have q2 : a2 = hA m c t := (hA2 ⟨t.val - 1, by omega⟩ (Nat.succ_pred_eq_of_ne_zero hz)).trans (hA_succ m c _ t (Nat.succ_pred_eq_of_ne_zero hz) h0)
  have q3 : a3 = hG m c t := (hA3 ⟨t.val - 1, by omega⟩ (Nat.succ_pred_eq_of_ne_zero hz)).trans (hG_succ m c _ t (Nat.succ_pred_eq_of_ne_zero hz) h0)
  have q4 : kept a4 = k0_pay10 (iblk m c 0 (head t)) := (hA4 ⟨t.val - 1, by omega⟩ (Nat.succ_pred_eq_of_ne_zero hz)).trans (by rw [head_succ _ t (Nat.succ_pred_eq_of_ne_zero hz) h0])
  iapply ((runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h => h0 ((hcond0 t).mp h)) ((hcond2 t).mpr hg) (fun h => absurd ((hcond3 t).mp h) (by omega)) (fun h => absurd ((hcond4 t).mp h) (by omega)) (iblk m c 3 t) (iblk m c 7 t) (iblk m c 10 t) a0 a1).2.2 Set.univ _)
  isplitl [H3]; · iexact H3
  isplitl [H7]; · iexact H7
  isplitl [H10]; · iexact H10
  isplitl [S0]; · iexact S0
  isplitl [S1]; · iexact S1
  isplitl [H12]; · iexists _; iexact H12
  isplitl [H15]; · iexists _; iexact H15
  iintro ⟨H3, H7, H10, S0, S1, ⟨%e14, H12⟩, ⟨%e17, H15⟩⟩
  isplitl [S0 S1 S2 S3 S4 Hg]
  · isplitl [S0 S1 S2 S3 S4]
    · isplitl [S0]
      · iexists a0; isplitr
        · ipureintro; intro s hs; rw [show s = t from Fin.ext (Nat.succ.inj hs)]; exact ⟨e0, e1, e2⟩
        iexact S0
      isplitl [S1]
      · iexists a1; isplitr
        · ipureintro; intro s hs; rw [show s = t from Fin.ext (Nat.succ.inj hs)]; exact q1
        iexact S1
      isplitl [S2]
      · iexists a2; isplitr
        · ipureintro; intro s hs; rw [show s = t from Fin.ext (Nat.succ.inj hs)]; exact q2
        iexact S2
      isplitl [S3]
      · iexists a3; isplitr
        · ipureintro; intro s hs; rw [show s = t from Fin.ext (Nat.succ.inj hs)]; exact q3
        iexact S3
      iexists a4; isplitr
      · ipureintro; intro s hs; rw [show s = t from Fin.ext (Nat.succ.inj hs)]; exact q4
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (store_12 m c t hg)
    unfold owns; iexists _; isplitr; swap; · iexact H12
    ipureintro
    refine (runB_14 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h => h0 ((hcond0 t).mp h)) ((hcond2 t).mpr hg) (fun h => absurd ((hcond3 t).mp h) (by omega)) (fun h => absurd ((hcond4 t).mp h) (by omega)) (iblk m c 3 t) (iblk m c 7 t) (iblk m c 10 t) a0 a1 _).trans ?_
    rw [e0]; rfl
  isplitl [H13]
  · iapply (leave_13 m c t (by omega) d13); iexact H13
  isplitl [H14]
  · iapply (leave_14 m c t (by omega) d14); iexact H14
  isplitl [H15]
  · iapply (store_15 m c t hg)
    unfold owns; iexists _; isplitr; swap; · iexact H15
    ipureintro
    refine (runB_17 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h => h0 ((hcond0 t).mp h)) ((hcond2 t).mpr hg) (fun h => absurd ((hcond3 t).mp h) (by omega)) (fun h => absurd ((hcond4 t).mp h) (by omega)) (iblk m c 3 t) (iblk m c 7 t) (iblk m c 10 t) a0 a1 _).trans ?_
    rw [q1]; rfl
  isplitl [H16]
  · iapply (leave_16 m c t (by omega) d16); iexact H16
  iapply (leave_17 m c t (by omega) d17); iexact H17

end Cert.ProjIdeal.Body

end
-- ==== Proof.ProjBodyC.lean ====
module

public import proofs.«01_k».proof.Proof.ProjDat

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a point of the third and fourth column blocks. -/
theorem sound_C (c : Dev nD) (t : Fin cfg0.N) (h0 : t.val % 6 ≠ 0) (hg : t.val % 6 / 2 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11]
  rw [show (dats m 0 c).Φ t.succ = Phi m c (t.val + 1) t.isLt from rfl, phi_castSucc]
  have hN : t.val < 96 := lt_of_lt_of_eq t.isLt (show cfg0.N = 96 from N_0)
  have hN' : cfg0.N = 96 := N_0
  unfold Phi
  iintro ⟨⟨⟨⟨%a0, %hA0, S0⟩, ⟨%a1, %hA1, S1⟩, ⟨%a2, %hA2, S2⟩, ⟨%a3, %hA3, S3⟩, ⟨%a4, %hA4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  have hz : t.val ≠ 0 := fun h => h0 (by rw [h])
  obtain ⟨e0, e1, e2⟩ := hA0 ⟨t.val - 1, by omega⟩ (Nat.succ_pred_eq_of_ne_zero hz)
  rw [hR_succ m c _ t (Nat.succ_pred_eq_of_ne_zero hz) h0] at e0
  rw [hK_succ m c _ t (Nat.succ_pred_eq_of_ne_zero hz) h0] at e1
  rw [hV_succ m c _ t (Nat.succ_pred_eq_of_ne_zero hz) h0] at e2
  have q1 : a1 = hW m c t := (hA1 ⟨t.val - 1, by omega⟩ (Nat.succ_pred_eq_of_ne_zero hz)).trans (hW_succ m c _ t (Nat.succ_pred_eq_of_ne_zero hz) h0)
  have q2 : a2 = hA m c t := (hA2 ⟨t.val - 1, by omega⟩ (Nat.succ_pred_eq_of_ne_zero hz)).trans (hA_succ m c _ t (Nat.succ_pred_eq_of_ne_zero hz) h0)
  have q3 : a3 = hG m c t := (hA3 ⟨t.val - 1, by omega⟩ (Nat.succ_pred_eq_of_ne_zero hz)).trans (hG_succ m c _ t (Nat.succ_pred_eq_of_ne_zero hz) h0)
  have q4 : kept a4 = k0_pay10 (iblk m c 0 (head t)) := (hA4 ⟨t.val - 1, by omega⟩ (Nat.succ_pred_eq_of_ne_zero hz)).trans (by rw [head_succ _ t (Nat.succ_pred_eq_of_ne_zero hz) h0])
  iapply ((runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h => h0 ((hcond0 t).mp h)) (fun h => absurd ((hcond2 t).mp h) (by omega)) ((hcond3 t).mpr hg) (fun h => absurd ((hcond4 t).mp h) (by omega)) (iblk m c 3 t) (iblk m c 8 t) (iblk m c 11 t) a0 a2).2.2 Set.univ _)
  isplitl [H3]; · iexact H3
  isplitl [H8]; · iexact H8
  isplitl [H11]; · iexact H11
  isplitl [S0]; · iexact S0
  isplitl [S2]; · iexact S2
  isplitl [H13]; · iexists _; iexact H13
  isplitl [H16]; · iexists _; iexact H16
  iintro ⟨H3, H8, H11, S0, S2, ⟨%e15, H13⟩, ⟨%e18, H16⟩⟩
  isplitl [S0 S1 S2 S3 S4 Hg]
  · isplitl [S0 S1 S2 S3 S4]
    · isplitl [S0]
      · iexists a0; isplitr
        · ipureintro; intro s hs; rw [show s = t from Fin.ext (Nat.succ.inj hs)]; exact ⟨e0, e1, e2⟩
        iexact S0
      isplitl [S1]
      · iexists a1; isplitr
        · ipureintro; intro s hs; rw [show s = t from Fin.ext (Nat.succ.inj hs)]; exact q1
        iexact S1
      isplitl [S2]
      · iexists a2; isplitr
        · ipureintro; intro s hs; rw [show s = t from Fin.ext (Nat.succ.inj hs)]; exact q2
        iexact S2
      isplitl [S3]
      · iexists a3; isplitr
        · ipureintro; intro s hs; rw [show s = t from Fin.ext (Nat.succ.inj hs)]; exact q3
        iexact S3
      iexists a4; isplitr
      · ipureintro; intro s hs; rw [show s = t from Fin.ext (Nat.succ.inj hs)]; exact q4
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (leave_12 m c t (by omega) d12); iexact H12
  isplitl [H13]
  · iapply (store_13 m c t hg)
    unfold owns; iexists _; isplitr; swap; · iexact H13
    ipureintro
    refine (runC_15 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h => h0 ((hcond0 t).mp h)) (fun h => absurd ((hcond2 t).mp h) (by omega)) ((hcond3 t).mpr hg) (fun h => absurd ((hcond4 t).mp h) (by omega)) (iblk m c 3 t) (iblk m c 8 t) (iblk m c 11 t) a0 a2 _).trans ?_
    rw [e1]; rfl
  isplitl [H14]
  · iapply (leave_14 m c t (by omega) d14); iexact H14
  isplitl [H15]
  · iapply (leave_15 m c t (by omega) d15); iexact H15
  isplitl [H16]
  · iapply (store_16 m c t hg)
    unfold owns; iexists _; isplitr; swap; · iexact H16
    ipureintro
    refine (runC_18 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h => h0 ((hcond0 t).mp h)) (fun h => absurd ((hcond2 t).mp h) (by omega)) ((hcond3 t).mpr hg) (fun h => absurd ((hcond4 t).mp h) (by omega)) (iblk m c 3 t) (iblk m c 8 t) (iblk m c 11 t) a0 a2 _).trans ?_
    rw [q2]; rfl
  iapply (leave_17 m c t (by omega) d17); iexact H17

end Cert.ProjIdeal.Body

end
-- ==== Proof.ProjBodyD.lean ====
module

public import proofs.«01_k».proof.Proof.ProjDat

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a point of the last two column blocks. -/
theorem sound_D (c : Dev nD) (t : Fin cfg0.N) (h0 : t.val % 6 ≠ 0) (hg : t.val % 6 / 2 = 2) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11]
  rw [show (dats m 0 c).Φ t.succ = Phi m c (t.val + 1) t.isLt from rfl, phi_castSucc]
  have hN : t.val < 96 := lt_of_lt_of_eq t.isLt (show cfg0.N = 96 from N_0)
  have hN' : cfg0.N = 96 := N_0
  unfold Phi
  iintro ⟨⟨⟨⟨%a0, %hA0, S0⟩, ⟨%a1, %hA1, S1⟩, ⟨%a2, %hA2, S2⟩, ⟨%a3, %hA3, S3⟩, ⟨%a4, %hA4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  have hz : t.val ≠ 0 := fun h => h0 (by rw [h])
  obtain ⟨e0, e1, e2⟩ := hA0 ⟨t.val - 1, by omega⟩ (Nat.succ_pred_eq_of_ne_zero hz)
  rw [hR_succ m c _ t (Nat.succ_pred_eq_of_ne_zero hz) h0] at e0
  rw [hK_succ m c _ t (Nat.succ_pred_eq_of_ne_zero hz) h0] at e1
  rw [hV_succ m c _ t (Nat.succ_pred_eq_of_ne_zero hz) h0] at e2
  have q1 : a1 = hW m c t := (hA1 ⟨t.val - 1, by omega⟩ (Nat.succ_pred_eq_of_ne_zero hz)).trans (hW_succ m c _ t (Nat.succ_pred_eq_of_ne_zero hz) h0)
  have q2 : a2 = hA m c t := (hA2 ⟨t.val - 1, by omega⟩ (Nat.succ_pred_eq_of_ne_zero hz)).trans (hA_succ m c _ t (Nat.succ_pred_eq_of_ne_zero hz) h0)
  have q3 : a3 = hG m c t := (hA3 ⟨t.val - 1, by omega⟩ (Nat.succ_pred_eq_of_ne_zero hz)).trans (hG_succ m c _ t (Nat.succ_pred_eq_of_ne_zero hz) h0)
  have q4 : kept a4 = k0_pay10 (iblk m c 0 (head t)) := (hA4 ⟨t.val - 1, by omega⟩ (Nat.succ_pred_eq_of_ne_zero hz)).trans (by rw [head_succ _ t (Nat.succ_pred_eq_of_ne_zero hz) h0])
  iapply ((runD c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h => h0 ((hcond0 t).mp h)) (fun h => absurd ((hcond2 t).mp h) (by omega)) (fun h => absurd ((hcond3 t).mp h) (by omega)) ((hcond4 t).mpr hg) (iblk m c 3 t) (iblk m c 9 t) a0 a3).2.2 Set.univ _)
  isplitl [H3]; · iexact H3
  isplitl [H9]; · iexact H9
  isplitl [S0]; · iexact S0
  isplitl [S3]; · iexact S3
  isplitl [H14]; · iexists _; iexact H14
  isplitl [H17]; · iexists _; iexact H17
  iintro ⟨H3, H9, S0, S3, ⟨%e16, H14⟩, ⟨%e19, H17⟩⟩
  isplitl [S0 S1 S2 S3 S4 Hg]
  · isplitl [S0 S1 S2 S3 S4]
    · isplitl [S0]
      · iexists a0; isplitr
        · ipureintro; intro s hs; rw [show s = t from Fin.ext (Nat.succ.inj hs)]; exact ⟨e0, e1, e2⟩
        iexact S0
      isplitl [S1]
      · iexists a1; isplitr
        · ipureintro; intro s hs; rw [show s = t from Fin.ext (Nat.succ.inj hs)]; exact q1
        iexact S1
      isplitl [S2]
      · iexists a2; isplitr
        · ipureintro; intro s hs; rw [show s = t from Fin.ext (Nat.succ.inj hs)]; exact q2
        iexact S2
      isplitl [S3]
      · iexists a3; isplitr
        · ipureintro; intro s hs; rw [show s = t from Fin.ext (Nat.succ.inj hs)]; exact q3
        iexact S3
      iexists a4; isplitr
      · ipureintro; intro s hs; rw [show s = t from Fin.ext (Nat.succ.inj hs)]; exact q4
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (leave_12 m c t (by omega) d12); iexact H12
  isplitl [H13]
  · iapply (leave_13 m c t (by omega) d13); iexact H13
  isplitl [H14]
  · iapply (store_14 m c t hg)
    unfold owns; iexists _; isplitr; swap; · iexact H14
    ipureintro
    refine (runD_16 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h => h0 ((hcond0 t).mp h)) (fun h => absurd ((hcond2 t).mp h) (by omega)) (fun h => absurd ((hcond3 t).mp h) (by omega)) ((hcond4 t).mpr hg) (iblk m c 3 t) (iblk m c 9 t) a0 a3 _).trans ?_
    rw [e2]; rfl
  isplitl [H15]
  · iapply (leave_15 m c t (by omega) d15); iexact H15
  isplitl [H16]
  · iapply (leave_16 m c t (by omega) d16); iexact H16
  iapply (store_17 m c t hg)
  unfold owns; iexists _; isplitr; swap; · iexact H17
  ipureintro
  refine (runD_19 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h => h0 ((hcond0 t).mp h)) (fun h => absurd ((hcond2 t).mp h) (by omega)) (fun h => absurd ((hcond3 t).mp h) (by omega)) ((hcond4 t).mpr hg) (iblk m c 3 t) (iblk m c 9 t) a0 a3 _).trans ?_
  rw [q3]; rfl

end Cert.ProjIdeal.Body

end
-- ==== Proof.ProjFrame.lean ====
module

public import proofs.«01_k».proof.Proof.ProjBodyA
public import proofs.«01_k».proof.Proof.ProjBodyB
public import proofs.«01_k».proof.Proof.ProjBodyC
public import proofs.«01_k».proof.Proof.ProjBodyD

@[expose] public section

set_option maxRecDepth 16384

noncomputable section

namespace Cert.ProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 6 = 0
  · exact sound_A m c t h0
  by_cases hg : t.val % 6 / 2 = 0
  · exact sound_B m c t h0 hg
  by_cases hg1 : t.val % 6 / 2 = 1
  · exact sound_C m c t h0 hg1
  exact sound_D m c t h0 (by omega)

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point: nothing has been stored yet. -/
theorem hin (c : Dev nD) : Pipeline.ΦA spec0 c ⊢ (dats m 0 c).Φ 0 := by
  rw [show (dats m 0 c).Φ 0 = Phi m c 0 (Nat.zero_le _) from rfl, phi_eq]
  unfold Phi
  iintro ⟨⟨⟨%a0, S0⟩, ⟨%a1, S1⟩, ⟨%a2, S2⟩, ⟨%a3, S3⟩, ⟨%a4, S4⟩⟩, Hg⟩
  isplitl [S0 S1 S2 S3 S4]
  · isplitl [S0]
    · iexists a0; isplitr
      · ipureintro; intro s hs; exact absurd hs (Nat.succ_ne_zero _)
      iexact S0
    isplitl [S1]
    · iexists a1; isplitr
      · ipureintro; intro s hs; exact absurd hs (Nat.succ_ne_zero _)
      iexact S1
    isplitl [S2]
    · iexists a2; isplitr
      · ipureintro; intro s hs; exact absurd hs (Nat.succ_ne_zero _)
      iexact S2
    isplitl [S3]
    · iexists a3; isplitr
      · ipureintro; intro s hs; exact absurd hs (Nat.succ_ne_zero _)
      iexact S3
    iexists a4; isplitr
    · ipureintro; intro s hs; exact absurd hs (Nat.succ_ne_zero _)
    iexact S4
  iexact Hg

/-- After the last point the scratch is given back at some contents. -/
theorem hout (c : Dev nD) : (dats m 0 c).Φ (Fin.last cfg0.N) ⊢ Pipeline.ΦA spec0 c := by
  rw [show (dats m 0 c).Φ (Fin.last cfg0.N) = Phi m c cfg0.N le_rfl from rfl, phi_eq]
  unfold Phi
  iintro ⟨⟨⟨%a0, -, S0⟩, ⟨%a1, -, S1⟩, ⟨%a2, -, S2⟩, ⟨%a3, -, S3⟩, ⟨%a4, -, S4⟩⟩, Hg⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hg

/-- The launch, with the counters at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, the counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.ProjIdeal.Body

end
-- ==== Proof.ProjValue.lean ====
/-
  The VALUE of the recurrent layer's projections. A row block's differences are those of the reference's rows to the rows one step
  back (`diff_at`): the row in front is the carried one on a sequence's first row block, else the last row of the row block before.
  So the mixes and hidden blocks kept over a row block are the reference's, and each of the six result arrays after the run is
  the reference's (`final_R` to `final_G`).
-/
module

public import proofs.«01_k».proof.Proof.ProjMatch
public import proofs.«01_k».proof.Proof.ProjBlocks
public import proofs.«01_k».proof.Proof.ProjFrame

@[expose] public section

set_option maxRecDepth 16384

noncomputable section

open Idealize.ShloMosaic Idealize.ShloMosaic.TcCoe Idealize.SL.Sem
open Idealize.ShloMosaic.Pipeline (Dat)

namespace Cert.ProjIdeal.Bridge

open Cert.ProjRefIdeal.Plain
open Cert.ProjIdeal Cert.ProjIdeal.Gen Cert.ProjIdeal.Body

variable (m : (ℓ : Loc nD τ sig) → Buf (Elt Ideal) ℓ)

theorem head_div (t : Fin cfg0.N) : (head t).val / 6 = t.val / 6 := by
  unfold head
  dsimp only
  omega

theorem head_div24 (t : Fin cfg0.N) : (head t).val / 24 = t.val / 24 := by
  unfold head
  dsimp only
  omega

/-- Whether the body takes a point's row block for a sequence's first. -/
theorem flag_row (t : Fin cfg0.N) : flag (nrow t) = if t.val / 6 % 4 = 0 then 1#1 else 0#1 := by
  have ht : t.val < 96 := lt_of_lt_of_eq t.isLt N_0
  unfold nrow
  rw [row_val, head_div]
  exact flag_at ⟨t.val / 6, by omega⟩

/-- A row block's differences are the reference's. -/
theorem diff_at (c : Dev nD) (t : Fin cfg0.N) (p : Fin 512) (a : Fin 4) (r k : Fin 2048) (h : t.val / 6 * 512 + p.val = a.val * 2048 + r.val) :
    k0_pay11 (F := Ideal) (nrow t) (iblk m c 0 (head t)) (iblk m c 1 (head t)) (pkept m c t) (ix2 p k)
      = ((prevRows (aX m c) (aS m c) (ix3 a r k) - aX m c (ix3 a r k) : EReal) : Ideal .f32) := by
  have ht : t.val < 96 := lt_of_lt_of_eq t.isLt N_0
  have hx := x_at m c (head t) p a r k (by rw [head_div]; exact h)
  have hf := flag_row t
  rcases Nat.eq_zero_or_pos p.val with h0 | h0
  · obtain rfl : p = 0 := Fin.ext h0
    rw [pay11_zero_at, hx]
    by_cases h4 : t.val / 6 % 4 = 0
    · rw [if_pos h4] at hf
      rw [front_new _ _ _ hf, s_at m c (head t) a k (by rw [head_div24]; omega), prevRows_zero _ _ a r k (by omega)]
    · rw [if_neg h4] at hf
      have hp : pkept m c t (ix2 0 k) = aX m c (ix3 a (⟨r.val - 1, by omega⟩ : Fin 2048) k) := by
        unfold pkept pk
        rw [pay10_at]
        refine x_at m c _ 511 a _ k ?_
        show ((t.val - t.val % 6) - 6) / 6 * 512 + 511 = a.val * 2048 + (r.val - 1)
        omega
      rw [front_kept _ _ _ hf, hp, prevRows_succ _ _ a r ⟨r.val - 1, by omega⟩ k (by dsimp only; omega)]
  · have hx' := x_at m c (head t) ⟨p.val - 1, by omega⟩ a ⟨r.val - 1, by omega⟩ k (by rw [head_div]; dsimp only; omega)
    rw [pay11_succ_at _ _ _ _ p ⟨p.val - 1, by omega⟩ k (by dsimp only; omega), hx, hx', prevRows_succ _ _ a r ⟨r.val - 1, by omega⟩ k (by dsimp only; omega)]

/-! The mixes and the hidden blocks kept over a row block. -/
theorem hR_at (c : Dev nD) (t : Fin cfg0.N) (p : Fin 512) (a : Fin 4) (r k : Fin 2048) (h : t.val / 6 * 512 + p.val = a.val * 2048 + r.val) :
    hR m c t (ix3 0 p k) = lane0 (mixed (aX m c) (aS m c) (aMu m c)) (ix3 a r k) := by
  unfold hR
  rw [mixR_at, diff_at m c t p a r k h, x_at m c (head t) p a r k (by rw [head_div]; exact h), mu_at, lane0_at]
  rfl

theorem hK_at (c : Dev nD) (t : Fin cfg0.N) (p : Fin 512) (a : Fin 4) (r k : Fin 2048) (h : t.val / 6 * 512 + p.val = a.val * 2048 + r.val) :
    hK m c t (ix3 0 p k) = lane2 (mixed (aX m c) (aS m c) (aMu m c)) (ix3 a r k) := by
  unfold hK
  rw [mixK_at, diff_at m c t p a r k h, x_at m c (head t) p a r k (by rw [head_div]; exact h), mu_at, lane2_at]
  rfl

theorem hV_at (c : Dev nD) (t : Fin cfg0.N) (p : Fin 512) (a : Fin 4) (r k : Fin 2048) (h : t.val / 6 * 512 + p.val = a.val * 2048 + r.val) :
    hV m c t (ix3 0 p k) = lane3 (mixed (aX m c) (aS m c) (aMu m c)) (ix3 a r k) := by
  unfold hV
  rw [mixV_at, diff_at m c t p a r k h, x_at m c (head t) p a r k (by rw [head_div]; exact h), mu_at, lane3_at]
  rfl

theorem hW_at (c : Dev nD) (t : Fin cfg0.N) (p : Fin 512) (a : Fin 4) (r : Fin 2048) (h : Fin 96) (e : t.val / 6 * 512 + p.val = a.val * 2048 + r.val) :
    hW m c t (ix2 p (⟨h.val, by omega⟩ : Fin 128)) = HW (lane1 (mixed (aX m c) (aS m c) (aMu m c))) (aW1 m c) (ix3 a r h) := by
  unfold hW hidW
  refine pay16_at _ p a r _ _ _ _ _ h (fun k => ?_) (fun k => w1_at m c (head t) k h)
  rw [lowMix_at, mrow1_at, diff_at m c t p a r k e, pay9_at, x_at m c (head t) p a r k (by rw [head_div]; exact e), mu_at, lane1_at]
  rfl

theorem hA_at (c : Dev nD) (t : Fin cfg0.N) (p : Fin 512) (a : Fin 4) (r : Fin 2048) (h : Fin 96) (e : t.val / 6 * 512 + p.val = a.val * 2048 + r.val) :
    hA m c t (ix2 p (⟨h.val, by omega⟩ : Fin 128)) = HA (lane4 (mixed (aX m c) (aS m c) (aMu m c))) (aA1 m c) (ix3 a r h) := by
  unfold hA hidA
  refine pay17_at _ p a r _ _ _ _ _ h (fun k => ?_) (fun k => a1_at m c (head t) k h)
  rw [lowMix_at, mrow4_at, diff_at m c t p a r k e, pay9_at, x_at m c (head t) p a r k (by rw [head_div]; exact e), mu_at, lane4_at]
  rfl

theorem hG_at (c : Dev nD) (t : Fin cfg0.N) (p : Fin 512) (a : Fin 4) (r : Fin 2048) (h : Fin 256) (e : t.val / 6 * 512 + p.val = a.val * 2048 + r.val) :
    hG m c t (ix2 p h) = HG (lane5 (mixed (aX m c) (aS m c) (aMu m c))) (aG1 m c) (ix3 a r h) := by
  unfold hG hidG
  refine pay2_at _ p a r _ _ _ _ _ h (fun k => ?_) (fun k => g1_at m c (head t) k h)
  rw [lowMix_at, mrow5_at, diff_at m c t p a r k e, pay9_at, x_at m c (head t) p a r k (by rw [head_div]; exact e), mu_at, lane5_at]
  rfl

/-! The points that store a result before it is written back, and when it is written back. -/
theorem cl0_facts (t : Fin cfg0.N) : (cl0 t).val / 6 = t.val / 6 ∧ (cl0 t).val % 6 = min (t.val % 6) 1 := by
  unfold cl0
  dsimp only
  omega

theorem cl1_facts (t : Fin cfg0.N) (h : 2 ≤ t.val % 6) : (cl1 t).val / 6 = t.val / 6 ∧ (cl1 t).val % 6 = min (t.val % 6 - 2) 1 + 2 := by
  unfold cl1
  dsimp only
  rw [if_neg (by omega)]
  omega

theorem flush_13 : ∀ t : Fin cfg0.N, (cfg0.win 13).flush t = true → 2 ≤ t.val % 6 :=
  (by decide +kernel : ∀ t : Fin grid0.N, win0_13.flush t = true → 2 ≤ t.val % 6)

theorem flush_16 : ∀ t : Fin cfg0.N, (cfg0.win 16).flush t = true → 2 ≤ t.val % 6 :=
  (by decide +kernel : ∀ t : Fin grid0.N, win0_16.flush t = true → 2 ≤ t.val % 6)

theorem flush_14 : ∀ t : Fin cfg0.N, (cfg0.win 14).flush t = true → 4 ≤ t.val % 6 :=
  (by decide +kernel : ∀ t : Fin grid0.N, win0_14.flush t = true → 4 ≤ t.val % 6)

theorem flush_17 : ∀ t : Fin cfg0.N, (cfg0.win 17).flush t = true → 4 ≤ t.val % 6 :=
  (by decide +kernel : ∀ t : Fin grid0.N, win0_17.flush t = true → 4 ≤ t.val % 6)

/-- What point `u` stores is the reference at the place point `t` writes back. -/
theorem point_R (c : Dev nD) (t u : Fin cfg0.N) (hd : u.val / 6 = t.val / 6) (hm : u.val % 6 = min (t.val % 6) 1 + 0) (y : S512x1024.Idx) :
    oR m c u y = REF_R (aX m c) (aS m c) (aMu m c) (aM m c) (((cfg0.win 12).blk t).view.emb y) := by
  have ht : t.val < 96 := lt_of_lt_of_eq t.isLt N_0
  obtain ⟨p, q, rfl⟩ : ∃ (p : Fin 512) (q : Fin 1024), y = ix2 p q := ⟨y 0, y 1, by blk_ext⟩
  obtain ⟨a, r, hr⟩ : ∃ (a : Fin 4) (r : Fin 2048), t.val / 6 * 512 + p.val = a.val * 2048 + r.val :=
    ⟨⟨(t.val / 6 * 512 + p.val) / 2048, by omega⟩, ⟨(t.val / 6 * 512 + p.val) % 2048, by omega⟩, by dsimp only; omega⟩
  obtain ⟨j, hj⟩ : ∃ j : Fin 2048, min (t.val % 6) 1 * 1024 + q.val = j.val := ⟨⟨min (t.val % 6) 1 * 1024 + q.val, by omega⟩, rfl⟩
  rw [REF_R_at _ _ _ _ _ a r j (by blk_simp [idx t]; exact hr) (by blk_simp [idx t]; exact hj)]
  exact pay3_at _ p a r _ _ _ q j (fun k => hR_at m c u p a r k (by rw [hd]; exact hr)) (fun k => main0_at m c u k q j (by omega))

/-- Result array 0 after the run is the reference's. -/
theorem final_R (c : Dev nD) : (dats m 0 c).arrAt 12 (cfgs 0).N = REF_R (aX m c) (aS m c) (aMu m c) (aM m c) := by
  refine (dats m 0 c).arrAt_eq_of_covers 12 _ (by decide +kernel) fun t hf y => ?_
  blk_simp
  rw [after_12]
  exact point_R m c t (cl0 t) (cl0_facts t).1 (cl0_facts t).2 y

/-- What point `u` stores is the reference at the place point `t` writes back. -/
theorem point_K (c : Dev nD) (t u : Fin cfg0.N) (hd : u.val / 6 = t.val / 6) (hm : u.val % 6 = min (t.val % 6 - 2) 1 + 2) (y : S512x1024.Idx) :
    oK m c u y = REF_K (aX m c) (aS m c) (aMu m c) (aM m c) (((cfg0.win 13).blk t).view.emb y) := by
  have ht : t.val < 96 := lt_of_lt_of_eq t.isLt N_0
  obtain ⟨p, q, rfl⟩ : ∃ (p : Fin 512) (q : Fin 1024), y = ix2 p q := ⟨y 0, y 1, by blk_ext⟩
  obtain ⟨a, r, hr⟩ : ∃ (a : Fin 4) (r : Fin 2048), t.val / 6 * 512 + p.val = a.val * 2048 + r.val :=
    ⟨⟨(t.val / 6 * 512 + p.val) / 2048, by omega⟩, ⟨(t.val / 6 * 512 + p.val) % 2048, by omega⟩, by dsimp only; omega⟩
  obtain ⟨j, hj⟩ : ∃ j : Fin 2048, min (t.val % 6 - 2) 1 * 1024 + q.val = j.val := ⟨⟨min (t.val % 6 - 2) 1 * 1024 + q.val, by omega⟩, rfl⟩
  rw [REF_K_at _ _ _ _ _ a r j (by blk_simp [idx t]; exact hr) (by blk_simp [idx t]; exact hj)]
  exact pay5_at _ p a r _ _ _ q j (fun k => hK_at m c u p a r k (by rw [hd]; exact hr)) (fun k => main1_at m c u k q j (by omega))

/-- Result array 1 after the run is the reference's. -/
theorem final_K (c : Dev nD) : (dats m 0 c).arrAt 13 (cfgs 0).N = REF_K (aX m c) (aS m c) (aMu m c) (aM m c) := by
  refine (dats m 0 c).arrAt_eq_of_covers 13 _ (by decide +kernel) fun t hf y => ?_
  blk_simp
  rw [after_13]
  exact point_K m c t (cl1 t) (cl1_facts t (flush_13 t hf)).1 (cl1_facts t (flush_13 t hf)).2 y

/-- What point `u` stores is the reference at the place point `t` writes back. -/
theorem point_V (c : Dev nD) (t u : Fin cfg0.N) (hd : u.val / 6 = t.val / 6) (hm : u.val % 6 = min (t.val % 6 - 4) 1 + 4) (y : S512x1024.Idx) :
    oV m c u y = REF_V (aX m c) (aS m c) (aMu m c) (aM m c) (((cfg0.win 14).blk t).view.emb y) := by
  have ht : t.val < 96 := lt_of_lt_of_eq t.isLt N_0
  obtain ⟨p, q, rfl⟩ : ∃ (p : Fin 512) (q : Fin 1024), y = ix2 p q := ⟨y 0, y 1, by blk_ext⟩
  obtain ⟨a, r, hr⟩ : ∃ (a : Fin 4) (r : Fin 2048), t.val / 6 * 512 + p.val = a.val * 2048 + r.val :=
    ⟨⟨(t.val / 6 * 512 + p.val) / 2048, by omega⟩, ⟨(t.val / 6 * 512 + p.val) % 2048, by omega⟩, by dsimp only; omega⟩
  obtain ⟨j, hj⟩ : ∃ j : Fin 2048, min (t.val % 6 - 4) 1 * 1024 + q.val = j.val := ⟨⟨min (t.val % 6 - 4) 1 * 1024 + q.val, by omega⟩, rfl⟩
  rw [REF_V_at _ _ _ _ _ a r j (by blk_simp [idx t]; exact hr) (by blk_simp [idx t]; exact hj)]
  exact pay7_at _ p a r _ _ _ q j (fun k => hV_at m c u p a r k (by rw [hd]; exact hr)) (fun k => main2_at m c u k q j (by omega))

/-- Result array 2 after the run is the reference's. -/
theorem final_V (c : Dev nD) : (dats m 0 c).arrAt 14 (cfgs 0).N = REF_V (aX m c) (aS m c) (aMu m c) (aM m c) := by
  refine (dats m 0 c).arrAt_eq_of_covers 14 _ (by decide +kernel) fun t hf y => ?_
  blk_simp
  rw [after_14]
  exact point_V m c t t rfl (by have h := flush_14 t hf; omega) y

/-- What point `u` stores is the reference at the place point `t` writes back. -/
theorem point_W (c : Dev nD) (t u : Fin cfg0.N) (hd : u.val / 6 = t.val / 6) (hm : u.val % 6 = min (t.val % 6) 1 + 0) (y : S512x1024.Idx) :
    oW m c u y = REF_W (aX m c) (aS m c) (aMu m c) (aW0 m c) (aW1 m c) (aW2 m c) (((cfg0.win 15).blk t).view.emb y) := by
  have ht : t.val < 96 := lt_of_lt_of_eq t.isLt N_0
  obtain ⟨p, q, rfl⟩ : ∃ (p : Fin 512) (q : Fin 1024), y = ix2 p q := ⟨y 0, y 1, by blk_ext⟩
  obtain ⟨a, r, hr⟩ : ∃ (a : Fin 4) (r : Fin 2048), t.val / 6 * 512 + p.val = a.val * 2048 + r.val :=
    ⟨⟨(t.val / 6 * 512 + p.val) / 2048, by omega⟩, ⟨(t.val / 6 * 512 + p.val) % 2048, by omega⟩, by dsimp only; omega⟩
  obtain ⟨j, hj⟩ : ∃ j : Fin 2048, min (t.val % 6) 1 * 1024 + q.val = j.val := ⟨⟨min (t.val % 6) 1 * 1024 + q.val, by omega⟩, rfl⟩
  rw [REF_W_at _ _ _ _ _ _ _ a r j (by blk_simp [idx t]; exact hr) (by blk_simp [idx t]; exact hj)]
  refine pay4_at p a r _ _ _ _ q j ?_
  rw [bY_at, ← w0_at m c u q j (by omega)]
  rw [low_sum p a r (hW m c u) (iblk m c 7 u) _ _ q j (fun h => hW_at m c u p a r h (by rw [hd]; exact hr)) (fun h => w2_at m c u h q j (by omega)) (fun h hh => w2_zero m c u h q hh)]

/-- Result array 3 after the run is the reference's. -/
theorem final_W (c : Dev nD) : (dats m 0 c).arrAt 15 (cfgs 0).N = REF_W (aX m c) (aS m c) (aMu m c) (aW0 m c) (aW1 m c) (aW2 m c) := by
  refine (dats m 0 c).arrAt_eq_of_covers 15 _ (by decide +kernel) fun t hf y => ?_
  blk_simp
  rw [after_15]
  exact point_W m c t (cl0 t) (cl0_facts t).1 (cl0_facts t).2 y

/-- What point `u` stores is the reference at the place point `t` writes back. -/
theorem point_A (c : Dev nD) (t u : Fin cfg0.N) (hd : u.val / 6 = t.val / 6) (hm : u.val % 6 = min (t.val % 6 - 2) 1 + 2) (y : S512x1024.Idx) :
    oA m c u y = REF_A (aX m c) (aS m c) (aMu m c) (aA0 m c) (aA1 m c) (aA2 m c) (((cfg0.win 16).blk t).view.emb y) := by
  have ht : t.val < 96 := lt_of_lt_of_eq t.isLt N_0
  obtain ⟨p, q, rfl⟩ : ∃ (p : Fin 512) (q : Fin 1024), y = ix2 p q := ⟨y 0, y 1, by blk_ext⟩
  obtain ⟨a, r, hr⟩ : ∃ (a : Fin 4) (r : Fin 2048), t.val / 6 * 512 + p.val = a.val * 2048 + r.val :=
    ⟨⟨(t.val / 6 * 512 + p.val) / 2048, by omega⟩, ⟨(t.val / 6 * 512 + p.val) % 2048, by omega⟩, by dsimp only; omega⟩
  obtain ⟨j, hj⟩ : ∃ j : Fin 2048, min (t.val % 6 - 2) 1 * 1024 + q.val = j.val := ⟨⟨min (t.val % 6 - 2) 1 * 1024 + q.val, by omega⟩, rfl⟩
  rw [REF_A_at _ _ _ _ _ _ _ a r j (by blk_simp [idx t]; exact hr) (by blk_simp [idx t]; exact hj)]
  exact pay6_at _ p a r _ _ _ _ _ _ q j (a0_at m c u q j (by omega)) (fun h => hA_at m c u p a r h (by rw [hd]; exact hr)) (fun h => a2_at m c u h q j (by omega))
    (fun h hh => a2_zero m c u h q hh)

/-- Result array 4 after the run is the reference's. -/
theorem final_A (c : Dev nD) : (dats m 0 c).arrAt 16 (cfgs 0).N = REF_A (aX m c) (aS m c) (aMu m c) (aA0 m c) (aA1 m c) (aA2 m c) := by
  refine (dats m 0 c).arrAt_eq_of_covers 16 _ (by decide +kernel) fun t hf y => ?_
  blk_simp
  rw [after_16]
  exact point_A m c t (cl1 t) (cl1_facts t (flush_16 t hf)).1 (cl1_facts t (flush_16 t hf)).2 y

/-- What point `u` stores is the reference at the place point `t` writes back. -/
theorem point_G (c : Dev nD) (t u : Fin cfg0.N) (hd : u.val / 6 = t.val / 6) (hm : u.val % 6 = min (t.val % 6 - 4) 1 + 4) (y : S512x1024.Idx) :
    oG m c u y = REF_G (aX m c) (aS m c) (aMu m c) (aG1 m c) (aG2 m c) (((cfg0.win 17).blk t).view.emb y) := by
  have ht : t.val < 96 := lt_of_lt_of_eq t.isLt N_0
  obtain ⟨p, q, rfl⟩ : ∃ (p : Fin 512) (q : Fin 1024), y = ix2 p q := ⟨y 0, y 1, by blk_ext⟩
  obtain ⟨a, r, hr⟩ : ∃ (a : Fin 4) (r : Fin 2048), t.val / 6 * 512 + p.val = a.val * 2048 + r.val :=
    ⟨⟨(t.val / 6 * 512 + p.val) / 2048, by omega⟩, ⟨(t.val / 6 * 512 + p.val) % 2048, by omega⟩, by dsimp only; omega⟩
  obtain ⟨j, hj⟩ : ∃ j : Fin 2048, min (t.val % 6 - 4) 1 * 1024 + q.val = j.val := ⟨⟨min (t.val % 6 - 4) 1 * 1024 + q.val, by omega⟩, rfl⟩
  rw [REF_G_at _ _ _ _ _ _ a r j (by blk_simp [idx t]; exact hr) (by blk_simp [idx t]; exact hj)]
  exact pay8_at _ p a r _ _ _ _ q j (fun h => hG_at m c u p a r h (by rw [hd]; exact hr)) (fun h => g2_at m c u h q j (by omega))

/-- Result array 5 after the run is the reference's. -/
theorem final_G (c : Dev nD) : (dats m 0 c).arrAt 17 (cfgs 0).N = REF_G (aX m c) (aS m c) (aMu m c) (aG1 m c) (aG2 m c) := by
  refine (dats m 0 c).arrAt_eq_of_covers 17 _ (by decide +kernel) fun t hf y => ?_
  blk_simp
  rw [after_17]
  exact point_G m c t t rfl (by have h := flush_17 t hf; omega) y

end Cert.ProjIdeal.Bridge

end
-- ==== Proof.ProjClaim.lean ====
/-
  The claims about `Proj`: the two kernel programs (one text at two readings of a float) and the reference run clean, and kernel and reference end with the same six arrays.
-/
module

public import proofs.«01_k».proof.Defs
public import proofs.«01_k».proof.Proof.ProjValue
public import proofs.«01_k».proof.Proof.Gen.Proj
public import Idealize.ShloMosaic.Lib.Claim

@[expose] public section

set_option maxRecDepth 16384

noncomputable section

open Idealize.ShloMosaic Idealize.ShloMosaic.TcCoe Idealize.SL.Sem

set_option maxHeartbeats 4000000

namespace Cert.ProjClaim

open Cert.ProjIdeal Cert.ProjIdeal.Gen Cert.ProjIdeal.Body Cert.ProjIdeal.Bridge

/-- So does the idealized kernel. -/
theorem ideal_frame : Cert.quiescent_ProjIdeal := fun m ρ _ => Cert.ProjIdeal.Body.frame m ρ

/-- The reference runs and leaves its arguments and every counter as they were. -/
theorem ref_frame : Cert.quiescent_ProjRefIdeal := fun m ρ _ =>
  (θ_run Cert.ProjRefIdeal.defs _ _).mono (fun r h => ⟨fun c => (h c).2.2.2.2.2.2, sem_eq_zero_of_no_sems (by decide) r.2⟩)
    (Cert.ProjRefIdeal.Value.run m ρ)

/-- Kernel and reference end with equal results over the extended reals. -/
theorem algebraic : Cert.algebraic_ProjIdeal_ProjRefIdeal := by
  intro m g m' g' hpre hagree
  refine ⟨fun c => (dats m 0 c).arrAt 12 (cfgs 0).N, fun c => (dats m 0 c).arrAt 13 (cfgs 0).N, fun c => (dats m 0 c).arrAt 14 (cfgs 0).N, fun c => (dats m 0 c).arrAt 15 (cfgs 0).N, fun c => (dats m 0 c).arrAt 16 (cfgs 0).N, fun c => (dats m 0 c).arrAt 17 (cfgs 0).N, ?_, ?_⟩
  · exact θ_run_mono (θ_run_and (Cert.ProjIdeal.Body.run_main m g) (Cert.ProjIdeal.Body.frame m g)) fun r h c =>
      ⟨(h.1 c).1 12, (h.1 c).1 13, (h.1 c).1 14, (h.1 c).1 15, (h.1 c).1 16, (h.1 c).1 17, h.2.1 c⟩
  · run_from Cert.ProjRefIdeal.Value.run m' g'
    · exact (final_R m c).symm
    · exact (final_K m c).symm
    · exact (final_V m c).symm
    · obtain ⟨h0, h1, h2, h3, h4, h5, h6, h7, h8, h9, h10, h11⟩ := hagree c
      unfold Cert.ProjRefIdeal.Value.res_main_v71
      rw [h0, h1, h2, h4, h5, h6]
      exact (final_W m c).symm
    · exact (final_A m c).symm
    · exact (final_G m c).symm

end Cert.ProjClaim

end
-- ==== Proof.ProjSame.lean ====
/-
  The recurrent layer's projections over machine floats run as the idealized ones do: the two programs are one text.
-/
module

public import proofs.«01_k».proof.Defs
public import proofs.«01_k».proof.Proof.ProjFrame
public import proofs.«01_k».proof.Proof.Gen.Proj
public import Idealize.ShloMosaic.Lib.Claim

@[expose] public section

set_option maxRecDepth 65536

noncomputable section

open Idealize.ShloMosaic Idealize.ShloMosaic.TcCoe Idealize.SL.Sem

set_option maxHeartbeats 40000000

namespace Cert.ProjSame

open Cert.ProjIdeal Cert.ProjIdeal.Gen Cert.ProjIdeal.Body

/-- The two programs' kernel bodies are one text. -/
theorem bodies : (Cert.Proj.defs₀ (F := Bits)) = Cert.ProjIdeal.defs₀ (F := Bits) := by
  unfold Cert.Proj.defs₀ Cert.ProjIdeal.defs₀
  refine congrArg Defs.onTc (funext fun l => ?_)
  match l with
  | ⟨0, _⟩ => exact funext fun a => rfl

/-- So are their body tables. -/
theorem tables : (Cert.Proj.defs (F := Bits)) = Cert.ProjIdeal.defs (F := Bits) := by
  unfold Cert.Proj.defs
  rw [bodies]; rfl

/-- The kernel over machine floats runs and leaves its arguments and every counter as they were. -/
theorem kernel_frame : Cert.quiescent_Proj := fun m ρ _ => by
  rw [tables]
  exact Cert.ProjIdeal.Body.frame (F := Bits) m ρ

end Cert.ProjSame

end
-- ==== Proof.lean ====
/-
  The certificate: every claim of Defs.lean from the module that proves it. The kernels' frames are the generated runs
  (or the runs of the `…Claim` modules where no run is generated); the values are proved in the `…Value` modules.
-/
module

public import proofs.«01_k».proof.Defs
public import proofs.«01_k».proof.Proof.Gen.Scores
public import proofs.«01_k».proof.Proof.Gen.ScoresIdeal
public import proofs.«01_k».proof.Proof.Gen.ScoresRefIdeal
public import proofs.«01_k».proof.Proof.Gen.FfnIn
public import proofs.«01_k».proof.Proof.Gen.FfnInIdeal
public import proofs.«01_k».proof.Proof.Gen.FfnInRefIdeal
public import proofs.«01_k».proof.Proof.Gen.FfnDown
public import proofs.«01_k».proof.Proof.Gen.FfnDownIdeal
public import proofs.«01_k».proof.Proof.Gen.FfnDownRefIdeal
public import proofs.«01_k».proof.Proof.Gen.Qkv
public import proofs.«01_k».proof.Proof.Gen.QkvIdeal
public import proofs.«01_k».proof.Proof.Gen.QkvRefIdeal
public import proofs.«01_k».proof.Proof.Gen.Gate
public import proofs.«01_k».proof.Proof.Gen.GateIdeal
public import proofs.«01_k».proof.Proof.Gen.GateRefIdeal
public import proofs.«01_k».proof.Proof.Gen.Wo
public import proofs.«01_k».proof.Proof.Gen.WoIdeal
public import proofs.«01_k».proof.Proof.Gen.WoRefIdeal
public import proofs.«01_k».proof.Proof.Gen.FfnDownS
public import proofs.«01_k».proof.Proof.Gen.FfnDownSIdeal
public import proofs.«01_k».proof.Proof.Gen.FfnDownSRefIdeal
public import proofs.«01_k».proof.Proof.Gen.QkvS
public import proofs.«01_k».proof.Proof.Gen.QkvSIdeal
public import proofs.«01_k».proof.Proof.Gen.QkvSRefIdeal
public import proofs.«01_k».proof.Proof.Gen.Proj
public import proofs.«01_k».proof.Proof.Gen.ProjIdeal
public import proofs.«01_k».proof.Proof.Gen.ProjRefIdeal
public import proofs.«01_k».proof.Proof.Gen.Pre_scores_table_in_pool
public import proofs.«01_k».proof.Proof.ScoresClaim
public import proofs.«01_k».proof.Proof.FfnInClaim
public import proofs.«01_k».proof.Proof.FfnDownClaim
public import proofs.«01_k».proof.Proof.QkvClaim
public import proofs.«01_k».proof.Proof.GateClaim
public import proofs.«01_k».proof.Proof.WoClaim
public import proofs.«01_k».proof.Proof.FfnDownSClaim
public import proofs.«01_k».proof.Proof.QkvSClaim
public import proofs.«01_k».proof.Proof.ProjClaim
public import proofs.«01_k».proof.Proof.ProjSame
public import proofs.«01_k».proof.Proof.Gen.FfnDownIdeal.Value
public import proofs.«01_k».proof.Proof.Gen.QkvIdeal.Value
public import proofs.«01_k».proof.Proof.Gen.GateIdeal.Value
public import proofs.«01_k».proof.Proof.Gen.WoIdeal.Value
public import proofs.«01_k».proof.Proof.Gen.FfnDownSIdeal.Value
public import proofs.«01_k».proof.Proof.Gen.QkvSIdeal.Value
public import proofs.«01_k».proof.Proof.Gen.FfnInIdeal.Skeleton
public import proofs.«01_k».proof.Proof.Gen.ProjIdeal.Skeleton
public import proofs.«01_k».proof.Proof.Gen.ScoresRefIdeal.Run
public import proofs.«01_k».proof.Proof.Gen.FfnInRefIdeal.Run
public import proofs.«01_k».proof.Proof.Gen.FfnDownRefIdeal.Run
public import proofs.«01_k».proof.Proof.Gen.QkvRefIdeal.Run
public import proofs.«01_k».proof.Proof.Gen.GateRefIdeal.Run
public import proofs.«01_k».proof.Proof.Gen.WoRefIdeal.Run
public import proofs.«01_k».proof.Proof.Gen.FfnDownSRefIdeal.Run
public import proofs.«01_k».proof.Proof.Gen.QkvSRefIdeal.Run
public import proofs.«01_k».proof.Proof.Gen.ProjRefIdeal.Run

@[expose] public section

noncomputable section

namespace Cert.Proof

theorem claim : Cert.Claim :=
  ⟨Cert.Scores.Gen.facts,
    Cert.ScoresIdeal.Gen.facts,
    Cert.ScoresRefIdeal.Gen.facts,
    Cert.FfnIn.Gen.facts,
    Cert.FfnInIdeal.Gen.facts,
    Cert.FfnInRefIdeal.Gen.facts,
    Cert.FfnDown.Gen.facts,
    Cert.FfnDownIdeal.Gen.facts,
    Cert.FfnDownRefIdeal.Gen.facts,
    Cert.Qkv.Gen.facts,
    Cert.QkvIdeal.Gen.facts,
    Cert.QkvRefIdeal.Gen.facts,
    Cert.Gate.Gen.facts,
    Cert.GateIdeal.Gen.facts,
    Cert.GateRefIdeal.Gen.facts,
    Cert.Wo.Gen.facts,
    Cert.WoIdeal.Gen.facts,
    Cert.WoRefIdeal.Gen.facts,
    Cert.FfnDownS.Gen.facts,
    Cert.FfnDownSIdeal.Gen.facts,
    Cert.FfnDownSRefIdeal.Gen.facts,
    Cert.QkvS.Gen.facts,
    Cert.QkvSIdeal.Gen.facts,
    Cert.QkvSRefIdeal.Gen.facts,
    Cert.Proj.Gen.facts,
    Cert.ProjIdeal.Gen.facts,
    Cert.ProjRefIdeal.Gen.facts,
    Cert.Pre_scores_table_in_pool.Gen.facts,
    Cert.ScoresClaim.kernel_frame,
    Cert.ScoresClaim.ideal_frame,
    Cert.ScoresClaim.ref_frame,
    fun m ρ _ => Cert.ScoresClaim.ref_frame m ρ trivial,
    Cert.FfnInClaim.kernel_frame,
    Cert.FfnInClaim.ideal_frame,
    Cert.FfnInClaim.ref_frame,
    fun m ρ _ => Cert.FfnDown.Gen.frame m ρ,
    fun m ρ _ => Cert.FfnDownIdeal.Gen.frame m ρ,
    Cert.FfnDownClaim.ref_frame,
    fun m ρ _ => Cert.Qkv.Gen.frame m ρ,
    fun m ρ _ => Cert.QkvIdeal.Gen.frame m ρ,
    Cert.QkvClaim.ref_frame,
    fun m ρ _ => Cert.Gate.Gen.frame m ρ,
    fun m ρ _ => Cert.GateIdeal.Gen.frame m ρ,
    Cert.GateClaim.ref_frame,
    fun m ρ _ => Cert.Wo.Gen.frame m ρ,
    fun m ρ _ => Cert.WoIdeal.Gen.frame m ρ,
    Cert.WoClaim.ref_frame,
    fun m ρ _ => Cert.FfnDownS.Gen.frame m ρ,
    fun m ρ _ => Cert.FfnDownSIdeal.Gen.frame m ρ,
    Cert.FfnDownSClaim.ref_frame,
    fun m ρ _ => Cert.QkvS.Gen.frame m ρ,
    fun m ρ _ => Cert.QkvSIdeal.Gen.frame m ρ,
    Cert.QkvSClaim.ref_frame,
    Cert.ProjSame.kernel_frame,
    Cert.ProjClaim.ideal_frame,
    Cert.ProjClaim.ref_frame,
    trivial,
    Cert.ScoresClaim.algebraic,
    trivial,
    Cert.FfnInClaim.algebraic,
    trivial,
    Cert.FfnDownClaim.algebraic,
    trivial,
    Cert.QkvClaim.algebraic,
    trivial,
    Cert.GateClaim.algebraic,
    trivial,
    Cert.WoClaim.algebraic,
    trivial,
    Cert.FfnDownSClaim.algebraic,
    trivial,
    Cert.QkvSClaim.algebraic,
    trivial,
    Cert.ProjClaim.algebraic⟩

end Cert.Proof

end
